-- ==== Defs.lean ====
def Pre_Kernel [hPre_rows_distinct : Cert.Pre_rows_distinct.Facts] (m : (ℓ : Loc Cert.Kernel.nD Cert.Kernel.τ Cert.Kernel.sig) → Buf (Elt Bits) ℓ) : Prop :=
  ∀ c : Dev Cert.Kernel.nD,
    (Cert.Pre_rows_distinct.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_distinct : Cert.Pre_rows_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_rows_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_distinct [hPre_rows_distinct : Cert.Pre_rows_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_distinct : Cert.Pre_rows_distinct.Facts] (m : (ℓ : Loc Cert.Reference.nD Cert.Reference.τ Cert.Reference.sig) → Buf (Elt Bits) ℓ) : Prop :=
  ∀ c : Dev Cert.Reference.nD,
    (Cert.Pre_rows_distinct.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_rows_held : Cert.Pre_rows_held.Facts] (m : (ℓ : Loc Cert.Kernel2.nD Cert.Kernel2.τ Cert.Kernel2.sig) → Buf (Elt Bits) ℓ) : Prop :=
  ∀ c : Dev Cert.Kernel2.nD,
    (Cert.Pre_rows_held.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_rows_held : Cert.Pre_rows_held.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rows_held.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_rows_held [hPre_rows_held : Cert.Pre_rows_held.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rows_held.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 [hPre_experts_held : Cert.Pre_experts_held.Facts] (m : (ℓ : Loc Cert.Kernel3.nD Cert.Kernel3.τ Cert.Kernel3.sig) → Buf (Elt Bits) ℓ) : Prop :=
  ∀ c : Dev Cert.Kernel3.nD,
    (Cert.Pre_experts_held.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_held : Cert.Pre_experts_held.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_held.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_held [hPre_experts_held : Cert.Pre_experts_held.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_held.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] [hPre_rows_distinct : Cert.Pre_rows_distinct.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_distinct : Cert.Pre_rows_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rows_distinct [hReferenceIdeal : Cert.ReferenceIdeal.Facts] [hPre_rows_distinct : Cert.Pre_rows_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_distinct : Cert.Pre_rows_distinct.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_rows_held : Cert.Pre_rows_held.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_rows_held : Cert.Pre_rows_held.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_rows_held [hReference2Ideal : Cert.Reference2Ideal.Facts] [hPre_rows_held : Cert.Pre_rows_held.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_rows_held m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_experts_held : Cert.Pre_experts_held.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_held : Cert.Pre_experts_held.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_held [hReference3Ideal : Cert.Reference3Ideal.Facts] [hPre_experts_held : Cert.Pre_experts_held.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_held m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def bitexact_Kernel_Reference [hKernel : Cert.Kernel.Facts] [hReference : Cert.Reference.Facts] [hPre_rows_distinct : Cert.Pre_rows_distinct.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_rows_distinct : Cert.Pre_rows_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_rows_held : Cert.Pre_rows_held.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_experts_held : Cert.Pre_experts_held.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v30)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v91) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v28)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_rows_distinct : Cert.Pre_rows_distinct.Facts) (hPre_rows_held : Cert.Pre_rows_held.Facts) (hPre_experts_held : Cert.Pre_experts_held.Facts),
    quiescent_Kernel (hKernel := hKernel) (hPre_rows_distinct := hPre_rows_distinct)
    ∧ quiescent_KernelIdeal (hKernelIdeal := hKernelIdeal) (hPre_rows_distinct := hPre_rows_distinct)
    ∧ quiescent_ReferenceIdeal (hReferenceIdeal := hReferenceIdeal)
    ∧ quiescent_ReferenceIdeal_pre_rows_distinct (hReferenceIdeal := hReferenceIdeal) (hPre_rows_distinct := hPre_rows_distinct)
    ∧ quiescent_Reference (hReference := hReference) (hPre_rows_distinct := hPre_rows_distinct)
    ∧ quiescent_Kernel2 (hKernel2 := hKernel2) (hPre_rows_held := hPre_rows_held)
    ∧ quiescent_Kernel2Ideal (hKernel2Ideal := hKernel2Ideal) (hPre_rows_held := hPre_rows_held)
    ∧ quiescent_Reference2Ideal (hReference2Ideal := hReference2Ideal)
    ∧ quiescent_Reference2Ideal_pre_rows_held (hReference2Ideal := hReference2Ideal) (hPre_rows_held := hPre_rows_held)
    ∧ quiescent_Kernel3 (hKernel3 := hKernel3) (hPre_experts_held := hPre_experts_held)
    ∧ quiescent_Kernel3Ideal (hKernel3Ideal := hKernel3Ideal) (hPre_experts_held := hPre_experts_held)
    ∧ quiescent_Reference3Ideal (hReference3Ideal := hReference3Ideal)
    ∧ quiescent_Reference3Ideal_pre_experts_held (hReference3Ideal := hReference3Ideal) (hPre_experts_held := hPre_experts_held)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ bitexact_Kernel_Reference (hKernel := hKernel) (hReference := hReference) (hPre_rows_distinct := hPre_rows_distinct)
    ∧ algebraic_KernelIdeal_ReferenceIdeal (hKernelIdeal := hKernelIdeal) (hReferenceIdeal := hReferenceIdeal) (hPre_rows_distinct := hPre_rows_distinct)
    ∧ preserves_Kernel2_Kernel2Ideal
    ∧ algebraic_Kernel2Ideal_Reference2Ideal (hKernel2Ideal := hKernel2Ideal) (hReference2Ideal := hReference2Ideal) (hPre_rows_held := hPre_rows_held)
    ∧ preserves_Kernel3_Kernel3Ideal
    ∧ algebraic_Kernel3Ideal_Reference3Ideal (hKernel3Ideal := hKernel3Ideal) (hReference3Ideal := hReference3Ideal) (hPre_experts_held := hPre_experts_held)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_experts_held.lean ====
abbrev S288 : Shape := ⟨1, ![288]⟩
abbrev S1 : Shape := ⟨1, ![1]⟩
abbrev S73728x512 : Shape := ⟨2, ![73728, 512]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : IVec S288 32) (main_arg1 : IVec S1 32) (main_arg2 : IVec S73728x512 32) (main_arg3 : FVec F S32x1024x512 .f32) (main_arg4 : FVec F S32x1024x512 .f32) (main_arg5 : FVec F S32x512x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 1 := constantI S_ 1 1#1
  let main_v2 : IVec S_ 1 := (fun x v => Host.reduce IntOp.andi x v reducesTo_S288_S_d0 h_S_) main_v1 main_c_0
  let main_c_1 : IVec S_ 32 := constantI S_ 32 32#32
  let main_v3 : IVec S288 32 := broadcastInDim S288 ![] bcast_S_S288 main_c_1
  let main_v4 : IVec S288 1 := cmpi .slt main_arg0 main_v3
  let main_c_2 : IVec S_ 1 := constantI S_ 1 1#1
  let main_v5 : IVec S_ 1 := (fun x v => Host.reduce IntOp.andi x v reducesTo_S288_S_d0 h_S_) main_v4 main_c_2
  let main_v6 : IVec S_ 1 := andi main_v2 main_v5
  main_v6
-- ==== Pre_rows_distinct.lean ====
abbrev S2x32768 : Shape := ⟨2, ![2, 32768]⟩
abbrev S32768x512 : Shape := ⟨2, ![32768, 512]⟩
abbrev S65536 : Shape := ⟨1, ![65536]⟩
abbrev S_ : Shape := ⟨0, ![]⟩
abbrev S73728 : Shape := ⟨1, ![73728]⟩
abbrev S65536x1 : Shape := ⟨2, ![65536, 1]⟩

class Facts : Prop where
  shapeCasts_S2x32768_S65536 : S2x32768.ShapeCasts S65536
  bcast_S_S73728 : S_.BroadcastsInDim S73728 (![] : Fin 0 → Fin S73728.rank)
  bcast_S_S65536 : S_.BroadcastsInDim S65536 (![] : Fin 0 → Fin S65536.rank)
  bcast_S65536_S65536x1_0 : S65536.BroadcastsInDim S65536x1 (![0] : Fin 1 → Fin S65536x1.rank)
  reducesTo_S65536_S_d0 : S65536.ReducesTo [0] S_
  h_S_ : 0 < S_.numel
  scatter_S73728_S65536x1_S65536_n_0_0_1_wf : ScatterDims.WF S73728 S65536x1 S65536 [] [0] [0] 1
  gather_S73728_S65536x1_S65536_n_0_n_n_0_1_1_wf : GatherDims.WF S73728 S65536x1 S65536 [] [0] [] [0] [] 1 ![1]

variable [Facts]

def scatter_S73728_S65536x1_S65536_n_0_0_1 : ScatterDims S73728 S65536x1 S65536 where
  updateWindowDims := []
  insertedWindowDims := [0]
  scatterDimsToOperandDims := [0]
  indexVectorDim := 1
  wf := scatter_S73728_S65536x1_S65536_n_0_0_1_wf
def gather_S73728_S65536x1_S65536_n_0_n_n_0_1_1 : GatherDims S73728 S65536x1 S65536 where
  offsetDims := []
  collapsedSliceDims := [0]
  operandBatchingDims := []
  startIndicesBatchingDims := []
  startIndexMap := [0]
  indexVectorDim := 1
  sliceSizes := ![1]
  wf := gather_S73728_S65536x1_S65536_n_0_n_n_0_1_1_wf
def fn_part1 {F : FTy → Type} [FloatOps F] (main_v0 : IVec S65536 32) (main_v1 : IVec S65536 32) (main_v9 : IVec S73728 32) (main_v16 : IVec S_ 1) : IVec S_ 1 :=
  let main_c_6 : IVec S_ 32 := constantI S_ 32 0#32
  let main_v17 : IVec S65536 32 := broadcastInDim S65536 ![] bcast_S_S65536 main_c_6
  let main_v18 : IVec S65536 1 := cmpi .slt main_v0 main_v17
  let main_c_7 : IVec S_ 32 := constantI S_ 32 73728#32
  let main_v19 : IVec S65536 32 := broadcastInDim S65536 ![] bcast_S_S65536 main_c_7
  let main_v20 : IVec S65536 32 := addi main_v0 main_v19
  let main_v21 : IVec S65536 32 := select main_v18 main_v20 main_v0
  let main_v22 : IVec S65536x1 32 := broadcastInDim S65536x1 ![0] bcast_S65536_S65536x1_0 main_v21
  let main_v23 : IVec S65536 32 := (fun x i => Host.gather gather_S73728_S65536x1_S65536_n_0_n_n_0_1_1 x i) main_v9 main_v22
  let main_v24 : IVec S65536 1 := cmpi .eq main_v23 main_v1
  let main_c_8 : IVec S_ 1 := constantI S_ 1 1#1
  let main_v25 : IVec S_ 1 := (fun x v => Host.reduce IntOp.andi x v reducesTo_S65536_S_d0 h_S_) main_v24 main_c_8
  let main_v26 : IVec S_ 1 := andi main_v16 main_v25
  main_v26

def fn {F : FTy → Type} [FloatOps F] (main_arg0 : IVec S2x32768 32) (main_arg1 : IVec S32768x512 32) : IVec S_ 1 :=
  let main_v0 : IVec S65536 32 := shapeCast S65536 main_arg0 shapeCasts_S2x32768_S65536
  let main_v1 : IVec S65536 32 := iotaInDim S65536 32 0
  let main_c : IVec S_ 32 := constantI S_ 32 0#32
  let main_v2 : IVec S73728 32 := broadcastInDim S73728 ![] bcast_S_S73728 main_c
  let main_c_0 : IVec S_ 32 := constantI S_ 32 0#32
  let main_v3 : IVec S65536 32 := broadcastInDim S65536 ![] bcast_S_S65536 main_c_0
  let main_v4 : IVec S65536 1 := cmpi .slt main_v0 main_v3
  let main_c_1 : IVec S_ 32 := constantI S_ 32 73728#32
  let main_v5 : IVec S65536 32 := broadcastInDim S65536 ![] bcast_S_S65536 main_c_1
  let main_v6 : IVec S65536 32 := addi main_v0 main_v5
  let main_v7 : IVec S65536 32 := select main_v4 main_v6 main_v0
  let main_v8 : IVec S65536x1 32 := broadcastInDim S65536x1 ![0] bcast_S65536_S65536x1_0 main_v7
  let main_v9 : IVec S73728 32 := (fun x i u => Host.scatter scatter_S73728_S65536x1_S65536_n_0_0_1 (fun _ b => b) x i u) main_v2 main_v8 main_v1
  let main_c_2 : IVec S_ 32 := constantI S_ 32 0#32
  let main_v10 : IVec S65536 32 := broadcastInDim S65536 ![] bcast_S_S65536 main_c_2
  let main_v11 : IVec S65536 1 := cmpi .sge main_v0 main_v10
  let main_c_3 : IVec S_ 1 := constantI S_ 1 1#1
  let main_v12 : IVec S_ 1 := (fun x v => Host.reduce IntOp.andi x v reducesTo_S65536_S_d0 h_S_) main_v11 main_c_3
  let main_c_4 : IVec S_ 32 := constantI S_ 32 73728#32
  let main_v13 : IVec S65536 32 := broadcastInDim S65536 ![] bcast_S_S65536 main_c_4
  let main_v14 : IVec S65536 1 := cmpi .slt main_v0 main_v13
  let main_c_5 : IVec S_ 1 := constantI S_ 1 1#1
  let main_v15 : IVec S_ 1 := (fun x v => Host.reduce IntOp.andi x v reducesTo_S65536_S_d0 h_S_) main_v14 main_c_5
  let main_v16 : IVec S_ 1 := andi main_v12 main_v15
  fn_part1 (F := F) main_v0 main_v1 main_v9 main_v16
-- ==== Pre_rows_held.lean ====
abbrev S2x32768 : Shape := ⟨2, ![2, 32768]⟩
abbrev S32768x1024 : Shape := ⟨2, ![32768, 1024]⟩
abbrev S8x32768 : Shape := ⟨2, ![8, 32768]⟩
abbrev S73728x1024 : Shape := ⟨2, ![73728, 1024]⟩
abbrev S1024 : Shape := ⟨1, ![1024]⟩
abbrev S_ : Shape := ⟨0, ![]⟩

class Facts : Prop where
  bcast_S_S2x32768 : S_.BroadcastsInDim S2x32768 (![] : Fin 0 → Fin S2x32768.rank)
  reducesTo_S2x32768_S_d0_1 : S2x32768.ReducesTo [0, 1] S_
  h_S_ : 0 < S_.numel

variable [Facts]

def fn {F : FTy → Type} [FloatOps F] (main_arg0 : IVec S2x32768 32) (main_arg1 : FVec F S32768x1024 .f32) (main_arg2 : FVec F S8x32768 .f32) (main_arg3 : FVec F S73728x1024 .f32) (main_arg4 : FVec F S1024 .f32) (main_arg5 : FVec F S1024 .f32) : IVec S_ 1 :=
  let main_c : IVec S_ 32 := constantI S_ 32 0#32
  let main_v0 : IVec S2x32768 32 := broadcastInDim S2x32768 ![] bcast_S_S2x32768 main_c
  let main_v1 : IVec S2x32768 1 := cmpi .sge main_arg0 main_v0
  let main_c_0 : IVec S_ 1 := constantI S_ 1 1#1
  let main_v2 : IVec S_ 1 := (fun x v => Host.reduce IntOp.andi x v reducesTo_S2x32768_S_d0_1 h_S_) main_v1 main_c_0
  let main_c_1 : IVec S_ 32 := constantI S_ 32 73728#32
  let main_v3 : IVec S2x32768 32 := broadcastInDim S2x32768 ![] bcast_S_S2x32768 main_c_1
  let main_v4 : IVec S2x32768 1 := cmpi .slt main_arg0 main_v3
  let main_c_2 : IVec S_ 1 := constantI S_ 1 1#1
  let main_v5 : IVec S_ 1 := (fun x v => Host.reduce IntOp.andi x v reducesTo_S2x32768_S_d0_1 h_S_) main_v4 main_c_2
  let main_v6 : IVec S_ 1 := andi main_v2 main_v5
  main_v6
-- ==== Kernel.lean ====
abbrev S2x32768 : Shape := ⟨2, ![2, 32768]⟩
abbrev S32768x512 : Shape := ⟨2, ![32768, 512]⟩
abbrev S_ : Shape := ⟨0, ![]⟩
abbrev S73728x512 : Shape := ⟨2, ![73728, 512]⟩
abbrev S2x1024 : Shape := ⟨2, ![2, 1024]⟩
abbrev S1x1 : Shape := ⟨2, ![1, 1]⟩
abbrev S1x512 : Shape := ⟨2, ![1, 512]⟩

abbrev nBuf : Space → Nat
  | .hbm => 4
  | .vmem => 0
  | .smem => 2
  | _ => 0

abbrev bufTy : (tb : Table) → Fin (tcTables nBuf tb) → BufTy
  | .hbm, ⟨0, _⟩ => ⟨S2x32768, .i32⟩
  | .hbm, ⟨1, _⟩ => ⟨S32768x512, .i32⟩
  | .hbm, ⟨2, _⟩ => ⟨S_, .i32⟩
  | .hbm, ⟨3, _⟩ => ⟨S73728x512, .i32⟩
  | .local _ .smem, ⟨0, _⟩ => ⟨S2x1024, .i32⟩
  | .local _ .smem, ⟨1, _⟩ => ⟨S2x1024, .i32⟩
  | _, _ => ⟨S2x32768, .i32⟩

abbrev bufScoped : (cs : CoreSpace) → Fin (nBuf (.core cs)) → Bool
  | .smem, ⟨0, _⟩ => true
  | .smem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_off1 (k0_t1 : Fin k0_t1_loop.trips) : Fin 2 → Nat :=
  let c0 : Index := 0#32
  let c0_i32 : BitVec 32 := 0#32
  let c1_i32 : BitVec 32 := 1#32
  let arg6 : BitVec 32 := Scf.iv c0_i32 c1_i32 k0_t1
  let v5 : Index := Scalar.indexCast arg6
  ![0, v5.toNat]
def k0_off2 (v6 : BitVec 32) : Fin 2 → Nat :=
  let c0_i32_8 : BitVec 32 := 0#32
  ![v6.toNat, 0]

def k0_chk1 (v6 : BitVec 32) : Prop :=
  (∀ a, (k0_off2 v6) a + S1x512.size a ≤ S73728x512.size a)
theorem k0_off2_inb : ∀ (v6 : BitVec 32) (k0_hw1 : k0_chk1 v6), ∀ a, (k0_off2 v6) a + S1x512.size a ≤ S73728x512.size a := fun v6 k0_hw1 => k0_hw1

def k0_off3 (i : grid0.Coords) (k0_t1 : Fin k0_t1_loop.trips) : Fin 2 → Nat :=
  let arg0 : BitVec 32 := BitVec.ofNat 32 (i 0).val
  let c1024_i32 : BitVec 32 := 1024#32
  let v0 : BitVec 32 := Scalar.muli arg0 c1024_i32
  let c0_i32 : BitVec 32 := 0#32
  let c1_i32 : BitVec 32 := 1#32
  let arg6 : BitVec 32 := Scf.iv c0_i32 c1_i32 k0_t1
  let v4 : BitVec 32 := Scalar.addi v0 arg6
  let c0_i32_9 : BitVec 32 := 0#32
  ![v4.toNat, 0]
def k0_off4 (k0_t1 : Fin k0_t1_loop.trips) : Fin 2 → Nat :=
  let c1 : Index := 1#32
  let c0_i32 : BitVec 32 := 0#32
  let c1_i32 : BitVec 32 := 1#32
  let arg6 : BitVec 32 := Scf.iv c0_i32 c1_i32 k0_t1
  let v10 : Index := Scalar.indexCast arg6
  ![1, v10.toNat]
def k0_off5 (v11 : BitVec 32) : Fin 2 → Nat :=
  let c0_i32_10 : BitVec 32 := 0#32
  ![v11.toNat, 0]

def k0_chk2 (v11 : BitVec 32) : Prop :=
  (∀ a, (k0_off5 v11) a + S1x512.size a ≤ S73728x512.size a)
theorem k0_off5_inb : ∀ (v11 : BitVec 32) (k0_hw2 : k0_chk2 v11), ∀ a, (k0_off5 v11) a + S1x512.size a ≤ S73728x512.size a := fun v11 k0_hw2 => k0_hw2

def k0_off6 (i : grid0.Coords) (k0_t1 : Fin k0_t1_loop.trips) : Fin 2 → Nat :=
  let arg0 : BitVec 32 := BitVec.ofNat 32 (i 0).val
  let c1024_i32 : BitVec 32 := 1024#32
  let v0 : BitVec 32 := Scalar.muli arg0 c1024_i32
  let c0_i32 : BitVec 32 := 0#32
  let c1_i32 : BitVec 32 := 1#32
  let arg6 : BitVec 32 := Scf.iv c0_i32 c1_i32 k0_t1
  let v9 : BitVec 32 := Scalar.addi v0 arg6
  let c0_i32_11 : BitVec 32 := 0#32
  ![v9.toNat, 0]
@[reducible] def k0_t2_loop : Scf.Loop 32 :=
  let c64_i32_1 : BitVec 32 := 64#32
  let c960_i32 : BitVec 32 := 960#32
  let v2 : BitVec 32 := Scalar.addi c64_i32_1 c960_i32
  let c1_i32_2 : BitVec 32 := 1#32
  ⟨c64_i32_1, v2, c1_i32_2⟩
def k0_off7 (k0_t2 : Fin k0_t2_loop.trips) : Fin 2 → Nat :=
  let c0 : Index := 0#32
  let c64_i32_1 : BitVec 32 := 64#32
  let c1_i32_2 : BitVec 32 := 1#32
  let arg6 : BitVec 32 := Scf.iv c64_i32_1 c1_i32_2 k0_t2
  let v5 : Index := Scalar.indexCast arg6
  ![0, v5.toNat]
def k0_off8 (v6 : BitVec 32) : Fin 2 → Nat :=
  let c0_i32_8 : BitVec 32 := 0#32
  ![v6.toNat, 0]

def k0_chk3 (v6 : BitVec 32) : Prop :=
  (∀ a, (k0_off8 v6) a + S1x512.size a ≤ S73728x512.size a)
theorem k0_off8_inb : ∀ (v6 : BitVec 32) (k0_hw3 : k0_chk3 v6), ∀ a, (k0_off8 v6) a + S1x512.size a ≤ S73728x512.size a := fun v6 k0_hw3 => k0_hw3

def k0_off9 (i : grid0.Coords) (k0_t2 : Fin k0_t2_loop.trips) : Fin 2 → Nat :=
  let arg0 : BitVec 32 := BitVec.ofNat 32 (i 0).val
  let c1024_i32 : BitVec 32 := 1024#32
  let v0 : BitVec 32 := Scalar.muli arg0 c1024_i32
  let c64_i32_1 : BitVec 32 := 64#32
  let c1_i32_2 : BitVec 32 := 1#32
  let arg6 : BitVec 32 := Scf.iv c64_i32_1 c1_i32_2 k0_t2
  let v4 : BitVec 32 := Scalar.addi v0 arg6
  let c0_i32_9 : BitVec 32 := 0#32
  ![v4.toNat, 0]
def k0_off10 (k0_t2 : Fin k0_t2_loop.trips) : Fin 2 → Nat :=
  let c1 : Index := 1#32
  let c64_i32_1 : BitVec 32 := 64#32
  let c1_i32_2 : BitVec 32 := 1#32
  let arg6 : BitVec 32 := Scf.iv c64_i32_1 c1_i32_2 k0_t2
  let v10 : Index := Scalar.indexCast arg6
  ![1, v10.toNat]
def k0_off11 (v11 : BitVec 32) : Fin 2 → Nat :=
  let c0_i32_10 : BitVec 32 := 0#32
  ![v11.toNat, 0]

def k0_chk4 (v11 : BitVec 32) : Prop :=
  (∀ a, (k0_off11 v11) a + S1x512.size a ≤ S73728x512.size a)
theorem k0_off11_inb : ∀ (v11 : BitVec 32) (k0_hw4 : k0_chk4 v11), ∀ a, (k0_off11 v11) a + S1x512.size a ≤ S73728x512.size a := fun v11 k0_hw4 => k0_hw4

def k0_off12 (i : grid0.Coords) (k0_t2 : Fin k0_t2_loop.trips) : Fin 2 → Nat :=
  let arg0 : BitVec 32 := BitVec.ofNat 32 (i 0).val
  let c1024_i32 : BitVec 32 := 1024#32
  let v0 : BitVec 32 := Scalar.muli arg0 c1024_i32
  let c64_i32_1 : BitVec 32 := 64#32
  let c1_i32_2 : BitVec 32 := 1#32
  let arg6 : BitVec 32 := Scf.iv c64_i32_1 c1_i32_2 k0_t2
  let v9 : BitVec 32 := Scalar.addi v0 arg6
  let c0_i32_11 : BitVec 32 := 0#32
  ![v9.toNat, 0]
def k0_off13 (k0_t2 : Fin k0_t2_loop.trips) : Fin 2 → Nat :=
  let c0_13 : Index := 0#32
  let c64_i32_1 : BitVec 32 := 64#32
  let c1_i32_2 : BitVec 32 := 1#32
  let arg6 : BitVec 32 := Scf.iv c64_i32_1 c1_i32_2 k0_t2
  let c64_i32_12 : BitVec 32 := 64#32
  let v14 : BitVec 32 := Scalar.subi arg6 c64_i32_12
  let v16 : Index := Scalar.indexCast v14
  ![0, v16.toNat]
def k0_off14 (v17 : BitVec 32) : Fin 2 → Nat :=
  let c0_i32_14 : BitVec 32 := 0#32
  ![v17.toNat, 0]

def k0_chk5 (v17 : BitVec 32) : Prop :=
  (∀ a, (k0_off14 v17) a + S1x512.size a ≤ S73728x512.size a)
theorem k0_off14_inb : ∀ (v17 : BitVec 32) (k0_hw5 : k0_chk5 v17), ∀ a, (k0_off14 v17) a + S1x512.size a ≤ S73728x512.size a := fun v17 k0_hw5 => k0_hw5

def k0_off15 (i : grid0.Coords) (k0_t2 : Fin k0_t2_loop.trips) : Fin 2 → Nat :=
  let arg0 : BitVec 32 := BitVec.ofNat 32 (i 0).val
  let c1024_i32 : BitVec 32 := 1024#32
  let v0 : BitVec 32 := Scalar.muli arg0 c1024_i32
  let c64_i32_1 : BitVec 32 := 64#32
  let c1_i32_2 : BitVec 32 := 1#32
  let arg6 : BitVec 32 := Scf.iv c64_i32_1 c1_i32_2 k0_t2
  let c64_i32_12 : BitVec 32 := 64#32
  let v14 : BitVec 32 := Scalar.subi arg6 c64_i32_12
  let v15 : BitVec 32 := Scalar.addi v0 v14
  let c0_i32_15 : BitVec 32 := 0#32
  ![v15.toNat, 0]
def k0_off16 (k0_t2 : Fin k0_t2_loop.trips) : Fin 2 → Nat :=
  let c1_16 : Index := 1#32
  let c64_i32_1 : BitVec 32 := 64#32
  let c1_i32_2 : BitVec 32 := 1#32
  let arg6 : BitVec 32 := Scf.iv c64_i32_1 c1_i32_2 k0_t2
  let c64_i32_12 : BitVec 32 := 64#32
  let v14 : BitVec 32 := Scalar.subi arg6 c64_i32_12
  let v21 : Index := Scalar.indexCast v14
  ![1, v21.toNat]
def k0_off17 (v22 : BitVec 32) : Fin 2 → Nat :=
  let c0_i32_17 : BitVec 32 := 0#32
  ![v22.toNat, 0]

def k0_chk6 (v22 : BitVec 32) : Prop :=
  (∀ a, (k0_off17 v22) a + S1x512.size a ≤ S73728x512.size a)
theorem k0_off17_inb : ∀ (v22 : BitVec 32) (k0_hw6 : k0_chk6 v22), ∀ a, (k0_off17 v22) a + S1x512.size a ≤ S73728x512.size a := fun v22 k0_hw6 => k0_hw6

def k0_off18 (i : grid0.Coords) (k0_t2 : Fin k0_t2_loop.trips) : Fin 2 → Nat :=
  let arg0 : BitVec 32 := BitVec.ofNat 32 (i 0).val
  let c1024_i32 : BitVec 32 := 1024#32
  let v0 : BitVec 32 := Scalar.muli arg0 c1024_i32
  let c64_i32_1 : BitVec 32 := 64#32
  let c1_i32_2 : BitVec 32 := 1#32
  let arg6 : BitVec 32 := Scf.iv c64_i32_1 c1_i32_2 k0_t2
  let c64_i32_12 : BitVec 32 := 64#32
  let v14 : BitVec 32 := Scalar.subi arg6 c64_i32_12
  let v20 : BitVec 32 := Scalar.addi v0 v14
  let c0_i32_18 : BitVec 32 := 0#32
  ![v20.toNat, 0]
@[reducible] def k0_t3_loop : Scf.Loop 32 :=
  let c960_i32_4 : BitVec 32 := 960#32
  let c64_i32_5 : BitVec 32 := 64#32
  let v3 : BitVec 32 := Scalar.addi c960_i32_4 c64_i32_5
  let c1_i32_6 : BitVec 32 := 1#32
  ⟨c960_i32_4, v3, c1_i32_6⟩
def k0_off19 (k0_t3 : Fin k0_t3_loop.trips) : Fin 2 → Nat :=
  let c0 : Index := 0#32
  let c960_i32_4 : BitVec 32 := 960#32
  let c1_i32_6 : BitVec 32 := 1#32
  let arg6 : BitVec 32 := Scf.iv c960_i32_4 c1_i32_6 k0_t3
  let v5 : Index := Scalar.indexCast arg6
  ![0, v5.toNat]
def k0_off20 (v6 : BitVec 32) : Fin 2 → Nat :=
  let c0_i32_8 : BitVec 32 := 0#32
  ![v6.toNat, 0]

def k0_chk7 (v6 : BitVec 32) : Prop :=
  (∀ a, (k0_off20 v6) a + S1x512.size a ≤ S73728x512.size a)
theorem k0_off20_inb : ∀ (v6 : BitVec 32) (k0_hw7 : k0_chk7 v6), ∀ a, (k0_off20 v6) a + S1x512.size a ≤ S73728x512.size a := fun v6 k0_hw7 => k0_hw7

def k0_off21 (i : grid0.Coords) (k0_t3 : Fin k0_t3_loop.trips) : Fin 2 → Nat :=
  let arg0 : BitVec 32 := BitVec.ofNat 32 (i 0).val
  let c1024_i32 : BitVec 32 := 1024#32
  let v0 : BitVec 32 := Scalar.muli arg0 c1024_i32
  let c960_i32_4 : BitVec 32 := 960#32
  let c1_i32_6 : BitVec 32 := 1#32
  let arg6 : BitVec 32 := Scf.iv c960_i32_4 c1_i32_6 k0_t3
  let v4 : BitVec 32 := Scalar.addi v0 arg6
  let c0_i32_9 : BitVec 32 := 0#32
  ![v4.toNat, 0]
def k0_off22 (k0_t3 : Fin k0_t3_loop.trips) : Fin 2 → Nat :=
  let c1 : Index := 1#32
  let c960_i32_4 : BitVec 32 := 960#32
  let c1_i32_6 : BitVec 32 := 1#32
  let arg6 : BitVec 32 := Scf.iv c960_i32_4 c1_i32_6 k0_t3
  let v10 : Index := Scalar.indexCast arg6
  ![1, v10.toNat]
def k0_off23 (v11 : BitVec 32) : Fin 2 → Nat :=
  let c0_i32_10 : BitVec 32 := 0#32
  ![v11.toNat, 0]

def k0_chk8 (v11 : BitVec 32) : Prop :=
  (∀ a, (k0_off23 v11) a + S1x512.size a ≤ S73728x512.size a)
theorem k0_off23_inb : ∀ (v11 : BitVec 32) (k0_hw8 : k0_chk8 v11), ∀ a, (k0_off23 v11) a + S1x512.size a ≤ S73728x512.size a := fun v11 k0_hw8 => k0_hw8

def k0_off24 (i : grid0.Coords) (k0_t3 : Fin k0_t3_loop.trips) : Fin 2 → Nat :=
  let arg0 : BitVec 32 := BitVec.ofNat 32 (i 0).val
  let c1024_i32 : BitVec 32 := 1024#32
  let v0 : BitVec 32 := Scalar.muli arg0 c1024_i32
  let c960_i32_4 : BitVec 32 := 960#32
  let c1_i32_6 : BitVec 32 := 1#32
  let arg6 : BitVec 32 := Scf.iv c960_i32_4 c1_i32_6 k0_t3
  let v9 : BitVec 32 := Scalar.addi v0 arg6
  let c0_i32_11 : BitVec 32 := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .smem S2x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== Reference.lean ====
abbrev S2x32768 : Shape := ⟨2, ![2, 32768]⟩
abbrev S32768x512 : Shape := ⟨2, ![32768, 512]⟩
abbrev S65536x512 : Shape := ⟨2, ![65536, 512]⟩
abbrev S_ : Shape := ⟨0, ![]⟩
abbrev S73728x512 : Shape := ⟨2, ![73728, 512]⟩
abbrev S65536 : Shape := ⟨1, ![65536]⟩
abbrev S65536x1 : Shape := ⟨2, ![65536, 1]⟩

abbrev nBuf : Space → Nat
  | .hbm => 15
  | .vmem => 0
  | .smem => 0
  | _ => 0

abbrev bufTy : (tb : Table) → Fin (tcTables nBuf tb) → BufTy
  | .hbm, ⟨0, _⟩ => ⟨S2x32768, .i32⟩
  | .hbm, ⟨1, _⟩ => ⟨S32768x512, .i32⟩
  | .hbm, ⟨2, _⟩ => ⟨S65536x512, .i32⟩
  | .hbm, ⟨3, _⟩ => ⟨S_, .i32⟩
  | .hbm, ⟨4, _⟩ => ⟨S73728x512, .i32⟩
  | .hbm, ⟨5, _⟩ => ⟨S65536, .i32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S73728x512, .i32⟩
  | _, _ => ⟨S2x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel2.lean ====
abbrev S2x32768 : Shape := ⟨2, ![2, 32768]⟩
abbrev S32768x1024 : Shape := ⟨2, ![32768, 1024]⟩
abbrev S8x32768 : Shape := ⟨2, ![8, 32768]⟩
abbrev S73728x1024 : Shape := ⟨2, ![73728, 1024]⟩
abbrev S1024 : Shape := ⟨1, ![1024]⟩
abbrev S1x1024 : Shape := ⟨2, ![1, 1024]⟩
abbrev S2x256 : Shape := ⟨2, ![2, 256]⟩
abbrev S256x1024 : Shape := ⟨2, ![256, 1024]⟩
abbrev S8x256 : Shape := ⟨2, ![8, 256]⟩
abbrev S2x256x1024 : Shape := ⟨3, ![2, 256, 1024]⟩
abbrev S_ : Shape := ⟨0, ![]⟩
abbrev S1x1 : Shape := ⟨2, ![1, 1]⟩
abbrev S1x1x1024 : Shape := ⟨3, ![1, 1, 1024]⟩
abbrev S120x256 : Shape := ⟨2, ![120, 256]⟩
abbrev S128x256 : Shape := ⟨2, ![128, 256]⟩
abbrev S256x128 : Shape := ⟨2, ![256, 128]⟩
abbrev S256x1 : Shape := ⟨2, ![256, 1]⟩
abbrev S1x256x1024 : Shape := ⟨3, ![1, 256, 1024]⟩
abbrev S256 : Shape := ⟨1, ![256]⟩

abbrev nBuf : Space → Nat
  | .hbm => 9
  | .vmem => 9
  | .smem => 2
  | _ => 0

abbrev bufTy : (tb : Table) → Fin (tcTables nBuf tb) → BufTy
  | .hbm, ⟨0, _⟩ => ⟨S2x32768, .i32⟩
  | .hbm, ⟨1, _⟩ => ⟨S32768x1024, .f32⟩
  | .hbm, ⟨2, _⟩ => ⟨S8x32768, .f32⟩
  | .hbm, ⟨3, _⟩ => ⟨S73728x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S8x256, .f32⟩
  | .local _ .vmem, ⟨3, _⟩ => ⟨S8x256, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S2x256x1024, .f32⟩
  | .local _ .smem, ⟨0, _⟩ => ⟨S2x256, .i32⟩
  | .local _ .smem, ⟨1, _⟩ => ⟨S2x256, .i32⟩
  | _, _ => ⟨S2x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 2 → Nat :=
  let c0_25 : Index := 0#32
  let c0_i32 : BitVec 32 := 0#32
  let c1_i32 : BitVec 32 := 1#32
  let arg10 : BitVec 32 := Scf.iv c0_i32 c1_i32 k0_t1
  let v46 : Index := Scalar.indexCast arg10
  ![0, v46.toNat]
def k0_off2 (k0_t1 : Fin k0_t1_loop.trips) : Fin 3 → Nat :=
  let c0_i32_26 : BitVec 32 := 0#32
  let c0_i32 : BitVec 32 := 0#32
  let c1_i32 : BitVec 32 := 1#32
  let arg10 : BitVec 32 := Scf.iv c0_i32 c1_i32 k0_t1
  let c0_i32_27 : BitVec 32 := 0#32
  ![0, arg10.toNat, 0]
def k0_off3 (v47 : BitVec 32) : Fin 2 → Nat :=
  let c0_i32_28 : BitVec 32 := 0#32
  ![v47.toNat, 0]

def k0_chk1 (v47 : BitVec 32) : Prop :=
  (∀ a, (k0_off3 v47) a + S1x1024.size a ≤ S73728x1024.size a)
theorem k0_off3_inb : ∀ (v47 : BitVec 32) (k0_hw1 : k0_chk1 v47), ∀ a, (k0_off3 v47) a + S1x1024.size a ≤ S73728x1024.size a := fun v47 k0_hw1 => k0_hw1

def k0_off4 (k0_t1 : Fin k0_t1_loop.trips) : Fin 2 → Nat :=
  let c1_29 : Index := 1#32
  let c0_i32 : BitVec 32 := 0#32
  let c1_i32 : BitVec 32 := 1#32
  let arg10 : BitVec 32 := Scf.iv c0_i32 c1_i32 k0_t1
  let v51 : Index := Scalar.indexCast arg10
  ![1, v51.toNat]
def k0_off5 (k0_t1 : Fin k0_t1_loop.trips) : Fin 3 → Nat :=
  let c1_i32_30 : BitVec 32 := 1#32
  let c0_i32 : BitVec 32 := 0#32
  let c1_i32 : BitVec 32 := 1#32
  let arg10 : BitVec 32 := Scf.iv c0_i32 c1_i32 k0_t1
  let c0_i32_31 : BitVec 32 := 0#32
  ![1, arg10.toNat, 0]
def k0_off6 (v52 : BitVec 32) : Fin 2 → Nat :=
  let c0_i32_32 : BitVec 32 := 0#32
  ![v52.toNat, 0]

def k0_chk2 (v52 : BitVec 32) : Prop :=
  (∀ a, (k0_off6 v52) a + S1x1024.size a ≤ S73728x1024.size a)
theorem k0_off6_inb : ∀ (v52 : BitVec 32) (k0_hw2 : k0_chk2 v52), ∀ a, (k0_off6 v52) a + S1x1024.size a ≤ S73728x1024.size a := fun v52 k0_hw2 => k0_hw2

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def k0_off7 (k0_t2 : Fin k0_t2_loop.trips) : Fin 2 → Nat :=
  let c0_25 : Index := 0#32
  let c0_i32_1 : BitVec 32 := 0#32
  let c1_i32_3 : BitVec 32 := 1#32
  let arg10 : BitVec 32 := Scf.iv c0_i32_1 c1_i32_3 k0_t2
  let v46 : Index := Scalar.indexCast arg10
  ![0, v46.toNat]
def k0_off8 (k0_t2 : Fin k0_t2_loop.trips) : Fin 3 → Nat :=
  let c0_i32_26 : BitVec 32 := 0#32
  let c0_i32_1 : BitVec 32 := 0#32
  let c1_i32_3 : BitVec 32 := 1#32
  let arg10 : BitVec 32 := Scf.iv c0_i32_1 c1_i32_3 k0_t2
  let c0_i32_27 : BitVec 32 := 0#32
  ![0, arg10.toNat, 0]
def k0_off9 (v47 : BitVec 32) : Fin 2 → Nat :=
  let c0_i32_28 : BitVec 32 := 0#32
  ![v47.toNat, 0]

def k0_chk3 (v47 : BitVec 32) : Prop :=
  (∀ a, (k0_off9 v47) a + S1x1024.size a ≤ S73728x1024.size a)
theorem k0_off9_inb : ∀ (v47 : BitVec 32) (k0_hw3 : k0_chk3 v47), ∀ a, (k0_off9 v47) a + S1x1024.size a ≤ S73728x1024.size a := fun v47 k0_hw3 => k0_hw3

def k0_off10 (k0_t2 : Fin k0_t2_loop.trips) : Fin 2 → Nat :=
  let c1_29 : Index := 1#32
  let c0_i32_1 : BitVec 32 := 0#32
  let c1_i32_3 : BitVec 32 := 1#32
  let arg10 : BitVec 32 := Scf.iv c0_i32_1 c1_i32_3 k0_t2
  let v51 : Index := Scalar.indexCast arg10
  ![1, v51.toNat]
def k0_off11 (k0_t2 : Fin k0_t2_loop.trips) : Fin 3 → Nat :=
  let c1_i32_30 : BitVec 32 := 1#32
  let c0_i32_1 : BitVec 32 := 0#32
  let c1_i32_3 : BitVec 32 := 1#32
  let arg10 : BitVec 32 := Scf.iv c0_i32_1 c1_i32_3 k0_t2
  let c0_i32_31 : BitVec 32 := 0#32
  ![1, arg10.toNat, 0]
def k0_off12 (v52 : BitVec 32) : Fin 2 → Nat :=
  let c0_i32_32 : BitVec 32 := 0#32
  ![v52.toNat, 0]

def k0_chk4 (v52 : BitVec 32) : Prop :=
  (∀ a, (k0_off12 v52) a + S1x1024.size a ≤ S73728x1024.size a)
theorem k0_off12_inb : ∀ (v52 : BitVec 32) (k0_hw4 : k0_chk4 v52), ∀ a, (k0_off12 v52) a + S1x1024.size a ≤ S73728x1024.size a := fun v52 k0_hw4 => k0_hw4

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x32768 : Shape := ⟨2, ![2, 32768]⟩
abbrev S32768x1024 : Shape := ⟨2, ![32768, 1024]⟩
abbrev S8x32768 : Shape := ⟨2, ![8, 32768]⟩
abbrev S73728x1024 : Shape := ⟨2, ![73728, 1024]⟩
abbrev S1024 : Shape := ⟨1, ![1024]⟩
abbrev S1x32768 : Shape := ⟨2, ![1, 32768]⟩
abbrev S32768 : Shape := ⟨1, ![32768]⟩
abbrev S32768x1 : Shape := ⟨2, ![32768, 1]⟩
abbrev S_ : Shape := ⟨0, ![]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2x32768, .i32⟩
  | .hbm, ⟨1, _⟩ => ⟨S32768x1024, .f32⟩
  | .hbm, ⟨2, _⟩ => ⟨S8x32768, .f32⟩
  | .hbm, ⟨3, _⟩ => ⟨S73728x1024, .f32⟩
  | .hbm, ⟨4, _⟩ => ⟨S1024, .f32⟩
  | .hbm, ⟨5, _⟩ => ⟨S1024, .f32⟩
  | .hbm, ⟨6, _⟩ => ⟨S1x32768, .f32⟩
  | .hbm, ⟨7, _⟩ => ⟨S32768, .f32⟩
  | .hbm, ⟨8, _⟩ => ⟨S32768x1, .f32⟩
  | .hbm, ⟨9, _⟩ => ⟨S1x32768, .i32⟩
  | .hbm, ⟨10, _⟩ => ⟨S32768, .i32⟩
  | .hbm, ⟨11, _⟩ => ⟨S_, .i32⟩
  | .hbm, ⟨12, _⟩ => ⟨S32768, .i32⟩
  | .hbm, ⟨13, _⟩ => ⟨S32768, .i1⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S32768, .i32⟩
  | .hbm, ⟨18, _⟩ => ⟨S32768x1, .i32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S1x32768, .f32⟩
  | .hbm, ⟨23, _⟩ => ⟨S32768, .f32⟩
  | .hbm, ⟨24, _⟩ => ⟨S32768x1, .f32⟩
  | .hbm, ⟨25, _⟩ => ⟨S1x32768, .i32⟩
  | .hbm, ⟨26, _⟩ => ⟨S32768, .i32⟩
  | .hbm, ⟨27, _⟩ => ⟨S_, .i32⟩
  | .hbm, ⟨28, _⟩ => ⟨S32768, .i32⟩
  | .hbm, ⟨29, _⟩ => ⟨S32768, .i1⟩
  | .hbm, ⟨30, _⟩ => ⟨S_, .i32⟩
  | .hbm, ⟨31, _⟩ => ⟨S32768, .i32⟩
  | .hbm, ⟨32, _⟩ => ⟨S32768, .i32⟩
  | .hbm, ⟨33, _⟩ => ⟨S32768, .i32⟩
  | .hbm, ⟨34, _⟩ => ⟨S32768x1, .i32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S32768, .f32⟩
  | .hbm, ⟨54, _⟩ => ⟨S32768x1, .f32⟩
  | .hbm, ⟨55, _⟩ => ⟨S_, .f32⟩
  | .hbm, ⟨56, _⟩ => ⟨S32768x1, .f32⟩
  | .hbm, ⟨57, _⟩ => ⟨S32768x1, .f32⟩
  | .hbm, ⟨58, _⟩ => ⟨S32768x1024, .f32⟩
  | .hbm, ⟨59, _⟩ => ⟨S32768x1024, .f32⟩
  | .hbm, ⟨60, _⟩ => ⟨S_, .f32⟩
  | .hbm, ⟨61, _⟩ => ⟨S32768x1, .f32⟩
  | .hbm, ⟨62, _⟩ => ⟨S32768x1, .f32⟩
  | .hbm, ⟨63, _⟩ => ⟨S32768x1, .f32⟩
  | .hbm, ⟨64, _⟩ => ⟨S32768x1024, .f32⟩
  | .hbm, ⟨65, _⟩ => ⟨S32768x1024, .f32⟩
  | .hbm, ⟨66, _⟩ => ⟨S1x1024, .f32⟩
  | .hbm, ⟨67, _⟩ => ⟨S32768x1024, .f32⟩
  | .hbm, ⟨68, _⟩ => ⟨S32768x1024, .f32⟩
  | .hbm, ⟨69, _⟩ => ⟨S1x1024, .f32⟩
  | .hbm, ⟨70, _⟩ => ⟨S32768x1024, .f32⟩
  | .hbm, ⟨71, _⟩ => ⟨S32768x1024, .f32⟩
  | _, _ => ⟨S2x32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Kernel3.lean ====
abbrev S288 : Shape := ⟨1, ![288]⟩
abbrev S1 : Shape := ⟨1, ![1]⟩
abbrev S73728x512 : Shape := ⟨2, ![73728, 512]⟩
abbrev S32x1024x512 : Shape := ⟨3, ![32, 1024, 512]⟩
abbrev S32x512x1024 : Shape := ⟨3, ![32, 512, 1024]⟩
abbrev S73728x1024 : Shape := ⟨2, ![73728, 1024]⟩
abbrev S256x512 : Shape := ⟨2, ![256, 512]⟩
abbrev S1x1024x512 : Shape := ⟨3, ![1, 1024, 512]⟩
abbrev S1x512x1024 : Shape := ⟨3, ![1, 512, 1024]⟩
abbrev S256x1024 : Shape := ⟨2, ![256, 1024]⟩
abbrev S1x512x512 : Shape := ⟨3, ![1, 512, 512]⟩
abbrev S512x512 : Shape := ⟨2, ![512, 512]⟩
abbrev S512x1024 : Shape := ⟨2, ![512, 1024]⟩

abbrev nBuf : Space → Nat
  | .hbm => 8
  | .vmem => 10
  | .smem => 2
  | _ => 0

abbrev bufTy : (tb : Table) → Fin (tcTables nBuf tb) → BufTy
  | .hbm, ⟨0, _⟩ => ⟨S73728x512, .i32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S32x1024x512, .bf16⟩
  | .hbm, ⟨5, _⟩ => ⟨S32x1024x512, .bf16⟩
  | .hbm, ⟨6, _⟩ => ⟨S32x512x1024, .bf16⟩
  | .hbm, ⟨7, _⟩ => ⟨S73728x1024, .f32⟩
  | .local _ .vmem, ⟨0, _⟩ => ⟨S256x512, .i32⟩
  | .local _ .vmem, ⟨1, _⟩ => ⟨S256x512, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S256x1024, .f32⟩
  | .local _ .vmem, ⟨9, _⟩ => ⟨S256x1024, .f32⟩
  | .local _ .smem, ⟨0, _⟩ => ⟨S288, .i32⟩
  | .local _ .smem, ⟨1, _⟩ => ⟨S1, .i32⟩
  | _, _ => ⟨S73728x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S288 : Shape := ⟨1, ![288]⟩
abbrev S1 : Shape := ⟨1, ![1]⟩
abbrev S73728x512 : Shape := ⟨2, ![73728, 512]⟩
abbrev S32x1024x512 : Shape := ⟨3, ![32, 1024, 512]⟩
abbrev S32x512x1024 : Shape := ⟨3, ![32, 512, 1024]⟩
abbrev S_ : Shape := ⟨0, ![]⟩
abbrev S73728x1024 : Shape := ⟨2, ![73728, 1024]⟩
abbrev S288x256x1024 : Shape := ⟨3, ![288, 256, 1024]⟩
abbrev S288x1 : Shape := ⟨2, ![288, 1]⟩
abbrev S288x1024x512 : Shape := ⟨3, ![288, 1024, 512]⟩
abbrev S288x256x512 : Shape := ⟨3, ![288, 256, 512]⟩
abbrev S288x512x1024 : Shape := ⟨3, ![288, 512, 1024]⟩
abbrev S288x1x1 : Shape := ⟨3, ![288, 1, 1]⟩

abbrev nBuf : Space → Nat
  | .hbm => 67
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x512, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S_, .i32⟩
  | .hbm, ⟨7, _⟩ => ⟨S73728x512, .i32⟩
  | .hbm, ⟨8, _⟩ => ⟨S73728x512, .i32⟩
  | .hbm, ⟨9, _⟩ => ⟨S73728x512, .f32⟩
  | .hbm, ⟨10, _⟩ => ⟨S_, .i32⟩
  | .hbm, ⟨11, _⟩ => ⟨S73728x512, .i32⟩
  | .hbm, ⟨12, _⟩ => ⟨S73728x512, .i32⟩
  | .hbm, ⟨13, _⟩ => ⟨S73728x512, .f32⟩
  | .hbm, ⟨14, _⟩ => ⟨S73728x1024, .f32⟩
  | .hbm, ⟨15, _⟩ => ⟨S288x256x1024, .f32⟩
  | .hbm, ⟨16, _⟩ => ⟨S_, .i32⟩
  | .hbm, ⟨17, _⟩ => ⟨S288, .i32⟩
  | .hbm, ⟨18, _⟩ => ⟨S288, .i1⟩
  | .hbm, ⟨19, _⟩ => ⟨S_, .i32⟩
  | .hbm, ⟨20, _⟩ => ⟨S288, .i32⟩
  | .hbm, ⟨21, _⟩ => ⟨S288, .i32⟩
  | .hbm, ⟨22, _⟩ => ⟨S288, .i32⟩
  | .hbm, ⟨23, _⟩ => ⟨S288x1, .i32⟩
  | .hbm, ⟨24, _⟩ => ⟨S288x1024x512, .f32⟩
  | .hbm, ⟨25, _⟩ => ⟨S288x256x512, .f32⟩
  | .hbm, ⟨26, _⟩ => ⟨S288x256x512, .f32⟩
  | .hbm, ⟨27, _⟩ => ⟨S288x256x512, .f32⟩
  | .hbm, ⟨28, _⟩ => ⟨S_, .f32⟩
  | .hbm, ⟨29, _⟩ => ⟨S288x256x512, .f32⟩
  | .hbm, ⟨30, _⟩ => ⟨S288x256x512, .f32⟩
  | .hbm, ⟨31, _⟩ => ⟨S_, .f32⟩
  | .hbm, ⟨32, _⟩ => ⟨S288x256x512, .f32⟩
  | .hbm, ⟨33, _⟩ => ⟨S288x256x512, .f32⟩
  | .hbm, ⟨34, _⟩ => ⟨S288x256x512, .f32⟩
  | .hbm, ⟨35, _⟩ => ⟨S_, .i32⟩
  | .hbm, ⟨36, _⟩ => ⟨S288, .i32⟩
  | .hbm, ⟨37, _⟩ => ⟨S288, .i1⟩
  | .hbm, ⟨38, _⟩ => ⟨S_, .i32⟩
  | .hbm, ⟨39, _⟩ => ⟨S288, .i32⟩
  | .hbm, ⟨40, _⟩ => ⟨S288, .i32⟩
  | .hbm, ⟨41, _⟩ => ⟨S288, .i32⟩
  | .hbm, ⟨42, _⟩ => ⟨S288x1, .i32⟩
  | .hbm, ⟨43, _⟩ => ⟨S288x1024x512, .f32⟩
  | .hbm, ⟨44, _⟩ => ⟨S288x256x512, .f32⟩
  | .hbm, ⟨45, _⟩ => ⟨S288x256x512, .f32⟩
  | .hbm, ⟨46, _⟩ => ⟨S_, .i32⟩
  | .hbm, ⟨47, _⟩ => ⟨S288, .i32⟩
  | .hbm, ⟨48, _⟩ => ⟨S288, .i1⟩
  | .hbm, ⟨49, _⟩ => ⟨S_, .i32⟩
  | .hbm, ⟨50, _⟩ => ⟨S288, .i32⟩
  | .hbm, ⟨51, _⟩ => ⟨S288, .i32⟩
  | .hbm, ⟨52, _⟩ => ⟨S288, .i32⟩
  | .hbm, ⟨53, _⟩ => ⟨S288x1, .i32⟩
  | .hbm, ⟨54, _⟩ => ⟨S288x512x1024, .f32⟩
  | .hbm, ⟨55, _⟩ => ⟨S288x256x1024, .f32⟩
  | .hbm, ⟨56, _⟩ => ⟨S288, .i32⟩
  | .hbm, ⟨57, _⟩ => ⟨S_, .i32⟩
  | .hbm, ⟨58, _⟩ => ⟨S288, .i32⟩
  | .hbm, ⟨59, _⟩ => ⟨S288, .i1⟩
  | .hbm, ⟨60, _⟩ => ⟨S288x1x1, .i1⟩
  | .hbm, ⟨61, _⟩ => ⟨S_, .f32⟩
  | .hbm, ⟨62, _⟩ => ⟨S_, .f32⟩
  | .hbm, ⟨63, _⟩ => ⟨S288x256x1024, .i1⟩
  | .hbm, ⟨64, _⟩ => ⟨S288x256x1024, .f32⟩
  | .hbm, ⟨65, _⟩ => ⟨S288x256x1024, .f32⟩
  | .hbm, ⟨66, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v39 : Ref sig .tc := ⟨.hbm, 65, rfl⟩
abbrev main_v40 : Ref sig .tc := ⟨.hbm, 66, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024x7184 : Shape := ⟨2, ![1024, 7184]⟩
abbrev S7184 : Shape := ⟨1, ![7184]⟩
abbrev S16x512 : Shape := ⟨2, ![16, 512]⟩
abbrev S512 : Shape := ⟨1, ![512]⟩
abbrev S1024 : Shape := ⟨1, ![1024]⟩
abbrev S1024x1024 : Shape := ⟨2, ![1024, 1024]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x7296 : Shape := ⟨2, ![1024, 7296]⟩
abbrev S16 : Shape := ⟨1, ![16]⟩
abbrev S112 : Shape := ⟨1, ![112]⟩
abbrev S7296 : Shape := ⟨1, ![7296]⟩
abbrev S112x512 : Shape := ⟨2, ![112, 512]⟩
abbrev S128x512 : Shape := ⟨2, ![128, 512]⟩
abbrev S1x7296 : Shape := ⟨2, ![1, 7296]⟩
abbrev S1x512 : Shape := ⟨2, ![1, 512]⟩
abbrev S1x1024 : Shape := ⟨2, ![1, 1024]⟩
abbrev S1x256x1024 : Shape := ⟨3, ![1, 256, 1024]⟩
abbrev S4x256x128 : Shape := ⟨3, ![4, 256, 128]⟩
abbrev S256x1024 : Shape := ⟨2, ![256, 1024]⟩
abbrev S256x512 : Shape := ⟨2, ![256, 512]⟩
abbrev S1024x128 : Shape := ⟨2, ![1024, 128]⟩
abbrev S256x128 : Shape := ⟨2, ![256, 128]⟩
abbrev S1x128 : Shape := ⟨2, ![1, 128]⟩
abbrev S256x256 : Shape := ⟨2, ![256, 256]⟩
abbrev S64x64 : Shape := ⟨2, ![64, 64]⟩
abbrev S64x512 : Shape := ⟨2, ![64, 512]⟩
abbrev S64x128 : Shape := ⟨2, ![64, 128]⟩
abbrev S64x256 : Shape := ⟨2, ![64, 256]⟩
abbrev S1x256x128 : Shape := ⟨3, ![1, 256, 128]⟩
abbrev S256 : Shape := ⟨1, ![256]⟩
abbrev S256x1 : Shape := ⟨2, ![256, 1]⟩
abbrev S1x256 : Shape := ⟨2, ![1, 256]⟩

abbrev nBuf : Space → Nat
  | .hbm => 41
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S1024x7184, .f32⟩
  | .hbm, ⟨2, _⟩ => ⟨S7184, .f32⟩
  | .hbm, ⟨3, _⟩ => ⟨S16x512, .f32⟩
  | .hbm, ⟨4, _⟩ => ⟨S512, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x512, .f32⟩
  | .hbm, ⟨10, _⟩ => ⟨S1024x512, .f32⟩
  | .hbm, ⟨11, _⟩ => ⟨S1024x1024, .f32⟩
  | .hbm, ⟨12, _⟩ => ⟨S1024x1024, .f32⟩
  | .hbm, ⟨13, _⟩ => ⟨S1024x16, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x112, .f32⟩
  | .hbm, ⟨18, _⟩ => ⟨S1024x7296, .f32⟩
  | .hbm, ⟨19, _⟩ => ⟨S1024x7296, .bf16⟩
  | .hbm, ⟨20, _⟩ => ⟨S1024, .f32⟩
  | .hbm, ⟨21, _⟩ => ⟨S1024, .f32⟩
  | .hbm, ⟨22, _⟩ => ⟨S512, .f32⟩
  | .hbm, ⟨23, _⟩ => ⟨S512, .f32⟩
  | .hbm, ⟨24, _⟩ => ⟨S1024, .f32⟩
  | .hbm, ⟨25, _⟩ => ⟨S1024, .f32⟩
  | .hbm, ⟨26, _⟩ => ⟨S16, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S112, .f32⟩
  | .hbm, ⟨31, _⟩ => ⟨S7296, .f32⟩
  | .hbm, ⟨32, _⟩ => ⟨S_, .f32⟩
  | .hbm, ⟨33, _⟩ => ⟨S112x512, .f32⟩
  | .hbm, ⟨34, _⟩ => ⟨S128x512, .f32⟩
  | .hbm, ⟨35, _⟩ => ⟨S128x512, .bf16⟩
  | .hbm, ⟨36, _⟩ => ⟨S1x7296, .f32⟩
  | .hbm, ⟨37, _⟩ => ⟨S1x512, .f32⟩
  | .hbm, ⟨38, _⟩ => ⟨S1x1024, .f32⟩
  | .hbm, ⟨39, _⟩ => ⟨S1024x1024, .bf16⟩
  | .hbm, ⟨40, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x7296, .bf16⟩
  | .local _ .vmem, ⟨3, _⟩ => ⟨S1x7296, .f32⟩
  | .local _ .vmem, ⟨4, _⟩ => ⟨S128x512, .bf16⟩
  | .local _ .vmem, ⟨5, _⟩ => ⟨S1x512, .f32⟩
  | .local _ .vmem, ⟨6, _⟩ => ⟨S1x1024, .f32⟩
  | .local _ .vmem, ⟨7, _⟩ => ⟨S1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S4x256x128, .f32⟩
  | .local _ .vmem, ⟨11, _⟩ => ⟨S256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x7296 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x7296 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S16x2048x1024 : Shape := ⟨3, ![16, 2048, 1024]⟩
abbrev S1024x7184 : Shape := ⟨2, ![1024, 7184]⟩
abbrev S7184 : Shape := ⟨1, ![7184]⟩
abbrev S16x512 : Shape := ⟨2, ![16, 512]⟩
abbrev S512 : Shape := ⟨1, ![512]⟩
abbrev S1024 : Shape := ⟨1, ![1024]⟩
abbrev S1024x1024 : Shape := ⟨2, ![1024, 1024]⟩
abbrev S16x2048x7184 : Shape := ⟨3, ![16, 2048, 7184]⟩
abbrev S1x1x7184 : Shape := ⟨3, ![1, 1, 7184]⟩
abbrev S16x2048x512 : Shape := ⟨3, ![16, 2048, 512]⟩
abbrev S16x2048x16 : Shape := ⟨3, ![16, 2048, 16]⟩
abbrev S1x1x512 : Shape := ⟨3, ![1, 1, 512]⟩
abbrev S_ : Shape := ⟨0, ![]⟩
abbrev S16x2048x4x128 : Shape := ⟨4, ![16, 2048, 4, 128]⟩
abbrev S16x2048x4x256 : Shape := ⟨4, ![16, 2048, 4, 256]⟩
abbrev S16x32x64x4x128 : Shape := ⟨5, ![16, 32, 64, 4, 128]⟩
abbrev S16x32x64x4x256 : Shape := ⟨5, ![16, 32, 64, 4, 256]⟩
abbrev S16x32x1x4x128 : Shape := ⟨5, ![16, 32, 1, 4, 128]⟩
abbrev S64x64 : Shape := ⟨2, ![64, 64]⟩
abbrev S16x32x4x64x64 : Shape := ⟨5, ![16, 32, 4, 64, 64]⟩
abbrev S16x32x4x256x64 : Shape := ⟨5, ![16, 32, 4, 256, 64]⟩
abbrev S16x32x4x128 : Shape := ⟨4, ![16, 32, 4, 128]⟩
abbrev S32x16x64x4x256 : Shape := ⟨5, ![32, 16, 64, 4, 256]⟩
abbrev S32x16x64x4x128 : Shape := ⟨5, ![32, 16, 64, 4, 128]⟩
abbrev S32x16x4x128 : Shape := ⟨4, ![32, 16, 4, 128]⟩
abbrev S16x4x128x256 : Shape := ⟨4, ![16, 4, 128, 256]⟩
abbrev S1x16x64x4x256 : Shape := ⟨5, ![1, 16, 64, 4, 256]⟩
abbrev S16x64x4x256 : Shape := ⟨4, ![16, 64, 4, 256]⟩
abbrev S1x16x64x4x128 : Shape := ⟨5, ![1, 16, 64, 4, 128]⟩
abbrev S16x64x4x128 : Shape := ⟨4, ![16, 64, 4, 128]⟩
abbrev S1x16x4x128 : Shape := ⟨4, ![1, 16, 4, 128]⟩
abbrev S16x4x128 : Shape := ⟨3, ![16, 4, 128]⟩
abbrev S16x4x256x64 : Shape := ⟨4, ![16, 4, 256, 64]⟩
abbrev S16x4x128x1 : Shape := ⟨4, ![16, 4, 128, 1]⟩
abbrev S16x2048x4 : Shape := ⟨3, ![16, 2048, 4]⟩
abbrev S16x2048x4x1 : Shape := ⟨4, ![16, 2048, 4, 1]⟩
abbrev S4x256 : Shape := ⟨2, ![4, 256]⟩
abbrev S1x1x4x256 : Shape := ⟨4, ![1, 1, 4, 256]⟩

abbrev nBuf : Space → Nat
  | .hbm => 197
  | .vmem => 0
  | .smem => 0
  | _ => 0

abbrev hbmTy0_0 (i : Nat) : BufTy := match i % 128 with
  | 0 => ⟨S16x2048x1024, .f32⟩
  | 1 => ⟨S1024x7184, .f32⟩
  | 2 => ⟨S7184, .f32⟩
  | 3 => ⟨S16x512, .f32⟩
  | 4 => ⟨S512, .f32⟩
  | 5 => ⟨S1024, .f32⟩
  | 6 => ⟨S1024x1024, .f32⟩
  | 7 => ⟨S16x2048x7184, .f32⟩
  | 8 => ⟨S1x1x7184, .f32⟩
  | 9 => ⟨S16x2048x7184, .f32⟩
  | 10 => ⟨S16x2048x7184, .f32⟩
  | 11 => ⟨S16x2048x1024, .f32⟩
  | 12 => ⟨S16x2048x1024, .f32⟩
  | 13 => ⟨S16x2048x512, .f32⟩
  | 14 => ⟨S16x2048x512, .f32⟩
  | 15 => ⟨S16x2048x1024, .f32⟩
  | 16 => ⟨S16x2048x1024, .f32⟩
  | 17 => ⟨S16x2048x16, .f32⟩
  | 18 => ⟨S16x2048x1024, .f32⟩
  | 19 => ⟨S16x2048x1024, .f32⟩
  | 20 => ⟨S16x2048x512, .f32⟩
  | 21 => ⟨S1x1x512, .f32⟩
  | 22 => ⟨S16x2048x512, .f32⟩
  | 23 => ⟨S16x2048x512, .f32⟩
  | 24 => ⟨S16x2048x512, .f32⟩
  | 25 => ⟨S_, .f32⟩
  | 26 => ⟨S16x2048x512, .f32⟩
  | 27 => ⟨S16x2048x512, .f32⟩
  | 28 => ⟨S16x2048x512, .f32⟩
  | 29 => ⟨S16x2048x512, .f32⟩
  | 30 => ⟨S16x2048x512, .i1⟩
  | 31 => ⟨S16x2048x512, .f32⟩
  | 32 => ⟨S16x2048x512, .f32⟩
  | 33 => ⟨S16x2048x512, .f32⟩
  | 34 => ⟨S16x2048x512, .f32⟩
  | 35 => ⟨S16x2048x512, .f32⟩
  | 36 => ⟨S16x2048x512, .f32⟩
  | 37 => ⟨S16x2048x512, .f32⟩
  | 38 => ⟨S16x2048x512, .f32⟩
  | 39 => ⟨S16x2048x512, .f32⟩
  | 40 => ⟨S_, .f32⟩
  | 41 => ⟨S16x2048x512, .f32⟩
  | 42 => ⟨S16x2048x512, .f32⟩
  | 43 => ⟨S16x2048x4x128, .f32⟩
  | 44 => ⟨S_, .f32⟩
  | 45 => ⟨S16x2048x4x128, .f32⟩
  | 46 => ⟨S16x2048x4x128, .f32⟩
  | 47 => ⟨S16x2048x4x128, .f32⟩
  | 48 => ⟨S16x2048x4x256, .f32⟩
  | 49 => ⟨S16x2048x4x128, .f32⟩
  | 50 => ⟨S16x32x64x4x128, .f32⟩
  | 51 => ⟨S16x32x64x4x128, .f32⟩
  | 52 => ⟨S16x32x64x4x256, .f32⟩
  | 53 => ⟨S16x32x64x4x128, .f32⟩
  | 54 => ⟨S_, .f32⟩
  | 55 => ⟨S_, .f32⟩
  | 56 => ⟨S16x32x64x4x128, .f32⟩
  | 57 => ⟨S16x32x1x4x128, .f32⟩
  | 58 => ⟨S16x32x64x4x128, .f32⟩
  | 59 => ⟨S16x32x64x4x128, .f32⟩
  | 60 => ⟨S16x32x64x4x128, .f32⟩
  | 61 => ⟨S16x32x64x4x128, .f32⟩
  | 62 => ⟨S16x32x64x4x128, .f32⟩
  | 63 => ⟨S16x32x64x4x128, .f32⟩
  | 64 => ⟨S16x32x64x4x128, .f32⟩
  | 65 => ⟨S16x32x64x4x128, .f32⟩
  | 66 => ⟨S16x32x64x4x128, .f32⟩
  | 67 => ⟨S_, .i1⟩
  | 68 => ⟨S64x64, .i1⟩
  | 69 => ⟨S64x64, .i32⟩
  | 70 => ⟨S_, .i32⟩
  | 71 => ⟨S64x64, .i32⟩
  | 72 => ⟨S64x64, .i32⟩
  | 73 => ⟨S64x64, .i32⟩
  | 74 => ⟨S64x64, .i1⟩
  | 75 => ⟨S_, .i1⟩
  | 76 => ⟨S64x64, .i1⟩
  | 77 => ⟨S64x64, .i1⟩
  | 78 => ⟨S16x32x4x64x64, .f32⟩
  | 79 => ⟨S_, .f32⟩
  | 80 => ⟨S_, .f32⟩
  | 81 => ⟨S16x32x4x64x64, .i1⟩
  | 82 => ⟨S16x32x4x64x64, .f32⟩
  | 83 => ⟨S16x32x4x64x64, .f32⟩
  | 84 => ⟨S16x32x4x256x64, .f32⟩
  | 85 => ⟨S16x32x64x4x256, .f32⟩
  | 86 => ⟨S16x32x4x128, .f32⟩
  | 87 => ⟨S16x32x4x128, .f32⟩
  | 88 => ⟨S32x16x64x4x256, .f32⟩
  | 89 => ⟨S32x16x64x4x128, .f32⟩
  | 90 => ⟨S32x16x64x4x128, .f32⟩
  | 91 => ⟨S32x16x64x4x256, .f32⟩
  | 92 => ⟨S32x16x4x128, .f32⟩
  | 93 => ⟨S_, .f32⟩
  | 94 => ⟨S16x4x128x256, .f32⟩
  | 95 => ⟨S_, .f32⟩
  | 96 => ⟨S32x16x64x4x256, .f32⟩
  | 97 => ⟨S_, .i32⟩
  | 98 => ⟨S32x16x64x4x256, .f32⟩
  | 99 => ⟨S32x16x64x4x128, .f32⟩
  | 100 => ⟨S32x16x64x4x128, .f32⟩
  | 101 => ⟨S32x16x64x4x256, .f32⟩
  | 102 => ⟨S32x16x4x128, .f32⟩
  | 103 => ⟨S_, .i32⟩
  | 104 => ⟨S16x4x128x256, .f32⟩
  | 105 => ⟨S32x16x64x4x256, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S1x16x64x4x256, .f32⟩
  | 113 => ⟨S16x64x4x256, .f32⟩
  | 114 => ⟨S_, .i32⟩
  | 115 => ⟨S_, .i32⟩
  | 116 => ⟨S_, .i32⟩
  | 117 => ⟨S_, .i32⟩
  | 118 => ⟨S1x16x64x4x128, .f32⟩
  | 119 => ⟨S16x64x4x128, .f32⟩
  | 120 => ⟨S_, .i32⟩
  | 121 => ⟨S_, .i32⟩
  | 122 => ⟨S_, .i32⟩
  | 123 => ⟨S_, .i32⟩
  | 124 => ⟨S1x16x64x4x128, .f32⟩
  | 125 => ⟨S16x64x4x128, .f32⟩
  | 126 => ⟨S_, .i32⟩
  | 127 => ⟨S_, .i32⟩
  | _ => ⟨S16x2048x1024, .f32⟩

abbrev hbmTy0_1 (i : Nat) : BufTy := match i % 128 with
  | 0 => ⟨S_, .i32⟩
  | 1 => ⟨S_, .i32⟩
  | 2 => ⟨S1x16x64x4x256, .f32⟩
  | 3 => ⟨S16x64x4x256, .f32⟩
  | 4 => ⟨S_, .i32⟩
  | 5 => ⟨S_, .i32⟩
  | 6 => ⟨S_, .i32⟩
  | 7 => ⟨S1x16x4x128, .f32⟩
  | 8 => ⟨S16x4x128, .f32⟩
  | 9 => ⟨S16x4x256x64, .f32⟩
  | 10 => ⟨S16x64x4x256, .f32⟩
  | 11 => ⟨S16x64x4x256, .f32⟩
  | 12 => ⟨S16x4x128x1, .f32⟩
  | 13 => ⟨S16x4x128x256, .f32⟩
  | 14 => ⟨S16x4x128x256, .f32⟩
  | 15 => ⟨S16x4x128x256, .f32⟩
  | 16 => ⟨S16x4x128x256, .f32⟩
  | 17 => ⟨S1x16x64x4x256, .f32⟩
  | 18 => ⟨S_, .i32⟩
  | 19 => ⟨S_, .i32⟩
  | 20 => ⟨S_, .i32⟩
  | 21 => ⟨S_, .i32⟩
  | 22 => ⟨S32x16x64x4x256, .f32⟩
  | 23 => ⟨S_, .i32⟩
  | 24 => ⟨S_, .i32⟩
  | 25 => ⟨S16x32x64x4x256, .f32⟩
  | 26 => ⟨S16x2048x4x256, .f32⟩
  | 27 => ⟨S16x2048x4x256, .f32⟩
  | 28 => ⟨S_, .f32⟩
  | 29 => ⟨S16x2048x4, .f32⟩
  | 30 => ⟨S16x2048x4x1, .f32⟩
  | 31 => ⟨S_, .f32⟩
  | 32 => ⟨S16x2048x4x1, .f32⟩
  | 33 => ⟨S16x2048x4x1, .f32⟩
  | 34 => ⟨S_, .f32⟩
  | 35 => ⟨S16x2048x4x1, .f32⟩
  | 36 => ⟨S16x2048x4x1, .f32⟩
  | 37 => ⟨S16x2048x4x1, .f32⟩
  | 38 => ⟨S16x2048x4x256, .f32⟩
  | 39 => ⟨S16x2048x4x256, .f32⟩
  | 40 => ⟨S4x256, .f32⟩
  | 41 => ⟨S1x1x4x256, .f32⟩
  | 42 => ⟨S16x2048x4x256, .f32⟩
  | 43 => ⟨S16x2048x4x256, .f32⟩
  | 44 => ⟨S16x2048x7184, .f32⟩
  | 45 => ⟨S1x1x7184, .f32⟩
  | 46 => ⟨S16x2048x7184, .f32⟩
  | 47 => ⟨S16x2048x7184, .f32⟩
  | 48 => ⟨S16x2048x1024, .f32⟩
  | 49 => ⟨S16x2048x1024, .f32⟩
  | 50 => ⟨S16x2048x512, .f32⟩
  | 51 => ⟨S16x2048x512, .f32⟩
  | 52 => ⟨S16x2048x1024, .f32⟩
  | 53 => ⟨S16x2048x1024, .f32⟩
  | 54 => ⟨S16x2048x16, .f32⟩
  | 55 => ⟨S16x2048x1024, .f32⟩
  | 56 => ⟨S16x2048x1024, .f32⟩
  | 57 => ⟨S16x2048x1024, .f32⟩
  | 58 => ⟨S16x2048x1024, .f32⟩
  | 59 => ⟨S16x2048x1024, .f32⟩
  | 60 => ⟨S_, .f32⟩
  | 61 => ⟨S16x2048x1024, .f32⟩
  | 62 => ⟨S16x2048x1024, .f32⟩
  | 63 => ⟨S_, .f32⟩
  | 64 => ⟨S16x2048x1024, .f32⟩
  | 65 => ⟨S16x2048x1024, .f32⟩
  | 66 => ⟨S16x2048x1024, .f32⟩
  | 67 => ⟨S16x2048x1024, .f32⟩
  | 68 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_call0_cst : Ref sig .tc := ⟨.hbm, 54, rfl⟩
abbrev main_call1_call0_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c : Ref sig .tc := ⟨.hbm, 67, rfl⟩
abbrev main_v43 : Ref sig .tc := ⟨.hbm, 68, rfl⟩
abbrev main_call2_v0 : Ref sig .tc := ⟨.hbm, 69, rfl⟩
abbrev main_call2_c : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_c_0 : Ref sig .tc := ⟨.hbm, 75, rfl⟩
abbrev main_call2_v5 : Ref sig .tc := ⟨.hbm, 76, rfl⟩
abbrev main_v44 : Ref sig .tc := ⟨.hbm, 77, rfl⟩
abbrev main_v45 : Ref sig .tc := ⟨.hbm, 78, rfl⟩
abbrev main_cst_1 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_2 : Ref sig .tc := ⟨.hbm, 93, rfl⟩
abbrev main_v56 : Ref sig .tc := ⟨.hbm, 94, rfl⟩
abbrev main_cst_3 : Ref sig .tc := ⟨.hbm, 95, rfl⟩
abbrev main_v57 : Ref sig .tc := ⟨.hbm, 96, rfl⟩
abbrev main_c_4 : Ref sig .tc := ⟨.hbm, 97, rfl⟩
abbrev main_v58_0 : Ref sig .tc := ⟨.hbm, 98, rfl⟩
abbrev main_v58_1 : Ref sig .tc := ⟨.hbm, 99, rfl⟩
abbrev main_v58_2 : Ref sig .tc := ⟨.hbm, 100, rfl⟩
abbrev main_v58_3 : Ref sig .tc := ⟨.hbm, 101, rfl⟩
abbrev main_v58_4 : Ref sig .tc := ⟨.hbm, 102, rfl⟩
abbrev main_v58_5 : Ref sig .tc := ⟨.hbm, 103, rfl⟩
abbrev main_v58_6 : Ref sig .tc := ⟨.hbm, 104, rfl⟩
abbrev main_v58_7 : Ref sig .tc := ⟨.hbm, 105, rfl⟩
abbrev main_while0c_c_15 : Ref sig .tc := ⟨.hbm, 106, rfl⟩
abbrev main_while0c_v92 : Ref sig .tc := ⟨.hbm, 107, rfl⟩
abbrev main_while0b_call4_c : Ref sig .tc := ⟨.hbm, 108, rfl⟩
abbrev main_while0b_call4_c_0 : Ref sig .tc := ⟨.hbm, 109, rfl⟩
abbrev main_while0b_call4_c_1 : Ref sig .tc := ⟨.hbm, 110, rfl⟩
abbrev main_while0b_call4_c_2 : Ref sig .tc := ⟨.hbm, 111, rfl⟩
abbrev main_while0b_call4_v0 : Ref sig .tc := ⟨.hbm, 112, rfl⟩
abbrev main_while0b_v92 : Ref sig .tc := ⟨.hbm, 113, rfl⟩
abbrev main_while0b_call5_c : Ref sig .tc := ⟨.hbm, 114, rfl⟩
abbrev main_while0b_call5_c_0 : Ref sig .tc := ⟨.hbm, 115, rfl⟩
abbrev main_while0b_call5_c_1 : Ref sig .tc := ⟨.hbm, 116, rfl⟩
abbrev main_while0b_call5_c_2 : Ref sig .tc := ⟨.hbm, 117, rfl⟩
abbrev main_while0b_call5_v0 : Ref sig .tc := ⟨.hbm, 118, rfl⟩
abbrev main_while0b_v93 : Ref sig .tc := ⟨.hbm, 119, rfl⟩
abbrev main_while0b_call6_c : Ref sig .tc := ⟨.hbm, 120, rfl⟩
abbrev main_while0b_call6_c_0 : Ref sig .tc := ⟨.hbm, 121, rfl⟩
abbrev main_while0b_call6_c_1 : Ref sig .tc := ⟨.hbm, 122, rfl⟩
abbrev main_while0b_call6_c_2 : Ref sig .tc := ⟨.hbm, 123, rfl⟩
abbrev main_while0b_call6_v0 : Ref sig .tc := ⟨.hbm, 124, rfl⟩
abbrev main_while0b_v94 : Ref sig .tc := ⟨.hbm, 125, rfl⟩
abbrev main_while0b_call7_c : Ref sig .tc := ⟨.hbm, 126, rfl⟩
abbrev main_while0b_call7_c_0 : Ref sig .tc := ⟨.hbm, 127, rfl⟩
abbrev main_while0b_call7_c_1 : Ref sig .tc := ⟨.hbm, 128, rfl⟩
abbrev main_while0b_call7_c_2 : Ref sig .tc := ⟨.hbm, 129, rfl⟩
abbrev main_while0b_call7_v0 : Ref sig .tc := ⟨.hbm, 130, rfl⟩
abbrev main_while0b_v95 : Ref sig .tc := ⟨.hbm, 131, rfl⟩
abbrev main_while0b_call8_c : Ref sig .tc := ⟨.hbm, 132, rfl⟩
abbrev main_while0b_call8_c_0 : Ref sig .tc := ⟨.hbm, 133, rfl⟩
abbrev main_while0b_call8_c_1 : Ref sig .tc := ⟨.hbm, 134, rfl⟩
abbrev main_while0b_call8_v0 : Ref sig .tc := ⟨.hbm, 135, rfl⟩
abbrev main_while0b_v96 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_v100 : Ref sig .tc := ⟨.hbm, 140, rfl⟩
abbrev main_while0b_v101 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_call9_v0 : Ref sig .tc := ⟨.hbm, 145, rfl⟩
abbrev main_while0b_call9_c : Ref sig .tc := ⟨.hbm, 146, rfl⟩
abbrev main_while0b_call9_c_0 : Ref sig .tc := ⟨.hbm, 147, rfl⟩
abbrev main_while0b_call9_c_1 : Ref sig .tc := ⟨.hbm, 148, rfl⟩
abbrev main_while0b_call9_c_2 : Ref sig .tc := ⟨.hbm, 149, rfl⟩
abbrev main_while0b_v105 : Ref sig .tc := ⟨.hbm, 150, rfl⟩
abbrev main_while0b_c_15 : Ref sig .tc := ⟨.hbm, 151, rfl⟩
abbrev main_while0b_v106 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_cst_5 : Ref sig .tc := ⟨.hbm, 156, rfl⟩
abbrev main_v62 : Ref sig .tc := ⟨.hbm, 157, rfl⟩
abbrev main_v63 : Ref sig .tc := ⟨.hbm, 158, rfl⟩
abbrev main_cst_6 : Ref sig .tc := ⟨.hbm, 159, rfl⟩
abbrev main_v64 : Ref sig .tc := ⟨.hbm, 160, rfl⟩
abbrev main_v65 : Ref sig .tc := ⟨.hbm, 161, rfl⟩
abbrev main_cst_7 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_call10_v0 : Ref sig .tc := ⟨.hbm, 186, rfl⟩
abbrev main_call10_v1 : Ref sig .tc := ⟨.hbm, 187, rfl⟩
abbrev main_call10_cst : Ref sig .tc := ⟨.hbm, 188, rfl⟩
abbrev main_call10_v2 : Ref sig .tc := ⟨.hbm, 189, rfl⟩
abbrev main_call10_v3 : Ref sig .tc := ⟨.hbm, 190, rfl⟩
abbrev main_call10_cst_0 : Ref sig .tc := ⟨.hbm, 191, rfl⟩
abbrev main_call10_v4 : Ref sig .tc := ⟨.hbm, 192, rfl⟩
abbrev main_call10_v5 : Ref sig .tc := ⟨.hbm, 193, rfl⟩
abbrev main_v89 : Ref sig .tc := ⟨.hbm, 194, rfl⟩
abbrev main_v90 : Ref sig .tc := ⟨.hbm, 195, rfl⟩
abbrev main_v91 : Ref sig .tc := ⟨.hbm, 196, rfl⟩

abbrev nD : Nat := 1
abbrev τ : Topo := Topo.v7x

variable {F : FTy → Type} [FloatOps F]

abbrev main_while0_count : Scf.Loop 32 := ⟨0#32, 32#32, 1#32⟩
-- ==== Kernel5.lean ====
abbrev S16x2048x1024 : Shape := ⟨3, ![16, 2048, 1024]⟩
abbrev S1024x7184 : Shape := ⟨2, ![1024, 7184]⟩
abbrev S7184 : Shape := ⟨1, ![7184]⟩
abbrev S1024x1024 : Shape := ⟨2, ![1024, 1024]⟩
abbrev S1024 : Shape := ⟨1, ![1024]⟩
abbrev S1024x512 : Shape := ⟨2, ![1024, 512]⟩
abbrev S1024x16 : Shape := ⟨2, ![1024, 16]⟩
abbrev S_ : Shape := ⟨0, ![]⟩
abbrev S1024x112 : Shape := ⟨2, ![1024, 112]⟩
abbrev S1024x7296 : Shape := ⟨2, ![1024, 7296]⟩
abbrev S512 : Shape := ⟨1, ![512]⟩
abbrev S16 : Shape := ⟨1, ![16]⟩
abbrev S112 : Shape := ⟨1, ![112]⟩
abbrev S7296 : Shape := ⟨1, ![7296]⟩
abbrev S1x7296 : Shape := ⟨2, ![1, 7296]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 40
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S1024x7184, .f32⟩
  | .hbm, ⟨4, _⟩ => ⟨S7184, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024x512, .f32⟩
  | .hbm, ⟨12, _⟩ => ⟨S1024x512, .f32⟩
  | .hbm, ⟨13, _⟩ => ⟨S1024x1024, .f32⟩
  | .hbm, ⟨14, _⟩ => ⟨S1024x1024, .f32⟩
  | .hbm, ⟨15, _⟩ => ⟨S1024x16, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x112, .f32⟩
  | .hbm, ⟨20, _⟩ => ⟨S1024x7296, .f32⟩
  | .hbm, ⟨21, _⟩ => ⟨S1024x7296, .bf16⟩
  | .hbm, ⟨22, _⟩ => ⟨S1024, .f32⟩
  | .hbm, ⟨23, _⟩ => ⟨S1024, .f32⟩
  | .hbm, ⟨24, _⟩ => ⟨S512, .f32⟩
  | .hbm, ⟨25, _⟩ => ⟨S512, .f32⟩
  | .hbm, ⟨26, _⟩ => ⟨S1024, .f32⟩
  | .hbm, ⟨27, _⟩ => ⟨S1024, .f32⟩
  | .hbm, ⟨28, _⟩ => ⟨S16, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S112, .f32⟩
  | .hbm, ⟨33, _⟩ => ⟨S7296, .f32⟩
  | .hbm, ⟨34, _⟩ => ⟨S1x7296, .f32⟩
  | .hbm, ⟨35, _⟩ => ⟨S1024x1024, .bf16⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x7296, .bf16⟩
  | .local _ .vmem, ⟨7, _⟩ => ⟨S1x7296, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x256x1024, .f32⟩
  | .local _ .vmem, ⟨13, _⟩ => ⟨S1x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x7296 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x7296 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S16x2048x1024 : Shape := ⟨3, ![16, 2048, 1024]⟩
abbrev S1024x7184 : Shape := ⟨2, ![1024, 7184]⟩
abbrev S7184 : Shape := ⟨1, ![7184]⟩
abbrev S1024x1024 : Shape := ⟨2, ![1024, 1024]⟩
abbrev S1024 : Shape := ⟨1, ![1024]⟩
abbrev S16x2048x7184 : Shape := ⟨3, ![16, 2048, 7184]⟩
abbrev S1x1x7184 : Shape := ⟨3, ![1, 1, 7184]⟩
abbrev S16x2048x512 : Shape := ⟨3, ![16, 2048, 512]⟩
abbrev S16x2048x16 : Shape := ⟨3, ![16, 2048, 16]⟩
abbrev S_ : Shape := ⟨0, ![]⟩
abbrev S1x1x1024 : Shape := ⟨3, ![1, 1, 1024]⟩
abbrev S16x2048 : Shape := ⟨2, ![16, 2048]⟩
abbrev S16x2048x1 : Shape := ⟨3, ![16, 2048, 1]⟩

abbrev nBuf : Space → Nat
  | .hbm => 78
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x1024, .f32⟩
  | .hbm, ⟨3, _⟩ => ⟨S1024x7184, .f32⟩
  | .hbm, ⟨4, _⟩ => ⟨S7184, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S16x2048x7184, .f32⟩
  | .hbm, ⟨10, _⟩ => ⟨S1x1x7184, .f32⟩
  | .hbm, ⟨11, _⟩ => ⟨S16x2048x7184, .f32⟩
  | .hbm, ⟨12, _⟩ => ⟨S16x2048x7184, .f32⟩
  | .hbm, ⟨13, _⟩ => ⟨S16x2048x1024, .f32⟩
  | .hbm, ⟨14, _⟩ => ⟨S16x2048x1024, .f32⟩
  | .hbm, ⟨15, _⟩ => ⟨S16x2048x512, .f32⟩
  | .hbm, ⟨16, _⟩ => ⟨S16x2048x512, .f32⟩
  | .hbm, ⟨17, _⟩ => ⟨S16x2048x1024, .f32⟩
  | .hbm, ⟨18, _⟩ => ⟨S16x2048x1024, .f32⟩
  | .hbm, ⟨19, _⟩ => ⟨S16x2048x16, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S16x2048x1024, .f32⟩
  | .hbm, ⟨24, _⟩ => ⟨S_, .f32⟩
  | .hbm, ⟨25, _⟩ => ⟨S16x2048x1024, .f32⟩
  | .hbm, ⟨26, _⟩ => ⟨S16x2048x1024, .f32⟩
  | .hbm, ⟨27, _⟩ => ⟨S_, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S16x2048x1024, .f32⟩
  | .hbm, ⟨32, _⟩ => ⟨S16x2048x1024, .f32⟩
  | .hbm, ⟨33, _⟩ => ⟨S_, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S1x1x1024, .f32⟩
  | .hbm, ⟨43, _⟩ => ⟨S16x2048x1024, .f32⟩
  | .hbm, ⟨44, _⟩ => ⟨S16x2048x1024, .f32⟩
  | .hbm, ⟨45, _⟩ => ⟨S_, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S_, .f32⟩
  | .hbm, ⟨50, _⟩ => ⟨S16x2048, .f32⟩
  | .hbm, ⟨51, _⟩ => ⟨S16x2048x1, .f32⟩
  | .hbm, ⟨52, _⟩ => ⟨S_, .f32⟩
  | .hbm, ⟨53, _⟩ => ⟨S16x2048x1, .f32⟩
  | .hbm, ⟨54, _⟩ => ⟨S16x2048x1, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S_, .f32⟩
  | .hbm, ⟨59, _⟩ => ⟨S16x2048, .f32⟩
  | .hbm, ⟨60, _⟩ => ⟨S16x2048x1, .f32⟩
  | .hbm, ⟨61, _⟩ => ⟨S_, .f32⟩
  | .hbm, ⟨62, _⟩ => ⟨S16x2048x1, .f32⟩
  | .hbm, ⟨63, _⟩ => ⟨S16x2048x1, .f32⟩
  | .hbm, ⟨64, _⟩ => ⟨S16x2048x1024, .f32⟩
  | .hbm, ⟨65, _⟩ => ⟨S16x2048x1024, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S16x2048x1, .f32⟩
  | .hbm, ⟨70, _⟩ => ⟨S16x2048x1024, .f32⟩
  | .hbm, ⟨71, _⟩ => ⟨S16x2048x1024, .f32⟩
  | .hbm, ⟨72, _⟩ => ⟨S1x1x1024, .f32⟩
  | .hbm, ⟨73, _⟩ => ⟨S16x2048x1024, .f32⟩
  | .hbm, ⟨74, _⟩ => ⟨S16x2048x1024, .f32⟩
  | .hbm, ⟨75, _⟩ => ⟨S1x1x1024, .f32⟩
  | .hbm, ⟨76, _⟩ => ⟨S16x2048x1024, .f32⟩
  | .hbm, ⟨77, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]
-- ==== Proof.Dispatch.lean ====
/-
  Hand-written. The dispatch kernel at one grid point, over any values: 2048 row copies from the packed tokens into
  the rows the point's table names, all on one DMA semaphore, with the waits running 64 tokens behind the starts.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.Routed
public import Idealize.ShloMosaic.Lib.Batch
public import Idealize.ShloMosaic.Lib.Ring
public import Idealize.ShloMosaic.Lib.Scf
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UC)

variable {F : FTy → Type} [FloatOps F]

local notation "𝕄" => MT nD τ sig Unit (Elt F) ℕ (UC sig nD τ) ℕ
abbrev EC : UEmb Counters 𝕄 := countersEmb (U := UC sig nD τ)

/-- The tokens' rows and the destination's rows, whole. -/
abbrev xm : Memref sig .tc .hbm S32768x512 .i32 := Memref.whole main_arg1
abbrev ym : Memref sig .tc .hbm S73728x512 .i32 := Memref.whole main_v0
abbrev XBuf (c : Dev nD) : Type := Buf (Elt F) ((c : Thread nD τ).loc main_arg1)
abbrev YBuf (c : Dev nD) : Type := Buf (Elt F) ((c : Thread nD τ).loc main_v0)
/-- The one DMA semaphore of the copies. -/
abbrev dsem : DmaSem sig := 2
theorem dsem_eq : cc0_scratch0.sem = dsem := rfl

/-- One row of the destination, and one of the tokens, as the kernel slices them. -/
abbrev yrow (o : Fin 2 → ℕ) (h : ∀ a, o a + S1x512.size a ≤ S73728x512.size a) : Memref sig .tc .hbm S1x512 .i32 :=
  ym.slice (Rect.unit (s := S73728x512) o S1x512.size h) (fun _ => rfl)
abbrev xrow (o : Fin 2 → ℕ) (h : ∀ a, o a + S1x512.size a ≤ S32768x512.size a) : Memref sig .tc .hbm S1x512 .i32 :=
  xm.slice (Rect.unit (s := S32768x512) o S1x512.size h) (fun _ => rfl)

/-- The elements of row `r`. -/
def ySet (r : ℕ) : Finset S73728x512.Idx := Finset.univ.filter fun p => (p 0).val = r
def xSet (r : ℕ) : Finset S32768x512.Idx := Finset.univ.filter fun p => (p 0).val = r

theorem yrow_set (r : ℕ) (h) : (yrow ![r, 0] h).view.set = ySet r := by
  show ((View.whole main_v0).slice _).set = _
  rw [View.set_slice_whole]
  ext p
  rw [Rect.mem_set_unit, ySet, Finset.mem_filter]
  have h1 : (p 1).val < 512 := (p 1).isLt
  constructor
  · intro hp
    have := hp 0
    refine ⟨Finset.mem_univ _, ?_⟩
    have e : r ≤ (p 0).val ∧ (p 0).val < r + 1 := this
    omega
  · rintro ⟨-, hp⟩ a
    fin_cases a
    · show r ≤ (p 0).val ∧ (p 0).val < r + 1
      omega
    · show 0 ≤ (p 1).val ∧ (p 1).val < 0 + 512
      exact ⟨Nat.zero_le _, by omega⟩

theorem xrow_set (r : ℕ) (h) : (xrow ![r, 0] h).view.set = xSet r := by
  show ((View.whole main_arg1).slice _).set = _
  rw [View.set_slice_whole]
  ext p
  rw [Rect.mem_set_unit, xSet, Finset.mem_filter]
  have h1 : (p 1).val < 512 := (p 1).isLt
  constructor
  · intro hp
    have := hp 0
    refine ⟨Finset.mem_univ _, ?_⟩
    have e : r ≤ (p 0).val ∧ (p 0).val < r + 1 := this
    omega
  · rintro ⟨-, hp⟩ a
    fin_cases a
    · show r ≤ (p 0).val ∧ (p 0).val < r + 1
      omega
    · show 0 ≤ (p 1).val ∧ (p 1).val < 0 + 512
      exact ⟨Nat.zero_le _, by omega⟩

/-- A row's credit. -/
def NN : ℕ := main_v0.dmaCredit S1x512 .i32
theorem NN_pos : 0 < NN := by decide

/-- What copy `j` of a point lands: row `row j` of the destination at `G`, and the source row's share back. -/
def landed (c : Dev nD) (i : ℕ) (row : Fin 2048 → ℕ) (X : XBuf (F := F) c) (G : YBuf (F := F) c) (j : Fin 2048) : sProp 𝕄 :=
  iprop((((c : Thread nD τ).loc main_v0) ↦[ySet (row j)]{fullShare} G)
    ∗ (((c : Thread nD τ).loc main_arg1) ↦[xSet (1024 * i + j.val / 2)]{Transfers.shareTokN fullShare j.val} X))

instance landed_storable (c : Dev nD) (i : ℕ) (row : Fin 2048 → ℕ) (X : XBuf (F := F) c) (G : YBuf (F := F) c) :
    ∀ j, Storable (upEmb : UEmb _ 𝕄) (landed c i row X G j) := fun j => by unfold landed; infer_instance

/-- The point's copies: `j` started, `u` of their units waited for. -/
abbrev batch (c : Dev nD) (i : ℕ) (row : Fin 2048 → ℕ) (X : XBuf (F := F) c) (G : YBuf (F := F) c) (j u : ℕ) : sProp 𝕄 :=
  Transfers.Batch EC (c : Thread nD τ) (.dma dsem) () NN (landed c i row X G) j u

/-- The copied row is the row of `G` there. -/
theorem copied (c : Dev nD) (o : Fin 2 → ℕ) (ho) (o' : Fin 2 → ℕ) (ho') (r s : ℕ) (e : o = ![r, 0]) (e' : o' = ![s, 0])
    (X : XBuf (F := F) c) (fd G : YBuf (F := F) c)
    (hG : ∀ (p : S73728x512.Idx) (y : S32768x512.Idx), (p 0).val = r → (y 0).val = s → (y 1).val = (p 1).val → G p = X y)
    (p : S73728x512.Idx) (hp : p ∈ ySet r) :
    (yrow o ho).view.write (Elt F) fd (ReadAs.same.apply ((xrow o' ho').view.read (Elt F) X)) Finset.univ p = G p := by
  subst e e'
  have hp0 : (p 0).val = r := (Finset.mem_filter.mp hp).2
  have hm : p ∈ (yrow ![r, 0] ho).view.set := by rw [yrow_set]; exact hp
  obtain ⟨z, -, rfl⟩ := Finset.mem_map.mp hm
  rw [View.write_emb_of_mem (h := Finset.mem_univ z)]
  show (xrow ![s, 0] ho').view.read (Elt F) X z = _
  rw [View.read_apply]
  show X ((xrow ![s, 0] ho').view.emb z) = _
  refine (hG _ _ hp0 ?_ ?_).symm
  · have := (z 0).isLt
    have h0 : (z 0).val = 0 := by
      have : (z 0).val < 1 := this
      omega
    show s + 1 * (z 0).val = s
    omega
  · rfl

section Steps

variable (c : Dev nD) (i : ℕ) (row : Fin 2048 → ℕ) (X : XBuf (F := F) c) (G fd : YBuf (F := F) c)
variable (arg1 : Memref sig .tc .smem S2x1024 .i32) (f : Buf (Elt F) (arg1.view.loc (c : Thread nD τ)))

/-- What copy `j` takes: its destination row at what it holds, its source row's share. -/
def taken (j : Fin 2048) : sProp 𝕄 :=
  iprop((((c : Thread nD τ).loc main_v0) ↦[ySet (row j)]{fullShare} fd)
    ∗ (((c : Thread nD τ).loc main_arg1) ↦[xSet (1024 * i + j.val / 2)]{Transfers.shareTokN fullShare j.val} X))

/-- The point's table, staged. -/
abbrev table : sProp 𝕄 := arg1.view.loc (c : Thread nD τ) ↦[arg1.view.set]{fullShare} f

/-- The table's words name the rows. -/
def Names : Prop := ∀ (j : Fin 2048) (y : S2x1024.Idx), (y 0).val = j.val % 2 → (y 1).val = j.val / 2 →
  BitVec.toNat (w := 32) (arg1.view.read (Elt F) f y) = row j

/-- `G` holds the tokens' rows where the table sends them. -/
def Sends : Prop := ∀ (j : Fin 2048) (p : S73728x512.Idx) (y : S32768x512.Idx), (p 0).val = row j → (y 0).val = 1024 * i + j.val / 2 →
  (y 1).val = (p 1).val → G p = X y

/-- One word of the table, loaded: copy `j`'s row. -/
theorem load_step (hf : Names c row arg1 f) (oa : Fin 2 → ℕ) (hoa : ∀ a, oa a + S1x1.size a ≤ S2x1024.size a) (j : Fin 2048) (ea : oa = ![j.val % 2, j.val / 2])
    (k : Elt F .i32 → Prog (TpuEff nD τ sig (Elt F) Λ₀ .tc) Unit) (Q : Unit → sProp 𝕄) :
    table c arg1 f ⊢ iprop((∀ v : BitVec 32, ⌜v.toNat = row j⌝ -∗ table c arg1 f -∗ wp frame (wpE (defs₀ (F := F)) Variants.none (c : Thread nD τ) none) Set.univ (k v) Q)
      -∗ wp frame (wpE (defs₀ (F := F)) Variants.none (c : Thread nD τ) none) Set.univ
        (smemLoad arg1 (Rect.unit (s := S2x1024) oa S1x1.size hoa) numel1_S1x1 rfl >>= k) Q) := by
  show _ ⊢ iprop(_ -∗ wp frame (wpE (defs₀ (F := F)) Variants.none (c : Thread nD τ) none) Set.univ
        (smemLoadElt arg1 (Rect.unit (s := S2x1024) oa S1x1.size hoa) (View.loads_smem_one rfl numel1_S1x1) (Shape.Idx.first (numel1_S1x1.symm ▸ Nat.one_pos)) k) Q)
  iintro HT Hk
  iapply (wp_smemLoadElt Variants.none (c : Thread nD τ) none Set.univ (m := arg1) (r := Rect.unit (s := S2x1024) oa S1x1.size hoa)
    (S := arg1.view.set) (q := fullShare) (f := f) (View.set_slice_subset _ _)) $$ HT
  iintro HT
  iapply Hk $$ [] [HT]
  · ipureintro
    refine hf j _ ?_ ?_
    · subst ea
      rfl
    · subst ea
      rfl
  · iexact HT

/-- One copy started: the word loaded and checked, the row sent. -/
theorem start_step (hf : Names c row arg1 f) (hG : Sends c i row X G) (hrow : ∀ j, row j < 73728)
    (oa : Fin 2 → ℕ) (hoa : ∀ a, oa a + S1x1.size a ≤ S2x1024.size a) (j : Fin 2048) (ea : oa = ![j.val % 2, j.val / 2])
    (chk : BitVec 32 → Prop) (dec : ∀ v, Decidable (chk v)) (hchk : ∀ v : BitVec 32, v.toNat < 73728 → chk v)
    (ob : BitVec 32 → Fin 2 → ℕ) (hob : ∀ v, chk v → ∀ a, ob v a + S1x512.size a ≤ S73728x512.size a) (eb : ∀ v, ob v = ![v.toNat, 0])
    (oc : Fin 2 → ℕ) (hoc : ∀ a, oc a + S1x512.size a ≤ S32768x512.size a) (ec : oc = ![1024 * i + j.val / 2, 0])
    (u : ℕ) (hu : u ≤ j.val * NN)
    (k : PUnit → Prog (TpuEff nD τ sig (Elt F) Λ₀ .tc) Unit) (Q : Unit → sProp 𝕄) :
    iprop(table c arg1 f ∗ batch c i row X G j.val u ∗ taken c i row X fd j)
      ⊢ iprop((iprop(table c arg1 f ∗ batch c i row X G (j.val + 1) u)
          -∗ wp frame (wpE (defs₀ (F := F)) Variants.none (c : Thread nD τ) none) Set.univ (k ⟨⟩) Q)
      -∗ wp frame (wpE (defs₀ (F := F)) Variants.none (c : Thread nD τ) none) Set.univ
        (smemLoad arg1 (Rect.unit (s := S2x1024) oa S1x1.size hoa) numel1_S1x1 rfl >>= fun v =>
          Prog.lift (TpuEff.assume (chk v) (dec v)) >>= fun h =>
          Prog.lift (.enqueueDma (xrow oc hoc) (.here (yrow (ob v) (hob v h.down))) (.dma cc0_scratch0.sem) (View.wordExact_bits rfl) (View.wordExact_bits rfl) ⟨Or.inl rfl, trivial⟩) >>= k) Q) := by
  iintro ⟨HT, HB, HP⟩ Hk
  iapply (load_step c row arg1 f hf oa hoa j ea) $$ HT
  iintro %v %hv HT
  have hck : chk v := hchk v (by rw [hv]; exact hrow j)
  iapply (wp_assume Variants.none (c : Thread nD τ) none Set.univ hck)
  unfold taken
  icases HP with ⟨HY, HX⟩
  subst ec
  have hset := xrow_set (1024 * i + j.val / 2) hoc
  rw [← hset]
  iapply (Transfers.wp_dmaBatch EC Variants.none (c : Thread nD τ) none (src := xrow _ hoc) (dst := yrow (ob v) (hob v hck)) (Sd := ySet (row j)) (fd := fd) (fs := X)
    (q := Transfers.shareTokN fullShare j.val) (D := landed c i row X G) (sm := .dma cc0_scratch0.sem)
    () NN rfl ?sub j.isLt hu ?del) $$ [HX HY HB]
  case sub =>
    have e := eb v
    rw [hv] at e
    have : ∀ (o : Fin 2 → ℕ) (h), o = ![row j, 0] → (yrow o h).view.set ⊆ ySet (row j) := by
      rintro o h rfl
      rw [yrow_set]
    exact this _ _ e
  case del =>
    unfold landed
    have e := eb v
    rw [hv] at e
    rw [← hset]
    refine sep_mono (Entails.of_eq (pointsTo_congr fun p hp => ?_)) .rfl
    exact copied c _ (hob v hck) _ hoc (row j) (1024 * i + j.val / 2) e rfl X fd G (hG j) p hp
  · isplitl [HX]; · iexact HX
    isplitl [HY]; · iexact HY
    iexact HB
  iintro HB
  iapply Hk
  isplitl [HT]; · iexact HT
  iexact HB

/-- One wait: the word loaded and checked, one row's units consumed. -/
theorem wait_step (hf : Names c row arg1 f) (hrow : ∀ j, row j < 73728)
    (oa : Fin 2 → ℕ) (hoa : ∀ a, oa a + S1x1.size a ≤ S2x1024.size a) (j : Fin 2048) (ea : oa = ![j.val % 2, j.val / 2])
    (chk : BitVec 32 → Prop) (dec : ∀ v, Decidable (chk v)) (hchk : ∀ v : BitVec 32, v.toNat < 73728 → chk v)
    (ob : BitVec 32 → Fin 2 → ℕ) (hob : ∀ v, chk v → ∀ a, ob v a + S1x512.size a ≤ S73728x512.size a)
    (oc : Fin 2 → ℕ) (hoc : ∀ a, oc a + S1x512.size a ≤ S32768x512.size a)
    (n q : ℕ) (hu : q + 1 ≤ n)
    (k : PUnit → Prog (TpuEff nD τ sig (Elt F) Λ₀ .tc) Unit) (Q : Unit → sProp 𝕄) :
    iprop(table c arg1 f ∗ (∃ W, owes (c : Thread nD τ) 0 W) ∗ batch c i row X G n (q * NN))
      ⊢ iprop((iprop(table c arg1 f ∗ (∃ W, owes (c : Thread nD τ) 0 W) ∗ batch c i row X G n ((q + 1) * NN))
          -∗ wp frame (wpE (defs₀ (F := F)) Variants.none (c : Thread nD τ) none) Set.univ (k ⟨⟩) Q)
      -∗ wp frame (wpE (defs₀ (F := F)) Variants.none (c : Thread nD τ) none) Set.univ
        (smemLoad arg1 (Rect.unit (s := S2x1024) oa S1x1.size hoa) numel1_S1x1 rfl >>= fun v =>
          Prog.lift (TpuEff.assume (chk v) (dec v)) >>= fun h =>
          Prog.lift (.waitDma2 cc0_scratch0.sem (xrow oc hoc) (yrow (ob v) (hob v h.down)) (View.wordExact_bits rfl) (View.wordExact_bits rfl)) >>= k) Q) := by
  have hu' : q * NN + 1 * NN ≤ NN * n := by rw [← Nat.add_mul, Nat.mul_comm]; exact Nat.mul_le_mul_left _ hu
  rw [show (q + 1) * NN = q * NN + 1 * NN from Nat.add_mul _ _ _]
  iintro ⟨HT, ⟨%W, HO⟩, HB⟩ Hk
  iapply (load_step c row arg1 f hf oa hoa j ea) $$ HT
  iintro %v %hv HT
  have hck : chk v := hchk v (by rw [hv]; exact hrow j)
  iapply (wp_assume Variants.none (c : Thread nD τ) none Set.univ hck)
  iapply (Transfers.wp_waitBatchMul EC Variants.none (c : Thread nD τ) none (srcw := xrow oc hoc) (dstw := yrow (ob v) (hob v hck)) (sem := cc0_scratch0.sem)
    () (N := NN) 1 (by rw [Nat.one_mul]; rfl) (D := landed c i row X G) hu') $$ [HB HO]
  · isplitl [HB]; · iexact HB
    iexact HO
  iintro ⟨HB, HO⟩
  iapply Hk
  isplitl [HT]; · iexact HT
  isplitl [HO]; · iexists _; iexact HO
  iexact HB

end Steps

/-! ## The offsets in closed form -/

theorem iv_word (lb k : ℕ) (h : lb + k < 1024) : (Scf.iv (BitVec.ofNat 32 lb) 1#32 k).toNat = lb + k := by
  simp only [Scf.iv, BitVec.toNat_add, BitVec.toNat_mul, BitVec.toNat_ofNat]
  omega
theorem iv_word_sub (k : ℕ) (h : 64 + k < 1024) : (Scf.iv 64#32 1#32 k - 64#32).toNat = k := by
  simp only [Scf.iv, BitVec.toNat_sub, BitVec.toNat_add, BitVec.toNat_mul, BitVec.toNat_ofNat]
  omega
theorem base_word (a : ℕ) (ha : a < 32) (w : BitVec 32) (n : ℕ) (hw : w.toNat = n) (h : n < 1024) :
    (BitVec.ofNat 32 a * 1024#32 + w).toNat = 1024 * a + n := by
  simp only [BitVec.toNat_add, BitVec.toNat_mul, BitVec.toNat_ofNat, hw]
  omega

theorem trips1 : k0_t1_loop.trips = 64 := by decide +kernel
theorem trips2 : k0_t2_loop.trips = 960 := by decide +kernel
theorem trips3 : k0_t3_loop.trips = 64 := by decide +kernel

theorem coord_lt (i : grid0.Coords) : (i 0).val < 32 := (i 0).isLt

section Offsets
variable (i : grid0.Coords) (k1 : Fin k0_t1_loop.trips) (k2 : Fin k0_t2_loop.trips) (k3 : Fin k0_t3_loop.trips)

theorem k1_lt : k1.val < 64 := trips1 ▸ k1.isLt
theorem k2_lt : k2.val < 960 := trips2 ▸ k2.isLt
theorem k3_lt : k3.val < 64 := trips3 ▸ k3.isLt

theorem pair_eq {a b a' b' : ℕ} (ha : a = a') (hb : b = b') : (![a, b] : Fin 2 → ℕ) = ![a', b'] := by rw [ha, hb]
theorem off1_eq : k0_off1 k1 = ![0, k1.val] := by
  have h := iv_word 0 k1.val (by have := k1_lt k1; omega)
  show ![0, (Scf.iv 0#32 1#32 k1.val).toNat] = _
  rw [h, Nat.zero_add]
theorem off4_eq : k0_off4 k1 = ![1, k1.val] := by
  have h := iv_word 0 k1.val (by have := k1_lt k1; omega)
  show ![1, (Scf.iv 0#32 1#32 k1.val).toNat] = _
  rw [h, Nat.zero_add]
theorem off3_eq : k0_off3 i k1 = ![1024 * (i 0).val + k1.val, 0] := by
  have hk := k1_lt k1
  have h := iv_word 0 k1.val (by omega)
  show ![(BitVec.ofNat 32 (i 0).val * 1024#32 + Scf.iv 0#32 1#32 k1.val).toNat, 0] = _
  rw [base_word _ (coord_lt i) _ k1.val (h.trans (Nat.zero_add _)) (by omega)]
theorem off6_eq : k0_off6 i k1 = ![1024 * (i 0).val + k1.val, 0] := off3_eq i k1

theorem off7_eq : k0_off7 k2 = ![0, 64 + k2.val] := by
  have h := iv_word 64 k2.val (by have := k2_lt k2; omega)
  show ![0, (Scf.iv 64#32 1#32 k2.val).toNat] = _
  rw [h]
theorem off10_eq : k0_off10 k2 = ![1, 64 + k2.val] := by
  have h := iv_word 64 k2.val (by have := k2_lt k2; omega)
  show ![1, (Scf.iv 64#32 1#32 k2.val).toNat] = _
  rw [h]
theorem off9_eq : k0_off9 i k2 = ![1024 * (i 0).val + (64 + k2.val), 0] := by
  have hk := k2_lt k2
  have h := iv_word 64 k2.val (by omega)
  show ![(BitVec.ofNat 32 (i 0).val * 1024#32 + Scf.iv 64#32 1#32 k2.val).toNat, 0] = _
  rw [base_word _ (coord_lt i) _ (64 + k2.val) h (by omega)]
theorem off12_eq : k0_off12 i k2 = ![1024 * (i 0).val + (64 + k2.val), 0] := off9_eq i k2
theorem off13_eq : k0_off13 k2 = ![0, k2.val] := by
  have h := iv_word_sub k2.val (by have := k2_lt k2; omega)
  show ![0, (Scf.iv 64#32 1#32 k2.val - 64#32).toNat] = _
  rw [h]
theorem off16_eq : k0_off16 k2 = ![1, k2.val] := by
  have h := iv_word_sub k2.val (by have := k2_lt k2; omega)
  show ![1, (Scf.iv 64#32 1#32 k2.val - 64#32).toNat] = _
  rw [h]
theorem off19_eq : k0_off19 k3 = ![0, 960 + k3.val] := by
  have h := iv_word 960 k3.val (by have := k3_lt k3; omega)
  show ![0, (Scf.iv 960#32 1#32 k3.val).toNat] = _
  rw [h]
theorem off22_eq : k0_off22 k3 = ![1, 960 + k3.val] := by
  have h := iv_word 960 k3.val (by have := k3_lt k3; omega)
  show ![1, (Scf.iv 960#32 1#32 k3.val).toNat] = _
  rw [h]
end Offsets

/-- A word below the row count passes the copies' check. -/
theorem row_inb (v : BitVec 32) (h : v.toNat < 73728) : ∀ a, (![v.toNat, 0] : Fin 2 → ℕ) a + S1x512.size a ≤ S73728x512.size a := by
  intro a
  fin_cases a
  · show v.toNat + 1 ≤ 73728
    omega
  · show 0 + 512 ≤ 512
    omega

section Loops

variable (c : Dev nD) (i : grid0.Coords) (row : Fin 2048 → ℕ) (X : XBuf (F := F) c) (G fd : YBuf (F := F) c)
variable (arg1 : Memref sig .tc .smem S2x1024 .i32) (harg1 : arg1.IsWhole) (f : Buf (Elt F) (arg1.view.loc (c : Thread nD τ)))

/-- What the copies from `j` on take. -/
abbrev toTake (j : ℕ) : sProp 𝕄 := bigSep (Ring.rangeSet 2048 j 2048) (taken c (i 0).val row X fd)

/-- Before trip `k` of the first loop: `2k` copies started, none waited for. -/
def inv1 (k : ℕ) (_ : Unit) : sProp 𝕄 :=
  iprop(table c arg1 f ∗ (∃ W, owes (c : Thread nD τ) 0 W) ∗ batch c (i 0).val row X G (2 * k) (0 * NN) ∗ toTake c i row X fd (2 * k))
/-- Before trip `k` of the second loop: `128 + 2k` copies started, `2k` waited for. -/
def inv2 (k : ℕ) (_ : Unit) : sProp 𝕄 :=
  iprop(table c arg1 f ∗ (∃ W, owes (c : Thread nD τ) 0 W) ∗ batch c (i 0).val row X G (128 + 2 * k) (2 * k * NN) ∗ toTake c i row X fd (128 + 2 * k))
/-- Before trip `k` of the third loop: every copy started, `1920 + 2k` waited for. -/
def inv3 (k : ℕ) (_ : Unit) : sProp 𝕄 :=
  iprop(table c arg1 f ∗ (∃ W, owes (c : Thread nD τ) 0 W) ∗ batch c (i 0).val row X G 2048 ((1920 + 2 * k) * NN))

/-- The next copy's, and the later ones'. -/
theorem toTake_head (j : ℕ) (hj : j < 2048) : toTake c i row X fd j ⊢ iprop(taken c (i 0).val row X fd ⟨j, hj⟩ ∗ toTake c i row X fd (j + 1)) :=
  Entails.of_eq (Ring.bigSep_rangeSet_head hj hj)

variable (hf : Names c row arg1 f) (hG : Sends c (i 0).val row X G) (hrow : ∀ j, row j < 73728)

include hf hG hrow

theorem trip1 (k : Fin k0_t1_loop.trips) (acc : Unit) :
    inv1 c i row X G fd arg1 f k.val acc ⊢ wp frame (wpE (defs₀ (F := F)) Variants.none (c : Thread nD τ) none) Set.univ
      (k0_t1_body (F := F) i arg1 harg1 xm (Memref.isWhole_whole _) ym (Memref.isWhole_whole _) ym (Memref.isWhole_whole _) cc0_scratch0 k acc)
      (inv1 c i row X G fd arg1 f (k.val + 1)) := by
  have hk := k1_lt k
  unfold inv1 k0_t1_body
  iintro ⟨HT, HO, HB, HR⟩
  ihave H := (toTake_head c i row X fd (2 * k.val) (by omega)) $$ HR
  icases H with ⟨HP0, HR⟩
  ihave H := (toTake_head c i row X fd (2 * k.val + 1) (by omega)) $$ HR
  icases H with ⟨HP1, HR⟩
  iapply (start_step c (i 0).val row X G fd arg1 f hf hG hrow _ (k0_off1_inb k) ⟨2 * k.val, by omega⟩
    ((off1_eq k).trans (pair_eq (by dsimp only; omega) (by dsimp only; omega))) k0_chk1 k0_chk1.dec row_inb k0_off2 k0_off2_inb (fun _ => rfl) _ (k0_off3_inb i k)
    ((off3_eq i k).trans (pair_eq (by dsimp only; omega) rfl)) (0 * NN) (by omega)) $$ [HT HB HP0]
  · isplitl [HT]; · iexact HT
    isplitl [HB]; · iexact HB
    iexact HP0
  iintro ⟨HT, HB⟩
  iapply (start_step c (i 0).val row X G fd arg1 f hf hG hrow _ (k0_off4_inb k) ⟨2 * k.val + 1, by omega⟩
    ((off4_eq k).trans (pair_eq (by dsimp only; omega) (by dsimp only; omega))) k0_chk2 k0_chk2.dec row_inb k0_off5 k0_off5_inb (fun _ => rfl) _ (k0_off6_inb i k)
    ((off6_eq i k).trans (pair_eq (by dsimp only; omega) rfl)) (0 * NN) (by omega)) $$ [HT HB HP1]
  · isplitl [HT]; · iexact HT
    isplitl [HB]; · iexact HB
    iexact HP1
  iintro ⟨HT, HB⟩
  sl_step
  isplitl [HT]; · iexact HT
  isplitl [HO]; · iexact HO
  isplitl [HB]; · iexact HB
  iexact HR

theorem trip2 (k : Fin k0_t2_loop.trips) (acc : Unit) :
    inv2 c i row X G fd arg1 f k.val acc ⊢ wp frame (wpE (defs₀ (F := F)) Variants.none (c : Thread nD τ) none) Set.univ
      (k0_t2_body (F := F) i arg1 harg1 xm (Memref.isWhole_whole _) ym (Memref.isWhole_whole _) ym (Memref.isWhole_whole _) cc0_scratch0 k acc)
      (inv2 c i row X G fd arg1 f (k.val + 1)) := by
  have hk := k2_lt k
  have hu : 2 * k.val * NN ≤ (128 + 2 * k.val) * NN := Nat.mul_le_mul_right _ (by omega)
  have hu' : 2 * k.val * NN ≤ (128 + 2 * k.val + 1) * NN := Nat.mul_le_mul_right _ (by omega)
  unfold inv2 k0_t2_body
  iintro ⟨HT, HO, HB, HR⟩
  ihave H := (toTake_head c i row X fd (128 + 2 * k.val) (by omega)) $$ HR
  icases H with ⟨HP0, HR⟩
  ihave H := (toTake_head c i row X fd (128 + 2 * k.val + 1) (by omega)) $$ HR
  icases H with ⟨HP1, HR⟩
  iapply (start_step c (i 0).val row X G fd arg1 f hf hG hrow _ (k0_off7_inb k) ⟨128 + 2 * k.val, by omega⟩
    ((off7_eq k).trans (pair_eq (by dsimp only; omega) (by dsimp only; omega))) k0_chk3 k0_chk3.dec row_inb k0_off8 k0_off8_inb (fun _ => rfl) _ (k0_off9_inb i k)
    ((off9_eq i k).trans (pair_eq (by dsimp only; omega) rfl)) (2 * k.val * NN) hu) $$ [HT HB HP0]
  · isplitl [HT]; · iexact HT
    isplitl [HB]; · iexact HB
    iexact HP0
  iintro ⟨HT, HB⟩
  iapply (start_step c (i 0).val row X G fd arg1 f hf hG hrow _ (k0_off10_inb k) ⟨128 + 2 * k.val + 1, by omega⟩
    ((off10_eq k).trans (pair_eq (by dsimp only; omega) (by dsimp only; omega))) k0_chk4 k0_chk4.dec row_inb k0_off11 k0_off11_inb (fun _ => rfl) _ (k0_off12_inb i k)
    ((off12_eq i k).trans (pair_eq (by dsimp only; omega) rfl)) (2 * k.val * NN) hu') $$ [HT HB HP1]
  · isplitl [HT]; · iexact HT
    isplitl [HB]; · iexact HB
    iexact HP1
  iintro ⟨HT, HB⟩
  iapply (wait_step c (i 0).val row X G arg1 f hf hrow _ (k0_off13_inb k) ⟨2 * k.val, by omega⟩
    ((off13_eq k).trans (pair_eq (by dsimp only; omega) (by dsimp only; omega))) k0_chk5 k0_chk5.dec row_inb k0_off14 k0_off14_inb _ (k0_off15_inb i k)
    (128 + 2 * k.val + 1 + 1) (2 * k.val) (by omega)) $$ [HT HO HB]
  · isplitl [HT]; · iexact HT
    isplitl [HO]; · iexact HO
    iexact HB
  iintro ⟨HT, HO, HB⟩
  iapply (wait_step c (i 0).val row X G arg1 f hf hrow _ (k0_off16_inb k) ⟨2 * k.val + 1, by omega⟩
    ((off16_eq k).trans (pair_eq (by dsimp only; omega) (by dsimp only; omega))) k0_chk6 k0_chk6.dec row_inb k0_off17 k0_off17_inb _ (k0_off18_inb i k)
    (128 + 2 * k.val + 1 + 1) (2 * k.val + 1) (by omega)) $$ [HT HO HB]
  · isplitl [HT]; · iexact HT
    isplitl [HO]; · iexact HO
    iexact HB
  iintro ⟨HT, HO, HB⟩
  sl_step
  isplitl [HT]; · iexact HT
  isplitl [HO]; · iexact HO
  isplitl [HB]; · iexact HB
  iexact HR

omit hG in
theorem trip3 (k : Fin k0_t3_loop.trips) (acc : Unit) :
    inv3 c i row X G arg1 f k.val acc ⊢ wp frame (wpE (defs₀ (F := F)) Variants.none (c : Thread nD τ) none) Set.univ
      (k0_t3_body (F := F) i arg1 harg1 xm (Memref.isWhole_whole _) ym (Memref.isWhole_whole _) ym (Memref.isWhole_whole _) cc0_scratch0 k acc)
      (inv3 c i row X G arg1 f (k.val + 1)) := by
  have hk := k3_lt k
  unfold inv3 k0_t3_body
  iintro ⟨HT, HO, HB⟩
  iapply (wait_step c (i 0).val row X G arg1 f hf hrow _ (k0_off19_inb k) ⟨1920 + 2 * k.val, by omega⟩
    ((off19_eq k).trans (pair_eq (by dsimp only; omega) (by dsimp only; omega))) k0_chk7 k0_chk7.dec row_inb k0_off20 k0_off20_inb _ (k0_off21_inb i k)
    2048 (1920 + 2 * k.val) (by omega)) $$ [HT HO HB]
  · isplitl [HT]; · iexact HT
    isplitl [HO]; · iexact HO
    iexact HB
  iintro ⟨HT, HO, HB⟩
  iapply (wait_step c (i 0).val row X G arg1 f hf hrow _ (k0_off22_inb k) ⟨1920 + 2 * k.val + 1, by omega⟩
    ((off22_eq k).trans (pair_eq (by dsimp only; omega) (by dsimp only; omega))) k0_chk8 k0_chk8.dec row_inb k0_off23 k0_off23_inb _ (k0_off24_inb i k)
    2048 (1920 + 2 * k.val + 1) (by omega)) $$ [HT HO HB]
  · isplitl [HT]; · iexact HT
    isplitl [HO]; · iexact HO
    iexact HB
  iintro ⟨HT, HO, HB⟩
  sl_step
  isplitl [HT]; · iexact HT
  isplitl [HO]; · iexact HO
  iexact HB

/-- The body, from nothing started to every copy landed. -/
theorem loops_run (W : Waits sig Unit) :
    iprop(table c arg1 f ∗ owes (c : Thread nD τ) 0 W ∗ semVal ((c : Thread nD τ), SemLoc.dma dsem) 0
        ∗ bigSep Finset.univ (taken c (i 0).val row X fd))
      ⊢ wp frame (wpE (defs₀ (F := F)) Variants.none (c : Thread nD τ) none) Set.univ
        (cc0_dispatch (F := F) i arg1 harg1 xm (Memref.isWhole_whole _) ym (Memref.isWhole_whole _) ym (Memref.isWhole_whole _) cc0_scratch0)
        (fun _ => iprop(table c arg1 f ∗ (∃ W, owes (c : Thread nD τ) 0 W) ∗ semVal ((c : Thread nD τ), SemLoc.dma dsem) 0
          ∗ bigSep Finset.univ (landed c (i 0).val row X G))) := by
  rw [cc0_dispatch_eq_skeleton]
  unfold cc0_dispatch_skel
  iintro ⟨HT, HO, HS, HP⟩
  imod (Transfers.batch_alloc' (Lvl := ℕ) EC (c : Thread nD τ) () NN (landed c (i 0).val row X G) (sm := .dma dsem) (E := Set.univ)) $$ HS with HB
  iapply (Scf.wp_for_bind frame (wpE (defs₀ (F := F)) Variants.none (c : Thread nD τ) none) Set.univ k0_t1_loop.lb k0_t1_loop.ub k0_t1_loop.st k0_t1_ok ()
    (k0_t1_body (F := F) i arg1 harg1 xm (Memref.isWhole_whole _) ym (Memref.isWhole_whole _) ym (Memref.isWhole_whole _) cc0_scratch0)
    (inv1 c i row X G fd arg1 f) (trip1 c i row X G fd arg1 harg1 f hf hG hrow)) $$ [HT HO HB HP]
  · unfold inv1
    rw [Nat.mul_zero, Nat.zero_mul, toTake, Ring.rangeSet_univ]
    isplitl [HT]; · iexact HT
    isplitl [HO]; · iexists _; iexact HO
    isplitl [HB]; · iexact HB
    iexact HP
  iintro %acc H
  iapply (Scf.wp_for_bind frame (wpE (defs₀ (F := F)) Variants.none (c : Thread nD τ) none) Set.univ k0_t2_loop.lb k0_t2_loop.ub k0_t2_loop.st k0_t2_ok ()
    (k0_t2_body (F := F) i arg1 harg1 xm (Memref.isWhole_whole _) ym (Memref.isWhole_whole _) ym (Memref.isWhole_whole _) cc0_scratch0)
    (inv2 c i row X G fd arg1 f) (trip2 c i row X G fd arg1 harg1 f hf hG hrow)) $$ [H]
  · rw [show Scf.trips k0_t1_loop.lb k0_t1_loop.ub k0_t1_loop.st = 64 from trips1]
    unfold inv1 inv2
    iexact H
  iintro %acc H
  iapply (Scf.wp_for_bind frame (wpE (defs₀ (F := F)) Variants.none (c : Thread nD τ) none) Set.univ k0_t3_loop.lb k0_t3_loop.ub k0_t3_loop.st k0_t3_ok ()
    (k0_t3_body (F := F) i arg1 harg1 xm (Memref.isWhole_whole _) ym (Memref.isWhole_whole _) ym (Memref.isWhole_whole _) cc0_scratch0)
    (inv3 c i row X G arg1 f) (trip3 c i row X G arg1 harg1 f hf hrow)) $$ [H]
  · rw [show Scf.trips k0_t2_loop.lb k0_t2_loop.ub k0_t2_loop.st = 960 from trips2]
    unfold inv2 inv3
    icases H with ⟨HT, HO, HB, -⟩
    isplitl [HT]; · iexact HT
    isplitl [HO]; · iexact HO
    iexact HB
  iintro %acc H
  rw [show Scf.trips k0_t3_loop.lb k0_t3_loop.ub k0_t3_loop.st = 64 from trips3]
  unfold inv3
  icases H with ⟨HT, HO, HB⟩
  rw [show (1920 + 2 * 64) * NN = NN * 2048 from Nat.mul_comm _ _]
  imod (Transfers.batch_collect' EC (c : Thread nD τ) NN_pos) $$ HB with ⟨HD, HS⟩
  sl_step
  isplitl [HT]; · iexact HT
  isplitl [HO]; · iexact HO
  isplitl [HS]; · iexact HS
  iexact HD

end Loops

end Cert.KernelIdeal.Hand

end
-- ==== Proof.DispatchRun.lean ====
/-
  Hand-written. The dispatch launch, over any values: the body at a grid point from what it holds to what it leaves, and
  the run of the whole program, given that the destination rows are in range and distinct.
-/
module

public import proofs.«01_k».proof.Proof.Dispatch
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UC)

variable {F : FTy → Type} [FloatOps F]

local notation "𝕄" => MT nD τ sig Unit (Elt F) ℕ (UC sig nD τ) ℕ

/-! ## The token rows and the destination, split for the copies and joined again -/

section Split

variable (c : Dev nD) (i : ℕ) (row : Fin 2048 → ℕ) (X : XBuf (F := F) c) (G fd : YBuf (F := F) c)

/-- The destination rows the point writes. -/
def rows : Finset S73728x512.Idx := Finset.univ.biUnion fun j => ySet (row j)

theorem mem_rows (p : S73728x512.Idx) : p ∈ rows row ↔ ∃ j, (p 0).val = row j := by
  unfold rows
  rw [Finset.mem_biUnion]
  constructor
  · rintro ⟨j, -, hj⟩
    exact ⟨j, (Finset.mem_filter.mp hj).2⟩
  · rintro ⟨j, hj⟩
    exact ⟨j, Finset.mem_univ _, Finset.mem_filter.mpr ⟨Finset.mem_univ _, hj⟩⟩

theorem piece_mem (A B : YBuf (F := F) c) (p : S73728x512.Idx) (h : ∃ j, (p 0).val = row j) : (rows row).piecewise A B p = A p := by
  rw [← mem_rows] at h
  generalize rows row = S at h ⊢
  unfold Finset.piecewise
  rw [if_pos h]
theorem piece_not (A B : YBuf (F := F) c) (p : S73728x512.Idx) (h : ¬∃ j, (p 0).val = row j) : (rows row).piecewise A B p = B p := by
  rw [← mem_rows] at h
  generalize rows row = S at h ⊢
  unfold Finset.piecewise
  rw [if_neg h]

theorem ySet_disjoint (hinj : Function.Injective row) : ∀ j ∈ (Finset.univ : Finset (Fin 2048)), ∀ k ∈ (Finset.univ : Finset (Fin 2048)),
    j ≠ k → Disjoint (ySet (row j)) (ySet (row k)) := by
  intro j _ k _ hjk
  rw [Finset.disjoint_left]
  intro p hp hq
  exact hjk (hinj ((Finset.mem_filter.mp hp).2.symm.trans (Finset.mem_filter.mp hq).2))

/-- What is left of the tokens while the copies have their shares. -/
def kept : sProp 𝕄 :=
  iprop((((c : Thread nD τ).loc main_arg1) ↦{Transfers.shareDrop fullShare 2048} X)
    ∗ bigSep Finset.univ fun j : Fin 2048 =>
      (((c : Thread nD τ).loc main_arg1) ↦[Finset.univ \ xSet (1024 * i + j.val / 2)]{Transfers.shareTokN fullShare j.val} X : sProp 𝕄))

theorem tokens_eq : (((c : Thread nD τ).loc main_arg1) ↦{fullShare} X : sProp 𝕄)
    ⊣⊢ iprop((bigSep Finset.univ fun j : Fin 2048 =>
        (((c : Thread nD τ).loc main_arg1) ↦[xSet (1024 * i + j.val / 2)]{Transfers.shareTokN fullShare j.val} X : sProp 𝕄)) ∗ kept c i X) := by
  have e : (bigSep (Finset.range 2048) fun n => (((c : Thread nD τ).loc main_arg1) ↦{Transfers.shareTokN fullShare n} X : sProp 𝕄))
      = iprop((bigSep Finset.univ fun j : Fin 2048 =>
        (((c : Thread nD τ).loc main_arg1) ↦[xSet (1024 * i + j.val / 2)]{Transfers.shareTokN fullShare j.val} X : sProp 𝕄))
        ∗ bigSep Finset.univ fun j : Fin 2048 =>
        (((c : Thread nD τ).loc main_arg1) ↦[Finset.univ \ xSet (1024 * i + j.val / 2)]{Transfers.shareTokN fullShare j.val} X : sProp 𝕄)) := by
    refine Eq.trans ?_ (BI.bigSep_sep _ _ _)
    rw [← Ring.bigSep_fin_eq_range 2048 (fun j => (((c : Thread nD τ).loc main_arg1) ↦{Transfers.shareTokN fullShare j.val} X : sProp 𝕄)) _ (fun t h => rfl)]
    refine BI.bigSep_congr fun j _ => ?_
    have h : (((c : Thread nD τ).loc main_arg1) ↦{Transfers.shareTokN fullShare j.val} X : sProp 𝕄) ⊣⊢ _ :=
      pointsTo_split_subset (Finset.subset_univ (xSet (1024 * i + j.val / 2)))
    exact Entails.antisymm h.1 h.2
  have h : (((c : Thread nD τ).loc main_arg1) ↦{fullShare} X : sProp 𝕄) ⊣⊢ _ := Transfers.pointsTo_toks_range fullShare 2048
  rw [e] at h
  unfold kept
  constructor
  · refine h.1.trans ?_
    iintro ⟨H1, H2, H3⟩
    isplitl [H2]; · iexact H2
    isplitl [H1]; · iexact H1
    iexact H3
  · refine BIBase.Entails.trans ?_ h.2
    iintro ⟨H2, H1, H3⟩
    isplitl [H1]; · iexact H1
    isplitl [H2]; · iexact H2
    iexact H3

variable (hinj : Function.Injective row)
include hinj

theorem hand_out : iprop((((c : Thread nD τ).loc main_arg1) ↦{fullShare} X) ∗ ((c : Thread nD τ).loc main_v0) ↦{fullShare} fd)
    ⊢ (iprop(bigSep Finset.univ (taken c i row X fd) ∗ kept c i X
      ∗ ((c : Thread nD τ).loc main_v0) ↦[Finset.univ \ rows row]{fullShare} fd) : sProp 𝕄) := by
  have e : bigSep Finset.univ (taken c i row X fd)
      = (iprop((((c : Thread nD τ).loc main_v0) ↦[rows row]{fullShare} fd) ∗ (bigSep Finset.univ fun j : Fin 2048 =>
        (((c : Thread nD τ).loc main_arg1) ↦[xSet (1024 * i + j.val / 2)]{Transfers.shareTokN fullShare j.val} X : sProp 𝕄))) : sProp 𝕄) := by
    unfold taken rows
    refine (BI.bigSep_sep _ _ _).trans ?_
    rw [pointsTo_biUnion _ _ (ySet_disjoint row hinj)]
    rfl
  rw [e]
  iintro ⟨HX, HY⟩
  ihave H := (tokens_eq c i X).1 $$ HX
  icases H with ⟨HT, HK⟩
  ihave H := (pointsTo_split_subset (Finset.subset_univ (rows row))).1 $$ HY
  icases H with ⟨HY, HZ⟩
  isplitl [HT HY]
  · isplitl [HY]; · iexact HY
    iexact HT
  isplitl [HK]; · iexact HK
  iexact HZ

theorem hand_in : (iprop(bigSep Finset.univ (landed c i row X G) ∗ kept c i X
      ∗ ((c : Thread nD τ).loc main_v0) ↦[Finset.univ \ rows row]{fullShare} fd) : sProp 𝕄)
    ⊢ iprop((((c : Thread nD τ).loc main_arg1) ↦{fullShare} X) ∗ ((c : Thread nD τ).loc main_v0) ↦{fullShare} ((rows row).piecewise G fd)) := by
  have e : bigSep Finset.univ (landed c i row X G)
      = (iprop((((c : Thread nD τ).loc main_v0) ↦[rows row]{fullShare} G) ∗ (bigSep Finset.univ fun j : Fin 2048 =>
        (((c : Thread nD τ).loc main_arg1) ↦[xSet (1024 * i + j.val / 2)]{Transfers.shareTokN fullShare j.val} X : sProp 𝕄))) : sProp 𝕄) := by
    unfold landed rows
    refine (BI.bigSep_sep _ _ _).trans ?_
    rw [pointsTo_biUnion _ _ (ySet_disjoint row hinj)]
    rfl
  rw [e]
  iintro ⟨⟨HY, HT⟩, HK, HZ⟩
  isplitl [HT HK]
  · iapply (tokens_eq c i X).2
    isplitl [HT]; · iexact HT
    iexact HK
  iapply (pointsTo_join_subset (Finset.subset_univ (rows row)))
  isplitl [HY]; · iexact HY
  iexact HZ

/-- The body at a point, on whole buffers. -/
theorem body_run (pt : grid0.Coords) (arg1 : Memref sig .tc .smem S2x1024 .i32) (harg1 : arg1.IsWhole)
    (f : Buf (Elt F) (arg1.view.loc (c : Thread nD τ)))
    (hf : Names c row arg1 f) (hG : Sends c (pt 0).val row X G) (hrow : ∀ j, row j < 73728) (W : Waits sig Unit) :
    iprop(table c arg1 f ∗ owes (c : Thread nD τ) 0 W ∗ semVal ((c : Thread nD τ), SemLoc.dma dsem) 0
        ∗ (((c : Thread nD τ).loc main_arg1) ↦{fullShare} X) ∗ ((c : Thread nD τ).loc main_v0) ↦{fullShare} fd)
      ⊢ wp frame (wpE (defs₀ (F := F)) Variants.none (c : Thread nD τ) none) Set.univ
        (cc0_dispatch (F := F) pt arg1 harg1 xm (Memref.isWhole_whole _) ym (Memref.isWhole_whole _) ym (Memref.isWhole_whole _) cc0_scratch0)
        (fun _ => iprop(table c arg1 f ∗ (∃ W, owes (c : Thread nD τ) 0 W) ∗ semVal ((c : Thread nD τ), SemLoc.dma dsem) 0
          ∗ (((c : Thread nD τ).loc main_arg1) ↦{fullShare} X) ∗ ((c : Thread nD τ).loc main_v0) ↦{fullShare} ((rows row).piecewise G fd))) := by
  iintro ⟨HT, HO, HS, HX, HY⟩
  ihave H := (hand_out c (pt 0).val row X fd hinj) $$ [HX HY]
  · isplitl [HX]; · iexact HX
    iexact HY
  icases H with ⟨HP, HK, HZ⟩
  iapply ((loops_run c pt row X G fd arg1 harg1 f hf hG hrow W).trans (wp_wand _ _ _)) $$ [HT HO HS HP]
  · isplitl [HT]; · iexact HT
    isplitl [HO]; · iexact HO
    isplitl [HS]; · iexact HS
    iexact HP
  iintro %_ ⟨HT, HO, HS, HD⟩
  isplitl [HT]; · iexact HT
  isplitl [HO]; · iexact HO
  isplitl [HS]; · iexact HS
  iapply (hand_in c (pt 0).val row X G fd hinj)
  isplitl [HD]; · iexact HD
  isplitl [HK]; · iexact HK
  iexact HZ

end Split

/-! ## The table's blocks -/

section Launch

variable (m : (ℓ : Loc nD τ sig) → Buf (Elt F) ℓ) (ρ : Dev nD → PrngReg)

/-- The row the table gives token `y 1`'s choice `y 0`. -/
def dst (c : Dev nD) (y : S2x32768.Idx) : ℕ := BitVec.toNat (w := 32) (m ((c : Thread nD τ).loc main_arg0) y)

/-- Copy `j` of point `t` in the table. -/
def cell (t : ℕ) (ht : t < 32) (j : Fin 2048) : S2x32768.Idx := fun a => match a with
  | ⟨0, _⟩ => ⟨j.val % 2, Nat.mod_lt _ (by decide)⟩
  | ⟨1, _⟩ => ⟨1024 * t + j.val / 2, by show _ < 32768; omega⟩

theorem cell_inj (t : ℕ) (ht : t < 32) : Function.Injective (cell t ht) := by
  intro j k h
  have h0 : j.val % 2 = k.val % 2 := congrArg Fin.val (congrFun h 0)
  have h1 : 1024 * t + j.val / 2 = 1024 * t + k.val / 2 := congrArg Fin.val (congrFun h 1)
  exact Fin.ext (by omega)

theorem cell_lt (t : ℕ) (ht : t < 32) (j : Fin 2048) : (cell t ht j 1).val < 1024 * (t + 1) := by
  have e : (cell t ht j 1).val = 1024 * t + j.val / 2 := rfl
  omega

theorem cell_of (t : ℕ) (ht : t < 32) (y : S2x32768.Idx) (hl : 1024 * t ≤ (y 1).val) (hu : (y 1).val < 1024 * (t + 1)) : ∃ j, cell t ht j = y := by
  have h0 : (y 0).val < 2 := (y 0).isLt
  refine ⟨⟨2 * ((y 1).val - 1024 * t) + (y 0).val, by omega⟩, ?_⟩
  funext a
  apply Fin.ext
  fin_cases a
  · show (2 * ((y 1).val - 1024 * t) + (y 0).val) % 2 = (y 0).val
    omega
  · show 1024 * t + (2 * ((y 1).val - 1024 * t) + (y 0).val) / 2 = (y 1).val
    omega

theorem coords_pt (t : Fin cfg0.N) : (grid0.coords t 0).val = t.val := by
  have h := Pipeline.Grid.coords_val (G := grid0) t 0 (S := 1) (B := 32) (by decide) rfl
  have ht : t.val < 32 := N_0 ▸ t.isLt
  rw [h]
  omega

theorem pt_lt (t : Fin cfg0.N) : t.val < 32 := N_0 ▸ t.isLt

/-- The staged block's words. -/
theorem iblk_word (c : Dev nD) (t : Fin cfg0.N) (j : Fin 2048) (y : S2x1024.Idx) (h0 : (y 0).val = j.val % 2) (h1 : (y 1).val = j.val / 2) :
    BitVec.toNat (w := 32) (iblk m c 0 t y) = dst m c (cell t.val (pt_lt t) j) := by
  unfold iblk dst
  rw [View.read_apply]
  show BitVec.toNat (w := 32) (V m c main_arg0 ((win0_0.rect t).emb y)) = _
  rw [V_main_arg0]
  congr 2
  funext a
  apply Fin.ext
  rw [Pipeline.Window.rect_emb_val win0_0 t y a rfl]
  fin_cases a
  · show 0 * 2 + (y 0).val = j.val % 2
    omega
  · show (BitVec.ofNat 32 (grid0.coords t 0).val).toNat * 1024 + (y 1).val = 1024 * t.val + j.val / 2
    have ht := pt_lt t
    rw [coords_pt, BitVec.toNat_ofNat, Nat.mod_eq_of_lt (by omega), h1]
    omega

/-! ## The destination across the points -/

/-- The rows written before point `n`. -/
def Written (c : Dev nD) (n : ℕ) (p : S73728x512.Idx) : Prop := ∃ y : S2x32768.Idx, (y 1).val < 1024 * n ∧ (p 0).val = dst m c y

theorem written_mk (c : Dev nD) (n : ℕ) (p : S73728x512.Idx) (y : S2x32768.Idx) (hy : (y 1).val < 1024 * n) (e : (p 0).val = dst m c y) :
    Written m c n p := ⟨y, hy, e⟩

variable (G : (c : Dev nD) → YBuf (F := F) c)

/-- The destination before point `n`: the rows written so far at `G`, the others as the region finds them. -/
def cont (c : Dev nD) (n : ℕ) : YBuf (F := F) c := fun p =>
  open Classical in if Written m c n p then G c p else V m c main_v0 p

theorem cont_zero (c : Dev nD) : cont m G c 0 = V m c main_v0 := by
  funext p
  unfold cont
  rw [if_neg]
  rintro ⟨y, hy, -⟩
  exact Nat.not_lt_zero _ hy

theorem cont_succ (c : Dev nD) (t : ℕ) (ht : t < 32) :
    (rows fun j => dst m c (cell t ht j)).piecewise (G c) (cont m G c t) = cont m G c (t + 1) := by
  refine funext fun (p : S73728x512.Idx) => ?_
  by_cases hp : ∃ j, (p 0).val = dst m c (cell t ht j)
  · refine (piece_mem c _ (G c) (cont m G c t) p hp).trans ?_
    obtain ⟨j, hj⟩ := hp
    have hw : Written m c (t + 1) p := by
      refine written_mk m c (t + 1) p (cell t ht j) ?_ ?_
      · exact cell_lt t ht j
      · exact hj
    unfold cont
    rw [if_pos hw]
  · refine (piece_not c _ (G c) (cont m G c t) p hp).trans ?_
    have hw : Written m c t p ↔ Written m c (t + 1) p := by
      constructor
      · rintro ⟨y, hy, e⟩
        exact written_mk m c (t + 1) p y (Nat.lt_of_lt_of_le hy (Nat.mul_le_mul_left _ (Nat.le_succ t))) e
      · rintro ⟨y, hy, e⟩
        refine written_mk m c t p y ?_ e
        by_contra hc
        obtain ⟨j, hj⟩ := cell_of t ht y (Nat.le_of_not_lt hc) hy
        refine hp ⟨j, ?_⟩
        rw [hj]
        exact e
    unfold cont
    rw [propext hw]

/-- What the run needs of the table and of `G`: rows in range and distinct; `G` the tokens at the rows written and what the
    region finds elsewhere. -/
structure Good : Prop where
  lt : ∀ c y, dst m c y < 73728
  inj : ∀ c, Function.Injective (dst m c)
  hit : ∀ (c : Dev nD) (y : S2x32768.Idx) (p : S73728x512.Idx) (x : S32768x512.Idx), (p 0).val = dst m c y → (x 0).val = (y 1).val →
    (x 1).val = (p 1).val → G c p = m ((c : Thread nD τ).loc main_arg1) x
  miss : ∀ (c : Dev nD) (p : S73728x512.Idx), (∀ y, (p 0).val ≠ dst m c y) → G c p = V m c main_v0 p

theorem cont_last (h : Good m G) (c : Dev nD) : cont m G c 32 = G c := by
  funext p
  by_cases hp : Written m c 32 p
  · exact if_pos hp
  · refine (if_neg hp).trans (h.miss c p fun y e => hp ⟨y, ?_, e⟩).symm
    exact (y 1).isLt

/-! ## The pipeline's proof data -/

abbrev osem0 : Fin 1 → SemLoc sig := fun j => (![SemLoc.dma 2] : Fin 1 → SemLoc sig) j
theorem ownSemFacts0 : Pipeline.OwnSemFacts spec0 osem0 := by decide

/-- What the body holds between points. -/
def held (c : Dev nD) (n : ℕ) : sProp 𝕄 :=
  iprop((((c : Thread nD τ).loc main_arg1) ↦{fullShare} (m ((c : Thread nD τ).loc main_arg1)))
    ∗ (((c : Thread nD τ).loc main_v0) ↦{fullShare} cont m G c n)
    ∗ semVal ((c : Thread nD τ), SemLoc.dma dsem) 0 ∗ ∃ r, prngReg c r)

def dats (_ : Fin 1) (c : Dev nD) : Dat τ (Elt F) Unit ℕ (UC sig nD τ) ℕ cfg0 c where
  A w := V m c (Pipeline.arrRef spec0 w)
  after w t := match w with
    | ⟨0, _⟩ => iblk m c 0 t
  Φ t := held m G c t.val
  q _ := fullShare
  owed _ := 0

theorem A_eq (c : Dev nD) (w : Fin cfg0.W) : (dats m G 0 c).A w = V m c (Pipeline.arrRef spec0 w) := by
  dsimp only [dats]
theorem after0_0 (c : Dev nD) (t : Fin cfg0.N) : (dats m G 0 c).after 0 t = iblk m c 0 t := by dsimp only [dats]

theorem before0_0 (c : Dev nD) (t : Fin cfg0.N) (d) : (dats m G 0 c).before 0 t d = iblk m c 0 t :=
  ((dats m G 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m G 0 c).Φ t.castSucc ∗ (dats m G 0 c).owesAt () t.castSucc
    ∗ (∃ d, owns (c : Thread nD τ) (st0_0 t) fullShare ((dats m G 0 c).before 0 t d)))
def bodyPost (c : Dev nD) (t : Fin cfg0.N) : sProp 𝕄 :=
  iprop((dats m G 0 c).Φ t.succ ∗ (dats m G 0 c).owesAt () t.succ
    ∗ owns (c : Thread nD τ) (st0_0 t) fullShare ((dats m G 0 c).after 0 t))

theorem sound_body (h : Good m G) (c : Dev nD) (t : Fin cfg0.N) :
    bodyPre m G c t ⊢ wp frame (wpE (defs₀ (F := F)) Variants.none c none) Set.univ (bodyAt0 t) (fun _ => bodyPost m G c t) := by
  unfold bodyPre bodyPost bodyAt0
  rw [show (dats m G 0 c).Φ t.castSucc = held m G c t.val from rfl, show (dats m G 0 c).Φ t.succ = held m G c (t.val + 1) from rfl, after0_0]
  unfold Dat.owesAt Pipeline.owesWithin held
  rw [show (dats m G 0 c).owed t.castSucc = 0 from rfl, show (dats m G 0 c).owed t.succ = 0 from rfl, ← cont_succ m G c t.val (pt_lt t)]
  iintro ⟨⟨HX, HY, HS, Hg⟩, ⟨%W, -, HW⟩, ⟨%d0, H0⟩⟩
  rw [before0_0]
  unfold owns
  icases H0 with ⟨%f, %hf, H0⟩
  iapply ((body_run c (fun j => dst m c (cell t.val (pt_lt t) j)) (m ((c : Thread nD τ).loc main_arg1)) (G c) (cont m G c t.val)
    ((h.inj c).comp (cell_inj _ _)) (grid0.coords t) (win0_0.stage (cfg0.slots t 0)) (hstage0_0 ((cfg0.slots t 0).cast nbuf0_0)) f
    (fun j y h0 h1 => by rw [hf]; exact iblk_word m c t j y h0 h1)
    (fun j p y h0 h1 h2 => h.hit c (cell t.val (pt_lt t) j) p y h0 (h1.trans (by rw [coords_pt]; rfl)) h2)
    (fun j => h.lt c _) W).trans (wp_wand _ _ _)) $$ [H0 HW HS HX HY]
  · isplitl [H0]; · iexact H0
    isplitl [HW]; · iexact HW
    isplitl [HS]; · iexact HS
    isplitl [HX]; · iexact HX
    iexact HY
  iintro %_ ⟨H0, ⟨%W', HW'⟩, HS, HX, HY⟩
  isplitl [HX HY HS Hg]
  · isplitl [HX]; · iexact HX
    isplitl [HY]; · iexact HY
    isplitl [HS]; · iexact HS
    iexact Hg
  isplitl [HW']
  · iexists W'; isplitr; · ipureintro; exact fun _ _ => Or.inl trivial
    iexact HW'
  iexists f
  isplitr; · ipureintro; exact hf
  iexact H0

theorem defs₀_row (t : Fin cfg0.N) : defs₀ (F := F) .tc cfg0.body (cfg0.bodyArgs t (cfg0.slots t)) = bodyAt0 t := by
  unfold defs₀; rw [Defs.onTc_tc]

theorem body_obligation (h : Good m G) (c : Dev nD) : BodyObligation (dats (F := F) m G 0 c) (defs₀ (F := F)) Variants.none () Set.univ := fun t => by
  rw [bigSep_W0, bigSep_W0, defs₀_row]
  exact triple_restated (sound_body m G h c t) rfl .rfl fun _ => .rfl

/-! ## The run -/

/-- The buffers the body holds, and what it leaves in them. -/
abbrev R0 : Finset (Ref sig .tc) := {main_arg1, main_v0}
def left (c : Dev nD) (b : Ref sig .tc) : Buf (Elt F) ((c : Thread nD τ).loc b) :=
  if e : b = main_v0 then e ▸ G c else V m c b

theorem left_v0 (c : Dev nD) : left m G c main_v0 = G c := by
  unfold left
  rw [dif_pos rfl]
theorem left_arg1 (c : Dev nD) : left m G c main_arg1 = V m c main_arg1 := by
  unfold left
  rw [dif_neg (by decide)]

theorem ends_eq (c : Dev nD) (W : (b : Ref sig .tc) → Buf (Elt F) ((c : Thread nD τ).loc b)) :
    (Pipeline.Ends spec0 osem0 R0 c W : sProp 𝕄) = iprop(((((c : Thread nD τ).loc main_arg1) ↦{fullShare} W main_arg1) ∗ ((c : Thread nD τ).loc main_v0) ↦{fullShare} W main_v0)
      ∗ semVal ((c : Thread nD τ), SemLoc.dma dsem) 0 ∗ BI.emp ∗ ∃ r, prngReg c r) := by
  unfold Pipeline.Ends Pipeline.routed
  rw [Pipeline.ownSems0_eq_of_list c osem0 [0] (by decide) (by decide), scopedRest0_eq, bigSep_insert (by decide), bigSep_singleton]
  rfl

set_option backward.isDefEq.respectTransparency.types false in
theorem run_main (h : Good m G) : θ_run defs (onTc (τ := τ) (main (F := F))) (s₀ m ρ)
    (fun r => Pipeline.RoutedPost cfgs (dats m G) 0 R0 (V m) (left m G) r ∧ r.2.sem = fun _ => 0) :=
  Pipeline.θ_run_frame_routed (Q' := _) cfgs (dats m G) (0 : Fin 1) launch0 ownSemFacts0 defs₀ Variants.none m ρ main
    (hbody := fun c => (body_obligation m G h c).loose) (hshare := fun c => (dats m G 0 c).share_full fun _ => rfl)
    (howed := fun _ _ => rfl) (V := V m)
    (hmain := Pipeline.hmain_prefix cfgs 0 defs₀ Variants.none m main hostOps0 hostOps0_sub hostOps0_fresh main_chain)
    (hA := A_eq m G) (R := R0) (hR := by decide) (Y := left m G)
    (hin := fun c => by
      refine (Entails.of_eq (ends_eq c (V m c))).trans ?_
      show _ ⊢ held m G c 0
      unfold held
      rw [cont_zero, V_main_arg1]
      iintro ⟨⟨HX, HY⟩, HS, -, Hg⟩
      isplitl [HX]; · iexact HX
      isplitl [HY]; · iexact HY
      isplitl [HS]; · iexact HS
      iexact Hg)
    (hout := fun c => by
      refine BIBase.Entails.trans ?_ (Entails.of_eq (ends_eq c (left m G c)).symm)
      show held m G c 32 ⊢ _
      unfold held
      rw [cont_last m G h, left_v0, left_arg1, V_main_arg1]
      iintro ⟨HX, HY, HS, Hg⟩
      isplitl [HX HY]
      · isplitl [HX]; · iexact HX
        iexact HY
      isplitl [HS]; · iexact HS
      isplitr; · iempintro
      iexact Hg)

/-- The program: it ends with the result at `G`, the arguments unchanged, the semaphores at zero. -/
theorem run (h : Good m G) : θ_run defs (onTc (τ := τ) (main (F := F))) ⟨m, fun _ => 0, ρ⟩ (fun r => (∀ c : Dev nD,
      r.2.mem ((c.tc : Thread nD τ).loc main_v0) = G c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ hr => ⟨fun c =>
    ⟨((hr.1 c).2.1 main_v0 (by decide)).trans (left_v0 m G c),
      ((hr.1 c).1 0).trans (((dats m G 0 c).arrAt_in 0 rfl _).trans ((A_eq m G c 0).trans (V_main_arg0 m c))),
      ((hr.1 c).2.1 main_arg1 (by decide)).trans ((left_arg1 m G c).trans (V_main_arg1 m c))⟩, hr.2⟩) (run_main m ρ G h)

end Launch

end Cert.KernelIdeal.Hand

end
-- ==== Proof.DispatchValue.lean ====
/-
  Hand-written. What the precondition says of the destination rows, the reference's scatter of whole rows read at an
  element, and from both that the reference's value is the one that the dispatch launch leaves.
-/
module

public import proofs.«01_k».proof.Proof.DispatchRun
public import proofs.«01_k».proof.Proof.Gen.Reference.Run
public import proofs.«01_k».proof.Proof.Gen.Pre_rows_distinct
public import Idealize.ShloMosaic.Lib.Routing.OpsSet
public import Idealize.ShloMosaic.Lib.ReduceAll
public import Idealize.ShloMosaic.Lib.Affine
public import Idealize.ShloMosaic.Lib.WordCmp

@[expose] public section

set_option maxRecDepth 16384

noncomputable section

namespace Cert.Hand

open Cert.Reference Cert.Reference.Facts₀ Cert.Reference.Facts
open Idealize.ShloMosaic Idealize.ShloMosaic.ValueIdx Idealize.ShloMosaic.Routing

variable (D : IVec S2x32768 32) (X : IVec S32768x512 32)

/-- The destination rows in one list. -/
abbrev flat : IVec S65536 32 := shapeCast S65536 D shapeCasts_S2x32768_S65536

/-- A row list's words, counted from the end when negative. -/
abbrev wrap (v : IVec S65536 32) : IVec S65536 32 :=
  select (cmpi .slt v (broadcastInDim S65536 ![] bcast_S_S65536 (constantI S_ 32 0#32)))
    (addi v (broadcastInDim S65536 ![] bcast_S_S65536 (constantI S_ 32 73728#32))) v

/-- The position in the list of an entry of the destination table. -/
def pos (y : S2x32768.Idx) : Fin 65536 := ⟨(y 0).val * 32768 + (y 1).val, by
  have h0 : (y 0).val < 2 := (y 0).isLt
  have h1 : (y 1).val < 32768 := (y 1).isLt
  omega⟩

theorem pos_injective : Function.Injective pos := by
  intro y y' h
  have h := congrArg Fin.val h
  change (y 0).val * 32768 + (y 1).val = (y' 0).val * 32768 + (y' 1).val at h
  have h1 : (y 1).val < 32768 := (y 1).isLt
  have h1' : (y' 1).val < 32768 := (y' 1).isLt
  funext a
  apply Fin.ext
  match a with
  | ⟨0, _⟩ => change (y 0).val = (y' 0).val; omega
  | ⟨1, _⟩ => change (y 1).val = (y' 1).val; omega

/-- Every position is some entry's. -/
theorem pos_surjective (k : Fin 65536) : ∃ y, pos y = k := by
  have hk := k.isLt
  refine ⟨ix2 (n0 := 2) (n1 := 32768) ⟨k.val / 32768, by omega⟩ ⟨k.val % 32768, by omega⟩, Fin.ext ?_⟩
  show k.val / 32768 * 32768 + k.val % 32768 = k.val
  omega

theorem flat_pos (y : S2x32768.Idx) : flat D (ix1 (pos y)) = D y :=
  (cast21 (a := 2) (b := 32768) D shapeCasts_S2x32768_S65536 (y 0) (y 1) (pos y) rfl).trans
    (congrArg D (funext fun a => match a with | ⟨0, _⟩ => rfl | ⟨1, _⟩ => rfl))

/-- A word in range is not wrapped. -/
theorem wrap_of_nonneg (v : IVec S65536 32) (k : S65536.Idx) (h : 0 ≤ (v k).toInt) : wrap v k = v k := by
  show (if IntOp.cmpi .slt (v k) 0#32 = 1#1 then IntOp.addi (v k) 73728#32 else v k) = v k
  refine if_neg fun e => ?_
  have e := IntOp.cmpi_slt.1 e
  rw [BitVec.toInt_zero] at e
  omega

instance : Subsingleton S_.Idx := ⟨fun a b => funext fun i => i.elim0⟩

variable {D X}

/-- What the precondition says, entry by entry: in range, and the table of last writers reads back each position. -/
theorem pre_parts {F : FTy → Type} [FloatOps F] (h : Cert.Pre_rows_distinct.fn (F := F) D X = fun _ => 1#1) :
    (∀ k, 0 ≤ (flat D k).toInt) ∧ (∀ k, (flat D k).toInt < 73728) ∧
      ∃ T : IVec ⟨1, ![73728]⟩ 32, ∀ k : S65536.Idx,
        Host.gather Cert.Pre_rows_distinct.gather_S73728_S65536x1_S65536_n_0_n_n_0_1_1 T
          (broadcastInDim S65536x1 ![0] bcast_S65536_S65536x1_0 (wrap (flat D))) k = iotaInDim S65536 32 0 k := by
  have h0 := congrFun h (fun i => i.elim0)
  unfold Cert.Pre_rows_distinct.fn Cert.Pre_rows_distinct.fn_part1 at h0
  obtain ⟨h1, h3⟩ := IntOp.andi_eq_one.1 h0
  obtain ⟨h1, h2⟩ := IntOp.andi_eq_one.1 h1
  refine ⟨fun k => ?_, fun k => ?_, ⟨_, fun k => IntOp.cmpi_eq.1 (Host.reduce_andi_all _ _ _ _ _ h3 k)⟩⟩
  · have := Host.reduce_andi_all _ _ _ _ _ h1 k
    have := IntOp.cmpi_sge.1 this
    exact this
  · have := Host.reduce_andi_all _ _ _ _ _ h2 k
    have := IntOp.cmpi_slt.1 this
    exact this

theorem toNat_of_range (w : BitVec 32) (h0 : 0 ≤ w.toInt) (h1 : w.toInt < 73728) : w.toInt = w.toNat ∧ w.toNat < 73728 := by
  have e : w.toInt = w.toNat := by
    rw [BitVec.toInt_eq_toNat_cond] at h0 ⊢
    have := w.isLt
    split
    · rfl
    · next hn => rw [if_neg hn] at h0; omega
  exact ⟨e, by omega⟩

/-- Under the precondition the rows are in range. -/
theorem pre_range {F : FTy → Type} [FloatOps F] (h : Cert.Pre_rows_distinct.fn (F := F) D X = fun _ => 1#1) (y : S2x32768.Idx) :
    (D y).toInt = (D y).toNat ∧ (D y).toNat < 73728 := by
  obtain ⟨h0, h1, _⟩ := pre_parts h
  have h0 := h0 (ix1 (pos y)); have h1 := h1 (ix1 (pos y))
  rw [flat_pos] at h0 h1
  exact toNat_of_range _ h0 h1

/-- The index word that the scatter reads for an entry. -/
theorem word_pos {F : FTy → Type} [FloatOps F] (h : Cert.Pre_rows_distinct.fn (F := F) D X = fun _ => 1#1) (y : S2x32768.Idx) :
    broadcastInDim S65536x1 ![0] bcast_S65536_S65536x1_0 (wrap (flat D)) (ix2 (pos y) (0 : Fin 1)) = D y := by
  refine (bcCol bcast_S65536_S65536x1_0 _ (pos y)).trans ?_
  rw [wrap_of_nonneg _ _ ((pre_parts h).1 _), flat_pos]

/-- Under the precondition the rows are distinct. -/
theorem pre_injective {F : FTy → Type} [FloatOps F] (h : Cert.Pre_rows_distinct.fn (F := F) D X = fun _ => 1#1) :
    Function.Injective fun y => (D y).toNat := by
  intro y y' e
  obtain ⟨_, _, T, hT⟩ := pre_parts h
  have r := pre_range h y; have r' := pre_range h y'
  have rd : ∀ z, (D z).toNat = (D y).toNat → iotaInDim S65536 32 0 (ix1 (pos z)) = T (ix1 (⟨(D y).toNat, r.2⟩ : Fin 73728)) := fun z hz => by
    rw [← hT]
    refine gather_take1 _ rfl rfl rfl rfl T _ (pos z) ⟨(D y).toNat, r.2⟩ ?_ (by norm_num)
    rw [word_pos h]
    exact BitVec.eq_of_toNat_eq (by rw [BitVec.toNat_ofNat, Nat.mod_eq_of_lt (by omega)]; exact hz)
  have k := (rd y rfl).trans (rd y' e.symm).symm
  have k : BitVec.ofNat 32 (pos y).val = BitVec.ofNat 32 (pos y').val := k
  have k := congrArg BitVec.toNat k
  rw [BitVec.toNat_ofNat, BitVec.toNat_ofNat, Nat.mod_eq_of_lt (by have := (pos y).isLt; omega),
    Nat.mod_eq_of_lt (by have := (pos y').isLt; omega)] at k
  exact pos_injective (Fin.ext k)

/-! ## The scatter of rows -/

abbrev dims : ScatterDims S73728x512 S65536x1 S65536x512 := scatter_S73728x512_S65536x1_S65536x512_1_0_0_1

theorem start_zero (idx : IVec S65536x1 32) (k : S65536x512.Idx) :
    dims.start k idx 0 = (idx (ix2 (n0 := 65536) (k 0) (0 : Fin 1))).toInt := by
  unfold ScatterDims.start
  rw [dif_pos (by decide)]
  refine congrArg (fun i => (idx i).toInt) (funext fun a => Fin.ext ?_)
  match a with
  | ⟨0, _⟩ => rfl
  | ⟨1, _⟩ => rfl

theorem start_one (idx : IVec S65536x1 32) (k : S65536x512.Idx) : dims.start k idx 1 = 0 := by
  unfold ScatterDims.start
  rw [dif_neg (by decide)]

theorem window_zero (k : S65536x512.Idx) : dims.window k 0 = 0 := by
  unfold ScatterDims.window
  rw [dif_neg (by decide)]

theorem window_one (k : S65536x512.Idx) : dims.window k 1 = (k 1).val := by
  unfold ScatterDims.window
  rw [dif_pos (by decide)]
  rfl

/-- Where an element of an update row lands: the row that its index word names, the same column. -/
theorem row_lands (idx : IVec S65536x1 32) (k : S65536x512.Idx) (p : S73728x512.Idx) :
    dims.resultIdx? k idx = some p ↔ (idx (ix2 (n0 := 65536) (k 0) (0 : Fin 1))).toInt = (p 0).val ∧ (k 1).val = (p 1).val := by
  have hp0 : (p 0).val < 73728 := (p 0).isLt
  have hp1 : (p 1).val < 512 := (p 1).isLt
  have s0 := start_zero idx k; have s1 := start_one idx k
  have w0 := window_zero k; have w1 := window_one k
  unfold ScatterDims.resultIdx?
  constructor
  · intro e
    split at e
    · next h =>
      have h0 := h 0
      have e0 : (dims.start k idx 0 + dims.window k 0).toNat = (p 0).val := congrArg Fin.val (congrFun (Option.some.inj e) 0)
      have e1 : (dims.start k idx 1 + dims.window k 1).toNat = (p 1).val := congrArg Fin.val (congrFun (Option.some.inj e) 1)
      rw [s0, w0] at e0 h0; rw [s1, w1] at e1
      omega
    · cases e
  · rintro ⟨e0, e1⟩
    rw [dif_pos fun a => by
      match a with
      | ⟨0, _⟩ =>
        show 0 ≤ dims.start k idx 0 + dims.window k 0 ∧ dims.start k idx 0 + dims.window k 0 < (73728 : ℕ)
        rw [s0, w0]; omega
      | ⟨1, _⟩ =>
        show 0 ≤ dims.start k idx 1 + dims.window k 1 ∧ dims.start k idx 1 + dims.window k 1 < (512 : ℕ)
        rw [s1, w1]; omega]
    refine congrArg some (funext fun a => Fin.ext ?_)
    match a with
    | ⟨0, _⟩ => show (dims.start k idx 0 + dims.window k 0).toNat = (p 0).val; rw [s0, w0]; omega
    | ⟨1, _⟩ => show (dims.start k idx 1 + dims.window k 1).toNat = (p 1).val; rw [s1, w1]; omega

/-- The tokens' rows twice over. -/
abbrev twice (X : IVec S32768x512 32) : IVec S65536x512 32 :=
  concatenate S65536x512 0 [⟨S32768x512, X⟩, ⟨S32768x512, X⟩] concatenates_S32768x512_S32768x512_S65536x512_d0

/-- Row `k` of the doubled rows is the token's of the entry at position `k`. -/
theorem twice_pos (y : S2x32768.Idx) (k : S65536x512.Idx) (x : S32768x512.Idx) (hk : (k 0).val = (pos y).val)
    (h0 : (x 0).val = (y 1).val) (h1 : (x 1).val = (k 1).val) : twice X k = X x := by
  have hk : (k 0).val = (y 0).val * 32768 + (y 1).val := hk
  have hy0 : (y 0).val < 2 := (y 0).isLt
  have hy1 : (y 1).val < 32768 := (y 1).isLt
  by_cases hy : (y 0).val = 0
  · refine concatenate_pair_apply_left 0 X X _ k rfl x fun b => ?_
    match b with
    | ⟨0, _⟩ => show (x 0).val = (k 0).val; omega
    | ⟨1, _⟩ => exact h1
  · refine concatenate_pair_apply_right 0 X X _ k rfl rfl x (fun b hb => ?_) ?_
    · match b, hb with
      | ⟨0, _⟩, hb => exact absurd rfl hb
      | ⟨1, _⟩, _ => exact h1
    · show (x 0).val + 32768 = (k 0).val
      omega

variable (D X)

/-- The reference's result. -/
abbrev out : IVec S73728x512 32 :=
  Host.scatter dims (fun _ b => b) (broadcastInDim S73728x512 ![] bcast_S_S73728x512 (constantI S_ 32 0#32))
    (broadcastInDim S65536x1 ![0] bcast_S65536_S65536x1_0 (wrap (flat D))) (twice X)

variable {D X}

/-- At a destination row the reference holds the row of the entry's token. -/
theorem out_hit {F : FTy → Type} [FloatOps F] (h : Cert.Pre_rows_distinct.fn (F := F) D X = fun _ => 1#1) (y : S2x32768.Idx)
    (p : S73728x512.Idx) (x : S32768x512.Idx) (h0 : (p 0).val = (D y).toNat) (h1 : (x 0).val = (y 1).val) (h2 : (x 1).val = (p 1).val) :
    out D X p = X x := by
  refine scatter_set_hit dims _ _ _ p (X x) (fun k hk => ?_) (ix2 (n0 := 65536) (n1 := 512) (pos y) (p 1)) ((row_lands _ _ _).2 ⟨?_, rfl⟩)
  · obtain ⟨e0, e1⟩ := (row_lands _ _ _).1 hk
    obtain ⟨z, hz⟩ := pos_surjective (k 0)
    rw [← hz, word_pos h, (pre_range h z).1] at e0
    have e : z = y := pre_injective h (by show (D z).toNat = (D y).toNat; omega)
    subst e
    exact twice_pos z k x (congrArg Fin.val hz).symm h1 (h2.trans e1.symm)
  · refine (congrArg BitVec.toInt (word_pos h y)).trans ?_
    rw [(pre_range h y).1, h0]

/-- At a row that is nobody's destination the reference holds zero. -/
theorem out_miss {F : FTy → Type} [FloatOps F] (h : Cert.Pre_rows_distinct.fn (F := F) D X = fun _ => 1#1)
    (p : S73728x512.Idx) (hp : ∀ y, (p 0).val ≠ (D y).toNat) : out D X p = 0#32 := by
  refine (scatter_set_miss dims _ _ _ p fun k hk => ?_).trans rfl
  obtain ⟨e0, _⟩ := (row_lands _ _ _).1 hk
  obtain ⟨z, hz⟩ := pos_surjective (k 0)
  rw [← hz, word_pos h, (pre_range h z).1] at e0
  exact hp z (by omega)

end Cert.Hand

/-! ## The launch leaves the reference's value -/

namespace Cert.KernelIdeal.Hand

open Cert.KernelIdeal Cert.KernelIdeal.Gen
open Idealize.ShloMosaic Idealize.ShloMosaic.TcCoe Idealize.ShloMosaic.StableHlo

variable {F : FTy → Type} [FloatOps F]

/-- The zeros that the destination starts from. -/
theorem V_main_v0 (m : (ℓ : Loc nD τ sig) → Buf (Elt F) ℓ) (c : Dev nD) (p : S73728x512.Idx) : V m c main_v0 p = (0#32 : BitVec 32) := by
  have e : V m c main_v0 = broadcastInDim S73728x512 ![] Facts₀.bcast_S_S73728x512 (constantI S_ 32 0#32) := by
    after_results <;> rfl
  rw [e]
  rfl

/-- Under the precondition the reference's result is what the launch leaves. -/
theorem good (m : (ℓ : Loc nD τ sig) → Buf (Elt F) ℓ)
    (h : ∀ c : Dev nD, Cert.Pre_rows_distinct.fn (F := F) (m ((c.tc : Thread nD τ).loc main_arg0)) (m ((c.tc : Thread nD τ).loc main_arg1)) = fun _ => 1#1) :
    Good m fun c => Cert.Hand.out (m ((c.tc : Thread nD τ).loc main_arg0)) (m ((c.tc : Thread nD τ).loc main_arg1)) where
  lt c y := (Cert.Hand.pre_range (h c) y).2
  inj c := Cert.Hand.pre_injective (h c)
  hit c y p x h0 h1 h2 := Cert.Hand.out_hit (h c) y p x h0 h1 h2
  miss c p hp := (Cert.Hand.out_miss (h c) p hp).trans (V_main_v0 m c p).symm

end Cert.KernelIdeal.Hand

end
-- ==== Proof.Combine.lean ====
/-
  Hand-written. The combine kernel at one grid point, over any values: 512 row gathers from the experts' results into the
  two halves of the scratch, all on one DMA semaphore, every one started before the first wait; then the vector code.
-/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.Routed
public import Idealize.ShloMosaic.Lib.Batch
public import Idealize.ShloMosaic.Lib.Ring
public import Idealize.ShloMosaic.Lib.Scf
public import Idealize.ShloMosaic.Lib.Tactic
public import Idealize.ShloMosaic.Lib.ValueLayout
public import Idealize.ShloMosaic.Lib.VecWindow

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UC)

variable {F : FTy → Type} [FloatOps F]

local notation "𝕄" => MT nD τ sig Unit (Elt F) ℕ (UC sig nD τ) ℕ
abbrev EC : UEmb Counters 𝕄 := countersEmb (U := UC sig nD τ)

/-- The experts' rows and the scratch, whole. -/
abbrev ym : Memref sig .tc .hbm S73728x1024 .f32 := Memref.whole main_arg3
abbrev gm : Memref sig .tc .vmem S2x256x1024 .f32 := Memref.whole cc0_scratch0
abbrev YBuf (c : Dev nD) : Type := Buf (Elt F) ((c : Thread nD τ).loc main_arg3)
abbrev GBuf (c : Dev nD) : Type := Buf (Elt F) ((c : Thread nD τ).loc cc0_scratch0)
/-- The one DMA semaphore of the gathers. -/
abbrev dsem : DmaSem sig := 10
theorem dsem_eq : cc0_scratch1.sem = dsem := rfl

/-- One row of the experts' results, and one of the scratch, as the kernel slices them. -/
abbrev yrow (o : Fin 2 → ℕ) (h : ∀ a, o a + S1x1024.size a ≤ S73728x1024.size a) : Memref sig .tc .hbm S1x1024 .f32 :=
  ym.slice (Rect.unit (s := S73728x1024) o S1x1024.size h) (fun _ => rfl)
abbrev grow (o : Fin 3 → ℕ) (h : ∀ a, o a + S1x1x1024.size a ≤ S2x256x1024.size a) : Memref sig .tc .vmem S1x1024 .f32 :=
  (gm.slice (Rect.unit (s := S2x256x1024) o S1x1x1024.size h) (fun _ => rfl)).squeeze S1x1024 squeezes_S1x1x1024_S1x1024

/-- The elements of row `r`, and of row `t` of half `k`. -/
def ySet (r : ℕ) : Finset S73728x1024.Idx := Finset.univ.filter fun p => (p 0).val = r
def gSet (j : ℕ) : Finset S2x256x1024.Idx := Finset.univ.filter fun p => (p 0).val = j % 2 ∧ (p 1).val = j / 2

theorem yrow_set (r : ℕ) (h) : (yrow ![r, 0] h).view.set = ySet r := by
  show ((View.whole main_arg3).slice _).set = _
  rw [View.set_slice_whole]
  ext p
  rw [Rect.mem_set_unit, ySet, Finset.mem_filter]
  have h1 : (p 1).val < 1024 := (p 1).isLt
  constructor
  · intro hp
    have := hp 0
    refine ⟨Finset.mem_univ _, ?_⟩
    have e : r ≤ (p 0).val ∧ (p 0).val < r + 1 := this
    omega
  · rintro ⟨-, hp⟩ a
    fin_cases a
    · show r ≤ (p 0).val ∧ (p 0).val < r + 1
      omega
    · show 0 ≤ (p 1).val ∧ (p 1).val < 0 + 1024
      exact ⟨Nat.zero_le _, by omega⟩

theorem grow_set (j : ℕ) (h) : (grow ![j % 2, j / 2, 0] h).view.set = gSet j := by
  show (((View.whole cc0_scratch0).slice _).reshape _ _).set = _
  rw [View.set_reshape, View.set_slice_whole]
  ext p
  rw [Rect.mem_set_unit, gSet, Finset.mem_filter]
  have h2 : (p 2).val < 1024 := (p 2).isLt
  constructor
  · intro hp
    refine ⟨Finset.mem_univ _, ?_⟩
    have e : j % 2 ≤ (p 0).val ∧ (p 0).val < j % 2 + 1 := hp 0
    have e' : j / 2 ≤ (p 1).val ∧ (p 1).val < j / 2 + 1 := hp 1
    omega
  · rintro ⟨-, hp⟩ a
    fin_cases a
    · show j % 2 ≤ (p 0).val ∧ (p 0).val < j % 2 + 1
      omega
    · show j / 2 ≤ (p 1).val ∧ (p 1).val < j / 2 + 1
      omega
    · show 0 ≤ (p 2).val ∧ (p 2).val < 0 + 1024
      exact ⟨Nat.zero_le _, by omega⟩

/-- A row's credit. -/
def NN : ℕ := cc0_scratch0.dmaCredit S1x1024 .f32
theorem NN_pos : 0 < NN := by decide

/-- What gather `j` of a point lands: row `j / 2` of half `j % 2` at `G`, and the source row's share back. -/
def landed (c : Dev nD) (row : Fin 512 → ℕ) (X : YBuf (F := F) c) (G : GBuf (F := F) c) (j : Fin 512) : sProp 𝕄 :=
  iprop((((c : Thread nD τ).loc cc0_scratch0) ↦[gSet j.val]{fullShare} G)
    ∗ (((c : Thread nD τ).loc main_arg3) ↦[ySet (row j)]{Transfers.shareTokN fullShare j.val} X))

instance landed_storable (c : Dev nD) (row : Fin 512 → ℕ) (X : YBuf (F := F) c) (G : GBuf (F := F) c) :
    ∀ j, Storable (upEmb : UEmb _ 𝕄) (landed c row X G j) := fun j => by unfold landed; infer_instance

/-- The point's gathers: `j` started, `u` of their units waited for. -/
abbrev batch (c : Dev nD) (row : Fin 512 → ℕ) (X : YBuf (F := F) c) (G : GBuf (F := F) c) (j u : ℕ) : sProp 𝕄 :=
  Transfers.Batch EC (c : Thread nD τ) (.dma dsem) () NN (landed c row X G) j u

/-- The gathered row is the row of `G` there. -/
theorem gathered (c : Dev nD) (o : Fin 3 → ℕ) (ho) (o' : Fin 2 → ℕ) (ho') (j s : ℕ) (e : o = ![j % 2, j / 2, 0]) (e' : o' = ![s, 0])
    (X : YBuf (F := F) c) (fd G : GBuf (F := F) c)
    (hG : ∀ (p : S2x256x1024.Idx) (y : S73728x1024.Idx), (p 0).val = j % 2 → (p 1).val = j / 2 → (y 0).val = s → (y 1).val = (p 2).val → G p = X y)
    (p : S2x256x1024.Idx) (hp : p ∈ gSet j) :
    (grow o ho).view.write (Elt F) fd (ReadAs.same.apply ((yrow o' ho').view.read (Elt F) X)) Finset.univ p = G p := by
  subst e e'
  have hp0 := (Finset.mem_filter.mp hp).2
  have hm : p ∈ (grow ![j % 2, j / 2, 0] ho).view.set := by rw [grow_set]; exact hp
  obtain ⟨z, -, rfl⟩ := Finset.mem_map.mp hm
  rw [View.write_emb_of_mem (h := Finset.mem_univ z)]
  show (yrow ![s, 0] ho').view.read (Elt F) X z = _
  rw [View.read_apply]
  show X ((yrow ![s, 0] ho').view.emb z) = _
  refine (hG _ _ hp0.1 hp0.2 ?_ ?_).symm
  · have h0 : (z 0).val < 1 := (z 0).isLt
    show s + 1 * (z 0).val = s
    omega
  · show 0 + 1 * (z 1).val = 0 + 1 * (Shape.reshapeEquiv (s := S1x1x1024) (s' := S1x1024) squeezes_S1x1x1024_S1x1024.numel_eq z 2).val
    have e : Shape.reshapeEquiv (s := S1x1x1024) (s' := S1x1024) squeezes_S1x1x1024_S1x1024.numel_eq z = _ :=
      (congrArg _ (ValueIdx.eq_ix2 z)).trans (ValueIdx.reshapeEquiv_ix2_1ab squeezes_S1x1x1024_S1x1024.numel_eq (z 0) (z 1))
    rw [e]

section Steps

variable (c : Dev nD) (row : Fin 512 → ℕ) (X : YBuf (F := F) c) (G fd : GBuf (F := F) c)
variable (arg1 : Memref sig .tc .smem S2x256 .i32) (f : Buf (Elt F) (arg1.view.loc (c : Thread nD τ)))

/-- What gather `j` takes: its row of the scratch at what it holds, its source row's share. -/
def taken (j : Fin 512) : sProp 𝕄 :=
  iprop((((c : Thread nD τ).loc cc0_scratch0) ↦[gSet j.val]{fullShare} fd)
    ∗ (((c : Thread nD τ).loc main_arg3) ↦[ySet (row j)]{Transfers.shareTokN fullShare j.val} X))

/-- The point's table, staged. -/
abbrev table : sProp 𝕄 := arg1.view.loc (c : Thread nD τ) ↦[arg1.view.set]{fullShare} f

/-- The table's words name the rows. -/
def Names : Prop := ∀ (j : Fin 512) (y : S2x256.Idx), (y 0).val = j.val % 2 → (y 1).val = j.val / 2 →
  BitVec.toNat (w := 32) (arg1.view.read (Elt F) f y) = row j

/-- `G` holds the rows the table names. -/
def Gets : Prop := ∀ (j : Fin 512) (p : S2x256x1024.Idx) (y : S73728x1024.Idx), (p 0).val = j.val % 2 → (p 1).val = j.val / 2 →
  (y 0).val = row j → (y 1).val = (p 2).val → G p = X y

/-- One word of the table, loaded: gather `j`'s row. -/
theorem load_step (hf : Names c row arg1 f) (oa : Fin 2 → ℕ) (hoa : ∀ a, oa a + S1x1.size a ≤ S2x256.size a) (j : Fin 512) (ea : oa = ![j.val % 2, j.val / 2])
    (k : Elt F .i32 → Prog (TpuEff nD τ sig (Elt F) Λ₀ .tc) Unit) (Q : Unit → sProp 𝕄) :
    table c arg1 f ⊢ iprop((∀ v : BitVec 32, ⌜v.toNat = row j⌝ -∗ table c arg1 f -∗ wp frame (wpE (defs₀ (F := F)) Variants.none (c : Thread nD τ) none) Set.univ (k v) Q)
      -∗ wp frame (wpE (defs₀ (F := F)) Variants.none (c : Thread nD τ) none) Set.univ
        (smemLoad arg1 (Rect.unit (s := S2x256) oa S1x1.size hoa) numel1_S1x1 rfl >>= k) Q) := by
  show _ ⊢ iprop(_ -∗ wp frame (wpE (defs₀ (F := F)) Variants.none (c : Thread nD τ) none) Set.univ
        (smemLoadElt arg1 (Rect.unit (s := S2x256) oa S1x1.size hoa) (View.loads_smem_one rfl numel1_S1x1) (Shape.Idx.first (numel1_S1x1.symm ▸ Nat.one_pos)) k) Q)
  iintro HT Hk
  iapply (wp_smemLoadElt Variants.none (c : Thread nD τ) none Set.univ (m := arg1) (r := Rect.unit (s := S2x256) oa S1x1.size hoa)
    (S := arg1.view.set) (q := fullShare) (f := f) (View.set_slice_subset _ _)) $$ HT
  iintro HT
  iapply Hk $$ [] [HT]
  · ipureintro
    refine hf j _ ?_ ?_
    · subst ea
      rfl
    · subst ea
      rfl
  · iexact HT

/-- One gather started: the word loaded and checked, the row fetched. -/
theorem start_step (hf : Names c row arg1 f) (hG : Gets c row X G) (hrow : ∀ j, row j < 73728)
    (oa : Fin 2 → ℕ) (hoa : ∀ a, oa a + S1x1.size a ≤ S2x256.size a) (j : Fin 512) (ea : oa = ![j.val % 2, j.val / 2])
    (chk : BitVec 32 → Prop) (dec : ∀ v, Decidable (chk v)) (hchk : ∀ v : BitVec 32, v.toNat < 73728 → chk v)
    (oc : Fin 3 → ℕ) (hoc : ∀ a, oc a + S1x1x1024.size a ≤ S2x256x1024.size a) (ec : oc = ![j.val % 2, j.val / 2, 0])
    (ob : BitVec 32 → Fin 2 → ℕ) (hob : ∀ v, chk v → ∀ a, ob v a + S1x1024.size a ≤ S73728x1024.size a) (eb : ∀ v, ob v = ![v.toNat, 0])
    (u : ℕ) (hu : u ≤ j.val * NN)
    (k : PUnit → Prog (TpuEff nD τ sig (Elt F) Λ₀ .tc) Unit) (Q : Unit → sProp 𝕄) :
    iprop(table c arg1 f ∗ batch c row X G j.val u ∗ taken c row X fd j)
      ⊢ iprop((iprop(table c arg1 f ∗ batch c row X G (j.val + 1) u)
          -∗ wp frame (wpE (defs₀ (F := F)) Variants.none (c : Thread nD τ) none) Set.univ (k ⟨⟩) Q)
      -∗ wp frame (wpE (defs₀ (F := F)) Variants.none (c : Thread nD τ) none) Set.univ
        (smemLoad arg1 (Rect.unit (s := S2x256) oa S1x1.size hoa) numel1_S1x1 rfl >>= fun v =>
          Prog.lift (TpuEff.assume (chk v) (dec v)) >>= fun h =>
          Prog.lift (.enqueueDma (yrow (ob v) (hob v h.down)) (.here (grow oc hoc)) (.dma cc0_scratch1.sem) (View.wordExact_bits rfl) ((View.wordExact_bits rfl).reshape _ _) ⟨Or.inl rfl, trivial⟩) >>= k) Q) := by
  iintro ⟨HT, HB, HP⟩ Hk
  iapply (load_step c row arg1 f hf oa hoa j ea) $$ HT
  iintro %v %hv HT
  have hck : chk v := hchk v (by rw [hv]; exact hrow j)
  iapply (wp_assume Variants.none (c : Thread nD τ) none Set.univ hck)
  unfold taken
  icases HP with ⟨HG, HY⟩
  subst ec
  have hset : (yrow (ob v) (hob v hck)).view.set = ySet (row j) := by
    have : ∀ (o : Fin 2 → ℕ) (h), o = ![row j, 0] → (yrow o h).view.set = ySet (row j) := by
      rintro o h rfl
      exact yrow_set _ _
    exact this _ _ (by rw [eb v, hv])
  rw [← hset]
  iapply (Transfers.wp_dmaBatch EC Variants.none (c : Thread nD τ) none (src := yrow (ob v) (hob v hck)) (dst := grow _ hoc) (Sd := gSet j.val) (fd := fd) (fs := X)
    (q := Transfers.shareTokN fullShare j.val) (D := landed c row X G) (sm := .dma cc0_scratch1.sem)
    () NN rfl ?sub j.isLt hu ?del) $$ [HG HY HB]
  case sub => exact (grow_set j.val hoc).subset
  case del =>
    unfold landed
    rw [← hset]
    refine sep_mono (Entails.of_eq (pointsTo_congr fun p hp => ?_)) .rfl
    exact gathered c _ hoc _ (hob v hck) j.val (row j) rfl (by rw [eb v, hv]) X fd G (hG j) p hp
  · isplitl [HY]; · iexact HY
    isplitl [HG]; · iexact HG
    iexact HB
  iintro HB
  iapply Hk
  isplitl [HT]; · iexact HT
  iexact HB

/-- One wait: the word loaded and checked, one row's units consumed. -/
theorem wait_step (hf : Names c row arg1 f) (hrow : ∀ j, row j < 73728)
    (oa : Fin 2 → ℕ) (hoa : ∀ a, oa a + S1x1.size a ≤ S2x256.size a) (j : Fin 512) (ea : oa = ![j.val % 2, j.val / 2])
    (chk : BitVec 32 → Prop) (dec : ∀ v, Decidable (chk v)) (hchk : ∀ v : BitVec 32, v.toNat < 73728 → chk v)
    (oc : Fin 3 → ℕ) (hoc : ∀ a, oc a + S1x1x1024.size a ≤ S2x256x1024.size a)
    (ob : BitVec 32 → Fin 2 → ℕ) (hob : ∀ v, chk v → ∀ a, ob v a + S1x1024.size a ≤ S73728x1024.size a)
    (n q : ℕ) (hu : q + 1 ≤ n)
    (k : PUnit → Prog (TpuEff nD τ sig (Elt F) Λ₀ .tc) Unit) (Q : Unit → sProp 𝕄) :
    iprop(table c arg1 f ∗ (∃ W, owes (c : Thread nD τ) 0 W) ∗ batch c row X G n (q * NN))
      ⊢ iprop((iprop(table c arg1 f ∗ (∃ W, owes (c : Thread nD τ) 0 W) ∗ batch c row X G n ((q + 1) * NN))
          -∗ wp frame (wpE (defs₀ (F := F)) Variants.none (c : Thread nD τ) none) Set.univ (k ⟨⟩) Q)
      -∗ wp frame (wpE (defs₀ (F := F)) Variants.none (c : Thread nD τ) none) Set.univ
        (smemLoad arg1 (Rect.unit (s := S2x256) oa S1x1.size hoa) numel1_S1x1 rfl >>= fun v =>
          Prog.lift (TpuEff.assume (chk v) (dec v)) >>= fun h =>
          Prog.lift (.waitDma2 cc0_scratch1.sem (yrow (ob v) (hob v h.down)) (grow oc hoc) (View.wordExact_bits rfl) ((View.wordExact_bits rfl).reshape _ _)) >>= k) Q) := by
  have hu' : q * NN + 1 * NN ≤ NN * n := by rw [← Nat.add_mul, Nat.mul_comm]; exact Nat.mul_le_mul_left _ hu
  rw [show (q + 1) * NN = q * NN + 1 * NN from Nat.add_mul _ _ _]
  iintro ⟨HT, ⟨%W, HO⟩, HB⟩ Hk
  iapply (load_step c row arg1 f hf oa hoa j ea) $$ HT
  iintro %v %hv HT
  have hck : chk v := hchk v (by rw [hv]; exact hrow j)
  iapply (wp_assume Variants.none (c : Thread nD τ) none Set.univ hck)
  iapply (Transfers.wp_waitBatchMul EC Variants.none (c : Thread nD τ) none (srcw := yrow (ob v) (hob v hck)) (dstw := grow oc hoc) (sem := cc0_scratch1.sem)
    () (N := NN) 1 (by rw [Nat.one_mul]; rfl) (D := landed c row X G) hu') $$ [HB HO]
  · isplitl [HB]; · iexact HB
    iexact HO
  iintro ⟨HB, HO⟩
  iapply Hk
  isplitl [HT]; · iexact HT
  isplitl [HO]; · iexists _; iexact HO
  iexact HB

end Steps

/-! ## The offsets in closed form -/

theorem iv_word (k : ℕ) (h : k < 256) : (Scf.iv 0#32 1#32 k).toNat = k := by
  simp only [Scf.iv, BitVec.toNat_add, BitVec.toNat_mul, BitVec.toNat_ofNat]
  omega

theorem trips1 : k0_t1_loop.trips = 256 := by decide +kernel
theorem trips2 : k0_t2_loop.trips = 256 := by decide +kernel

section Offsets
variable (k1 : Fin k0_t1_loop.trips) (k2 : Fin k0_t2_loop.trips)

theorem k1_lt : k1.val < 256 := trips1 ▸ k1.isLt
theorem k2_lt : k2.val < 256 := trips2 ▸ k2.isLt

theorem pair_eq {a b a' b' : ℕ} (ha : a = a') (hb : b = b') : (![a, b] : Fin 2 → ℕ) = ![a', b'] := by rw [ha, hb]
theorem triple_eq {a b d a' b' : ℕ} (ha : a = a') (hb : b = b') : (![a, b, d] : Fin 3 → ℕ) = ![a', b', d] := by rw [ha, hb]
theorem off1_eq : k0_off1 k1 = ![0, k1.val] := by
  show ![0, (Scf.iv 0#32 1#32 k1.val).toNat] = _
  rw [iv_word k1.val (k1_lt k1)]
theorem off4_eq : k0_off4 k1 = ![1, k1.val] := by
  show ![1, (Scf.iv 0#32 1#32 k1.val).toNat] = _
  rw [iv_word k1.val (k1_lt k1)]
theorem off2_eq : k0_off2 k1 = ![0, k1.val, 0] := by
  show ![0, (Scf.iv 0#32 1#32 k1.val).toNat, 0] = _
  rw [iv_word k1.val (k1_lt k1)]
theorem off5_eq : k0_off5 k1 = ![1, k1.val, 0] := by
  show ![1, (Scf.iv 0#32 1#32 k1.val).toNat, 0] = _
  rw [iv_word k1.val (k1_lt k1)]
theorem off7_eq : k0_off7 k2 = ![0, k2.val] := by
  show ![0, (Scf.iv 0#32 1#32 k2.val).toNat] = _
  rw [iv_word k2.val (k2_lt k2)]
theorem off10_eq : k0_off10 k2 = ![1, k2.val] := by
  show ![1, (Scf.iv 0#32 1#32 k2.val).toNat] = _
  rw [iv_word k2.val (k2_lt k2)]
end Offsets

/-- A word below the row count passes the gathers' check. -/
theorem row_inb (v : BitVec 32) (h : v.toNat < 73728) : ∀ a, (![v.toNat, 0] : Fin 2 → ℕ) a + S1x1024.size a ≤ S73728x1024.size a := by
  intro a
  fin_cases a
  · show v.toNat + 1 ≤ 73728
    omega
  · show 0 + 1024 ≤ 1024
    omega

section Loops

variable (c : Dev nD) (i : grid0.Coords) (row : Fin 512 → ℕ) (X : YBuf (F := F) c) (G fd : GBuf (F := F) c)
variable (arg1 : Memref sig .tc .smem S2x256 .i32) (harg1 : arg1.IsWhole) (f : Buf (Elt F) (arg1.view.loc (c : Thread nD τ)))
variable (arg2 : Memref sig .tc .vmem S256x1024 .f32) (harg2 : arg2.IsWhole) (arg3 : Memref sig .tc .vmem S8x256 .f32) (harg3 : arg3.IsWhole)
variable (arg5 : Memref sig .tc .vmem S1x1024 .f32) (harg5 : arg5.IsWhole) (arg6 : Memref sig .tc .vmem S1x1024 .f32) (harg6 : arg6.IsWhole)
variable (arg7 : Memref sig .tc .vmem S256x1024 .f32) (harg7 : arg7.IsWhole)

/-- What the gathers from `j` on take. -/
abbrev toTake (j : ℕ) : sProp 𝕄 := bigSep (Ring.rangeSet 512 j 512) (taken c row X fd)

/-- Before trip `k` of the first loop: `2k` gathers started. -/
def inv1 (k : ℕ) (_ : Unit) : sProp 𝕄 :=
  iprop(table c arg1 f ∗ (∃ W, owes (c : Thread nD τ) 0 W) ∗ batch c row X G (2 * k) (0 * NN) ∗ toTake c row X fd (2 * k))
/-- Before trip `k` of the second loop: every gather started, `2k` waited for. -/
def inv2 (k : ℕ) (_ : Unit) : sProp 𝕄 :=
  iprop(table c arg1 f ∗ (∃ W, owes (c : Thread nD τ) 0 W) ∗ batch c row X G 512 (2 * k * NN))

/-- The next gather's, and the later ones'. -/
theorem toTake_head (j : ℕ) (hj : j < 512) : toTake c row X fd j ⊢ iprop(taken c row X fd ⟨j, hj⟩ ∗ toTake c row X fd (j + 1)) :=
  Entails.of_eq (Ring.bigSep_rangeSet_head hj hj)

variable (hf : Names c row arg1 f) (hG : Gets c row X G) (hrow : ∀ j, row j < 73728)

include hf hG hrow

theorem trip1 (k : Fin k0_t1_loop.trips) (acc : Unit) :
    inv1 c row X G fd arg1 f k.val acc ⊢ wp frame (wpE (defs₀ (F := F)) Variants.none (c : Thread nD τ) none) Set.univ
      (k0_t1_body (F := F) i arg1 harg1 arg2 harg2 arg3 harg3 ym (Memref.isWhole_whole _) arg5 harg5 arg6 harg6 arg7 harg7 gm (Memref.isWhole_whole _) cc0_scratch1 k acc)
      (inv1 c row X G fd arg1 f (k.val + 1)) := by
  have hk := k1_lt k
  unfold inv1 k0_t1_body
  iintro ⟨HT, HO, HB, HR⟩
  ihave H := (toTake_head c row X fd (2 * k.val) (by omega)) $$ HR
  icases H with ⟨HP0, HR⟩
  ihave H := (toTake_head c row X fd (2 * k.val + 1) (by omega)) $$ HR
  icases H with ⟨HP1, HR⟩
  iapply (start_step c row X G fd arg1 f hf hG hrow _ (k0_off1_inb k) ⟨2 * k.val, by omega⟩
    ((off1_eq k).trans (pair_eq (by dsimp only; omega) (by dsimp only; omega))) k0_chk1 k0_chk1.dec row_inb _ (k0_off2_inb k)
    ((off2_eq k).trans (triple_eq (by dsimp only; omega) (by dsimp only; omega))) k0_off3 k0_off3_inb (fun _ => rfl) (0 * NN) (by omega)) $$ [HT HB HP0]
  · isplitl [HT]; · iexact HT
    isplitl [HB]; · iexact HB
    iexact HP0
  iintro ⟨HT, HB⟩
  iapply (start_step c row X G fd arg1 f hf hG hrow _ (k0_off4_inb k) ⟨2 * k.val + 1, by omega⟩
    ((off4_eq k).trans (pair_eq (by dsimp only; omega) (by dsimp only; omega))) k0_chk2 k0_chk2.dec row_inb _ (k0_off5_inb k)
    ((off5_eq k).trans (triple_eq (by dsimp only; omega) (by dsimp only; omega))) k0_off6 k0_off6_inb (fun _ => rfl) (0 * NN) (by omega)) $$ [HT HB HP1]
  · isplitl [HT]; · iexact HT
    isplitl [HB]; · iexact HB
    iexact HP1
  iintro ⟨HT, HB⟩
  sl_step
  isplitl [HT]; · iexact HT
  isplitl [HO]; · iexact HO
  isplitl [HB]; · iexact HB
  iexact HR

omit hG in
theorem trip2 (k : Fin k0_t2_loop.trips) (acc : Unit) :
    inv2 c row X G arg1 f k.val acc ⊢ wp frame (wpE (defs₀ (F := F)) Variants.none (c : Thread nD τ) none) Set.univ
      (k0_t2_body (F := F) i arg1 harg1 arg2 harg2 arg3 harg3 ym (Memref.isWhole_whole _) arg5 harg5 arg6 harg6 arg7 harg7 gm (Memref.isWhole_whole _) cc0_scratch1 k acc)
      (inv2 c row X G arg1 f (k.val + 1)) := by
  have hk := k2_lt k
  unfold inv2 k0_t2_body
  iintro ⟨HT, HO, HB⟩
  iapply (wait_step c row X G arg1 f hf hrow _ (k0_off7_inb k) ⟨2 * k.val, by omega⟩
    ((off7_eq k).trans (pair_eq (by dsimp only; omega) (by dsimp only; omega))) k0_chk3 k0_chk3.dec row_inb _ (k0_off8_inb k) k0_off9 k0_off9_inb
    512 (2 * k.val) (by omega)) $$ [HT HO HB]
  · isplitl [HT]; · iexact HT
    isplitl [HO]; · iexact HO
    iexact HB
  iintro ⟨HT, HO, HB⟩
  iapply (wait_step c row X G arg1 f hf hrow _ (k0_off10_inb k) ⟨2 * k.val + 1, by omega⟩
    ((off10_eq k).trans (pair_eq (by dsimp only; omega) (by dsimp only; omega))) k0_chk4 k0_chk4.dec row_inb _ (k0_off11_inb k) k0_off12 k0_off12_inb
    512 (2 * k.val + 1) (by omega)) $$ [HT HO HB]
  · isplitl [HT]; · iexact HT
    isplitl [HO]; · iexact HO
    iexact HB
  iintro ⟨HT, HO, HB⟩
  sl_step
  isplitl [HT]; · iexact HT
  isplitl [HO]; · iexact HO
  iexact HB

omit hf hG hrow in
/-- A load at the head, its buffer whole. -/
theorem load_bind {cs : CoreSpace} {s : Shape} {e : EltTy} {c : Dev nD} (m : Memref sig .tc cs s e) {r : LoadRect s} {hl : m.view.LoadsAt r} (S : Finset (Idx (m.view.loc (c : Thread nD τ))))
    (hS : m.view.set ⊆ S) (f : Buf (Elt F) (m.view.loc (c : Thread nD τ))) (k : (r.shape.Idx → Elt F e) → Prog (TpuEff nD τ sig (Elt F) Λ₀ .tc) PUnit) (Q : PUnit → sProp 𝕄) :
    (m.view.loc (c : Thread nD τ) ↦[S]{fullShare} f)
      ⊢ iprop(((m.view.loc (c : Thread nD τ) ↦[S]{fullShare} f) -∗ wp frame (wpE (defs₀ (F := F)) Variants.none (c : Thread nD τ) none) Set.univ (k (m.view.readAt (Elt F) r f)) Q)
        -∗ wp frame (wpE (defs₀ (F := F)) Variants.none (c : Thread nD τ) none) Set.univ (Prog.lift (.load m r hl) >>= k) Q) :=
  wp_load Variants.none (c : Thread nD τ) none Set.univ ((View.setOn_subset_set _ _).trans hS)

omit hf hG hrow in
/-- A store at the head. -/
theorem store_bind {cs : CoreSpace} {s : Shape} {e : EltTy} {c : Dev nD} (m : Memref sig .tc cs s e) {r : Rect s} {w : r.shape.Idx → Elt F e}
    {hx : (m.access r).Stores Finset.univ} {hm : Finset.univ = Finset.univ ∨ ∀ a, r.stride a = 1} (f : Buf (Elt F) (m.view.loc (c : Thread nD τ)))
    (k : PUnit → Prog (TpuEff nD τ sig (Elt F) Λ₀ .tc) PUnit) (Q : PUnit → sProp 𝕄) :
    (m.view.loc (c : Thread nD τ) ↦[m.view.set]{fullShare} f)
      ⊢ iprop(((m.view.loc (c : Thread nD τ) ↦[m.view.set]{fullShare} ((m.access r).write (Elt F) f w Finset.univ)) -∗ wp frame (wpE (defs₀ (F := F)) Variants.none (c : Thread nD τ) none) Set.univ (k ⟨⟩) Q)
        -∗ wp frame (wpE (defs₀ (F := F)) Variants.none (c : Thread nD τ) none) Set.univ (Prog.lift (.store m r w Finset.univ hx hm) >>= k) Q) :=
  wp_store Variants.none (c : Thread nD τ) none Set.univ (m := m) (r := r) (w := w) (f := f) (S := m.view.set) (View.set_slice_subset _ _)

omit hf hG hrow in
/-- A store of the view's own sizes leaves the payload. -/
theorem owns_stored {cs : CoreSpace} {s : Shape} {e : EltTy} {c : Dev nD} (m : Memref sig .tc cs s e) (f : Buf (Elt F) (m.view.loc (c : Thread nD τ)))
    {off : Fin s.rank → ℕ} (inb : ∀ a, off a + s.size a ≤ s.size a) (w : s.Idx → Elt F e) :
    (m.view.loc (c : Thread nD τ) ↦[m.view.set]{fullShare} ((m.access (Rect.unit off s.size inb)).write (Elt F) f w Finset.univ))
      ⊢ (owns (c : Thread nD τ) m fullShare w : sProp 𝕄) := by
  unfold owns
  iintro H
  iexists ((m.access (Rect.unit off s.size inb)).write (Elt F) f w Finset.univ)
  isplitr
  · ipureintro
    exact View.read_writes_full m.view f inb w []
  iexact H

/-- The two halves of the scratch. -/
abbrev half0 : Rect S2x256x1024 := Rect.unit (s := S2x256x1024) ![0, 0, 0] S1x256x1024.size inb_S2x256x1024_S1x256x1024_0_0_0
abbrev half1 : Rect S2x256x1024 := Rect.unit (s := S2x256x1024) ![1, 0, 0] S1x256x1024.size inb_S2x256x1024_S1x256x1024_1_0_0

/-- The block the vector code stores. -/
def outBlk {F : FTy → Type} [FloatOps F] (x1 : Vec F S256x1024 .f32) (w : Vec F S8x256 .f32) (y0 y1 : Vec F S1x256x1024 .f32) (g b : Vec F S1x1024 .f32) : Vec F S256x1024 .f32 :=
  k0_pay1 (k0_pay2 g) (k0_pay3 b) (k0_pay4 w y0 y1 x1)

omit hf hG hrow in
theorem gSet_disjoint : ∀ j ∈ (Finset.univ : Finset (Fin 512)), ∀ k ∈ (Finset.univ : Finset (Fin 512)), j ≠ k → Disjoint (gSet j.val) (gSet k.val) := by
  intro j _ k _ hjk
  rw [Finset.disjoint_left]
  intro p hp hq
  have h1 := (Finset.mem_filter.mp hp).2
  have h2 := (Finset.mem_filter.mp hq).2
  exact hjk (Fin.ext (by omega))

omit hf hG hrow in
theorem gSet_cover : (Finset.univ : Finset (Fin 512)).biUnion (fun j => gSet j.val) = Finset.univ := by
  refine Finset.eq_univ_of_forall fun (p : S2x256x1024.Idx) => ?_
  have h0 : (p 0).val < 2 := (p 0).isLt
  have h1 : (p 1).val < 256 := (p 1).isLt
  rw [Finset.mem_biUnion]
  refine ⟨⟨2 * (p 1).val + (p 0).val, by omega⟩, Finset.mem_univ _, Finset.mem_filter.mpr ⟨Finset.mem_univ _, ?_, ?_⟩⟩
  · dsimp only
    omega
  · dsimp only
    omega

/-- The shares of the source rows the gathers read. -/
def shares : sProp 𝕄 := bigSep Finset.univ fun j : Fin 512 =>
  (((c : Thread nD τ).loc main_arg3) ↦[ySet (row j)]{Transfers.shareTokN fullShare j.val} X : sProp 𝕄)

omit hf hG hrow in
theorem taken_eq : bigSep Finset.univ (taken c row X fd) = (iprop((((c : Thread nD τ).loc cc0_scratch0) ↦{fullShare} fd) ∗ shares c row X) : sProp 𝕄) := by
  unfold taken shares
  refine (BI.bigSep_sep _ _ _).trans ?_
  rw [← pointsTo_biUnion _ _ gSet_disjoint, gSet_cover]
  rfl

omit hf hG hrow in
theorem landed_eq : bigSep Finset.univ (landed c row X G) = (iprop((((c : Thread nD τ).loc cc0_scratch0) ↦{fullShare} G) ∗ shares c row X) : sProp 𝕄) := taken_eq c row X G

variable (f2 : Buf (Elt F) (arg2.view.loc (c : Thread nD τ))) (f3 : Buf (Elt F) (arg3.view.loc (c : Thread nD τ)))
variable (f5 : Buf (Elt F) (arg5.view.loc (c : Thread nD τ))) (f6 : Buf (Elt F) (arg6.view.loc (c : Thread nD τ)))
variable (f7 : Buf (Elt F) (arg7.view.loc (c : Thread nD τ)))

/-- The body, from nothing started to the block stored. -/
theorem loops_run (W : Waits sig Unit) :
    iprop(table c arg1 f ∗ owes (c : Thread nD τ) 0 W ∗ semVal ((c : Thread nD τ), SemLoc.dma dsem) 0
        ∗ bigSep Finset.univ (taken c row X fd)
        ∗ (arg2.view.loc (c : Thread nD τ) ↦[arg2.view.set]{fullShare} f2) ∗ (arg3.view.loc (c : Thread nD τ) ↦[arg3.view.set]{fullShare} f3)
        ∗ (arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} f7))
      ⊢ wp frame (wpE (defs₀ (F := F)) Variants.none (c : Thread nD τ) none) Set.univ
        (cc0_combine (F := F) i arg1 harg1 arg2 harg2 arg3 harg3 ym (Memref.isWhole_whole _) arg5 harg5 arg6 harg6 arg7 harg7 gm (Memref.isWhole_whole _) cc0_scratch1)
        (fun _ => iprop(table c arg1 f ∗ (∃ W, owes (c : Thread nD τ) 0 W) ∗ semVal ((c : Thread nD τ), SemLoc.dma dsem) 0
          ∗ (((c : Thread nD τ).loc cc0_scratch0) ↦{fullShare} G) ∗ shares c row X
          ∗ (arg2.view.loc (c : Thread nD τ) ↦[arg2.view.set]{fullShare} f2) ∗ (arg3.view.loc (c : Thread nD τ) ↦[arg3.view.set]{fullShare} f3)
          ∗ (arg5.view.loc (c : Thread nD τ) ↦[arg5.view.set]{fullShare} f5) ∗ (arg6.view.loc (c : Thread nD τ) ↦[arg6.view.set]{fullShare} f6)
          ∗ owns (c : Thread nD τ) arg7 fullShare (outBlk (arg2.view.read (Elt F) f2) (arg3.view.read (Elt F) f3)
            (gm.view.readAt (Elt F) half0.toLoadRect G) (gm.view.readAt (Elt F) half1.toLoadRect G)
            (arg5.view.read (Elt F) f5) (arg6.view.read (Elt F) f6)))) := by
  rw [← View.readAt_full arg2.view f2 inb_S256x1024_S256x1024_0_0, ← View.readAt_full arg3.view f3 inb_S8x256_S8x256_0_0,
    ← View.readAt_full arg5.view f5 inb_S1x1024_S1x1024_0_0, ← View.readAt_full arg6.view f6 inb_S1x1024_S1x1024_0_0]
  unfold outBlk
  rw [cc0_combine_eq_skeleton]
  unfold cc0_combine_skel
  rw [k0_part1_eq_skeleton]
  unfold k0_part1_skel
  iintro ⟨HT, HO, HS, HP, H2, H3, H5, H6, H7⟩
  imod (Transfers.batch_alloc' (Lvl := ℕ) EC (c : Thread nD τ) () NN (landed c row X G) (sm := .dma dsem) (E := Set.univ)) $$ HS with HB
  simp only [Prog.bind_assoc, pure_bind]
  iapply (Scf.wp_for_bind frame (wpE (defs₀ (F := F)) Variants.none (c : Thread nD τ) none) Set.univ k0_t1_loop.lb k0_t1_loop.ub k0_t1_loop.st k0_t1_ok ()
    (k0_t1_body (F := F) i arg1 harg1 arg2 harg2 arg3 harg3 ym (Memref.isWhole_whole _) arg5 harg5 arg6 harg6 arg7 harg7 gm (Memref.isWhole_whole _) cc0_scratch1)
    (inv1 c row X G fd arg1 f) (trip1 c i row X G fd arg1 harg1 f arg2 harg2 arg3 harg3 arg5 harg5 arg6 harg6 arg7 harg7 hf hG hrow)) $$ [HT HO HB HP]
  · unfold inv1
    rw [Nat.mul_zero, Nat.zero_mul, toTake, Ring.rangeSet_univ]
    isplitl [HT]; · iexact HT
    isplitl [HO]; · iexists _; iexact HO
    isplitl [HB]; · iexact HB
    iexact HP
  iintro %acc H
  iapply (Scf.wp_for_bind frame (wpE (defs₀ (F := F)) Variants.none (c : Thread nD τ) none) Set.univ k0_t2_loop.lb k0_t2_loop.ub k0_t2_loop.st k0_t2_ok ()
    (k0_t2_body (F := F) i arg1 harg1 arg2 harg2 arg3 harg3 ym (Memref.isWhole_whole _) arg5 harg5 arg6 harg6 arg7 harg7 gm (Memref.isWhole_whole _) cc0_scratch1)
    (inv2 c row X G arg1 f) (trip2 c i row X G arg1 harg1 f arg2 harg2 arg3 harg3 arg5 harg5 arg6 harg6 arg7 harg7 hf hrow)) $$ [H]
  · rw [show Scf.trips k0_t1_loop.lb k0_t1_loop.ub k0_t1_loop.st = 256 from trips1]
    unfold inv1 inv2
    icases H with ⟨HT, HO, HB, -⟩
    isplitl [HT]; · iexact HT
    isplitl [HO]; · iexact HO
    iexact HB
  iintro %acc H
  rw [show Scf.trips k0_t2_loop.lb k0_t2_loop.ub k0_t2_loop.st = 256 from trips2]
  unfold inv2
  icases H with ⟨HT, HO, HB⟩
  rw [show 2 * 256 * NN = NN * 512 from Nat.mul_comm _ _]
  imod (Transfers.batch_collect' EC (c : Thread nD τ) NN_pos) $$ HB with ⟨HD, HS⟩
  ihave H := (Entails.of_eq (landed_eq c row X G)) $$ HD
  icases H with ⟨HG, HX⟩
  iapply (load_bind arg3 arg3.view.set subset_rfl f3 _ _) $$ H3
  iintro H3
  iapply (load_bind gm Finset.univ (Finset.subset_univ _) G _ _) $$ HG
  iintro HG
  iapply (load_bind gm Finset.univ (Finset.subset_univ _) G _ _) $$ HG
  iintro HG
  iapply (load_bind arg2 arg2.view.set subset_rfl f2 _ _) $$ H2
  iintro H2
  iapply (load_bind arg5 arg5.view.set subset_rfl f5 _ _) $$ H5
  iintro H5
  iapply (load_bind arg6 arg6.view.set subset_rfl f6 _ _) $$ H6
  iintro H6
  iapply (load_bind arg7 arg7.view.set subset_rfl f7 _ _) $$ H7
  iintro H7
  iapply (store_bind arg7 f7 _ _) $$ H7
  iintro H7
  sl_step
  isplitl [HT]; · iexact HT
  isplitl [HO]; · iexact HO
  isplitl [HS]; · iexact HS
  isplitl [HG]; · iexact HG
  isplitl [HX]; · iexact HX
  isplitl [H2]; · iexact H2
  isplitl [H3]; · iexact H3
  isplitl [H5]; · iexact H5
  isplitl [H6]; · iexact H6
  iapply (owns_stored arg7 f7 inb_S256x1024_S256x1024_0_0 _)
  iexact H7

end Loops

end Cert.Kernel2Ideal.Hand

end
-- ==== Proof.CombineRun.lean ====
/-
  Hand-written. The combine launch run over any values, given rows in range: the result array is the points' blocks.
-/
module

public import proofs.«01_k».proof.Proof.Combine

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf UC)

variable {F : FTy → Type} [FloatOps F]

local notation "𝕄" => MT nD τ sig Unit (Elt F) ℕ (UC sig nD τ) ℕ

section Split

variable (c : Dev nD) (row : Fin 512 → ℕ) (X : YBuf (F := F) c)

/-- What is left of the experts' rows while the gathers have their shares. -/
def kept : sProp 𝕄 :=
  iprop((((c : Thread nD τ).loc main_arg3) ↦{Transfers.shareDrop fullShare 512} X)
    ∗ bigSep Finset.univ fun j : Fin 512 =>
      (((c : Thread nD τ).loc main_arg3) ↦[Finset.univ \ ySet (row j)]{Transfers.shareTokN fullShare j.val} X : sProp 𝕄))

theorem tokens_eq : (((c : Thread nD τ).loc main_arg3) ↦{fullShare} X : sProp 𝕄) ⊣⊢ iprop(shares c row X ∗ kept c row X) := by
  have e : (bigSep (Finset.range 512) fun n => (((c : Thread nD τ).loc main_arg3) ↦{Transfers.shareTokN fullShare n} X : sProp 𝕄))
      = iprop(shares c row X ∗ bigSep Finset.univ fun j : Fin 512 =>
        (((c : Thread nD τ).loc main_arg3) ↦[Finset.univ \ ySet (row j)]{Transfers.shareTokN fullShare j.val} X : sProp 𝕄)) := by
    unfold shares
    refine Eq.trans ?_ (BI.bigSep_sep _ _ _)
    rw [← Ring.bigSep_fin_eq_range 512 (fun j => (((c : Thread nD τ).loc main_arg3) ↦{Transfers.shareTokN fullShare j.val} X : sProp 𝕄)) _ (fun t h => rfl)]
    refine BI.bigSep_congr fun j _ => ?_
    have h : (((c : Thread nD τ).loc main_arg3) ↦{Transfers.shareTokN fullShare j.val} X : sProp 𝕄) ⊣⊢ _ :=
      pointsTo_split_subset (Finset.subset_univ (ySet (row j)))
    exact Entails.antisymm h.1 h.2
  have h : (((c : Thread nD τ).loc main_arg3) ↦{fullShare} X : sProp 𝕄) ⊣⊢ _ := Transfers.pointsTo_toks_range fullShare 512
  rw [e] at h
  unfold kept
  constructor
  · refine h.1.trans ?_
    iintro ⟨H1, H2, H3⟩
    isplitl [H2]; · iexact H2
    isplitl [H1]; · iexact H1
    iexact H3
  · refine BIBase.Entails.trans ?_ h.2
    iintro ⟨H2, H1, H3⟩
    isplitl [H1]; · iexact H1
    isplitl [H2]; · iexact H2
    iexact H3

/-- The body at a point: the staged blocks, the scratch and the experts' rows whole. -/
theorem body_run (i : grid0.Coords) (G fd : GBuf (F := F) c)
    (arg1 : Memref sig .tc .smem S2x256 .i32) (harg1 : arg1.IsWhole) (arg2 : Memref sig .tc .vmem S256x1024 .f32) (harg2 : arg2.IsWhole)
    (arg3 : Memref sig .tc .vmem S8x256 .f32) (harg3 : arg3.IsWhole) (arg5 : Memref sig .tc .vmem S1x1024 .f32) (harg5 : arg5.IsWhole)
    (arg6 : Memref sig .tc .vmem S1x1024 .f32) (harg6 : arg6.IsWhole) (arg7 : Memref sig .tc .vmem S256x1024 .f32) (harg7 : arg7.IsWhole)
    (tb : Vec F S2x256 .i32) (x1 : Vec F S256x1024 .f32) (w : Vec F S8x256 .f32) (g b : Vec F S1x1024 .f32) (o : Vec F S256x1024 .f32)
    (htb : ∀ (j : Fin 512) (y : S2x256.Idx), (y 0).val = j.val % 2 → (y 1).val = j.val / 2 → BitVec.toNat (w := 32) (tb y) = row j)
    (hG : Gets c row X G) (hrow : ∀ j, row j < 73728) (W : Waits sig Unit) :
    (iprop((((c : Thread nD τ).loc main_arg3) ↦{fullShare} X) ∗ (((c : Thread nD τ).loc cc0_scratch0) ↦{fullShare} fd)
        ∗ semVal ((c : Thread nD τ), SemLoc.dma dsem) 0 ∗ owes (c : Thread nD τ) 0 W
        ∗ owns (c : Thread nD τ) arg1 fullShare tb ∗ owns (c : Thread nD τ) arg2 fullShare x1 ∗ owns (c : Thread nD τ) arg3 fullShare w
        ∗ owns (c : Thread nD τ) arg5 fullShare g ∗ owns (c : Thread nD τ) arg6 fullShare b ∗ owns (c : Thread nD τ) arg7 fullShare o) : sProp 𝕄)
      ⊢ wp frame (wpE (defs₀ (F := F)) Variants.none (c : Thread nD τ) none) Set.univ
        (cc0_combine (F := F) i arg1 harg1 arg2 harg2 arg3 harg3 ym (Memref.isWhole_whole _) arg5 harg5 arg6 harg6 arg7 harg7 gm (Memref.isWhole_whole _) cc0_scratch1)
        (fun _ => iprop((((c : Thread nD τ).loc main_arg3) ↦{fullShare} X) ∗ (((c : Thread nD τ).loc cc0_scratch0) ↦{fullShare} G)
          ∗ semVal ((c : Thread nD τ), SemLoc.dma dsem) 0 ∗ (∃ W, owes (c : Thread nD τ) 0 W)
          ∗ owns (c : Thread nD τ) arg1 fullShare tb ∗ owns (c : Thread nD τ) arg2 fullShare x1 ∗ owns (c : Thread nD τ) arg3 fullShare w
          ∗ owns (c : Thread nD τ) arg5 fullShare g ∗ owns (c : Thread nD τ) arg6 fullShare b
          ∗ owns (c : Thread nD τ) arg7 fullShare (outBlk x1 w (gm.view.readAt (Elt F) half0.toLoadRect G) (gm.view.readAt (Elt F) half1.toLoadRect G) g b))) := by
  unfold owns
  iintro ⟨HX, HG, HS, HO, ⟨%f1, %e1, H1⟩, ⟨%f2, %e2, H2⟩, ⟨%f3, %e3, H3⟩, ⟨%f5, %e5, H5⟩, ⟨%f6, %e6, H6⟩, ⟨%f7, %e7, H7⟩⟩
  subst e1 e2 e3 e5 e6
  ihave H := (tokens_eq c row X).1 $$ HX
  icases H with ⟨HX, HK⟩
  iapply ((loops_run c i row X G fd arg1 harg1 f1 arg2 harg2 arg3 harg3 arg5 harg5 arg6 harg6 arg7 harg7 htb hG hrow f2 f3 f5 f6 f7 W).trans (wp_wand _ _ _)) $$ [H1 HO HS HX HG H2 H3 H5 H6 H7]
  · rw [taken_eq]
    isplitl [H1]; · iexact H1
    isplitl [HO]; · iexact HO
    isplitl [HS]; · iexact HS
    isplitl [HG HX]
    · isplitl [HG]; · iexact HG
      iexact HX
    isplitl [H2]; · iexact H2
    isplitl [H3]; · iexact H3
    isplitl [H5]; · iexact H5
    isplitl [H6]; · iexact H6
    iexact H7
  iintro %_ ⟨H1, HO, HS, HG, HX, H2, H3, H5, H6, H7⟩
  isplitl [HX HK]
  · iapply (tokens_eq c row X).2
    isplitl [HX]; · iexact HX
    iexact HK
  isplitl [HG]; · iexact HG
  isplitl [HS]; · iexact HS
  isplitl [HO]; · iexact HO
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  unfold owns
  iexact H7

end Split

section Launch

variable (m : (ℓ : Loc nD τ sig) → Buf (Elt F) ℓ) (ρ : Dev nD → PrngReg)

/-- The row the table gives token `y 1`'s choice `y 0`. -/
def dst (c : Dev nD) (y : S2x32768.Idx) : ℕ := BitVec.toNat (w := 32) (m ((c : Thread nD τ).loc main_arg0) y)

/-- The table's entry for point `t`'s row `b` of half `a`. -/
def cell (t : Fin cfg0.N) (a b : ℕ) (ha : a < 2) (hb : b < 256) : S2x32768.Idx := fun x => match x with
  | ⟨0, _⟩ => ⟨a, ha⟩
  | ⟨1, _⟩ => ⟨256 * t.val + b, by have : t.val < 128 := N_0 ▸ t.isLt; show _ < 32768; omega⟩

/-- Gather `j`'s row. -/
def rowOf (c : Dev nD) (t : Fin cfg0.N) (j : Fin 512) : ℕ := dst m c (cell t (j.val % 2) (j.val / 2) (Nat.mod_lt _ (by decide)) (by omega))

/-- The row the table names, of the experts' results. -/
def srcRow (r k : ℕ) (hk : k < 1024) : S73728x1024.Idx := fun x => match x with
  | ⟨0, _⟩ => ⟨r % 73728, Nat.mod_lt _ (by decide)⟩
  | ⟨1, _⟩ => ⟨k, hk⟩

/-- The scratch after point `t`'s gathers. -/
def gat (c : Dev nD) (t : Fin cfg0.N) : GBuf (F := F) c := fun (p : S2x256x1024.Idx) =>
  m ((c : Thread nD τ).loc main_arg3) (srcRow (dst m c (cell t (p 0).val (p 1).val (p 0).isLt (p 1).isLt)) (p 2).val (p 2).isLt)

/-- The rows the table names are rows. -/
def Good : Prop := ∀ c y, dst m c y < 73728

theorem gat_gets (h : Good m) (c : Dev nD) (t : Fin cfg0.N) : Gets c (rowOf m c t) (m ((c : Thread nD τ).loc main_arg3)) (gat m c t) := by
  intro j p y h0 h1 hy0 hy1
  unfold gat
  congr 1
  funext a
  apply Fin.ext
  fin_cases a
  · have e : dst m c (cell t (p 0).val (p 1).val (p 0).isLt (p 1).isLt) = rowOf m c t j := by
      unfold rowOf
      congr 1
      funext b
      apply Fin.ext
      fin_cases b
      · exact h0
      · show 256 * t.val + (p 1).val = 256 * t.val + j.val / 2
        rw [h1]
    show dst m c (cell t (p 0).val (p 1).val (p 0).isLt (p 1).isLt) % 73728 = (y 0).val
    rw [e, hy0]
    exact Nat.mod_eq_of_lt (h c _)
  · exact hy1.symm

theorem coords_pt (t : Fin cfg0.N) : (grid0.coords t 0).val = t.val := by
  have h := Pipeline.Grid.coords_val (G := grid0) t 0 (S := 1) (B := 128) (by decide) rfl
  have ht : t.val < 128 := N_0 ▸ t.isLt
  rw [h]
  omega

theorem pt_lt (t : Fin cfg0.N) : t.val < 128 := N_0 ▸ t.isLt

theorem pt_word (t : Fin cfg0.N) : (BitVec.ofNat 32 (grid0.coords t 0).val).toNat = t.val := by
  have ht := pt_lt t
  rw [coords_pt, BitVec.toNat_ofNat, Nat.mod_eq_of_lt (by omega)]

/-- The staged block's words. -/
theorem iblk_word (c : Dev nD) (t : Fin cfg0.N) (j : Fin 512) (y : S2x256.Idx) (h0 : (y 0).val = j.val % 2) (h1 : (y 1).val = j.val / 2) :
    BitVec.toNat (w := 32) (iblk m c 0 t y) = rowOf m c t j := by
  unfold iblk rowOf dst
  rw [View.read_apply]
  show BitVec.toNat (w := 32) (V m c main_arg0 ((win0_0.rect t).emb y)) = _
  rw [V_main_arg0]
  congr 2
  funext a
  apply Fin.ext
  rw [Pipeline.Window.rect_emb_val win0_0 t y a rfl]
  fin_cases a
  · show 0 * 2 + (y 0).val = j.val % 2
    omega
  · show (BitVec.ofNat 32 (grid0.coords t 0).val).toNat * 256 + (y 1).val = 256 * t.val + j.val / 2
    rw [pt_word, h1]
    omega

/-! ## The pipeline's proof data -/

abbrev osem0 : Fin 1 → SemLoc sig := fun j => (![SemLoc.dma 10] : Fin 1 → SemLoc sig) j
theorem ownSemFacts0 : Pipeline.OwnSemFacts spec0 osem0 := by decide

/-- The block point `t` stores. -/
def blk (c : Dev nD) (t : Fin cfg0.N) : Vec F S256x1024 .f32 :=
  outBlk (iblk m c 1 t) (iblk m c 2 t) (gm.view.readAt (Elt F) half0.toLoadRect (gat m c t)) (gm.view.readAt (Elt F) half1.toLoadRect (gat m c t))
    (iblk m c 3 t) (iblk m c 4 t)

/-- What the body holds between points. -/
def held (c : Dev nD) : sProp 𝕄 :=
  iprop((((c : Thread nD τ).loc main_arg3) ↦{fullShare} (m ((c : Thread nD τ).loc main_arg3)))
    ∗ (∃ f, ((c : Thread nD τ).loc cc0_scratch0) ↦{fullShare} f)
    ∗ semVal ((c : Thread nD τ), SemLoc.dma dsem) 0 ∗ ∃ r, prngReg c r)

def dats (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blk m c t
  Φ _ := held m c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = blk m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (h : Good m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = held m c from rfl, show (dats m 0 c).Φ t.succ = held m c from rfl, after0_0, after0_1, after0_2, after0_3, after0_4, after0_5]
  unfold Dat.owesAt Pipeline.owesWithin held blk
  rw [show (dats m 0 c).owed t.castSucc = 0 from rfl, show (dats m 0 c).owed t.succ = 0 from rfl]
  iintro ⟨⟨HX, ⟨%fd, HG⟩, HS, Hg⟩, ⟨%W, -, HW⟩, ⟨%d0, H0⟩, ⟨%d1, H1⟩, ⟨%d2, H2⟩, ⟨%d3, H3⟩, ⟨%d4, H4⟩, ⟨%d5, H5⟩⟩
  rw [before0_0, before0_1, before0_2, before0_3, before0_4]
  iapply ((body_run c (rowOf m c t) (m ((c : Thread nD τ).loc main_arg3)) (grid0.coords t) (gat m c t) fd
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (iblk m c 0 t) (iblk m c 1 t) (iblk m c 2 t) (iblk m c 3 t) (iblk m c 4 t) ((dats m 0 c).before 5 t d5)
    (fun j y h0 h1 => iblk_word m c t j y h0 h1) (gat_gets m h c t) (fun j => h c _) W).trans (wp_wand _ _ _)) $$ [HX HG HS HW H0 H1 H2 H3 H4 H5]
  · isplitl [HX]; · iexact HX
    isplitl [HG]; · iexact HG
    isplitl [HS]; · iexact HS
    isplitl [HW]; · iexact HW
    isplitl [H0]; · iexact H0
    isplitl [H1]; · iexact H1
    isplitl [H2]; · iexact H2
    isplitl [H3]; · iexact H3
    isplitl [H4]; · iexact H4
    iexact H5
  iintro %_ ⟨HX, HG, HS, ⟨%W', HW'⟩, H0, H1, H2, H3, H4, H5⟩
  isplitl [HX HG HS Hg]
  · isplitl [HX]; · iexact HX
    isplitl [HG]; · iexists _; iexact HG
    isplitl [HS]; · iexact HS
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem defs₀_row (t : Fin cfg0.N) : defs₀ (F := F) .tc cfg0.body (cfg0.bodyArgs t (cfg0.slots t)) = bodyAt0 t := by
  unfold defs₀; rw [Defs.onTc_tc]

theorem body_obligation (h : Good m) (c : Dev nD) : BodyObligation (dats (F := F) m 0 c) (defs₀ (F := F)) Variants.none () Set.univ := fun t => by
  rw [bigSep_W0, bigSep_W0, defs₀_row]
  exact triple_restated (sound_body m h c t) rfl .rfl fun _ => .rfl

/-! ## The run -/

/-- The buffers the body holds, as it leaves them. -/
abbrev R0 : Finset (Ref sig .tc) := {main_arg3}

theorem ends_eq (c : Dev nD) :
    (Pipeline.Ends spec0 osem0 R0 c (V m c) : sProp 𝕄) = iprop((((c : Thread nD τ).loc main_arg3) ↦{fullShare} V m c main_arg3)
      ∗ semVal ((c : Thread nD τ), SemLoc.dma dsem) 0 ∗ (∃ f, ((c : Thread nD τ).loc cc0_scratch0) ↦{fullShare} f) ∗ ∃ r, prngReg c r) := by
  unfold Pipeline.Ends Pipeline.routed
  rw [Pipeline.ownSems0_eq_of_list c osem0 [0] (by decide) (by decide), scopedRest0_eq, bigSep_singleton]
  rfl

set_option backward.isDefEq.respectTransparency.types false in
theorem run_main (h : Good m) : θ_run defs (onTc (τ := τ) (main (F := F))) (s₀ m ρ)
    (fun r => Pipeline.RoutedPost cfgs (dats m) 0 R0 (V m) (V m) r ∧ r.2.sem = fun _ => 0) :=
  Pipeline.θ_run_frame_routed (Q' := _) cfgs (dats m) (0 : Fin 1) launch0 ownSemFacts0 defs₀ Variants.none m ρ main
    (hbody := fun c => (body_obligation m h c).loose) (hshare := fun c => (dats m 0 c).share_full fun _ => rfl)
    (howed := fun _ _ => rfl) (V := V m)
    (hmain := Pipeline.hmain_prefix cfgs 0 defs₀ Variants.none m main hostOps0 hostOps0_sub hostOps0_fresh main_chain)
    (hA := A_eq m) (R := R0) (hR := by decide) (Y := V m)
    (hin := fun c => by
      refine (Entails.of_eq (ends_eq m c)).trans ?_
      show _ ⊢ held m c
      unfold held
      rw [V_main_arg3]
      iintro ⟨HX, HS, HG, Hg⟩
      isplitl [HX]; · iexact HX
      isplitl [HG]; · iexact HG
      isplitl [HS]; · iexact HS
      iexact Hg)
    (hout := fun c => by
      refine BIBase.Entails.trans ?_ (Entails.of_eq (ends_eq m c).symm)
      show held m c ⊢ _
      unfold held
      rw [V_main_arg3]
      iintro ⟨HX, HG, HS, Hg⟩
      isplitl [HX]; · iexact HX
      isplitl [HS]; · iexact HS
      isplitl [HG]; · iexact HG
      iexact Hg)

/-- The program: it ends with the result the points' blocks, the arguments unchanged, the semaphores at zero. -/
theorem run (h : Good m) : θ_run defs (onTc (τ := τ) (main (F := F))) ⟨m, fun _ => 0, ρ⟩ (fun r => (∀ c : Dev nD,
      r.2.mem ((c.tc : Thread nD τ).loc main_v2) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c =>
    ⟨(hr.1 c).1 5,
      ((hr.1 c).1 0).trans (((dats m 0 c).arrAt_in 0 rfl _).trans ((A_eq m c 0).trans (V_main_arg0 m c))),
      ((hr.1 c).1 1).trans (((dats m 0 c).arrAt_in 1 rfl _).trans ((A_eq m c 1).trans (V_main_arg1 m c))),
      ((hr.1 c).1 2).trans (((dats m 0 c).arrAt_in 2 rfl _).trans ((A_eq m c 2).trans (V_main_arg2 m c))),
      ((hr.1 c).2.1 main_arg3 (by decide)).trans (V_main_arg3 m c),
      ((hr.1 c).2.2 main_arg4 (by decide)).trans (V_main_arg4 m c),
      ((hr.1 c).2.2 main_arg5 (by decide)).trans (V_main_arg5 m c)⟩, hr.2⟩) (run_main m ρ h)

end Launch

end Cert.Kernel2Ideal.Hand

end
-- ==== Proof.CombineValue.lean ====
/-
  Hand-written. What the precondition says of the gathered rows, and the block that a point of the combine stores and the
  reference's value read at an element of the extended reals: one layer norm of one row.
-/
module

public import proofs.«01_k».proof.Proof.CombineRun
public import proofs.«01_k».proof.Proof.Gen.Reference2Ideal.Run
public import proofs.«01_k».proof.Proof.Gen.Pre_rows_held
public import proofs.«01_k».proof.Proof.DispatchValue
public import Idealize.ShloMosaic.Lib.Pointwise
public import Idealize.ShloMosaic.Lib.Routing.Ops
public import Idealize.ShloMosaic.Lib.Pipeline.Value
public import Idealize.ShloMosaic.Lib.Pipeline.ValueKit

@[expose] public section

set_option maxRecDepth 16384

noncomputable section

namespace Cert.Hand2

open Idealize.ShloMosaic Idealize.ShloMosaic.Routing

/-- A row's mean. -/
def mean (z : Fin 1024 → EReal) : EReal := Ideal.div (∑ k, z k) (Ideal.ofBits .f32 0x44800000#32)

/-- A row's layer norm at a column. -/
def norm (z : Fin 1024 → EReal) (g b : EReal) (k : Fin 1024) : EReal :=
  (z k - mean z) * Ideal.rsqrt (mean (fun k => (z k - mean z) * (z k - mean z)) + Ideal.ofBits .f32 0x3727C5AC#32) * g + b

/-- A row to be normalized: the residual and the two weighted rows. -/
def row (x : Fin 1024 → EReal) (w0 w1 : EReal) (y0 y1 : Fin 1024 → EReal) (k : Fin 1024) : EReal :=
  Ideal.ofBits .f32 0x3F9837F0#32 * x k + (w0 * y0 k + w1 * y1 k)

section Kernel
open Cert.Kernel2Ideal Cert.Kernel2Ideal.Gen Cert.Kernel2Ideal.Hand

theorem pay4_apply (w : FVec Ideal S8x256 .f32) (y0 y1 : FVec Ideal S1x256x1024 .f32) (x : FVec Ideal S256x1024 .f32) (r : Fin 256) (k : Fin 1024) :
    k0_pay4 (F := Ideal) w y0 y1 x (ix2 r k) = row (fun k => x (ix2 r k)) (w (ix2 (0 : Fin 8) r)) (w (ix2 (1 : Fin 8) r)) (fun k => y0 (ix3 (0 : Fin 1) r k)) (fun k => y1 (ix3 (0 : Fin 1) r k)) k
      - mean (row (fun k => x (ix2 r k)) (w (ix2 (0 : Fin 8) r)) (w (ix2 (1 : Fin 8) r)) (fun k => y0 (ix3 (0 : Fin 1) r k)) (fun k => y1 (ix3 (0 : Fin 1) r k))) := by
  pointwise [k0_pay4, row, mean]

theorem pay1_apply (g b : FVec Ideal S1x1024 .f32) (v : FVec Ideal S256x1024 .f32) (r : Fin 256) (k : Fin 1024) :
    k0_pay1 (F := Ideal) g b v (ix2 r k) = v (ix2 r k) * Ideal.rsqrt (mean (fun k => v (ix2 r k) * v (ix2 r k)) + Ideal.ofBits .f32 0x3727C5AC#32) * g (ix2 (0 : Fin 1) k) + b (ix2 (0 : Fin 1) k) := by
  pointwise [k0_pay1, mean]

theorem outBlk_apply (x : FVec Ideal S256x1024 .f32) (w : FVec Ideal S8x256 .f32) (y0 y1 : FVec Ideal S1x256x1024 .f32) (g b : FVec Ideal S1x1024 .f32)
    (r : Fin 256) (k : Fin 1024) :
    outBlk (F := Ideal) x w y0 y1 g b (ix2 r k) = norm (row (fun k => x (ix2 r k)) (w (ix2 (0 : Fin 8) r)) (w (ix2 (1 : Fin 8) r))
      (fun k => y0 (ix3 (0 : Fin 1) r k)) (fun k => y1 (ix3 (0 : Fin 1) r k))) (g (ix2 (0 : Fin 1) k)) (b (ix2 (0 : Fin 1) k)) k := by
  have eg : k0_pay2 (F := Ideal) g (ix2 (0 : Fin 1) k) = g (ix2 (0 : Fin 1) k) := by pointwise [k0_pay2]
  have eb : k0_pay3 (F := Ideal) b (ix2 (0 : Fin 1) k) = b (ix2 (0 : Fin 1) k) := by pointwise [k0_pay3]
  unfold outBlk
  rw [pay1_apply, eg, eb]
  simp only [pay4_apply, norm]

/-- A row of the experts' results. -/
def ysRow (ys : FVec Ideal S73728x1024 .f32) (d : BitVec 32) (k : Fin 1024) : EReal := ys (srcRow d.toNat k.val k.isLt)

/-- The layer's output at a token and a column. -/
def outAt (D : IVec S2x32768 32) (x : FVec Ideal S32768x1024 .f32) (w : FVec Ideal S8x32768 .f32) (ys : FVec Ideal S73728x1024 .f32)
    (g b : FVec Ideal S1024 .f32) (n : Fin 32768) (k : Fin 1024) : EReal :=
  norm (row (fun k => x (ix2 n k)) (w (ix2 (0 : Fin 8) n)) (w (ix2 (1 : Fin 8) n)) (ysRow ys (D (ix2 (0 : Fin 2) n))) (ysRow ys (D (ix2 (1 : Fin 2) n))))
    (g (ix1 k)) (b (ix1 k)) k

/-- The layer's output. -/
def out (D : IVec S2x32768 32) (x : FVec Ideal S32768x1024 .f32) (w : FVec Ideal S8x32768 .f32) (ys : FVec Ideal S73728x1024 .f32)
    (g b : FVec Ideal S1024 .f32) : FVec Ideal S32768x1024 .f32 := fun i => outAt D x w ys g b (i 0) (i 1)

open Idealize.ShloMosaic.TcCoe Idealize.SL.Sem

variable (m : (ℓ : Loc nD τ sig) → Buf (Elt Ideal) ℓ) (c : Dev nD)

/-- A point's row among the tokens. -/
def tok (t : Fin cfg0.N) (r : Fin 256) : Fin 32768 := ⟨256 * t.val + r.val, by have := pt_lt t; omega⟩

theorem blk_x (t : Fin cfg0.N) (r : Fin 256) (k : Fin 1024) :
    iblk m c 1 t (ix2 r k) = m ((c : Thread nD τ).loc main_arg1) (ix2 (tok t r) k) := by
  unfold iblk
  rw [View.read_apply]
  show V m c main_arg1 ((win0_1.rect t).emb (ix2 r k)) = _
  rw [V_main_arg1]
  congr 1
  funext a
  apply Fin.ext
  rw [Pipeline.Window.rect_emb_val win0_1 t (ix2 r k) a rfl]
  fin_cases a
  · show (BitVec.ofNat 32 (grid0.coords t 0).val).toNat * 256 + r.val = 256 * t.val + r.val
    rw [pt_word]
    omega
  · show 0 * 1024 + k.val = k.val
    omega

theorem blk_w (t : Fin cfg0.N) (j : Fin 8) (r : Fin 256) :
    iblk m c 2 t (ix2 j r) = m ((c : Thread nD τ).loc main_arg2) (ix2 j (tok t r)) := by
  unfold iblk
  rw [View.read_apply]
  show V m c main_arg2 ((win0_2.rect t).emb (ix2 j r)) = _
  rw [V_main_arg2]
  congr 1
  funext a
  apply Fin.ext
  rw [Pipeline.Window.rect_emb_val win0_2 t (ix2 j r) a rfl]
  fin_cases a
  · show 0 * 8 + j.val = j.val
    omega
  · show (BitVec.ofNat 32 (grid0.coords t 0).val).toNat * 256 + r.val = 256 * t.val + r.val
    rw [pt_word]
    omega

open Idealize.ShloMosaic.StableHlo in
theorem V_v0 (k : Fin 1024) : V m c main_v0 (ix2 (0 : Fin 1) k) = m ((c : Thread nD τ).loc main_arg4) (ix1 k) := by
  have e : V m c main_v0 = broadcastInDim S1x1024 ![1] Facts₀.bcast_S1024_S1x1024_1 (m ((c : Thread nD τ).loc main_arg4)) := by
    after_results <;> rfl
  rw [e]
  pointwise

open Idealize.ShloMosaic.StableHlo in
theorem V_v1 (k : Fin 1024) : V m c main_v1 (ix2 (0 : Fin 1) k) = m ((c : Thread nD τ).loc main_arg5) (ix1 k) := by
  have e : V m c main_v1 = broadcastInDim S1x1024 ![1] Facts₀.bcast_S1024_S1x1024_1 (m ((c : Thread nD τ).loc main_arg5)) := by
    after_results <;> rfl
  rw [e]
  pointwise

theorem blk_g (t : Fin cfg0.N) (k : Fin 1024) : iblk m c 3 t (ix2 (0 : Fin 1) k) = m ((c : Thread nD τ).loc main_arg4) (ix1 k) := by
  rw [← V_v0 m c k]
  unfold iblk
  rw [View.read_apply]
  show V m c main_v0 ((win0_3.rect t).emb (ix2 (0 : Fin 1) k)) = _
  congr 1
  funext a
  apply Fin.ext
  rw [Pipeline.Window.rect_emb_val win0_3 t (ix2 (0 : Fin 1) k) a rfl]
  fin_cases a
  · rfl
  · show 0 * 1024 + k.val = k.val
    omega

theorem blk_b (t : Fin cfg0.N) (k : Fin 1024) : iblk m c 4 t (ix2 (0 : Fin 1) k) = m ((c : Thread nD τ).loc main_arg5) (ix1 k) := by
  rw [← V_v1 m c k]
  unfold iblk
  rw [View.read_apply]
  show V m c main_v1 ((win0_4.rect t).emb (ix2 (0 : Fin 1) k)) = _
  congr 1
  funext a
  apply Fin.ext
  rw [Pipeline.Window.rect_emb_val win0_4 t (ix2 (0 : Fin 1) k) a rfl]
  fin_cases a
  · rfl
  · show 0 * 1024 + k.val = k.val
    omega

theorem cell_eq (t : Fin cfg0.N) (a : Fin 2) (r : Fin 256) : cell t a.val r.val a.isLt r.isLt = ix2 a (tok t r) :=
  funext fun x => match x with | ⟨0, _⟩ => rfl | ⟨1, _⟩ => rfl

theorem gat_apply (t : Fin cfg0.N) (a : Fin 2) (r : Fin 256) (k : Fin 1024) (p : S2x256x1024.Idx) (h0 : (p 0).val = a.val) (h1 : (p 1).val = r.val) (h2 : (p 2).val = k.val) :
    gat m c t p = ysRow (m ((c : Thread nD τ).loc main_arg3)) (m ((c : Thread nD τ).loc main_arg0) (ix2 a (tok t r))) k := by
  have e : p = ix3 a r k := funext fun x => Fin.ext (match x with | ⟨0, _⟩ => h0 | ⟨1, _⟩ => h1 | ⟨2, _⟩ => h2)
  subst e
  unfold gat ysRow dst
  rw [← cell_eq]
  rfl

theorem half0_apply (t : Fin cfg0.N) (r : Fin 256) (k : Fin 1024) :
    gm.view.readAt (Elt Ideal) half0.toLoadRect (gat m c t) (ix3 (0 : Fin 1) r k)
      = ysRow (m ((c : Thread nD τ).loc main_arg3)) (m ((c : Thread nD τ).loc main_arg0) (ix2 (0 : Fin 2) (tok t r))) k := by
  refine (gat_apply m c t 0 r k (half0.emb (ix3 (0 : Fin 1) r k)) ?_ ?_ ?_)
  · rfl
  · show 0 + 1 * r.val = r.val
    omega
  · show 0 + 1 * k.val = k.val
    omega

theorem half1_apply (t : Fin cfg0.N) (r : Fin 256) (k : Fin 1024) :
    gm.view.readAt (Elt Ideal) half1.toLoadRect (gat m c t) (ix3 (0 : Fin 1) r k)
      = ysRow (m ((c : Thread nD τ).loc main_arg3)) (m ((c : Thread nD τ).loc main_arg0) (ix2 (1 : Fin 2) (tok t r))) k := by
  refine (gat_apply m c t 1 r k (half1.emb (ix3 (0 : Fin 1) r k)) ?_ ?_ ?_)
  · rfl
  · show 0 + 1 * r.val = r.val
    omega
  · show 0 + 1 * k.val = k.val
    omega

/-- The output array. -/
abbrev outM : FVec Ideal S32768x1024 .f32 :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem blk_apply (t : Fin cfg0.N) (r : Fin 256) (k : Fin 1024) :
    blk m c t (ix2 r k) = outM m c (ix2 (tok t r) k) := by
  unfold blk
  rw [outBlk_apply, funext (half0_apply m c t r), funext (half1_apply m c t r)]
  simp only [blk_x, blk_w, blk_g, blk_b]
  rfl

theorem final : (dats m 0 c).arrAt 5 cfg0.N = outM m c := by
  refine (dats m 0 c).arrAt_eq_of_covers 5 _ (by decide +kernel) fun t hf y => ?_
  blk_simp
  rw [after0_5]
  have ey : y = ix2 (y 0) (y 1) := funext fun a => match a with | ⟨0, _⟩ => rfl | ⟨1, _⟩ => rfl
  refine ((congrArg (blk m c t) ey).trans (blk_apply m c t (y 0) (y 1))).trans (congrArg (outM m c) (funext fun a => Fin.ext ?_))
  show _ = ((win0_5.rect t).emb y a).val
  rw [Pipeline.Window.rect_emb_val win0_5 t y a rfl]
  fin_cases a
  · show 256 * t.val + (y 0).val = (BitVec.ofNat 32 (grid0.coords t 0).val).toNat * 256 + (y 0).val
    rw [pt_word]
    omega
  · show (y 1).val = 0 * 1024 + (y 1).val
    omega

end Kernel

section Reference
open Cert.Reference2Ideal Cert.Reference2Ideal.Facts₀ Cert.Reference2Ideal.Facts

variable {D : IVec S2x32768 32}

/-- What the precondition says of an entry. -/
theorem pre_range {F : FTy → Type} [FloatOps F] {x : FVec F S32768x1024 .f32} {w : FVec F S8x32768 .f32} {ys : FVec F S73728x1024 .f32} {g b : FVec F S1024 .f32}
    (h : Cert.Pre_rows_held.fn (F := F) D x w ys g b = fun _ => 1#1) (y : S2x32768.Idx) : 0 ≤ (D y).toInt ∧ (D y).toInt < 73728 := by
  have h0 := congrFun h (fun i => i.elim0)
  unfold Cert.Pre_rows_held.fn at h0
  obtain ⟨h1, h2⟩ := IntOp.andi_eq_one.1 h0
  exact ⟨IntOp.cmpi_sge.1 (Host.reduce_andi_all _ _ _ _ _ h1 y), IntOp.cmpi_slt.1 (Host.reduce_andi_all _ _ _ _ _ h2 y)⟩

/-- The index words of the first gather, as the reference prints them. -/
abbrev d0 (D : IVec S2x32768 32) : IVec S32768 32 := shapeCast S32768 (extractStridedSlice S1x32768 ![0, 0] D slices_S2x32768_S1x32768_0_0) shapeCasts_S1x32768_S32768
/-- The index words of the second. -/
abbrev d1 (D : IVec S2x32768 32) : IVec S32768 32 := shapeCast S32768 (extractStridedSlice S1x32768 ![1, 0] D slices_S2x32768_S1x32768_1_0) shapeCasts_S1x32768_S32768
/-- A negative index counts from the end. -/
abbrev wrap (v : IVec S32768 32) : IVec S32768x1 32 := broadcastInDim S32768x1 ![0] bcast_S32768_S32768x1_0
  (select (cmpi .slt v (broadcastInDim S32768 ![] bcast_S_S32768 (constantI S_ 32 0#32))) (addi v (broadcastInDim S32768 ![] bcast_S_S32768 (constantI S_ 32 73728#32))) v)
/-- Rows by index. -/
abbrev take {F : FTy → Type} (ys : FVec F S73728x1024 .f32) (v : IVec S32768 32) : FVec F S32768x1024 .f32 :=
  Host.gather gather_S73728x1024_S32768x1_S32768x1024_1_0_n_n_0_1_11024 ys (wrap v)

theorem d0_apply (n : Fin 32768) : d0 D (ix1 n) = D (ix2 (0 : Fin 2) n) := by pointwise
theorem d1_apply (n : Fin 32768) : d1 D (ix1 n) = D (ix2 (1 : Fin 2) n) := by pointwise

theorem wrap_apply (v : IVec S32768 32) (n : Fin 32768) (h : 0 ≤ (v (ix1 n)).toInt) : wrap v (ix2 n (0 : Fin 1)) = v (ix1 n) := by
  refine (bcCol bcast_S32768_S32768x1_0 _ n).trans ?_
  show (if IntOp.cmpi .slt (v (ix1 n)) 0#32 = 1#1 then IntOp.addi (v (ix1 n)) 73728#32 else v (ix1 n)) = v (ix1 n)
  refine if_neg fun e => ?_
  have e := IntOp.cmpi_slt.1 e
  rw [BitVec.toInt_zero] at e
  omega

theorem take_apply (ys : FVec Ideal S73728x1024 .f32) (v : IVec S32768 32) (n : Fin 32768) (k : Fin 1024) (h0 : 0 ≤ (v (ix1 n)).toInt) (h1 : (v (ix1 n)).toInt < 73728) :
    take ys v (ix2 n k) = ysRow ys (v (ix1 n)) k := by
  have hr := Cert.Hand.toNat_of_range _ h0 h1
  refine (gather_row gather_S73728x1024_S32768x1_S32768x1024_1_0_n_n_0_1_11024 rfl rfl rfl rfl rfl ys (wrap v) n k ⟨(v (ix1 n)).toNat, hr.2⟩ ?_ (by norm_num)).trans ?_
  · exact (wrap_apply v n h0).trans (BitVec.eq_of_toNat_eq (by rw [BitVec.toNat_ofNat, Nat.mod_eq_of_lt (by omega)]))
  · unfold ysRow
    congr 1
    funext a
    match a with
    | ⟨0, _⟩ => exact Fin.ext (Nat.mod_eq_of_lt hr.2).symm
    | ⟨1, _⟩ => rfl

/-- The rows to be normalized, as the reference prints them. -/
abbrev rows {F : FTy → Type} [FloatOps F] (x : FVec F S32768x1024 .f32) (w : FVec F S8x32768 .f32) (y0 y1 : FVec F S32768x1024 .f32) : FVec F S32768x1024 .f32 :=
  addf (mulf (broadcastInDim S32768x1024 ![] bcast_S_S32768x1024 (constant S_ .f32 0x3F9837F0#32)) x)
    (addf (mulf (broadcastInDim S32768x1024 ![0, 1] bcast_S32768x1_S32768x1024_0_1 (broadcastInDim S32768x1 ![0] bcast_S32768_S32768x1_0 (shapeCast S32768 (extractStridedSlice S1x32768 ![0, 0] w slices_S8x32768_S1x32768_0_0) shapeCasts_S1x32768_S32768))) y0)
      (mulf (broadcastInDim S32768x1024 ![0, 1] bcast_S32768x1_S32768x1024_0_1 (broadcastInDim S32768x1 ![0] bcast_S32768_S32768x1_0 (shapeCast S32768 (extractStridedSlice S1x32768 ![1, 0] w slices_S8x32768_S1x32768_1_0) shapeCasts_S1x32768_S32768))) y1))

/-- The rows' means, as the reference prints them. -/
abbrev means {F : FTy → Type} [FloatOps F] (z : FVec F S32768x1024 .f32) : FVec F S32768x1 .f32 :=
  Host.divf (broadcastInDim S32768x1 ![0] bcast_S32768_S32768x1_0 (Host.reduceAdd z (constant S_ .f32 0x00000000#32) reducesTo_S32768x1024_S32768_d1 h_S_))
    (broadcastInDim S32768x1 ![] bcast_S_S32768x1 (constant S_ .f32 0x44800000#32))

/-- The rows less their means. -/
abbrev less {F : FTy → Type} [FloatOps F] (z : FVec F S32768x1024 .f32) : FVec F S32768x1024 .f32 :=
  subf z (broadcastInDim S32768x1024 ![0, 1] bcast_S32768x1_S32768x1024_0_1 (means z))

/-- The layer norm, as the reference prints it. -/
abbrev norms {F : FTy → Type} [FloatOps F] (z : FVec F S32768x1024 .f32) (g b : FVec F S1024 .f32) : FVec F S32768x1024 .f32 :=
  addf (mulf (mulf (less z) (broadcastInDim S32768x1024 ![0, 1] bcast_S32768x1_S32768x1024_0_1 (Host.rsqrt (addf (means (mulf (less z) (less z))) (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 g)))
    (broadcastInDim S32768x1024 ![0, 1] bcast_S1x1024_S32768x1024_0_1 (broadcastInDim S1x1024 ![1] bcast_S1024_S1x1024_1 b))

open Idealize.ShloMosaic.TcCoe Idealize.SL.Sem

theorem res_eq {F : FTy → Type} [FloatOps F] (m : (ℓ : Loc nD τ sig) → Buf (Elt F) ℓ) (c : Dev nD) :
    Cert.Reference2Ideal.Value.res_out0 m c
      = norms (rows (m ((c.tc : Thread nD τ).loc main_arg1)) (m ((c.tc : Thread nD τ).loc main_arg2))
          (take (m ((c.tc : Thread nD τ).loc main_arg3)) (d0 (m ((c.tc : Thread nD τ).loc main_arg0))))
          (take (m ((c.tc : Thread nD τ).loc main_arg3)) (d1 (m ((c.tc : Thread nD τ).loc main_arg0)))))
          (m ((c.tc : Thread nD τ).loc main_arg4)) (m ((c.tc : Thread nD τ).loc main_arg5)) := by
  unfold Cert.Reference2Ideal.Value.res_out0 Cert.Reference2Ideal.Value.res_main_v55
  rfl

theorem rows_apply (x : FVec Ideal S32768x1024 .f32) (w : FVec Ideal S8x32768 .f32) (y0 y1 : FVec Ideal S32768x1024 .f32) (n : Fin 32768) (k : Fin 1024) :
    rows x w y0 y1 (ix2 n k) = row (fun k => x (ix2 n k)) (w (ix2 (0 : Fin 8) n)) (w (ix2 (1 : Fin 8) n)) (fun k => y0 (ix2 n k)) (fun k => y1 (ix2 n k)) k := by
  pointwise [row]

theorem means_apply (z : FVec Ideal S32768x1024 .f32) (n : Fin 32768) : means z (ix2 n (0 : Fin 1)) = mean fun k => z (ix2 n k) := by
  pointwise [mean]

theorem less_apply (z : FVec Ideal S32768x1024 .f32) (n : Fin 32768) (k : Fin 1024) : less z (ix2 n k) = z (ix2 n k) - mean fun k => z (ix2 n k) := by
  pointwise [mean]

theorem norms_apply (z : FVec Ideal S32768x1024 .f32) (g b : FVec Ideal S1024 .f32) (n : Fin 32768) (k : Fin 1024) :
    norms z g b (ix2 n k) = norm (fun k => z (ix2 n k)) (g (ix1 k)) (b (ix1 k)) k := by
  pointwise [norm, mean]

theorem reference_outAt (x : FVec Ideal S32768x1024 .f32) (w : FVec Ideal S8x32768 .f32) (ys : FVec Ideal S73728x1024 .f32) (g b : FVec Ideal S1024 .f32)
    (h : ∀ y : S2x32768.Idx, 0 ≤ (D y).toInt ∧ (D y).toInt < 73728) (n : Fin 32768) (k : Fin 1024) :
    norms (rows x w (take ys (d0 D)) (take ys (d1 D))) g b (ix2 n k) = outAt D x w ys g b n k := by
  have e0 : (fun k : Fin 1024 => take ys (d0 D) (ix2 n k)) = ysRow ys (D (ix2 (0 : Fin 2) n)) := funext fun k => by
    rw [take_apply ys (d0 D) n k (by rw [d0_apply]; exact (h _).1) (by rw [d0_apply]; exact (h _).2), d0_apply]
  have e1 : (fun k : Fin 1024 => take ys (d1 D) (ix2 n k)) = ysRow ys (D (ix2 (1 : Fin 2) n)) := funext fun k => by
    rw [take_apply ys (d1 D) n k (by rw [d1_apply]; exact (h _).1) (by rw [d1_apply]; exact (h _).2), d1_apply]
  have er := funext fun k => rows_apply x w (take ys (d0 D)) (take ys (d1 D)) n k
  rw [e0, e1] at er
  rw [norms_apply, er]
  rfl

/-- Under the precondition the reference's value is the layer's output. -/
theorem reference_out (x : FVec Ideal S32768x1024 .f32) (w : FVec Ideal S8x32768 .f32) (ys : FVec Ideal S73728x1024 .f32) (g b : FVec Ideal S1024 .f32)
    (h : ∀ y : S2x32768.Idx, 0 ≤ (D y).toInt ∧ (D y).toInt < 73728) :
    norms (rows x w (take ys (d0 D)) (take ys (d1 D))) g b = out D x w ys g b := by
  funext i
  have ei : i = ix2 (i 0) (i 1) := funext fun a => match a with | ⟨0, _⟩ => rfl | ⟨1, _⟩ => rfl
  exact (congrArg _ ei).trans (reference_outAt x w ys g b h (i 0) (i 1))

end Reference

section Good
open Cert.Kernel2Ideal Cert.Kernel2Ideal.Gen Cert.Kernel2Ideal.Hand Idealize.ShloMosaic.TcCoe Idealize.SL.Sem

/-- Under the precondition the table's rows are rows. -/
theorem good {F : FTy → Type} [FloatOps F] (m : (ℓ : Loc nD τ sig) → Buf (Elt F) ℓ)
    (h : ∀ c : Dev nD, Cert.Pre_rows_held.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) = fun _ => 1#1) :
    Good m := fun c y =>
  (Cert.Hand.toNat_of_range _ (pre_range (h c) y).1 (pre_range (h c) y).2).2

end Good

end Cert.Hand2

end
-- ==== Proof.Experts.lean ====
/-
  Hand-written. The experts' kernel at one grid point, over any values: the block of packed rows through the two gate products, the
  gated product and the second matrix while the point is before the loaded count, the zero block from there on.
-/
module

public import proofs.«01_k».proof.Proof.Gen.Kernel3Ideal.Launch
public import proofs.«01_k».proof.Proof.Gen.Kernel3Ideal.Skeleton
public import Idealize.ShloMosaic.Lib.Pipeline.Frame
public import Idealize.ShloMosaic.Lib.Tactic
public import Idealize.ShloMosaic.Lib.ValueLayout
public import Idealize.ShloMosaic.Lib.VecWindow

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tables, whole, and one held at the half the body has. -/
abbrev bm : Memref sig .tc .smem S288 .i32 := Memref.whole main_arg0
abbrev nm : Memref sig .tc .smem S1 .i32 := Memref.whole main_arg1
abbrev TBuf (c : Dev nD) {S : Shape} {e : EltTy} (M : Memref sig .tc .smem S e) : Type := Buf (Elt F) (M.view.loc (c : Thread nD τ))
abbrev half (c : Dev nD) {S : Shape} {e : EltTy} (M : Memref sig .tc .smem S e) (f : TBuf (F := F) c M) : sProp 𝕄 :=
  M.view.loc (c : Thread nD τ) ↦{fullShare.right} f

/-- The only index of the count. -/
abbrev i0 : S1.Idx := fun | ⟨0, _⟩ => ⟨0, Nat.one_pos⟩

/-- The halves of a gate's matrix. -/
abbrev top : Rect S1x1024x512 := Rect.unit (s := S1x1024x512) ![0, 0, 0] S1x512x512.size inb_S1x1024x512_S1x512x512_0_0_0
abbrev bot : Rect S1x1024x512 := Rect.unit (s := S1x1024x512) ![0, 512, 0] S1x512x512.size inb_S1x1024x512_S1x512x512_0_512_0

/-- The block the body computes before the count. -/
def ffn (x : Vec F S256x512 .i32) (u v : Vec F S1x1024x512 .bf16) (w : Vec F S1x512x1024 .bf16) : Vec F S256x1024 .f32 :=
  k0_pay1 (k0_pay3 x (fun j => u (top.emb j)) (fun j => u (bot.emb j)) (fun j => v (top.emb j)) (fun j => v (bot.emb j))) w

/-- The body stores once: before the count one branch, from there on the other. -/
theorem cond_iff (i : grid0.Coords) (w : BitVec 32) : k0_cond2 i w = 1#1 ↔ ¬ k0_cond1 i w = 1#1 := by
  have h : ∀ b : Bool, (Scalar.cmpi .ne (Scalar.extui (BitVec.ofBool b) : BitVec 32) 0#32 : BitVec 1) = BitVec.ofBool b := by decide
  have h1 : k0_cond1 i w = BitVec.ofBool ((BitVec.ofNat 32 (i 0).val).slt w) := h _
  have h2 : k0_cond2 i w = BitVec.ofBool (w.sle (BitVec.ofNat 32 (i 0).val)) := h _
  have h3 : w.sle (BitVec.ofNat 32 (i 0).val) = !(BitVec.ofNat 32 (i 0).val).slt w := BitVec.sle_eq_not_slt
  rw [h1, h2, h3]
  cases (BitVec.ofNat 32 (i 0).val).slt w <;> decide

/-- What the body leaves in the result's block. -/
def outBlk (i : grid0.Coords) (n : BitVec 32) (x : Vec F S256x512 .i32) (u v : Vec F S1x1024x512 .bf16) (w : Vec F S1x512x1024 .bf16) : Vec F S256x1024 .f32 :=
  if k0_cond1 i n = 1#1 then ffn x u v w else k0_pay2 (F := F)

set_option maxHeartbeats 1000000 in
theorem body_run (c : Dev nD) (i : grid0.Coords) (arg3 : Memref sig .tc .vmem S256x512 .i32) (harg3 : arg3.IsWhole) (arg4 : Memref sig .tc .vmem S1x1024x512 .bf16) (harg4 : arg4.IsWhole)
    (arg5 : Memref sig .tc .vmem S1x1024x512 .bf16) (harg5 : arg5.IsWhole) (arg6 : Memref sig .tc .vmem S1x512x1024 .bf16) (harg6 : arg6.IsWhole)
    (arg7 : Memref sig .tc .vmem S256x1024 .f32) (harg7 : arg7.IsWhole)
    (x0 : Vec F S256x512 .i32) (x1 x2 : Vec F S1x1024x512 .bf16) (x3 : Vec F S1x512x1024 .bf16) (tb : TBuf (F := F) c bm) (tn : TBuf (F := F) c nm)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ half c bm tb ∗ half c nm tn
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare (outBlk i (tn i0) x0 x1 x2 x3) ∗ half c bm tb ∗ half c nm tn) -∗ K ⟨⟩))
      ⊢ wp frame (wpE (defs₀ (F := F)) Variants.none (c : Thread nD τ) none) Set.univ
        (cc0_experts i bm (Memref.isWhole_whole _) nm (Memref.isWhole_whole _) arg3 harg3 arg4 harg4 arg5 harg5 arg6 harg6 arg7 harg7) K := by
  simp only [cc0_experts_eq_skeleton]
  unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    have hn : (body_run.sl.r c tn : BitVec 32) = tn i0 := by
      unfold body_run.sl.r
      exact congrArg tn (funext fun a => Fin.ext (by fin_cases a; rfl))
    rw [hn]
    unfold outBlk
    by_cases h : k0_cond1 i (tn i0) = 1#1
    · have h2 : ¬ k0_cond2 i (tn i0) = 1#1 := fun h2 => (cond_iff _ _).mp h2 h
      rw [dif_neg h2, dif_pos h, if_pos h]
      refine (View.read_writes_full arg7.view f4 inb_S256x1024_S256x1024_0_0 _ []).trans ?_
      unfold ffn body_run.sl.r_1 body_run.sl.r_2
      subst hf0 hf1 hf2 hf3
      rw [View.readAt_full arg3.view f0 inb_S256x512_S256x512_0_0, View.readAt_full arg6.view f3 inb_S1x512x1024_S1x512x1024_0_0_0]
      rfl
    · have h2 : k0_cond2 i (tn i0) = 1#1 := (cond_iff _ _).mpr h
      rw [dif_pos h2, if_neg h]
      exact View.read_writes_full arg7.view _ inb_S256x1024_S256x1024_0_0 _ []
  isplitl [HT0]; · iexact HT0
  iexact HT1

end Cert.Kernel3Ideal.Hand

end
-- ==== Proof.ExpertsRun.lean ====
/-
  Hand-written. The experts' launch over any values, the named experts being experts: the result array is the points' blocks.
-/
module

public import proofs.«01_k».proof.Proof.Experts

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The buffers after the three conversions. -/
abbrev U (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]
  repeat' constructor

theorem enters : Pipeline.HMainP (Ix := Unit) (Name := ℕ) (U := UR sig nD τ) (Lvl := ℕ) pcfgs 0 defs₀ Variants.none m (main (F := F)) (U m) :=
  Pipeline.hmainP_prefix pcfgs 0 defs₀ Variants.none m main hostOps0 hostOps0_sub fresh0 main_chain

/-- A buffer none of the conversions writes. -/
theorem U_of (c : Dev nD) (b : Ref sig .tc) (h0 : b ≠ main_v0) (h1 : b ≠ main_v1) (h2 : b ≠ main_v2) : U m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

theorem U_arg0 (c : Dev nD) : U m c main_arg0 = m ((c : Thread nD τ).loc main_arg0) := U_of m c _ (by decide) (by decide) (by decide)
theorem U_arg1 (c : Dev nD) : U m c main_arg1 = m ((c : Thread nD τ).loc main_arg1) := U_of m c _ (by decide) (by decide) (by decide)
theorem U_arg2 (c : Dev nD) : U m c main_arg2 = m ((c : Thread nD τ).loc main_arg2) := U_of m c _ (by decide) (by decide) (by decide)
theorem U_arg3 (c : Dev nD) : U m c main_arg3 = m ((c : Thread nD τ).loc main_arg3) := U_of m c _ (by decide) (by decide) (by decide)
theorem U_arg4 (c : Dev nD) : U m c main_arg4 = m ((c : Thread nD τ).loc main_arg4) := U_of m c _ (by decide) (by decide) (by decide)
theorem U_arg5 (c : Dev nD) : U m c main_arg5 = m ((c : Thread nD τ).loc main_arg5) := U_of m c _ (by decide) (by decide) (by decide)

/-! ## The tables -/

/-- The tables' words, on the only device. -/
def words : pre0.Contents (Elt F) := fun j => U m (0 : Dev nD) (pre0.ref j)
theorem words_eq (c : Dev nD) (j : Fin 2) : U m c (pre0.ref j) = words m j := by
  obtain rfl : c = 0 := Subsingleton.elim _ _
  rfl
/-- The blocks the tables name are blocks. -/
abbrev Good : Prop := ok0 (F := F) (words m)
abbrev adm (hO : Good m) : (pcfg0 (F := F)).Adm := ⟨words m, hO⟩
abbrev cfgM (hO : Good m) : Pipeline.Cfg sig Λ₀ := cfg0 (adm m hO)

/-- The count of blocks in use. -/
def cnt : BitVec 32 := (words m 1 : S1.Idx → BitVec 32) i0

theorem tables_eq (c : Dev nD) : (Pipeline.ΦT pre0 (words m) c : sProp 𝕄) = iprop(half c bm (words m 0) ∗ half c nm (words m 1)) := by
  unfold Pipeline.ΦT Pipeline.prefHeld
  rw [show (Finset.univ : Finset (Fin 2)) = insert (0 : Fin 2) {(1 : Fin 2)} from by decide, bigSep_insert (by decide), bigSep_singleton]
  rfl

theorem stored (i : grid0.Coords) (w : BitVec 32) : (!(k0_cond1 i w == 1#1) && !(k0_cond2 i w == 1#1)) = false := by
  by_cases h : k0_cond1 i w = 1#1
  · have e : (k0_cond1 i w == 1#1) = true := beq_iff_eq.mpr h
    rw [e]
    rfl
  · have e : (k0_cond2 i w == 1#1) = true := beq_iff_eq.mpr ((cond_iff i w).mpr h)
    rw [e]
    exact Bool.and_false _

/-- The result's window is stored at every point, whatever the tables. -/
theorem live (a : (pcfg0 (F := F)).Adm) (i : grid0.Coords) : (cfg0 a).idle 4 i = false := by
  show idle0 a.1 4 i = false
  unfold idle0
  exact stored i _

theorem live4 (hO : Good m) (i : (cfgM m hO).grid.Coords) : (cfgM m hO).idle 4 i = false := live (adm m hO) i

/-! ## The pipeline's proof data -/

/-- Window `w`'s block at point `t`. -/
def iblk (hO : Good m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (U m c (Pipeline.arrRef spec0 w))

/-- The block point `t` stores. -/
def oblk (hO : Good m) (c : Dev nD) (t : Fin (cfgM m hO).N) : Vec F S256x1024 .f32 :=
  outBlk (grid0.coords t) (cnt m) (iblk m hO c 0 t) (iblk m hO c 1 t) (iblk m hO c 2 t) (iblk m hO c 3 t)

def dats (hO : Good m) (_ : Fin 1) (c : Dev nD) : Dat τ (Elt F) Unit ℕ (UR sig nD τ) ℕ (cfgM m hO) c where
  A w := U m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => oblk m hO c t
  Φ _ := iprop(Pipeline.ΦA spec0 c ∗ Pipeline.ΦT pre0 (words m) c)
  q _ := fullShare
  owed _ := 0

theorem A_eq (hO : Good m) (c : Dev nD) (w : Fin (cfgM m hO).W) : (dats m hO 0 c).A w = U m c (Pipeline.arrRef spec0 w) := by
  dsimp only [dats]
theorem after0 (hO : Good m) (c : Dev nD) (t : Fin (cfgM m hO).N) : (dats m hO 0 c).after 0 t = iblk m hO c 0 t := by dsimp only [dats]; try rfl
theorem after1 (hO : Good m) (c : Dev nD) (t : Fin (cfgM m hO).N) : (dats m hO 0 c).after 1 t = iblk m hO c 1 t := by dsimp only [dats]; try rfl
theorem after2 (hO : Good m) (c : Dev nD) (t : Fin (cfgM m hO).N) : (dats m hO 0 c).after 2 t = iblk m hO c 2 t := by dsimp only [dats]; try rfl
theorem after3 (hO : Good m) (c : Dev nD) (t : Fin (cfgM m hO).N) : (dats m hO 0 c).after 3 t = iblk m hO c 3 t := by dsimp only [dats]; try rfl
theorem after4 (hO : Good m) (c : Dev nD) (t : Fin (cfgM m hO).N) : (dats m hO 0 c).after 4 t = oblk m hO c t := by dsimp only [dats]; try rfl

/-- An input's staging buffer holds its block at every point. -/
theorem before0 (hO : Good m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (hO : Good m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (hO : Good m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)
theorem before3 (hO : Good m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after3]; unfold Dat.blockOf iblk; rw [A_eq]; try rfl) t d).trans (by unfold Dat.fetched Dat.blockOf iblk; rw [A_eq]; try rfl)

/-- The staging buffers at a point. -/
abbrev s0 (hO : Good m) (t : Fin (cfgM m hO).N) : Memref sig .tc .vmem S256x512 .i32 := spec0_0.stage ((cfgM m hO).slots t 0)
abbrev s1 (hO : Good m) (t : Fin (cfgM m hO).N) : Memref sig .tc .vmem S1x1024x512 .bf16 := spec0_1.stage ((cfgM m hO).slots t 1)
abbrev s2 (hO : Good m) (t : Fin (cfgM m hO).N) : Memref sig .tc .vmem S1x1024x512 .bf16 := spec0_2.stage ((cfgM m hO).slots t 2)
abbrev s3 (hO : Good m) (t : Fin (cfgM m hO).N) : Memref sig .tc .vmem S1x512x1024 .bf16 := spec0_3.stage ((cfgM m hO).slots t 3)
abbrev s4 (hO : Good m) (t : Fin (cfgM m hO).N) : Memref sig .tc .vmem S256x1024 .f32 := spec0_4.stage ((cfgM m hO).slots t 4)

/-- The body at a point, as the pipeline calls it. -/
abbrev bodyAt (hO : Good m) (t : Fin (cfgM m hO).N) : Prog (TpuEff nD τ sig (Elt F) Λ₀ .tc) PUnit :=
  cc0_experts (grid0.coords t) bm (Memref.isWhole_whole _) nm (Memref.isWhole_whole _)
    (s0 m hO t) (hstage0_0 (((cfgM m hO).slots t 0).cast nbuf0_0)) (s1 m hO t) (hstage0_1 (((cfgM m hO).slots t 1).cast nbuf0_1))
    (s2 m hO t) (hstage0_2 (((cfgM m hO).slots t 2).cast nbuf0_2)) (s3 m hO t) (hstage0_3 (((cfgM m hO).slots t 3).cast nbuf0_3))
    (s4 m hO t) (hstage0_4 (((cfgM m hO).slots t 4).cast nbuf0_4))

theorem row_eq (hO : Good m) (t : Fin (cfgM m hO).N) :
    defs₀ (F := F) .tc (cfgM m hO).body ((cfgM m hO).bodyArgs t ((cfgM m hO).slots t)) = bodyAt m hO t := by
  unfold defs₀; rw [Defs.onTc_tc]

def bodyPre (hO : Good m) (c : Dev nD) (t : Fin (cfgM m hO).N) : sProp 𝕄 :=
  iprop((dats m hO 0 c).Φ t.castSucc ∗ (dats m hO 0 c).owesAt () t.castSucc
    ∗ (∃ d, owns (c : Thread nD τ) (s0 m hO t) fullShare ((dats m hO 0 c).before 0 t d))
    ∗ (∃ d, owns (c : Thread nD τ) (s1 m hO t) fullShare ((dats m hO 0 c).before 1 t d))
    ∗ (∃ d, owns (c : Thread nD τ) (s2 m hO t) fullShare ((dats m hO 0 c).before 2 t d))
    ∗ (∃ d, owns (c : Thread nD τ) (s3 m hO t) fullShare ((dats m hO 0 c).before 3 t d))
    ∗ (∃ d, owns (c : Thread nD τ) (s4 m hO t) fullShare ((dats m hO 0 c).before 4 t d)))
def bodyPost (hO : Good m) (c : Dev nD) (t : Fin (cfgM m hO).N) : sProp 𝕄 :=
  iprop((dats m hO 0 c).Φ t.succ ∗ (dats m hO 0 c).owesAt () t.succ
    ∗ (dats m hO 0 c).leavesExact 0 t ∗ (dats m hO 0 c).leavesExact 1 t ∗ (dats m hO 0 c).leavesExact 2 t
    ∗ (dats m hO 0 c).leavesExact 3 t ∗ owns (c : Thread nD τ) (s4 m hO t) fullShare ((dats m hO 0 c).after 4 t))

set_option maxHeartbeats 1000000 in
theorem sound_body (hO : Good m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl,
    show (dats m hO 0 c).Φ t.castSucc = iprop(Pipeline.ΦA spec0 c ∗ Pipeline.ΦT pre0 (words m) c) from rfl, tables_eq, after4,
    show (dats m hO 0 c).leavesExact 0 t = owns (c : Thread nD τ) (s0 m hO t) fullShare (iblk m hO c 0 t) from congrArg (owns _ _ _) (after0 m hO c t),
    show (dats m hO 0 c).leavesExact 1 t = owns (c : Thread nD τ) (s1 m hO t) fullShare (iblk m hO c 1 t) from congrArg (owns _ _ _) (after1 m hO c t),
    show (dats m hO 0 c).leavesExact 2 t = owns (c : Thread nD τ) (s2 m hO t) fullShare (iblk m hO c 2 t) from congrArg (owns _ _ _) (after2 m hO c t),
    show (dats m hO 0 c).leavesExact 3 t = owns (c : Thread nD τ) (s3 m hO t) fullShare (iblk m hO c 3 t) from congrArg (owns _ _ _) (after3 m hO c t)]
  iintro ⟨⟨HΦ, ⟨HT0, HT1⟩⟩, Ho, ⟨%d0, H0⟩, ⟨%d1, H1⟩, ⟨%d2, H2⟩, ⟨%d3, H3⟩, ⟨%d4, H4⟩⟩
  iapply (body_run c (grid0.coords t) _ _ _ _ _ _ _ _ _ _ (iblk m hO c 0 t) (iblk m hO c 1 t) (iblk m hO c 2 t) (iblk m hO c 3 t) (words m 0) (words m 1) _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

theorem body_obligation (hO : Good m) (c : Dev nD) : BodyObligation (dats (F := F) m hO 0 c) (defs₀ (F := F)) Variants.none () Set.univ := fun t => by
  rw [bigSep_W0, bigSep_W0, row_eq m hO]
  rw [live4 m hO]
  exact triple_restated (sound_body m hO c t) rfl .rfl fun _ => .rfl

/-! ## The run -/

set_option backward.isDefEq.respectTransparency.types false in
theorem run_main (hO : Good m) : θ_run defs (onTc (τ := τ) (main (F := F))) (s₀ m ρ)
    (fun r => Pipeline.FramePost (Pipeline.pin pcfgs fun _ => adm m hO) (dats m hO) 0 (U m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := U m) (hmain := enters m) (hA := A_eq m hO) (hpf := words_eq m) (hΦ := fun _ _ => rfl)

/-- The program: it ends with the result the points' blocks, the arguments unchanged, the semaphores at zero. -/
theorem run (hO : Good m) : θ_run defs (onTc (τ := τ) (main (F := F))) ⟨m, fun _ => 0, ρ⟩ (fun r => (∀ c : Dev nD,
      r.2.mem ((c.tc : Thread nD τ).loc main_v3) = (dats m hO 0 c).arrAt 4 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hr => ⟨fun c =>
    ⟨(hr.1 c).1 4,
      ((hr.1 c).2 main_arg0 (by decide : main_arg0 ∈ Pipeline.restRefs sig spec0)).trans (U_arg0 m c),
      ((hr.1 c).2 main_arg1 (by decide : main_arg1 ∈ Pipeline.restRefs sig spec0)).trans (U_arg1 m c),
      ((hr.1 c).1 0).trans (((dats m hO 0 c).arrAt_in 0 rfl _).trans ((A_eq m hO c 0).trans (U_arg2 m c))),
      ((hr.1 c).2 main_arg3 (by decide : main_arg3 ∈ Pipeline.restRefs sig spec0)).trans (U_arg3 m c),
      ((hr.1 c).2 main_arg4 (by decide : main_arg4 ∈ Pipeline.restRefs sig spec0)).trans (U_arg4 m c),
      ((hr.1 c).2 main_arg5 (by decide : main_arg5 ∈ Pipeline.restRefs sig spec0)).trans (U_arg5 m c)⟩, hr.2⟩) (run_main m ρ hO)

end Cert.Kernel3Ideal.Hand

end
-- ==== Proof.ExpertsValue.lean ====
/-
  Hand-written. What the precondition says of the named experts, and the block that a point of the experts stores and the
  reference's value read at an element of the extended reals: one row through its block's expert.
-/
module

public import proofs.«01_k».proof.Proof.ExpertsRun
public import proofs.«01_k».proof.Proof.Gen.Reference3Ideal.Run
public import proofs.«01_k».proof.Proof.Gen.Pre_experts_held
public import proofs.«01_k».proof.Proof.DispatchValue
public import Idealize.ShloMosaic.Lib.Pointwise
public import Idealize.ShloMosaic.Lib.Routing.Ops
public import Idealize.ShloMosaic.Lib.Pipeline.Value
public import Idealize.ShloMosaic.Lib.Pipeline.ValueKit
public import Idealize.ShloMosaic.Lib.Pipeline.Covers
public import Idealize.ShloMosaic.Lib.PairWhole

@[expose] public section

set_option maxRecDepth 16384

noncomputable section

namespace Cert.Hand3

open Idealize.ShloMosaic Idealize.ShloMosaic.Routing

/-- The two numbers a packed word holds. -/
def lo (w : BitVec 32) : EReal := Ideal.ofBits .f32 (IntOp.shli ArithUnit.vector w 16#32)
def hi (w : BitVec 32) : EReal := Ideal.ofBits .f32 (IntOp.andi w 4294901760#32)

/-- A packed row, unpacked: the low numbers, then the high ones. -/
def unpack (x : Fin 512 → BitVec 32) (k : Fin 1024) : EReal :=
  if h : k.val < 512 then lo (x ⟨k.val, h⟩) else hi (x ⟨k.val - 512, by omega⟩)

/-- A row against a column. -/
def dot (z u : Fin 1024 → EReal) : EReal := ∑ k, z k * u k

/-- The gate. -/
def silu (a : EReal) : EReal := a * Ideal.div 1 (1 + Ideal.exp (-a))

/-- A row through an expert, at a column of the expert's last matrix. -/
def through (z : Fin 1024 → EReal) (u v : Fin 1024 → Fin 512 → EReal) (w : Fin 512 → EReal) : EReal :=
  ∑ j, silu (dot z fun k => u k j) * dot z (fun k => v k j) * w j

theorem dot_halves (x : Fin 512 → BitVec 32) (u : Fin 1024 → EReal) :
    dot (unpack x) u = (∑ k : Fin 512, lo (x k) * u ⟨k.val, by omega⟩) + ∑ k : Fin 512, hi (x k) * u ⟨512 + k.val, by omega⟩ := by
  unfold dot
  rw [Fin.sum_univ_two_halves 512 512 rfl]
  refine congrArg₂ (· + ·) (Finset.sum_congr rfl fun k _ => ?_) (Finset.sum_congr rfl fun k _ => ?_)
  · unfold unpack
    rw [dif_pos (show k.val < 512 from k.isLt)]
  · unfold unpack
    rw [dif_neg (show ¬ 512 + k.val < 512 by omega)]
    exact congrArg (fun y : Fin 512 => hi (x y) * u ⟨512 + k.val, by omega⟩) (Fin.ext (Nat.add_sub_cancel_left 512 k.val))

section Kernel
open Cert.Kernel3Ideal Cert.Kernel3Ideal.Gen Cert.Kernel3Ideal.Hand

theorem pay3_apply (x : IVec S256x512 32) (u0 u1 v0 v1 : FVec Ideal S1x512x512 .bf16) (r : Fin 256) (j : Fin 512) :
    k0_pay3 (F := Ideal) x u0 u1 v0 v1 (ix2 r j)
      = silu ((∑ k, lo (x (ix2 r k)) * u0 (ix3 (0 : Fin 1) k j)) + ∑ k, hi (x (ix2 r k)) * u1 (ix3 (0 : Fin 1) k j))
        * ((∑ k, lo (x (ix2 r k)) * v0 (ix3 (0 : Fin 1) k j)) + ∑ k, hi (x (ix2 r k)) * v1 (ix3 (0 : Fin 1) k j)) := by
  pointwise [k0_pay3, silu, lo, hi, zero_sub]

theorem pay1_apply (h : FVec Ideal S256x512 .bf16) (w : FVec Ideal S1x512x1024 .bf16) (r : Fin 256) (k : Fin 1024) :
    k0_pay1 (F := Ideal) h w (ix2 r k) = ∑ j, h (ix2 r j) * w (ix3 (0 : Fin 1) j k) := by
  pointwise [k0_pay1]

theorem pay2_apply (r : Fin 256) (k : Fin 1024) : k0_pay2 (F := Ideal) (ix2 r k) = 0 := by
  pointwise [k0_pay2]

theorem top_emb (k : Fin 512) (j : Fin 512) : top.emb (ix3 (0 : Fin 1) k j) = ix3 (0 : Fin 1) (⟨k.val, by omega⟩ : Fin 1024) j :=
  funext fun a => Fin.ext (match a with
    | ⟨0, _⟩ => rfl
    | ⟨1, _⟩ => (show 0 + 1 * k.val = k.val by omega)
    | ⟨2, _⟩ => (show 0 + 1 * j.val = j.val by omega))

theorem bot_emb (k : Fin 512) (j : Fin 512) : bot.emb (ix3 (0 : Fin 1) k j) = ix3 (0 : Fin 1) (⟨512 + k.val, by omega⟩ : Fin 1024) j :=
  funext fun a => Fin.ext (match a with
    | ⟨0, _⟩ => rfl
    | ⟨1, _⟩ => (show 512 + 1 * k.val = 512 + k.val by omega)
    | ⟨2, _⟩ => (show 0 + 1 * j.val = j.val by omega))

theorem ffn_apply (x : IVec S256x512 32) (u v : FVec Ideal S1x1024x512 .bf16) (w : FVec Ideal S1x512x1024 .bf16) (r : Fin 256) (k : Fin 1024) :
    ffn (F := Ideal) x u v w (ix2 r k) = through (unpack fun j => x (ix2 r j)) (fun k j => u (ix3 (0 : Fin 1) k j)) (fun k j => v (ix3 (0 : Fin 1) k j))
      (fun j => w (ix3 (0 : Fin 1) j k)) := by
  unfold ffn through
  rw [pay1_apply]
  refine Finset.sum_congr rfl fun j _ => ?_
  rw [pay3_apply, dot_halves, dot_halves]
  simp only [top_emb, bot_emb]

/-- A block in use. -/
def used (b : ℕ) (n : BitVec 32) : Prop := (BitVec.ofNat 32 b).slt n = true

theorem cond_used (i : grid0.Coords) (n : BitVec 32) : k0_cond1 i n = 1#1 ↔ used (i 0).val n := by
  have h : ∀ b : Bool, (Scalar.cmpi .ne (Scalar.extui (BitVec.ofBool b) : BitVec 32) 0#32 : BitVec 1) = BitVec.ofBool b := by decide
  have h1 : k0_cond1 i n = BitVec.ofBool ((BitVec.ofNat 32 (i 0).val).slt n) := h _
  rw [h1]
  unfold used
  cases (BitVec.ofNat 32 (i 0).val).slt n <;> decide

open Classical in
/-- The result at a block's row and a column. -/
def outAt (B : IVec S288 32) (n : IVec S1 32) (x : IVec S73728x512 32) (w1 w3 : FVec Ideal S32x1024x512 .f32) (w2 : FVec Ideal S32x512x1024 .f32)
    (b : Fin 288) (r : Fin 256) (k : Fin 1024) : EReal :=
  let e : Fin 32 := ⟨(B (ix1 b)).toNat % 32, Nat.mod_lt _ (by norm_num)⟩
  if used b.val (n (ix1 (0 : Fin 1))) then
    through (unpack fun j => x (ix2 (⟨256 * b.val + r.val, by omega⟩ : Fin 73728) j)) (fun k j => w1 (ix3 e k j)) (fun k j => w3 (ix3 e k j)) (fun j => w2 (ix3 e j k))
  else 0

/-- The result. -/
def out (B : IVec S288 32) (n : IVec S1 32) (x : IVec S73728x512 32) (w1 w3 : FVec Ideal S32x1024x512 .f32) (w2 : FVec Ideal S32x512x1024 .f32) :
    FVec Ideal S73728x1024 .f32 := fun i =>
  outAt B n x w1 w3 w2 ⟨(i 0).val / 256, by have : (i 0).val < 73728 := (i 0).isLt; omega⟩ ⟨(i 0).val % 256, Nat.mod_lt _ (by norm_num)⟩ (i 1)

open Idealize.ShloMosaic.TcCoe Idealize.SL.Sem

end Kernel

section Good
open Cert.Kernel3Ideal Cert.Kernel3Ideal.Gen Cert.Kernel3Ideal.Hand
open Idealize.ShloMosaic.TcCoe Idealize.SL.Sem

/-- What the precondition says of a named expert. -/
theorem pre_range {F : FTy → Type} [FloatOps F] {B : IVec S288 32} {n : IVec S1 32} {x : IVec S73728x512 32} {w1 w3 : FVec F S32x1024x512 .f32} {w2 : FVec F S32x512x1024 .f32}
    (h : Cert.Pre_experts_held.fn (F := F) B n x w1 w3 w2 = fun _ => 1#1) (y : S288.Idx) : 0 ≤ (B y).toInt ∧ (B y).toInt < 32 := by
  have h0 := congrFun h (fun i => i.elim0)
  unfold Cert.Pre_experts_held.fn at h0
  obtain ⟨h1, h2⟩ := IntOp.andi_eq_one.1 h0
  exact ⟨IntOp.cmpi_sge.1 (Host.reduce_andi_all _ _ _ _ _ h1 y), IntOp.cmpi_slt.1 (Host.reduce_andi_all _ _ _ _ _ h2 y)⟩

theorem pre_lt {F : FTy → Type} [FloatOps F] {B : IVec S288 32} {n : IVec S1 32} {x : IVec S73728x512 32} {w1 w3 : FVec F S32x1024x512 .f32} {w2 : FVec F S32x512x1024 .f32}
    (h : Cert.Pre_experts_held.fn (F := F) B n x w1 w3 w2 = fun _ => 1#1) (y : S288.Idx) : (B y).toNat < 32 := by
  obtain ⟨h0, h1⟩ := pre_range h y
  have := (B y).isLt
  rw [BitVec.toInt_eq_toNat_cond] at h0 h1
  split at h0 <;> omega

variable {F : FTy → Type} [FloatOps F] (m : (ℓ : Loc nD τ sig) → Buf (Elt F) ℓ)

/-- The expert's word at a point, as the index maps load it. -/
def wordAt (i : grid0.Coords) : BitVec 32 := (words m).at 0 (Rect.unit (s := S288) (k0_off1 i) S1.size (Facts₀.k0_off1_inb i)) Facts₀.numel1_S1

theorem wordAt_eq (i : grid0.Coords) (y : S288.Idx) (hy : (y 0).val = (i 0).val) : wordAt m i = m (((0 : Dev nD) : Thread nD τ).loc main_arg0) y := by
  refine Eq.trans ?_ (congrFun (U_arg0 m 0) y)
  show U m 0 main_arg0 ((Rect.unit (s := S288) (k0_off1 i) S1.size (Facts₀.k0_off1_inb i)).emb (Shape.Idx.first _)) = _
  refine congrArg (U m 0 main_arg0) (funext fun a => Fin.ext ?_)
  have hi : (i 0).val < 288 := (i 0).isLt
  match a with
  | ⟨0, _⟩ =>
    show (BitVec.ofNat 32 (i 0).val).toNat + 1 * 0 = (y 0).val
    rw [hy, BitVec.toNat_ofNat]
    omega

theorem good (h : ∀ y : S288.Idx, BitVec.toNat (w := 32) (m (((0 : Dev nD) : Thread nD τ).loc main_arg0) y) < 32) : Good m := by
  have hw : ∀ i : grid0.Coords, ((wordAt m i).toNat + 1) * 1 ≤ 32 := fun i => by
    rw [wordAt_eq m i (ix1 (i 0)) rfl, Nat.mul_one]
    exact h _
  refine ⟨fun i => ⟨fun a => ?_, .inr ?_⟩, fun i => ⟨fun a => ?_, .inr ?_⟩, fun i => ⟨fun a => ?_, .inr ?_⟩⟩
  · fin_cases a
    · exact hw i
    · exact Nat.le_refl 1024
    · exact Nat.le_refl 512
  · exact Rect.WholeRows.wholeWords (show Rect.WholeRows _ from ⟨by decide, rfl, rfl, rfl⟩) _
  · fin_cases a
    · exact hw i
    · exact Nat.le_refl 1024
    · exact Nat.le_refl 512
  · exact Rect.WholeRows.wholeWords (show Rect.WholeRows _ from ⟨by decide, rfl, rfl, rfl⟩) _
  · fin_cases a
    · exact hw i
    · exact Nat.le_refl 512
    · exact Nat.le_refl 1024
  · exact Rect.WholeRows.wholeWords (show Rect.WholeRows _ from ⟨by decide, rfl, rfl, rfl⟩) _

end Good

section Launch
open Cert.Kernel3Ideal Cert.Kernel3Ideal.Gen Cert.Kernel3Ideal.Hand
open Idealize.ShloMosaic.TcCoe Idealize.SL.Sem

variable (m : (ℓ : Loc nD τ sig) → Buf (Elt Ideal) ℓ) (hO : Good m)

theorem pt_lt (t : Fin (cfgM m hO).N) : t.val < 288 := lt_of_lt_of_eq t.isLt N_0

theorem coords_pt (t : Fin (cfgM m hO).N) : (grid0.coords t 0).val = t.val := by
  have h := Pipeline.Grid.coords_val (G := grid0) t 0 (S := 1) (B := 288) (by decide) rfl
  have ht := pt_lt m hO t
  rw [h]
  omega

theorem pt_word (t : Fin (cfgM m hO).N) : (BitVec.ofNat 32 (grid0.coords t 0).val).toNat = t.val := by
  have ht := pt_lt m hO t
  rw [coords_pt, BitVec.toNat_ofNat, Nat.mod_eq_of_lt (by omega)]

/-- A point's block, a row of it among all, and its expert. -/
def blkNo (t : Fin (cfgM m hO).N) : Fin 288 := ⟨t.val, pt_lt m hO t⟩
def rowNo (t : Fin (cfgM m hO).N) (r : Fin 256) : Fin 73728 := ⟨256 * t.val + r.val, by have := pt_lt m hO t; omega⟩

theorem blk_x (t : Fin (cfgM m hO).N) (r : Fin 256) (k : Fin 512) :
    iblk m hO 0 0 t (ix2 r k) = m (((0 : Dev nD) : Thread nD τ).loc main_arg2) (ix2 (rowNo m hO t r) k) := by
  unfold iblk
  refine Eq.trans (b := U m 0 main_arg2 ((((cfgM m hO).win 0).rect t).emb (ix2 r k))) rfl ?_
  rw [U_arg2]
  congr 1
  funext a
  apply Fin.ext
  refine (Pipeline.Window.rect_emb_val ((cfgM m hO).win 0) t (ix2 r k) a rfl).trans ?_
  fin_cases a
  · show (BitVec.ofNat 32 (grid0.coords t 0).val).toNat * 256 + r.val = 256 * t.val + r.val
    rw [pt_word]
    omega
  · show 0 * 512 + k.val = k.val
    omega

open Idealize.ShloMosaic.StableHlo in
theorem U_v0 (y : S32x1024x512.Idx) : U m 0 main_v0 y = m (((0 : Dev nD) : Thread nD τ).loc main_arg3) y := by
  have e : U m 0 main_v0 = (truncf (F := Ideal) (s := S32x1024x512) (φ := .f32) .bf16 (m (((0 : Dev nD) : Thread nD τ).loc main_arg3)) Facts₀.bitsLt_bf16_f32 : FVec Ideal S32x1024x512 .bf16) := by
    unfold U hostOps0
    after_results <;> rfl
  rw [e]
  rfl

open Idealize.ShloMosaic.StableHlo in
theorem U_v1 (y : S32x1024x512.Idx) : U m 0 main_v1 y = m (((0 : Dev nD) : Thread nD τ).loc main_arg4) y := by
  have e : U m 0 main_v1 = (truncf (F := Ideal) (s := S32x1024x512) (φ := .f32) .bf16 (m (((0 : Dev nD) : Thread nD τ).loc main_arg4)) Facts₀.bitsLt_bf16_f32 : FVec Ideal S32x1024x512 .bf16) := by
    unfold U hostOps0
    after_results <;> rfl
  rw [e]
  rfl

open Idealize.ShloMosaic.StableHlo in
theorem U_v2 (y : S32x512x1024.Idx) : U m 0 main_v2 y = m (((0 : Dev nD) : Thread nD τ).loc main_arg5) y := by
  have e : U m 0 main_v2 = (truncf (F := Ideal) (s := S32x512x1024) (φ := .f32) .bf16 (m (((0 : Dev nD) : Thread nD τ).loc main_arg5)) Facts₀.bitsLt_bf16_f32 : FVec Ideal S32x512x1024 .bf16) := by
    unfold U hostOps0
    after_results <;> rfl
  rw [e]
  rfl

/-- The point's expert. -/
def expert (t : Fin (cfgM m hO).N) : Fin 32 :=
  ⟨BitVec.toNat (w := 32) (m (((0 : Dev nD) : Thread nD τ).loc main_arg0) (ix1 (blkNo m hO t))) % 32, Nat.mod_lt _ (by norm_num)⟩

variable (hB : ∀ y : S288.Idx, BitVec.toNat (w := 32) (m (((0 : Dev nD) : Thread nD τ).loc main_arg0) y) < 32)

include hB in
theorem wordAt_expert (t : Fin (cfgM m hO).N) : (wordAt m (grid0.coords t)).toNat = (expert m hO t).val := by
  rw [wordAt_eq m (grid0.coords t) (ix1 (blkNo m hO t)) (coords_pt m hO t).symm]
  exact (Nat.mod_eq_of_lt (hB _)).symm

include hB in
theorem blk_u (t : Fin (cfgM m hO).N) (k : Fin 1024) (j : Fin 512) :
    iblk m hO 0 1 t (ix3 (0 : Fin 1) k j) = m (((0 : Dev nD) : Thread nD τ).loc main_arg3) (ix3 (expert m hO t) k j) := by
  rw [← U_v0 m]
  unfold iblk
  refine Eq.trans (b := U m 0 main_v0 ((((cfgM m hO).win 1).rect t).emb (ix3 (0 : Fin 1) k j))) rfl ?_
  congr 1
  funext a
  apply Fin.ext
  refine (Pipeline.Window.rect_emb_val ((cfgM m hO).win 1) t (ix3 (0 : Fin 1) k j) a rfl).trans ?_
  fin_cases a
  · show (wordAt m (grid0.coords t)).toNat * 1 + 0 = (expert m hO t).val
    rw [wordAt_expert m hO hB]
    omega
  · show 0 * 1024 + k.val = k.val
    omega
  · show 0 * 512 + j.val = j.val
    omega

include hB in
theorem blk_v (t : Fin (cfgM m hO).N) (k : Fin 1024) (j : Fin 512) :
    iblk m hO 0 2 t (ix3 (0 : Fin 1) k j) = m (((0 : Dev nD) : Thread nD τ).loc main_arg4) (ix3 (expert m hO t) k j) := by
  rw [← U_v1 m]
  unfold iblk
  refine Eq.trans (b := U m 0 main_v1 ((((cfgM m hO).win 2).rect t).emb (ix3 (0 : Fin 1) k j))) rfl ?_
  congr 1
  funext a
  apply Fin.ext
  refine (Pipeline.Window.rect_emb_val ((cfgM m hO).win 2) t (ix3 (0 : Fin 1) k j) a rfl).trans ?_
  fin_cases a
  · show (wordAt m (grid0.coords t)).toNat * 1 + 0 = (expert m hO t).val
    rw [wordAt_expert m hO hB]
    omega
  · show 0 * 1024 + k.val = k.val
    omega
  · show 0 * 512 + j.val = j.val
    omega

include hB in
theorem blk_w (t : Fin (cfgM m hO).N) (j : Fin 512) (k : Fin 1024) :
    iblk m hO 0 3 t (ix3 (0 : Fin 1) j k) = m (((0 : Dev nD) : Thread nD τ).loc main_arg5) (ix3 (expert m hO t) j k) := by
  rw [← U_v2 m]
  unfold iblk
  refine Eq.trans (b := U m 0 main_v2 ((((cfgM m hO).win 3).rect t).emb (ix3 (0 : Fin 1) j k))) rfl ?_
  congr 1
  funext a
  apply Fin.ext
  refine (Pipeline.Window.rect_emb_val ((cfgM m hO).win 3) t (ix3 (0 : Fin 1) j k) a rfl).trans ?_
  fin_cases a
  · show (wordAt m (grid0.coords t)).toNat * 1 + 0 = (expert m hO t).val
    rw [wordAt_expert m hO hB]
    omega
  · show 0 * 512 + j.val = j.val
    omega
  · show 0 * 1024 + k.val = k.val
    omega

theorem cnt_eq : cnt m = m (((0 : Dev nD) : Thread nD τ).loc main_arg1) (ix1 (0 : Fin 1)) := by
  unfold cnt
  refine Eq.trans ?_ (congrFun (U_arg1 m 0) (ix1 (0 : Fin 1)))
  show U m 0 main_arg1 i0 = U m 0 main_arg1 (ix1 (0 : Fin 1))
  exact congrArg (U m 0 main_arg1) (funext fun a => match a with | ⟨0, _⟩ => rfl)

/-- The result. -/
abbrev outM : FVec Ideal S73728x1024 .f32 :=
  out (m (((0 : Dev nD) : Thread nD τ).loc main_arg0)) (m (((0 : Dev nD) : Thread nD τ).loc main_arg1)) (m (((0 : Dev nD) : Thread nD τ).loc main_arg2))
    (m (((0 : Dev nD) : Thread nD τ).loc main_arg3)) (m (((0 : Dev nD) : Thread nD τ).loc main_arg4)) (m (((0 : Dev nD) : Thread nD τ).loc main_arg5))

theorem out_row (B : IVec S288 32) (n : IVec S1 32) (x : IVec S73728x512 32) (w1 w3 : FVec Ideal S32x1024x512 .f32) (w2 : FVec Ideal S32x512x1024 .f32)
    (b : Fin 288) (r : Fin 256) (k : Fin 1024) (q : Fin 73728) (hq : q.val = 256 * b.val + r.val) : out B n x w1 w3 w2 (ix2 q k) = outAt B n x w1 w3 w2 b r k := by
  show outAt B n x w1 w3 w2 ⟨q.val / 256, _⟩ ⟨q.val % 256, _⟩ k = _
  congr 1
  · exact Fin.ext (by show q.val / 256 = b.val; omega)
  · exact Fin.ext (by show q.val % 256 = r.val; omega)

include hB in
theorem oblk_apply (t : Fin (cfgM m hO).N) (r : Fin 256) (k : Fin 1024) : oblk m hO 0 t (ix2 r k) = outM m (ix2 (rowNo m hO t r) k) := by
  refine Eq.trans ?_ (out_row _ _ _ _ _ _ (blkNo m hO t) r k (rowNo m hO t r) rfl).symm
  unfold oblk outBlk outAt
  have hc := cond_used (grid0.coords t) (cnt m)
  rw [coords_pt m hO t, cnt_eq] at hc
  by_cases h : used t.val (m (((0 : Dev nD) : Thread nD τ).loc main_arg1) (ix1 (0 : Fin 1)))
  · rw [cnt_eq, if_pos (hc.2 h)]
    dsimp only
    refine Eq.trans ?_ (if_pos h).symm
    refine (ffn_apply _ _ _ _ r k).trans ?_
    rw [funext (blk_x m hO t r), funext (fun j => funext (blk_u m hO hB t j)), funext (fun j => funext (blk_v m hO hB t j)), funext (fun j => blk_w m hO hB t j k)]
    rfl
  · rw [cnt_eq, if_neg (fun e => h (hc.1 e))]
    dsimp only
    exact (pay2_apply r k).trans (if_neg h).symm

include hB in
theorem oblk_eq (t : Fin (cfgM m hO).N) (y : S256x1024.Idx) : oblk m hO 0 t y = outM m ((((cfgM m hO).win 4).rect t).emb y) := by
  have ey : y = ix2 (y 0) (y 1) := funext fun a => match a with | ⟨0, _⟩ => rfl | ⟨1, _⟩ => rfl
  refine ((congrArg (oblk m hO 0 t) ey).trans (oblk_apply m hO hB t (y 0) (y 1))).trans (congrArg (outM m) (funext fun a => Fin.ext ?_))
  refine Eq.trans ?_ (Pipeline.Window.rect_emb_val ((cfgM m hO).win 4) t y a rfl).symm
  fin_cases a
  · show 256 * t.val + (y 0).val = (BitVec.ofNat 32 (grid0.coords t 0).val).toNat * 256 + (y 0).val
    rw [pt_word]
    omega
  · show (y 1).val = 0 * 1024 + (y 1).val
    omega

/-- Every block of the result is a point's. -/
theorem covers : ((cfgM m hO).win 4).Covers := by
  refine Pipeline.Window.covers_of_indexMap_surj _ rfl (fun a => ?_) fun β => ?_
  · fin_cases a
    · exact Nat.succ_pos 255
    · exact Nat.succ_pos 1023
  · have h0 : (β ⟨0, Nat.succ_pos 1⟩).val < 288 := lt_of_lt_of_eq (β ⟨0, Nat.succ_pos 1⟩).isLt (by unfold Pipeline.Window.nblk; show (73728 + 256 - 1) / 256 = 288; norm_num)
    have h1 : (β ⟨1, Nat.lt_succ_self 1⟩).val < 1 := lt_of_lt_of_eq (β ⟨1, Nat.lt_succ_self 1⟩).isLt (by unfold Pipeline.Window.nblk; show (1024 + 1024 - 1) / 1024 = 1; norm_num)
    refine ⟨fun | ⟨0, _⟩ => (⟨(β ⟨0, Nat.succ_pos 1⟩).val, h0⟩ : Fin 288), fun a => ?_⟩
    fin_cases a
    · show (BitVec.ofNat 32 (β ⟨0, Nat.succ_pos 1⟩).val).toNat = (β ⟨0, Nat.succ_pos 1⟩).val
      rw [BitVec.toNat_ofNat]
      omega
    · show 0 = (β ⟨1, Nat.lt_succ_self 1⟩).val
      omega

include hB in
theorem final : (dats m hO 0 0).arrAt 4 (cfgM m hO).N = outM m := by
  refine (dats m hO 0 0).arrAt_eq_of_covers 4 _ (covers m hO) fun t hf y => ?_
  blk_simp
  rw [after4]
  exact oblk_eq m hO hB t y

end Launch

section Slabs

/-- Slabs of a rank-3 table by index: the dimension numbers. -/
abbrev slabDims (N A B n : ℕ) (wf : GatherDims.WF (shape3 N A B) (shape2 n 1) (shape3 n A B) [1, 2] [0] [] [0] [] 1 ![1, A, B]) :
    GatherDims (shape3 N A B) (shape2 n 1) (shape3 n A B) where
  offsetDims := [1, 2]
  collapsedSliceDims := [0]
  operandBatchingDims := []
  startIndicesBatchingDims := []
  startIndexMap := [0]
  indexVectorDim := 1
  sliceSizes := ![1, A, B]
  wf := wf

/-- Where the index holds at `c` a slab's number, the result's slab `c` is that slab. -/
theorem slab_apply {α : Type} {N A B n : ℕ} (wf : GatherDims.WF (shape3 N A B) (shape2 n 1) (shape3 n A B) [1, 2] [0] [] [0] [] 1 ![1, A, B])
    (x : (shape3 N A B).Idx → α) (idx : IVec (shape2 n 1) 32) (c : Fin n) (a : Fin A) (b : Fin B) (e : Fin N) (he : (idx (ix2 c (0 : Fin 1))).toInt.toNat = e.val) :
    Host.gather (slabDims N A B n wf) x idx (ix3 c a b) = x (ix3 e a b) := by
  have kept : ∀ v, v ∈ (slabDims N A B n wf).sKept ↔ v ≠ (0 : Fin 3) := fun v => by
    rw [GatherDims.mem_sKept]
    exact ⟨fun h h0 => h.1 (List.mem_singleton.2 h0), fun h => ⟨fun h0 => h (List.mem_singleton.1 h0), List.not_mem_nil⟩⟩
  have n1 : (1 : Fin 3) ≠ 0 := by decide
  have n2 : (2 : Fin 3) ≠ 0 := by decide
  unfold Host.gather
  refine congrArg x (funext fun v => Fin.ext ?_)
  show (slabDims N A B n wf).start (ix3 c a b) idx v + (slabDims N A B n wf).batchCoord (ix3 c a b) v + (slabDims N A B n wf).offCoord (ix3 c a b) v = _
  rw [GatherDims.batchCoord_eq_zero _ _ _ List.not_mem_nil, Nat.add_zero]
  match v with
  | ⟨0, _⟩ =>
    have h0 : (0 : Fin 3) ∈ (slabDims N A B n wf).startIndexMap := List.mem_singleton.2 rfl
    have hi : (slabDims N A B n wf).siIdx (ix3 c a b) ⟨List.idxOf (0 : Fin 3) (slabDims N A B n wf).startIndexMap, List.idxOf_lt_length_iff.2 h0⟩ = ix2 c (0 : Fin 1) :=
      funext fun q => Fin.ext (match q with | ⟨0, _⟩ => rfl | ⟨1, _⟩ => rfl)
    have hs : (slabDims N A B n wf).start (ix3 c a b) idx (0 : Fin 3) = min e.val (N - 1) := by
      unfold GatherDims.start
      rw [dif_pos h0, hi, he]
      rfl
    refine (congrArg₂ (· + ·) hs (GatherDims.offCoord_eq_zero _ _ _ (fun h => (kept 0).1 h rfl))).trans ?_
    have := e.isLt
    show min e.val (N - 1) + 0 = e.val
    omega
  | ⟨1, _⟩ =>
    have hs : (slabDims N A B n wf).start (ix3 c a b) idx (1 : Fin 3) = 0 := by
      unfold GatherDims.start
      exact dif_neg fun h => n1 (List.mem_singleton.1 h)
    have ho : (slabDims N A B n wf).offCoord (ix3 c a b) (1 : Fin 3) = a.val := by
      unfold GatherDims.offCoord
      exact dif_pos ((kept 1).2 n1)
    exact (congrArg₂ (· + ·) hs ho).trans (Nat.zero_add _)
  | ⟨2, _⟩ =>
    have hs : (slabDims N A B n wf).start (ix3 c a b) idx (2 : Fin 3) = 0 := by
      unfold GatherDims.start
      exact dif_neg fun h => n2 (List.mem_singleton.1 h)
    have ho : (slabDims N A B n wf).offCoord (ix3 c a b) (2 : Fin 3) = b.val := by
      unfold GatherDims.offCoord
      exact dif_pos ((kept 2).2 n2)
    exact (congrArg₂ (· + ·) hs ho).trans (Nat.zero_add _)

end Slabs

section Reference
open Cert.Reference3Ideal Cert.Reference3Ideal.Facts₀ Cert.Reference3Ideal.Facts

/-- The rows, as the reference unpacks them. -/
abbrev rows {F : FTy → Type} [FloatOps F] (x : IVec S73728x512 32) : FVec F S288x256x1024 .f32 :=
  shapeCast S288x256x1024 (concatenate S73728x1024 1 [⟨S73728x512, (bitcastToFloat (F := F) .f32 (Host.shli x (broadcastInDim S73728x512 ![] bcast_S_S73728x512 (constantI S_ 32 16#32))))⟩, ⟨S73728x512, (bitcastToFloat (F := F) .f32 (andi x (broadcastInDim S73728x512 ![] bcast_S_S73728x512 (constantI S_ 32 4294901760#32))))⟩] concatenates_S73728x512_S73728x512_S73728x1024_d1) shapeCasts_S73728x1024_S288x256x1024

/-- A negative index counts from the end. -/
abbrev wrap (B : IVec S288 32) : IVec S288x1 32 := broadcastInDim S288x1 ![0] bcast_S288_S288x1_0
  (select (cmpi .slt B (broadcastInDim S288 ![] bcast_S_S288 (constantI S_ 32 0#32))) (addi B (broadcastInDim S288 ![] bcast_S_S288 (constantI S_ 32 32#32))) B)

/-- The blocks' matrices. -/
abbrev takeIn {F : FTy → Type} (w : FVec F S32x1024x512 .f32) (B : IVec S288 32) : FVec F S288x1024x512 .f32 :=
  Host.gather gather_S32x1024x512_S288x1_S288x1024x512_12_0_n_n_0_1_11024512 w (wrap B)
abbrev takeOut {F : FTy → Type} (w : FVec F S32x512x1024 .f32) (B : IVec S288 32) : FVec F S288x512x1024 .f32 :=
  Host.gather gather_S32x512x1024_S288x1_S288x512x1024_12_0_n_n_0_1_15121024 w (wrap B)

abbrev inner {F : FTy → Type} [FloatOps F] (z : FVec F S288x256x1024 .f32) (u : FVec F S288x1024x512 .f32) : FVec F S288x256x512 .f32 :=
  Host.dotGeneral dot_S288x256x1024_S288x1024x512_S288x256x512_2_1_1_2_0_0 none z u

/-- The gated products. -/
abbrev gated {F : FTy → Type} [FloatOps F] (g u : FVec F S288x256x512 .f32) : FVec F S288x256x512 .f32 :=
  mulf (mulf g (Host.divf (broadcastInDim S288x256x512 ![] bcast_S_S288x256x512 (constant S_ .f32 0x3F800000#32)) (addf (broadcastInDim S288x256x512 ![] bcast_S_S288x256x512 (constant S_ .f32 0x3F800000#32)) (Host.exp (Host.negf g))))) u

/-- Which blocks are in use. -/
abbrev uses (n : IVec S1 32) : IVec S288x256x1024 1 :=
  broadcastInDim S288x256x1024 ![0, 1, 2] bcast_S288x1x1_S288x256x1024_0_1_2 (broadcastInDim S288x1x1 ![0] bcast_S288_S288x1x1_0 (cmpi .slt (iotaInDim S288 32 0) (broadcastInDim S288 ![] bcast_S_S288 (shapeCast S_ n shapeCasts_S1_S_))))

abbrev blocks {F : FTy → Type} [FloatOps F] (B : IVec S288 32) (n : IVec S1 32) (x : IVec S73728x512 32) (w1 w3 : FVec F S32x1024x512 .f32) (w2 : FVec F S32x512x1024 .f32) :
    FVec F S288x256x1024 .f32 :=
  select (uses n) (Host.dotGeneral dot_S288x256x512_S288x512x1024_S288x256x1024_2_1_1_2_0_0 none (gated (inner (rows x) (takeIn w1 B)) (inner (rows x) (takeIn w3 B))) (takeOut w2 B))
    (broadcastInDim S288x256x1024 ![] bcast_S_S288x256x1024 (constant S_ .f32 0x00000000#32))

abbrev result {F : FTy → Type} [FloatOps F] (B : IVec S288 32) (n : IVec S1 32) (x : IVec S73728x512 32) (w1 w3 : FVec F S32x1024x512 .f32) (w2 : FVec F S32x512x1024 .f32) :
    FVec F S73728x1024 .f32 := shapeCast S73728x1024 (blocks B n x w1 w3 w2) shapeCasts_S288x256x1024_S73728x1024

open Idealize.ShloMosaic.TcCoe Idealize.SL.Sem

theorem res_eq {F : FTy → Type} [FloatOps F] (m : (ℓ : Loc nD τ sig) → Buf (Elt F) ℓ) (c : Dev nD) :
    Cert.Reference3Ideal.Value.res_out0 m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.Reference3Ideal.Value.res_out0 Cert.Reference3Ideal.Value.res_main_v40
  rfl

theorem rows_apply (x : IVec S73728x512 32) (b : Fin 288) (r : Fin 256) (k : Fin 1024) :
    rows (F := Ideal) x (ix3 b r k) = unpack (fun j => x (ix2 (⟨256 * b.val + r.val, by omega⟩ : Fin 73728) j)) k := by
  have e : (⟨b.val * 256 + r.val, by omega⟩ : Fin 73728) = ⟨256 * b.val + r.val, by omega⟩ := Fin.ext (by show b.val * 256 + r.val = 256 * b.val + r.val; omega)
  have hs : ∀ w : BitVec 32, IntOp.shli ArithUnit.host w 16#32 = IntOp.shli ArithUnit.vector w 16#32 := fun w => rfl
  pointwise [unpack, lo, hi, e, hs]

theorem inner_apply (z : FVec Ideal S288x256x1024 .f32) (u : FVec Ideal S288x1024x512 .f32) (b : Fin 288) (r : Fin 256) (j : Fin 512) :
    inner z u (ix3 b r j) = dot (fun k => z (ix3 b r k)) (fun k => u (ix3 b k j)) := by
  pointwise [dot]

theorem gated_apply (g u : FVec Ideal S288x256x512 .f32) (b : Fin 288) (r : Fin 256) (j : Fin 512) :
    gated g u (ix3 b r j) = silu (g (ix3 b r j)) * u (ix3 b r j) := by
  pointwise [silu]

theorem uses_apply (n : IVec S1 32) (b : Fin 288) (r : Fin 256) (k : Fin 1024) : uses n (ix3 b r k) = IntOp.cmpi .slt (BitVec.ofNat 32 b.val) (n (ix1 (0 : Fin 1))) := by
  pointwise

theorem last_apply (h : FVec Ideal S288x256x512 .f32) (w : FVec Ideal S288x512x1024 .f32) (b : Fin 288) (r : Fin 256) (k : Fin 1024) :
    Host.dotGeneral dot_S288x256x512_S288x512x1024_S288x256x1024_2_1_1_2_0_0 none h w (ix3 b r k) = ∑ j : Fin 512, h (ix3 b r j) * w (ix3 b j k) := by
  pointwise

theorem result_row (v : FVec Ideal S288x256x1024 .f32) (q : Fin 73728) (k : Fin 1024) :
    shapeCast S73728x1024 v shapeCasts_S288x256x1024_S73728x1024 (ix2 q k) = v (ix3 (⟨q.val / 256, by omega⟩ : Fin 288) (⟨q.val % 256, Nat.mod_lt _ (by norm_num)⟩ : Fin 256) k) := by
  pointwise

theorem wrap_apply {B : IVec S288 32} (h : ∀ y : S288.Idx, 0 ≤ (B y).toInt ∧ (B y).toInt < 32) (b : Fin 288) : (wrap B (ix2 b (0 : Fin 1))).toInt.toNat = (B (ix1 b)).toNat % 32 := by
  have e : wrap B (ix2 b (0 : Fin 1)) = B (ix1 b) := by
    refine (bcCol bcast_S288_S288x1_0 _ b).trans ?_
    show (if IntOp.cmpi .slt (B (ix1 b)) 0#32 = 1#1 then IntOp.addi (B (ix1 b)) 32#32 else B (ix1 b)) = B (ix1 b)
    refine if_neg fun e => ?_
    have e := IntOp.cmpi_slt.1 e
    rw [BitVec.toInt_zero] at e
    have := (h (ix1 b)).1
    omega
  rw [e]
  obtain ⟨h0, h1⟩ := h (ix1 b)
  have hl := (B (ix1 b)).isLt
  rw [BitVec.toInt_eq_toNat_cond] at h0 h1 ⊢
  split at h0 <;> omega

/-- A block's expert. -/
abbrev ex (B : IVec S288 32) (b : Fin 288) : Fin 32 := ⟨(B (ix1 b)).toNat % 32, Nat.mod_lt _ (by norm_num)⟩

theorem takeIn_apply {B : IVec S288 32} (h : ∀ y : S288.Idx, 0 ≤ (B y).toInt ∧ (B y).toInt < 32) (w : FVec Ideal S32x1024x512 .f32) (b : Fin 288) (k : Fin 1024) (j : Fin 512) :
    takeIn w B (ix3 b k j) = w (ix3 (ex B b) k j) :=
  slab_apply gather_S32x1024x512_S288x1_S288x1024x512_12_0_n_n_0_1_11024512_wf w (wrap B) b k j (ex B b) (wrap_apply h b)

theorem takeOut_apply {B : IVec S288 32} (h : ∀ y : S288.Idx, 0 ≤ (B y).toInt ∧ (B y).toInt < 32) (w : FVec Ideal S32x512x1024 .f32) (b : Fin 288) (j : Fin 512) (k : Fin 1024) :
    takeOut w B (ix3 b j k) = w (ix3 (ex B b) j k) :=
  slab_apply gather_S32x512x1024_S288x1_S288x512x1024_12_0_n_n_0_1_15121024_wf w (wrap B) b j k (ex B b) (wrap_apply h b)

theorem cmpi_used (b : ℕ) (n : BitVec 32) : IntOp.cmpi .slt (BitVec.ofNat 32 b) n = 1#1 ↔ used b n := by
  show BitVec.ofBool ((BitVec.ofNat 32 b).slt n) = 1#1 ↔ _
  unfold used
  cases (BitVec.ofNat 32 b).slt n <;> decide

theorem blocks_apply {B : IVec S288 32} (h : ∀ y : S288.Idx, 0 ≤ (B y).toInt ∧ (B y).toInt < 32) (n : IVec S1 32) (x : IVec S73728x512 32) (w1 w3 : FVec Ideal S32x1024x512 .f32) (w2 : FVec Ideal S32x512x1024 .f32)
    (b : Fin 288) (r : Fin 256) (k : Fin 1024) : blocks B n x w1 w3 w2 (ix3 b r k) = outAt B n x w1 w3 w2 b r k := by
  have hc := cmpi_used b.val (n (ix1 (0 : Fin 1)))
  rw [← uses_apply n b r k] at hc
  unfold outAt
  dsimp only
  by_cases hu : used b.val (n (ix1 (0 : Fin 1)))
  · refine ((if_pos (hc.2 hu)).trans ?_).trans (if_pos hu).symm
    rw [last_apply]
    unfold through
    refine Finset.sum_congr rfl fun j _ => ?_
    rw [gated_apply, inner_apply, inner_apply, takeOut_apply h, funext (rows_apply x b r), funext (fun k => takeIn_apply h w1 b k j), funext (fun k => takeIn_apply h w3 b k j)]
  · refine ((if_neg fun e => hu (hc.1 e)).trans ?_).trans (if_neg hu).symm
    show Ideal.ofBits .f32 0x00000000#32 = 0
    pointwise

/-- Under the precondition the reference's value is the experts'. -/
theorem reference_out {B : IVec S288 32} (h : ∀ y : S288.Idx, 0 ≤ (B y).toInt ∧ (B y).toInt < 32) (n : IVec S1 32) (x : IVec S73728x512 32) (w1 w3 : FVec Ideal S32x1024x512 .f32) (w2 : FVec Ideal S32x512x1024 .f32) :
    result B n x w1 w3 w2 = out B n x w1 w3 w2 := by
  funext i
  have ei : i = ix2 (i 0) (i 1) := funext fun a => match a with | ⟨0, _⟩ => rfl | ⟨1, _⟩ => rfl
  refine (congrArg _ ei).trans ((result_row _ (i 0) (i 1)).trans ?_)
  exact blocks_apply h n x w1 w3 w2 _ _ _

end Reference

end Cert.Hand3

end
-- ==== Proof.GlaStep.lean ====
/- The run of the reference's loop over the chunks, in terms of the state one trip hands the next: each value of a trip
   at a valuation that holds a state is the one the step makes of that state, so the run ends at the state that 32 steps make. -/
module

public import proofs.«01_k».proof.Proof.Gen.Reference4Ideal.Run
public import proofs.«01_k».proof.Proof.Gen.Reference4Ideal.Step

@[expose] public section

noncomputable section

namespace Cert.GlaStep

open Idealize.ShloMosaic Idealize.ShloMosaic.TcCoe Idealize.SL.Sem Idealize.ShloMosaic.StableHlo
open Cert.Reference4Ideal Cert.Reference4Ideal.Gen Cert.Reference4Ideal.Value
open Cert.Reference4Ideal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v58_6) = s.main_v58_6
  f_7 : V0 (Proc.devRef .tc main_v58_7) = s.main_v58_7
  f_0 : V0 (Proc.devRef .tc main_v58_0) = s.main_v58_0
  f_1 : V0 (Proc.devRef .tc main_v58_1) = s.main_v58_1
  f_2 : V0 (Proc.devRef .tc main_v58_2) = s.main_v58_2
  f_3 : V0 (Proc.devRef .tc main_v58_3) = s.main_v58_3
  f_4 : V0 (Proc.devRef .tc main_v58_4) = s.main_v58_4
  n_5 : V0 (Proc.devRef .tc main_v58_5) = constantI S_ 32 (BitVec.ofNat 32 j)

variable {V0 s j}

set_option maxRecDepth 8192 in
theorem al_0 (h : Holds V0 s j) : (constantI S_ 32 0#32 : (Proc.devRef .tc main_while0b_call4_c : DevRef τ sig).ty.Contents (Elt F)) = Cert.Reference4Ideal.Step.b0 j s := by
  unfold Cert.Reference4Ideal.Step.b0
  rfl
set_option maxRecDepth 8192 in
theorem al_1 (h : Holds V0 s j) : (constantI S_ 32 0#32 : (Proc.devRef .tc main_while0b_call4_c_0 : DevRef τ sig).ty.Contents (Elt F)) = Cert.Reference4Ideal.Step.b1 j s := by
  unfold Cert.Reference4Ideal.Step.b1
  rfl
set_option maxRecDepth 8192 in
theorem al_2 (h : Holds V0 s j) : (constantI S_ 32 0#32 : (Proc.devRef .tc main_while0b_call4_c_1 : DevRef τ sig).ty.Contents (Elt F)) = Cert.Reference4Ideal.Step.b2 j s := by
  unfold Cert.Reference4Ideal.Step.b2
  rfl
set_option maxRecDepth 8192 in
theorem al_3 (h : Holds V0 s j) : (constantI S_ 32 0#32 : (Proc.devRef .tc main_while0b_call4_c_2 : DevRef τ sig).ty.Contents (Elt F)) = Cert.Reference4Ideal.Step.b3 j s := by
  unfold Cert.Reference4Ideal.Step.b3
  rfl
set_option maxRecDepth 8192 in
theorem al_4 (h : Holds V0 s j) : (Host.dynamicSlice S1x16x64x4x256 (V0 (Proc.devRef .tc main_v58_0)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256 : (Proc.devRef .tc main_while0b_call4_v0 : DevRef τ sig).ty.Contents (Elt F)) = Cert.Reference4Ideal.Step.b4 j s := by
  unfold Cert.Reference4Ideal.Step.b4
  rw [← al_0 h, ← al_1 h, ← al_2 h, ← al_3 h, h.f_0, h.n_5]
  try rfl
set_option maxRecDepth 8192 in
theorem al_5 (h : Holds V0 s j) : (shapeCast S16x64x4x256 (Host.dynamicSlice S1x16x64x4x256 (V0 (Proc.devRef .tc main_v58_0)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256 : (Proc.devRef .tc main_while0b_v92 : DevRef τ sig).ty.Contents (Elt F)) = Cert.Reference4Ideal.Step.b5 j s := by
  unfold Cert.Reference4Ideal.Step.b5
  rw [← al_4 h]
  try rfl
set_option maxRecDepth 8192 in
theorem al_6 (h : Holds V0 s j) : (constantI S_ 32 0#32 : (Proc.devRef .tc main_while0b_call5_c : DevRef τ sig).ty.Contents (Elt F)) = Cert.Reference4Ideal.Step.b6 j s := by
  unfold Cert.Reference4Ideal.Step.b6
  rfl
set_option maxRecDepth 8192 in
theorem al_7 (h : Holds V0 s j) : (constantI S_ 32 0#32 : (Proc.devRef .tc main_while0b_call5_c_0 : DevRef τ sig).ty.Contents (Elt F)) = Cert.Reference4Ideal.Step.b7 j s := by
  unfold Cert.Reference4Ideal.Step.b7
  rfl
set_option maxRecDepth 8192 in
theorem al_8 (h : Holds V0 s j) : (constantI S_ 32 0#32 : (Proc.devRef .tc main_while0b_call5_c_1 : DevRef τ sig).ty.Contents (Elt F)) = Cert.Reference4Ideal.Step.b8 j s := by
  unfold Cert.Reference4Ideal.Step.b8
  rfl
set_option maxRecDepth 8192 in
theorem al_9 (h : Holds V0 s j) : (constantI S_ 32 0#32 : (Proc.devRef .tc main_while0b_call5_c_2 : DevRef τ sig).ty.Contents (Elt F)) = Cert.Reference4Ideal.Step.b9 j s := by
  unfold Cert.Reference4Ideal.Step.b9
  rfl
set_option maxRecDepth 8192 in
theorem al_10 (h : Holds V0 s j) : (Host.dynamicSlice S1x16x64x4x128 (V0 (Proc.devRef .tc main_v58_1)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128 : (Proc.devRef .tc main_while0b_call5_v0 : DevRef τ sig).ty.Contents (Elt F)) = Cert.Reference4Ideal.Step.b10 j s := by
  unfold Cert.Reference4Ideal.Step.b10
  rw [← al_6 h, ← al_7 h, ← al_8 h, ← al_9 h, h.f_1, h.n_5]
  try rfl
set_option maxRecDepth 8192 in
theorem al_11 (h : Holds V0 s j) : (shapeCast S16x64x4x128 (Host.dynamicSlice S1x16x64x4x128 (V0 (Proc.devRef .tc main_v58_1)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128 : (Proc.devRef .tc main_while0b_v93 : DevRef τ sig).ty.Contents (Elt F)) = Cert.Reference4Ideal.Step.b11 j s := by
  unfold Cert.Reference4Ideal.Step.b11
  rw [← al_10 h]
  try rfl
set_option maxRecDepth 8192 in
theorem al_12 (h : Holds V0 s j) : (constantI S_ 32 0#32 : (Proc.devRef .tc main_while0b_call6_c : DevRef τ sig).ty.Contents (Elt F)) = Cert.Reference4Ideal.Step.b12 j s := by
  unfold Cert.Reference4Ideal.Step.b12
  rfl
set_option maxRecDepth 8192 in
theorem al_13 (h : Holds V0 s j) : (constantI S_ 32 0#32 : (Proc.devRef .tc main_while0b_call6_c_0 : DevRef τ sig).ty.Contents (Elt F)) = Cert.Reference4Ideal.Step.b13 j s := by
  unfold Cert.Reference4Ideal.Step.b13
  rfl
set_option maxRecDepth 8192 in
theorem al_14 (h : Holds V0 s j) : (constantI S_ 32 0#32 : (Proc.devRef .tc main_while0b_call6_c_1 : DevRef τ sig).ty.Contents (Elt F)) = Cert.Reference4Ideal.Step.b14 j s := by
  unfold Cert.Reference4Ideal.Step.b14
  rfl
set_option maxRecDepth 8192 in
theorem al_15 (h : Holds V0 s j) : (constantI S_ 32 0#32 : (Proc.devRef .tc main_while0b_call6_c_2 : DevRef τ sig).ty.Contents (Elt F)) = Cert.Reference4Ideal.Step.b15 j s := by
  unfold Cert.Reference4Ideal.Step.b15
  rfl
set_option maxRecDepth 8192 in
theorem al_16 (h : Holds V0 s j) : (Host.dynamicSlice S1x16x64x4x128 (V0 (Proc.devRef .tc main_v58_2)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128 : (Proc.devRef .tc main_while0b_call6_v0 : DevRef τ sig).ty.Contents (Elt F)) = Cert.Reference4Ideal.Step.b16 j s := by
  unfold Cert.Reference4Ideal.Step.b16
  rw [← al_12 h, ← al_13 h, ← al_14 h, ← al_15 h, h.f_2, h.n_5]
  try rfl
set_option maxRecDepth 8192 in
theorem al_17 (h : Holds V0 s j) : (shapeCast S16x64x4x128 (Host.dynamicSlice S1x16x64x4x128 (V0 (Proc.devRef .tc main_v58_2)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128 : (Proc.devRef .tc main_while0b_v94 : DevRef τ sig).ty.Contents (Elt F)) = Cert.Reference4Ideal.Step.b17 j s := by
  unfold Cert.Reference4Ideal.Step.b17
  rw [← al_16 h]
  try rfl
set_option maxRecDepth 8192 in
theorem al_18 (h : Holds V0 s j) : (constantI S_ 32 0#32 : (Proc.devRef .tc main_while0b_call7_c : DevRef τ sig).ty.Contents (Elt F)) = Cert.Reference4Ideal.Step.b18 j s := by
  unfold Cert.Reference4Ideal.Step.b18
  rfl
set_option maxRecDepth 8192 in
theorem al_19 (h : Holds V0 s j) : (constantI S_ 32 0#32 : (Proc.devRef .tc main_while0b_call7_c_0 : DevRef τ sig).ty.Contents (Elt F)) = Cert.Reference4Ideal.Step.b19 j s := by
  unfold Cert.Reference4Ideal.Step.b19
  rfl
set_option maxRecDepth 8192 in
theorem al_20 (h : Holds V0 s j) : (constantI S_ 32 0#32 : (Proc.devRef .tc main_while0b_call7_c_1 : DevRef τ sig).ty.Contents (Elt F)) = Cert.Reference4Ideal.Step.b20 j s := by
  unfold Cert.Reference4Ideal.Step.b20
  rfl
set_option maxRecDepth 8192 in
theorem al_21 (h : Holds V0 s j) : (constantI S_ 32 0#32 : (Proc.devRef .tc main_while0b_call7_c_2 : DevRef τ sig).ty.Contents (Elt F)) = Cert.Reference4Ideal.Step.b21 j s := by
  unfold Cert.Reference4Ideal.Step.b21
  rfl
set_option maxRecDepth 8192 in
theorem al_22 (h : Holds V0 s j) : (Host.dynamicSlice S1x16x64x4x256 (V0 (Proc.devRef .tc main_v58_3)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256 : (Proc.devRef .tc main_while0b_call7_v0 : DevRef τ sig).ty.Contents (Elt F)) = Cert.Reference4Ideal.Step.b22 j s := by
  unfold Cert.Reference4Ideal.Step.b22
  rw [← al_18 h, ← al_19 h, ← al_20 h, ← al_21 h, h.f_3, h.n_5]
  try rfl
set_option maxRecDepth 8192 in
theorem al_23 (h : Holds V0 s j) : (shapeCast S16x64x4x256 (Host.dynamicSlice S1x16x64x4x256 (V0 (Proc.devRef .tc main_v58_3)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256 : (Proc.devRef .tc main_while0b_v95 : DevRef τ sig).ty.Contents (Elt F)) = Cert.Reference4Ideal.Step.b23 j s := by
  unfold Cert.Reference4Ideal.Step.b23
  rw [← al_22 h]
  try rfl
set_option maxRecDepth 8192 in
theorem al_24 (h : Holds V0 s j) : (constantI S_ 32 0#32 : (Proc.devRef .tc main_while0b_call8_c : DevRef τ sig).ty.Contents (Elt F)) = Cert.Reference4Ideal.Step.b24 j s := by
  unfold Cert.Reference4Ideal.Step.b24
  rfl
set_option maxRecDepth 8192 in
theorem al_25 (h : Holds V0 s j) : (constantI S_ 32 0#32 : (Proc.devRef .tc main_while0b_call8_c_0 : DevRef τ sig).ty.Contents (Elt F)) = Cert.Reference4Ideal.Step.b25 j s := by
  unfold Cert.Reference4Ideal.Step.b25
  rfl
set_option maxRecDepth 8192 in
theorem al_26 (h : Holds V0 s j) : (constantI S_ 32 0#32 : (Proc.devRef .tc main_while0b_call8_c_1 : DevRef τ sig).ty.Contents (Elt F)) = Cert.Reference4Ideal.Step.b26 j s := by
  unfold Cert.Reference4Ideal.Step.b26
  rfl
set_option maxRecDepth 8192 in
theorem al_27 (h : Holds V0 s j) : (Host.dynamicSlice S1x16x4x128 (V0 (Proc.devRef .tc main_v58_4)) (fun k => (((![V0 (Proc.devRef .tc main_v58_5), constantI S_ 32 0#32, constantI S_ 32 0#32, constantI S_ 32 0#32] : Fin 4 → (⟨S_, .i32⟩ : BufTy).Contents (Elt F))) k (Shape.Idx.first h_S_)).toInt) sliceFits_S32x16x4x128_S1x16x4x128 : (Proc.devRef .tc main_while0b_call8_v0 : DevRef τ sig).ty.Contents (Elt F)) = Cert.Reference4Ideal.Step.b27 j s := by
  unfold Cert.Reference4Ideal.Step.b27
  rw [← al_24 h, ← al_25 h, ← al_26 h, h.f_4, h.n_5]
  try rfl
set_option maxRecDepth 8192 in
theorem al_28 (h : Holds V0 s j) : (shapeCast S16x4x128 (Host.dynamicSlice S1x16x4x128 (V0 (Proc.devRef .tc main_v58_4)) (fun k => (((![V0 (Proc.devRef .tc main_v58_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128 : (Proc.devRef .tc main_while0b_v96 : DevRef τ sig).ty.Contents (Elt F)) = Cert.Reference4Ideal.Step.b28 j s := by
  unfold Cert.Reference4Ideal.Step.b28
  rw [← al_27 h]
  try rfl
set_option maxRecDepth 8192 in
theorem al_29 (h : Holds V0 s j) : (Host.dotGeneral dot_S16x4x128x256_S16x64x4x128_S16x4x256x64_2_3_3_1_01_02 none (V0 (Proc.devRef .tc main_v58_6)) (shapeCast S16x64x4x128 (Host.dynamicSlice S1x16x64x4x128 (V0 (Proc.devRef .tc main_v58_1)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128) : (Proc.devRef .tc main_while0b_v97 : DevRef τ sig).ty.Contents (Elt F)) = Cert.Reference4Ideal.Step.b29 j s := by
  unfold Cert.Reference4Ideal.Step.b29
  rw [← al_11 h, h.f_6]
  try rfl
set_option maxRecDepth 8192 in
theorem al_30 (h : Holds V0 s j) : (transpose S16x64x4x256 [0, 3, 1, 2] (Host.dotGeneral dot_S16x4x128x256_S16x64x4x128_S16x4x256x64_2_3_3_1_01_02 none (V0 (Proc.devRef .tc main_v58_6)) (shapeCast S16x64x4x128 (Host.dynamicSlice S1x16x64x4x128 (V0 (Proc.devRef .tc main_v58_1)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128)) transposes_S16x4x256x64_S16x64x4x256_0_3_1_2 : (Proc.devRef .tc main_while0b_v98 : DevRef τ sig).ty.Contents (Elt F)) = Cert.Reference4Ideal.Step.b30 j s := by
  unfold Cert.Reference4Ideal.Step.b30
  rw [← al_29 h]
  try rfl
set_option maxRecDepth 8192 in
theorem al_31 (h : Holds V0 s j) : (addf (shapeCast S16x64x4x256 (Host.dynamicSlice S1x16x64x4x256 (V0 (Proc.devRef .tc main_v58_0)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256) (transpose S16x64x4x256 [0, 3, 1, 2] (Host.dotGeneral dot_S16x4x128x256_S16x64x4x128_S16x4x256x64_2_3_3_1_01_02 none (V0 (Proc.devRef .tc main_v58_6)) (shapeCast S16x64x4x128 (Host.dynamicSlice S1x16x64x4x128 (V0 (Proc.devRef .tc main_v58_1)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128)) transposes_S16x4x256x64_S16x64x4x256_0_3_1_2) : (Proc.devRef .tc main_while0b_v99 : DevRef τ sig).ty.Contents (Elt F)) = Cert.Reference4Ideal.Step.b31 j s := by
  unfold Cert.Reference4Ideal.Step.b31
  rw [← al_5 h, ← al_30 h]
  try rfl
set_option maxRecDepth 8192 in
theorem al_32 (h : Holds V0 s j) : (broadcastInDim S16x4x128x1 ![0, 1, 2] bcast_S16x4x128_S16x4x128x1_0_1_2 (shapeCast S16x4x128 (Host.dynamicSlice S1x16x4x128 (V0 (Proc.devRef .tc main_v58_4)) (fun k => (((![V0 (Proc.devRef .tc main_v58_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128) : (Proc.devRef .tc main_while0b_v100 : DevRef τ sig).ty.Contents (Elt F)) = Cert.Reference4Ideal.Step.b32 j s := by
  unfold Cert.Reference4Ideal.Step.b32
  rw [← al_28 h]
  try rfl
set_option maxRecDepth 8192 in
theorem al_33 (h : Holds V0 s j) : (broadcastInDim S16x4x128x256 ![0, 1, 2, 3] bcast_S16x4x128x1_S16x4x128x256_0_1_2_3 (broadcastInDim S16x4x128x1 ![0, 1, 2] bcast_S16x4x128_S16x4x128x1_0_1_2 (shapeCast S16x4x128 (Host.dynamicSlice S1x16x4x128 (V0 (Proc.devRef .tc main_v58_4)) (fun k => (((![V0 (Proc.devRef .tc main_v58_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128)) : (Proc.devRef .tc main_while0b_v101 : DevRef τ sig).ty.Contents (Elt F)) = Cert.Reference4Ideal.Step.b33 j s := by
  unfold Cert.Reference4Ideal.Step.b33
  rw [← al_32 h]
  try rfl
set_option maxRecDepth 8192 in
theorem al_34 (h : Holds V0 s j) : (mulf (broadcastInDim S16x4x128x256 ![0, 1, 2, 3] bcast_S16x4x128x1_S16x4x128x256_0_1_2_3 (broadcastInDim S16x4x128x1 ![0, 1, 2] bcast_S16x4x128_S16x4x128x1_0_1_2 (shapeCast S16x4x128 (Host.dynamicSlice S1x16x4x128 (V0 (Proc.devRef .tc main_v58_4)) (fun k => (((![V0 (Proc.devRef .tc main_v58_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128))) (V0 (Proc.devRef .tc main_v58_6)) : (Proc.devRef .tc main_while0b_v102 : DevRef τ sig).ty.Contents (Elt F)) = Cert.Reference4Ideal.Step.b34 j s := by
  unfold Cert.Reference4Ideal.Step.b34
  rw [← al_33 h, h.f_6]
  try rfl
set_option maxRecDepth 8192 in
theorem al_35 (h : Holds V0 s j) : (Host.dotGeneral dot_S16x64x4x128_S16x64x4x256_S16x4x128x256_1_1_3_3_02_02 none (shapeCast S16x64x4x128 (Host.dynamicSlice S1x16x64x4x128 (V0 (Proc.devRef .tc main_v58_2)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128) (shapeCast S16x64x4x256 (Host.dynamicSlice S1x16x64x4x256 (V0 (Proc.devRef .tc main_v58_3)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256) : (Proc.devRef .tc main_while0b_v103 : DevRef τ sig).ty.Contents (Elt F)) = Cert.Reference4Ideal.Step.b35 j s := by
  unfold Cert.Reference4Ideal.Step.b35
  rw [← al_17 h, ← al_23 h]
  try rfl
set_option maxRecDepth 8192 in
theorem al_36 (h : Holds V0 s j) : (addf (mulf (broadcastInDim S16x4x128x256 ![0, 1, 2, 3] bcast_S16x4x128x1_S16x4x128x256_0_1_2_3 (broadcastInDim S16x4x128x1 ![0, 1, 2] bcast_S16x4x128_S16x4x128x1_0_1_2 (shapeCast S16x4x128 (Host.dynamicSlice S1x16x4x128 (V0 (Proc.devRef .tc main_v58_4)) (fun k => (((![V0 (Proc.devRef .tc main_v58_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128))) (V0 (Proc.devRef .tc main_v58_6))) (Host.dotGeneral dot_S16x64x4x128_S16x64x4x256_S16x4x128x256_1_1_3_3_02_02 none (shapeCast S16x64x4x128 (Host.dynamicSlice S1x16x64x4x128 (V0 (Proc.devRef .tc main_v58_2)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128) (shapeCast S16x64x4x256 (Host.dynamicSlice S1x16x64x4x256 (V0 (Proc.devRef .tc main_v58_3)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256)) : (Proc.devRef .tc main_while0b_v104 : DevRef τ sig).ty.Contents (Elt F)) = Cert.Reference4Ideal.Step.b36 j s := by
  unfold Cert.Reference4Ideal.Step.b36
  rw [← al_34 h, ← al_35 h]
  try rfl
set_option maxRecDepth 8192 in
theorem al_37 (h : Holds V0 s j) : (broadcastInDim S1x16x64x4x256 ![1, 2, 3, 4] bcast_S16x64x4x256_S1x16x64x4x256_1_2_3_4 (addf (shapeCast S16x64x4x256 (Host.dynamicSlice S1x16x64x4x256 (V0 (Proc.devRef .tc main_v58_0)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256) (transpose S16x64x4x256 [0, 3, 1, 2] (Host.dotGeneral dot_S16x4x128x256_S16x64x4x128_S16x4x256x64_2_3_3_1_01_02 none (V0 (Proc.devRef .tc main_v58_6)) (shapeCast S16x64x4x128 (Host.dynamicSlice S1x16x64x4x128 (V0 (Proc.devRef .tc main_v58_1)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128)) transposes_S16x4x256x64_S16x64x4x256_0_3_1_2)) : (Proc.devRef .tc main_while0b_call9_v0 : DevRef τ sig).ty.Contents (Elt F)) = Cert.Reference4Ideal.Step.b37 j s := by
  unfold Cert.Reference4Ideal.Step.b37
  rw [← al_31 h]
  try rfl
set_option maxRecDepth 8192 in
theorem al_38 (h : Holds V0 s j) : (constantI S_ 32 0#32 : (Proc.devRef .tc main_while0b_call9_c : DevRef τ sig).ty.Contents (Elt F)) = Cert.Reference4Ideal.Step.b38 j s := by
  unfold Cert.Reference4Ideal.Step.b38
  rfl
set_option maxRecDepth 8192 in
theorem al_39 (h : Holds V0 s j) : (constantI S_ 32 0#32 : (Proc.devRef .tc main_while0b_call9_c_0 : DevRef τ sig).ty.Contents (Elt F)) = Cert.Reference4Ideal.Step.b39 j s := by
  unfold Cert.Reference4Ideal.Step.b39
  rfl
set_option maxRecDepth 8192 in
theorem al_40 (h : Holds V0 s j) : (constantI S_ 32 0#32 : (Proc.devRef .tc main_while0b_call9_c_1 : DevRef τ sig).ty.Contents (Elt F)) = Cert.Reference4Ideal.Step.b40 j s := by
  unfold Cert.Reference4Ideal.Step.b40
  rfl
set_option maxRecDepth 8192 in
theorem al_41 (h : Holds V0 s j) : (constantI S_ 32 0#32 : (Proc.devRef .tc main_while0b_call9_c_2 : DevRef τ sig).ty.Contents (Elt F)) = Cert.Reference4Ideal.Step.b41 j s := by
  unfold Cert.Reference4Ideal.Step.b41
  rfl
set_option maxRecDepth 8192 in
theorem al_42 (h : Holds V0 s j) : (Host.dynamicUpdateSlice (V0 (Proc.devRef .tc main_v58_7)) (broadcastInDim S1x16x64x4x256 ![1, 2, 3, 4] bcast_S16x64x4x256_S1x16x64x4x256_1_2_3_4 (addf (shapeCast S16x64x4x256 (Host.dynamicSlice S1x16x64x4x256 (V0 (Proc.devRef .tc main_v58_0)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256) (transpose S16x64x4x256 [0, 3, 1, 2] (Host.dotGeneral dot_S16x4x128x256_S16x64x4x128_S16x4x256x64_2_3_3_1_01_02 none (V0 (Proc.devRef .tc main_v58_6)) (shapeCast S16x64x4x128 (Host.dynamicSlice S1x16x64x4x128 (V0 (Proc.devRef .tc main_v58_1)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128)) transposes_S16x4x256x64_S16x64x4x256_0_3_1_2))) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) updateFits_S32x16x64x4x256_S1x16x64x4x256 : (Proc.devRef .tc main_while0b_v105 : DevRef τ sig).ty.Contents (Elt F)) = Cert.Reference4Ideal.Step.b42 j s := by
  unfold Cert.Reference4Ideal.Step.b42
  rw [← al_37 h, ← al_38 h, ← al_39 h, ← al_40 h, ← al_41 h, h.f_7, h.n_5]
  try rfl

/-! One trip's step of the carried values is `step`, field by field; a counter steps to the next number. -/

theorem step_6 (h : Holds V0 s j) : step_main_v58_6 V0 = (step j s).main_v58_6 := by
  unfold step_main_v58_6 Cert.Reference4Ideal.Step.step
  show id (addf (mulf (broadcastInDim S16x4x128x256 ![0, 1, 2, 3] bcast_S16x4x128x1_S16x4x128x256_0_1_2_3 (broadcastInDim S16x4x128x1 ![0, 1, 2] bcast_S16x4x128_S16x4x128x1_0_1_2 (shapeCast S16x4x128 (Host.dynamicSlice S1x16x4x128 (V0 (Proc.devRef .tc main_v58_4)) (fun k => (((![V0 (Proc.devRef .tc main_v58_5), constantI S_ 32 0#32, constantI S_ 32 0#32, constantI S_ 32 0#32] : Fin 4 → (⟨S_, .i32⟩ : BufTy).Contents (Elt F))) k (Shape.Idx.first h_S_)).toInt) sliceFits_S32x16x4x128_S1x16x4x128) shapeCasts_S1x16x4x128_S16x4x128))) (V0 (Proc.devRef .tc main_v58_6))) (Host.dotGeneral dot_S16x64x4x128_S16x64x4x256_S16x4x128x256_1_1_3_3_02_02 none (shapeCast S16x64x4x128 (Host.dynamicSlice S1x16x64x4x128 (V0 (Proc.devRef .tc main_v58_2)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128) (shapeCast S16x64x4x256 (Host.dynamicSlice S1x16x64x4x256 (V0 (Proc.devRef .tc main_v58_3)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256))) = _
  rw [al_36 h]
  try rfl
theorem step_7 (h : Holds V0 s j) : step_main_v58_7 V0 = (step j s).main_v58_7 := by
  unfold step_main_v58_7 Cert.Reference4Ideal.Step.step
  show id (Host.dynamicUpdateSlice (V0 (Proc.devRef .tc main_v58_7)) (broadcastInDim S1x16x64x4x256 ![1, 2, 3, 4] bcast_S16x64x4x256_S1x16x64x4x256_1_2_3_4 (addf (shapeCast S16x64x4x256 (Host.dynamicSlice S1x16x64x4x256 (V0 (Proc.devRef .tc main_v58_0)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x256_S1x16x64x4x256) shapeCasts_S1x16x64x4x256_S16x64x4x256) (transpose S16x64x4x256 [0, 3, 1, 2] (Host.dotGeneral dot_S16x4x128x256_S16x64x4x128_S16x4x256x64_2_3_3_1_01_02 none (V0 (Proc.devRef .tc main_v58_6)) (shapeCast S16x64x4x128 (Host.dynamicSlice S1x16x64x4x128 (V0 (Proc.devRef .tc main_v58_1)) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) sliceFits_S32x16x64x4x128_S1x16x64x4x128) shapeCasts_S1x16x64x4x128_S16x64x4x128)) transposes_S16x4x256x64_S16x64x4x256_0_3_1_2))) (fun k => (((![V0 (Proc.devRef .tc main_v58_5), constantI S_ 32 0#32, constantI S_ 32 0#32, constantI S_ 32 0#32, constantI S_ 32 0#32] : Fin 5 → (⟨S_, .i32⟩ : BufTy).Contents (Elt F))) k (Shape.Idx.first h_S_)).toInt) updateFits_S32x16x64x4x256_S1x16x64x4x256) = _
  exact al_42 h
theorem step_5 (h : Holds V0 s j) : step_main_v58_5 V0 = constantI S_ 32 (BitVec.ofNat 32 (j + 1)) := by
  unfold step_main_v58_5
  rw [h.n_5]
  funext i
  show BitVec.ofNat 32 j + 1#32 = BitVec.ofNat 32 (j + 1)
  simp only [BitVec.ofNat_add]

set_option maxRecDepth 8192 in
theorem out_main_v91_holds (h : Holds V0 s j) {x_main_arg0 : (⟨S16x2048x1024, .f32⟩ : BufTy).Contents (Elt F)} (h_main_arg0 : V0 (Proc.devRef .tc main_arg0) = x_main_arg0) {x_main_arg1 : (⟨S1024x7184, .f32⟩ : BufTy).Contents (Elt F)} (h_main_arg1 : V0 (Proc.devRef .tc main_arg1) = x_main_arg1) {x_main_arg2 : (⟨S7184, .f32⟩ : BufTy).Contents (Elt F)} (h_main_arg2 : V0 (Proc.devRef .tc main_arg2) = x_main_arg2) {x_main_arg5 : (⟨S1024, .f32⟩ : BufTy).Contents (Elt F)} (h_main_arg5 : V0 (Proc.devRef .tc main_arg5) = x_main_arg5) {x_main_arg6 : (⟨S1024x1024, .f32⟩ : BufTy).Contents (Elt F)} (h_main_arg6 : V0 (Proc.devRef .tc main_arg6) = x_main_arg6) : out_main_v91 V0 = Cert.Reference4Ideal.Step.R_main_v91 s x_main_arg0 x_main_arg1 x_main_arg2 x_main_arg5 x_main_arg6 := by
  unfold out_main_v91 Cert.Reference4Ideal.Step.R_main_v91
  rw [h.f_7, h_main_arg0, h_main_arg1, h_main_arg2, h_main_arg5, h_main_arg6]
  try rfl

/-- One trip keeps the valuation holding: `step` of the state, the same set-up values, the next number. -/
theorem holds_step (h : Holds V0 s j) : Holds (STEP V0) (step j s) (j + 1) where
  f_6 := (STEP_main_v58_6 V0).trans (step_6 h)
  f_7 := (STEP_main_v58_7 V0).trans (step_7 h)
  n_5 := (STEP_main_v58_5 V0).trans (step_5 h)
  f_0 := (STEP_main_v58_0 V0).trans h.f_0
  f_1 := (STEP_main_v58_1 V0).trans h.f_1
  f_2 := (STEP_main_v58_2 V0).trans h.f_2
  f_3 := (STEP_main_v58_3 V0).trans h.f_3
  f_4 := (STEP_main_v58_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `Reference4Ideal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v91) = Cert.Reference4Ideal.Step.R_main_v91 (it c 32) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 32
    ⟨(h c).1.trans (out_main_v91_holds hk (iter_main_arg0 m c 32) (iter_main_arg1 m c 32) (iter_main_arg2 m c 32) (iter_main_arg5 m c 32) (iter_main_arg6 m c 32)), (h c).2.1, (h c).2.2.1, (h c).2.2.2.1, (h c).2.2.2.2.1, (h c).2.2.2.2.2.1, (h c).2.2.2.2.2.2.1, (h c).2.2.2.2.2.2.2⟩) (Value.run m ρ)

end Cert.GlaStep

end
-- ==== Proof.Gla.lean ====
/-
  Hand-written. The body of a point of the gated linear attention read as a sequence: four chunks of 64 rows by four heads,
  each head's state carried from chunk to chunk, and the rows that the point stores.
-/
module

public import proofs.«01_k».proof.Proof.Gen.Kernel4Ideal.Value
public import Idealize.ShloMosaic.Lib.Pipeline.ReadBack
public import Idealize.ShloMosaic.Lib.WholeRead

@[expose] public section

set_option maxRecDepth 16384

noncomputable section

namespace Cert.Hand4

open Idealize.ShloMosaic Cert.Kernel4Ideal Cert.Kernel4Ideal.Gen

variable {F : FTy → Type} [FloatOps F]

theorem slRow (c : Fin 4) : S256x512.Slices ![64 * c.val, 0] S64x512 := by revert c; decide
theorem slLast (c : Fin 4) : S256x512.Slices ![64 * c.val + 63, 0] S1x512 := by revert c; decide
theorem slHead (h : Fin 4) : S64x512.Slices ![0, 128 * h.val] S64x128 := by revert h; decide
theorem slDec (h : Fin 4) : S1x512.Slices ![0, 128 * h.val] S1x128 := by revert h; decide
theorem slVal (c h : Fin 4) : S256x1024.Slices ![64 * c.val, 256 * h.val] S64x256 := by revert c h; decide

/-- A chunk's rows, and the last of them, alone. -/
def rowsOf (c : Fin 4) (b : FVec F S256x512 .f32) : FVec F S64x512 .f32 := extractStridedSlice S64x512 ![64 * c.val, 0] b (slRow c)
def lastOf (c : Fin 4) (b : FVec F S256x512 .f32) : FVec F S1x512 .f32 := extractStridedSlice S1x512 ![64 * c.val + 63, 0] b (slLast c)
def valOf (c h : Fin 4) (v : FVec F S256x1024 .f32) : FVec F S64x256 .bf16 :=
  truncf .bf16 (extractStridedSlice S64x256 ![64 * c.val, 256 * h.val] v (slVal c h)) bitsLt_bf16_f32

/-- What a head's chunk reads of its queries. -/
def queryOf (c h : Fin 4) (q b : FVec F S256x512 .f32) : FVec F S64x128 .bf16 :=
  truncf .bf16 (extractStridedSlice S64x128 ![0, 128 * h.val] (mulf (rowsOf c q) (exp (rowsOf c b))) (slHead h)) bitsLt_bf16_f32

/-- What a head's chunk writes, of the state that it finds. -/
def gO (c h : Fin 4) (q k : FVec F S256x512 .f32) (v : FVec F S256x1024 .f32) (b : FVec F S256x512 .f32) (s : FVec F S1x256x128 .f32) :
    FVec F S64x256 .f32 :=
  shapeCast S64x256
    (addf
      (matmul dot_S64x64_S64x256_S64x256_1_0_0_1_n_n none
        (truncf .bf16
          (select k0_pay11
            (matmul dot_S64x128_S64x128_S64x64_1_1_0_0_n_n none (queryOf c h q b)
              (truncf .bf16 (extractStridedSlice S64x128 ![0, 128 * h.val]
                (mulf (rowsOf c k) (exp (subf (broadcast S64x512 (Scalar.ofBits .f32 0x00000000#32)) (rowsOf c b)))) (slHead h)) bitsLt_bf16_f32)
              (constant S64x64 .f32 0x00000000#32))
            (broadcast S64x64 (Scalar.ofBits .f32 0x00000000#32))) bitsLt_bf16_f32)
        (valOf c h v) (constant S64x256 .f32 0x00000000#32))
      (matmul dot_S64x128_S256x128_S64x256_1_1_0_0_n_n none (queryOf c h q b)
        (truncf .bf16 (shapeCast S256x128 s shapeCasts_S1x256x128_S256x128) bitsLt_bf16_f32) (constant S64x256 .f32 0x00000000#32)))
    shapeCasts_S64x256_S64x256

/-- The state that a head's chunk leaves. -/
def gS (c h : Fin 4) (k : FVec F S256x512 .f32) (v : FVec F S256x1024 .f32) (b : FVec F S256x512 .f32) (s : FVec F S1x256x128 .f32) :
    FVec F S1x256x128 .f32 :=
  shapeCast S1x256x128
    (addf
      (mulf (shapeCast S256x128 s shapeCasts_S1x256x128_S256x128)
        (broadcastTo S256x128 (extractStridedSlice S1x128 ![0, 128 * h.val] (exp (lastOf c b)) (slDec h)) broadcasts_S1x128_S256x128))
      (matmul dot_S64x256_S64x128_S256x128_0_0_1_1_n_n none (valOf c h v)
        (truncf .bf16 (extractStridedSlice S64x128 ![0, 128 * h.val]
          (mulf (rowsOf c k) (exp (subf (broadcastTo S64x512 (lastOf c b) broadcasts_S1x512_S64x512) (rowsOf c b)))) (slHead h)) bitsLt_bf16_f32)
        (constant S256x128 .f32 0x00000000#32)))
    shapeCasts_S256x128_S1x256x128

/-- A head's state before its chunk `n`, from the state before the point. -/
def gSt (h : Fin 4) (k : FVec F S256x512 .f32) (v : FVec F S256x1024 .f32) (b : FVec F S256x512 .f32) (s : FVec F S1x256x128 .f32) :
    ℕ → FVec F S1x256x128 .f32
  | 0 => s
  | n + 1 => gS ⟨n % 4, Nat.mod_lt _ (by decide)⟩ h k v b (gSt h k v b s n)

/-- The rows of a point, head by head and chunk by chunk. -/
def gRow (q k : FVec F S256x512 .f32) (v : FVec F S256x1024 .f32) (b : FVec F S256x512 .f32) (s : Fin 4 → FVec F S1x256x128 .f32)
    (y : S256x1024.Idx) : F .f32 :=
  gO ⟨(y 0).val / 64, by have : (y 0).val < 256 := (y 0).isLt; omega⟩ ⟨(y 1).val / 256, by have : (y 1).val < 1024 := (y 1).isLt; omega⟩ q k v b
    (gSt ⟨(y 1).val / 256, by have : (y 1).val < 1024 := (y 1).isLt; omega⟩ k v b (s ⟨(y 1).val / 256, by have : (y 1).val < 1024 := (y 1).isLt; omega⟩) ((y 0).val / 64))
    (fun a => match a with
      | 0 => ⟨(y 0).val % 64, Nat.mod_lt _ (by decide)⟩
      | 1 => ⟨(y 1).val % 256, Nat.mod_lt _ (by decide)⟩)

theorem gRow_at (q k : FVec F S256x512 .f32) (v : FVec F S256x1024 .f32) (b : FVec F S256x512 .f32) (s : Fin 4 → FVec F S1x256x128 .f32)
    (c h : Fin 4) (x : S64x256.Idx) (y : S256x1024.Idx) (h0 : (y 0).val = 64 * c.val + (x 0).val) (h1 : (y 1).val = 256 * h.val + (x 1).val) :
    gO c h q k v b (gSt h k v b (s h) c.val) x = gRow q k v b s y := by
  have b0 : (x 0).val < 64 := (x 0).isLt
  have b1 : (x 1).val < 256 := (x 1).isLt
  have e0 : (⟨(y 0).val / 64, by have : (y 0).val < 256 := (y 0).isLt; omega⟩ : Fin 4) = c := Fin.ext (by show (y 0).val / 64 = c.val; omega)
  have e1 : (⟨(y 1).val / 256, by have : (y 1).val < 1024 := (y 1).isLt; omega⟩ : Fin 4) = h := Fin.ext (by show (y 1).val / 256 = h.val; omega)
  have e2 : (y 0).val / 64 = c.val := by omega
  unfold gRow
  rw [e0, e1, e2]
  refine congrArg _ (funext fun a => Fin.ext ?_)
  match a with
  | 0 => show (x 0).val = (y 0).val % 64; omega
  | 1 => show (x 1).val = (y 1).val % 256; omega

theorem mem_tile (c h : ℕ) (inb : ∀ a, (![64 * c, 256 * h] : Fin 2 → ℕ) a + S64x256.size a ≤ S256x1024.size a) (y : S256x1024.Idx)
    (h0 : (y 0).val / 64 = c) (h1 : (y 1).val / 256 = h) : y ∈ (Rect.unit (s := S256x1024) ![64 * c, 256 * h] S64x256.size inb).set :=
  (LoadRect.mem_set _).mpr fun a => match a with
    | 0 => ⟨(y 0).val % 64, Nat.mod_lt _ (by decide), by show (y 0).val = 64 * c + 1 * ((y 0).val % 64); omega⟩
    | 1 => ⟨(y 1).val % 256, Nat.mod_lt _ (by decide), by show (y 1).val = 256 * h + 1 * ((y 1).val % 256); omega⟩

/-- A point's last payload. -/
def gFin (g : FVec F S256x1024 .f32) (o0 o1 o2 o3 : FVec F S256x256 .f32) (w0 w1 w2 w3 : FVec F S1x256 .f32) (p : FVec F S1024x1024 .bf16) :
    FVec F S256x1024 .f32 :=
  k0_pay143 g (k0_pay139 o0 (k0_pay138 o0) w0) (k0_pay140 o1 w1) (k0_pay141 o2) (k0_pay142 w2) o3 w3 p

theorem mem_head (h : ℕ) (hh : h < 4) (inb : ∀ a, (![h, 0, 0] : Fin 3 → ℕ) a + S1x256x128.size a ≤ S4x256x128.size a) (y : S4x256x128.Idx)
    (h0 : (y 0).val = h) : y ∈ (Rect.unit (s := S4x256x128) ![h, 0, 0] S1x256x128.size inb).set :=
  (LoadRect.mem_set _).mpr fun a => match a with
    | 0 => ⟨0, Nat.one_pos, by show (y 0).val = h + 1 * 0; omega⟩
    | 1 => ⟨(y 1).val, (y 1).isLt, by show (y 1).val = 0 + 1 * (y 1).val; omega⟩
    | 2 => ⟨(y 2).val, (y 2).isLt, by show (y 2).val = 0 + 1 * (y 2).val; omega⟩

/-- The four states after a point, as one array. -/
def gAll (k : FVec F S256x512 .f32) (v : FVec F S256x1024 .f32) (b : FVec F S256x512 .f32) (s : Fin 4 → FVec F S1x256x128 .f32)
    (y : S4x256x128.Idx) : F .f32 :=
  gSt (y 0) k v b (s (y 0)) 4 (fun a => match a with | 0 => ⟨0, by decide⟩ | 1 => y 1 | 2 => y 2)

theorem gAll_at (k : FVec F S256x512 .f32) (v : FVec F S256x1024 .f32) (b : FVec F S256x512 .f32) (s : Fin 4 → FVec F S1x256x128 .f32)
    (h : Fin 4) (x : S1x256x128.Idx) (y : S4x256x128.Idx) (h0 : (y 0).val = h.val + (x 0).val) (h1 : (y 1).val = (x 1).val) (h2 : (y 2).val = (x 2).val) :
    gSt h k v b (s h) 4 x = gAll k v b s y := by
  have b0 : (x 0).val < 1 := (x 0).isLt
  have e0 : (y 0 : Fin 4) = h := Fin.ext (by omega)
  unfold gAll
  rw [e0]
  refine congrArg _ (funext fun a => Fin.ext ?_)
  match a with
  | 0 => show (x 0).val = 0; omega
  | 1 => exact h1.symm
  | 2 => exact h2.symm

section A
variable (c : Dev nD) (i : grid0.Coords) (arg2 : Memref sig .tc .vmem S1x256x1024 .f32) (harg2 : arg2.IsWhole) (arg3 : Memref sig .tc .vmem S1024x7296 .bf16) (harg3 : arg3.IsWhole) (arg4 : Memref sig .tc .vmem S1x7296 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x256x1024 .f32) (harg9 : arg9.IsWhole) (arg10 : Memref sig .tc .vmem S4x256x128 .f32) (harg10 : arg10.IsWhole) (arg11 : Memref sig .tc .vmem S256x1024 .f32) (harg11 : arg11.IsWhole) (hc0 : cond0_0 i)
    (x0 : Vec F S1x256x1024 .f32) (x1 : Vec F S1024x7296 .bf16) (x2 : Vec F S1x7296 .f32) (x3 : Vec F S128x512 .bf16) (x4 : Vec F S1x512 .f32) (x5 : Vec F S1x1024 .f32) (x6 : Vec F S1024x1024 .bf16)

theorem A_v102 : kernelRun0_A.sl.v102 c arg10 = (View.ld (Val := Elt F) (e' := .f32) (k0_pay2 (F := F)) (Rect.unit (s := S4x256x128) ![0, 0, 0] S1x256x128.size inb_S4x256x128_S1x256x128_0_0_0)) :=
  View.readCov_fill _ _ _ _ _ (by decide)
theorem A_v131 : kernelRun0_A.sl.v131 c arg2 harg2 arg3 harg3 arg4 harg4 arg5 harg5 arg6 harg6 arg10 x0 x1 x2 x3 x4 = (View.ld (Val := Elt F) (e' := .f32) (k0_pay2 (F := F)) (Rect.unit (s := S4x256x128) ![1, 0, 0] S1x256x128.size inb_S4x256x128_S1x256x128_1_0_0)) :=
  (View.readCov_skip _ _ _ _ _ (by decide)).trans (View.readCov_fill _ _ _ _ _ (by decide))
theorem A_v160 : kernelRun0_A.sl.v160 c arg2 harg2 arg3 harg3 arg4 harg4 arg5 harg5 arg6 harg6 arg10 x0 x1 x2 x3 x4 = (View.ld (Val := Elt F) (e' := .f32) (k0_pay2 (F := F)) (Rect.unit (s := S4x256x128) ![2, 0, 0] S1x256x128.size inb_S4x256x128_S1x256x128_2_0_0)) :=
  (View.readCov_skip _ _ _ _ _ (by decide)).trans ((View.readCov_skip _ _ _ _ _ (by decide)).trans (View.readCov_fill _ _ _ _ _ (by decide)))
theorem A_v189 : kernelRun0_A.sl.v189 c arg2 harg2 arg3 harg3 arg4 harg4 arg5 harg5 arg6 harg6 arg10 x0 x1 x2 x3 x4 = (View.ld (Val := Elt F) (e' := .f32) (k0_pay2 (F := F)) (Rect.unit (s := S4x256x128) ![3, 0, 0] S1x256x128.size inb_S4x256x128_S1x256x128_3_0_0)) :=
  (View.readCov_skip _ _ _ _ _ (by decide)).trans ((View.readCov_skip _ _ _ _ _ (by decide)).trans ((View.readCov_skip _ _ _ _ _ (by decide)).trans (View.readCov_fill _ _ _ _ _ (by decide))))
theorem A_v233 : kernelRun0_A.sl.v233 c arg2 harg2 arg3 harg3 arg4 harg4 arg5 harg5 arg6 harg6 arg10 x0 x1 x2 x3 x4 = gSt 0 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![0, 0, 0] S1x256x128.size inb_S4x256x128_S1x256x128_0_0_0)) 1 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 0 0 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v102 c arg10) = _
  rw [A_v102]
  rfl
theorem A_v262 : kernelRun0_A.sl.v262 c arg2 harg2 arg3 harg3 arg4 harg4 arg5 harg5 arg6 harg6 arg10 x0 x1 x2 x3 x4 = gSt 1 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![1, 0, 0] S1x256x128.size inb_S4x256x128_S1x256x128_1_0_0)) 1 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 0 1 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v131 c arg2 harg2 arg3 harg3 arg4 harg4 arg5 harg5 arg6 harg6 arg10 x0 x1 x2 x3 x4) = _
  rw [A_v131]
  rfl
theorem A_v291 : kernelRun0_A.sl.v291 c arg2 harg2 arg3 harg3 arg4 harg4 arg5 harg5 arg6 harg6 arg10 x0 x1 x2 x3 x4 = gSt 2 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![2, 0, 0] S1x256x128.size inb_S4x256x128_S1x256x128_2_0_0)) 1 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 0 2 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v160 c arg2 harg2 arg3 harg3 arg4 harg4 arg5 harg5 arg6 harg6 arg10 x0 x1 x2 x3 x4) = _
  rw [A_v160]
  rfl
theorem A_v320 : kernelRun0_A.sl.v320 c arg2 harg2 arg3 harg3 arg4 harg4 arg5 harg5 arg6 harg6 arg10 x0 x1 x2 x3 x4 = gSt 3 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![3, 0, 0] S1x256x128.size inb_S4x256x128_S1x256x128_3_0_0)) 1 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 0 3 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v189 c arg2 harg2 arg3 harg3 arg4 harg4 arg5 harg5 arg6 harg6 arg10 x0 x1 x2 x3 x4) = _
  rw [A_v189]
  rfl
theorem A_v364 : kernelRun0_A.sl.v364 c arg2 harg2 arg3 harg3 arg4 harg4 arg5 harg5 arg6 harg6 arg10 x0 x1 x2 x3 x4 = gSt 0 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![0, 0, 0] S1x256x128.size inb_S4x256x128_S1x256x128_0_0_0)) 2 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 1 0 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v233 c arg2 harg2 arg3 harg3 arg4 harg4 arg5 harg5 arg6 harg6 arg10 x0 x1 x2 x3 x4) = _
  rw [A_v233]
  rfl
theorem A_v393 : kernelRun0_A.sl.v393 c arg2 harg2 arg3 harg3 arg4 harg4 arg5 harg5 arg6 harg6 arg10 x0 x1 x2 x3 x4 = gSt 1 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![1, 0, 0] S1x256x128.size inb_S4x256x128_S1x256x128_1_0_0)) 2 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 1 1 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v262 c arg2 harg2 arg3 harg3 arg4 harg4 arg5 harg5 arg6 harg6 arg10 x0 x1 x2 x3 x4) = _
  rw [A_v262]
  rfl
theorem A_v422 : kernelRun0_A.sl.v422 c arg2 harg2 arg3 harg3 arg4 harg4 arg5 harg5 arg6 harg6 arg10 x0 x1 x2 x3 x4 = gSt 2 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![2, 0, 0] S1x256x128.size inb_S4x256x128_S1x256x128_2_0_0)) 2 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 1 2 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v291 c arg2 harg2 arg3 harg3 arg4 harg4 arg5 harg5 arg6 harg6 arg10 x0 x1 x2 x3 x4) = _
  rw [A_v291]
  rfl
theorem A_v451 : kernelRun0_A.sl.v451 c arg2 harg2 arg3 harg3 arg4 harg4 arg5 harg5 arg6 harg6 arg10 x0 x1 x2 x3 x4 = gSt 3 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![3, 0, 0] S1x256x128.size inb_S4x256x128_S1x256x128_3_0_0)) 2 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 1 3 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v320 c arg2 harg2 arg3 harg3 arg4 harg4 arg5 harg5 arg6 harg6 arg10 x0 x1 x2 x3 x4) = _
  rw [A_v320]
  rfl
theorem A_v495 : kernelRun0_A.sl.v495 c arg2 harg2 arg3 harg3 arg4 harg4 arg5 harg5 arg6 harg6 arg10 x0 x1 x2 x3 x4 = gSt 0 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![0, 0, 0] S1x256x128.size inb_S4x256x128_S1x256x128_0_0_0)) 3 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 2 0 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v364 c arg2 harg2 arg3 harg3 arg4 harg4 arg5 harg5 arg6 harg6 arg10 x0 x1 x2 x3 x4) = _
  rw [A_v364]
  rfl
theorem A_v524 : kernelRun0_A.sl.v524 c arg2 harg2 arg3 harg3 arg4 harg4 arg5 harg5 arg6 harg6 arg10 x0 x1 x2 x3 x4 = gSt 1 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![1, 0, 0] S1x256x128.size inb_S4x256x128_S1x256x128_1_0_0)) 3 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 2 1 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v393 c arg2 harg2 arg3 harg3 arg4 harg4 arg5 harg5 arg6 harg6 arg10 x0 x1 x2 x3 x4) = _
  rw [A_v393]
  rfl
theorem A_v553 : kernelRun0_A.sl.v553 c arg2 harg2 arg3 harg3 arg4 harg4 arg5 harg5 arg6 harg6 arg10 x0 x1 x2 x3 x4 = gSt 2 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![2, 0, 0] S1x256x128.size inb_S4x256x128_S1x256x128_2_0_0)) 3 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 2 2 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v422 c arg2 harg2 arg3 harg3 arg4 harg4 arg5 harg5 arg6 harg6 arg10 x0 x1 x2 x3 x4) = _
  rw [A_v422]
  rfl
theorem A_v582 : kernelRun0_A.sl.v582 c arg2 harg2 arg3 harg3 arg4 harg4 arg5 harg5 arg6 harg6 arg10 x0 x1 x2 x3 x4 = gSt 3 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (View.ld (Val := Elt F) (e' := .f32) (k0_pay2 (F := F)) (Rect.unit (s := S4x256x128) ![3, 0, 0] S1x256x128.size inb_S4x256x128_S1x256x128_3_0_0)) 3 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 2 3 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v451 c arg2 harg2 arg3 harg3 arg4 harg4 arg5 harg5 arg6 harg6 arg10 x0 x1 x2 x3 x4) = _
  rw [A_v451]
  rfl
theorem A_rows (y : S256x1024.Idx) : View.canon (kernelRun0_A.sl.HS1_16 c arg2 harg2 arg3 harg3 arg4 harg4 arg5 harg5 arg6 harg6 arg10 x0 x1 x2 x3 x4) y = gRow (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) y := by
  have hp : View.PiecesOf (gRow (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0)))) (kernelRun0_A.sl.HS1_16 c arg2 harg2 arg3 harg3 arg4 harg4 arg5 harg5 arg6 harg6 arg10 x0 x1 x2 x3 x4) := by
    refine ⟨?_, ?_, ?_, ?_, ?_, ?_, ?_, ?_, ?_, ?_, ?_, ?_, ?_, ?_, ?_, ?_, trivial⟩
    · intro x
      refine Eq.trans (b := gO 3 3 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v582 c arg2 harg2 arg3 harg3 arg4 harg4 arg5 harg5 arg6 harg6 arg10 x0 x1 x2 x3 x4) x) rfl ?_
      rw [A_v582]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 3 3 x _ (by show 192 + 1 * (x 0).val = 64 * 3 + (x 0).val; omega) (by show 768 + 1 * (x 1).val = 256 * 3 + (x 1).val; omega)
    · intro x
      refine Eq.trans (b := gO 3 2 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v553 c arg2 harg2 arg3 harg3 arg4 harg4 arg5 harg5 arg6 harg6 arg10 x0 x1 x2 x3 x4) x) rfl ?_
      rw [A_v553]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 3 2 x _ (by show 192 + 1 * (x 0).val = 64 * 3 + (x 0).val; omega) (by show 512 + 1 * (x 1).val = 256 * 2 + (x 1).val; omega)
    · intro x
      refine Eq.trans (b := gO 3 1 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v524 c arg2 harg2 arg3 harg3 arg4 harg4 arg5 harg5 arg6 harg6 arg10 x0 x1 x2 x3 x4) x) rfl ?_
      rw [A_v524]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 3 1 x _ (by show 192 + 1 * (x 0).val = 64 * 3 + (x 0).val; omega) (by show 256 + 1 * (x 1).val = 256 * 1 + (x 1).val; omega)
    · intro x
      refine Eq.trans (b := gO 3 0 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v495 c arg2 harg2 arg3 harg3 arg4 harg4 arg5 harg5 arg6 harg6 arg10 x0 x1 x2 x3 x4) x) rfl ?_
      rw [A_v495]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 3 0 x _ (by show 192 + 1 * (x 0).val = 64 * 3 + (x 0).val; omega) (by show 0 + 1 * (x 1).val = 256 * 0 + (x 1).val; omega)
    · intro x
      refine Eq.trans (b := gO 2 3 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v451 c arg2 harg2 arg3 harg3 arg4 harg4 arg5 harg5 arg6 harg6 arg10 x0 x1 x2 x3 x4) x) rfl ?_
      rw [A_v451]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 2 3 x _ (by show 128 + 1 * (x 0).val = 64 * 2 + (x 0).val; omega) (by show 768 + 1 * (x 1).val = 256 * 3 + (x 1).val; omega)
    · intro x
      refine Eq.trans (b := gO 2 2 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v422 c arg2 harg2 arg3 harg3 arg4 harg4 arg5 harg5 arg6 harg6 arg10 x0 x1 x2 x3 x4) x) rfl ?_
      rw [A_v422]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 2 2 x _ (by show 128 + 1 * (x 0).val = 64 * 2 + (x 0).val; omega) (by show 512 + 1 * (x 1).val = 256 * 2 + (x 1).val; omega)
    · intro x
      refine Eq.trans (b := gO 2 1 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v393 c arg2 harg2 arg3 harg3 arg4 harg4 arg5 harg5 arg6 harg6 arg10 x0 x1 x2 x3 x4) x) rfl ?_
      rw [A_v393]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 2 1 x _ (by show 128 + 1 * (x 0).val = 64 * 2 + (x 0).val; omega) (by show 256 + 1 * (x 1).val = 256 * 1 + (x 1).val; omega)
    · intro x
      refine Eq.trans (b := gO 2 0 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v364 c arg2 harg2 arg3 harg3 arg4 harg4 arg5 harg5 arg6 harg6 arg10 x0 x1 x2 x3 x4) x) rfl ?_
      rw [A_v364]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 2 0 x _ (by show 128 + 1 * (x 0).val = 64 * 2 + (x 0).val; omega) (by show 0 + 1 * (x 1).val = 256 * 0 + (x 1).val; omega)
    · intro x
      refine Eq.trans (b := gO 1 3 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v320 c arg2 harg2 arg3 harg3 arg4 harg4 arg5 harg5 arg6 harg6 arg10 x0 x1 x2 x3 x4) x) rfl ?_
      rw [A_v320]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 1 3 x _ (by show 64 + 1 * (x 0).val = 64 * 1 + (x 0).val; omega) (by show 768 + 1 * (x 1).val = 256 * 3 + (x 1).val; omega)
    · intro x
      refine Eq.trans (b := gO 1 2 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v291 c arg2 harg2 arg3 harg3 arg4 harg4 arg5 harg5 arg6 harg6 arg10 x0 x1 x2 x3 x4) x) rfl ?_
      rw [A_v291]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 1 2 x _ (by show 64 + 1 * (x 0).val = 64 * 1 + (x 0).val; omega) (by show 512 + 1 * (x 1).val = 256 * 2 + (x 1).val; omega)
    · intro x
      refine Eq.trans (b := gO 1 1 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v262 c arg2 harg2 arg3 harg3 arg4 harg4 arg5 harg5 arg6 harg6 arg10 x0 x1 x2 x3 x4) x) rfl ?_
      rw [A_v262]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 1 1 x _ (by show 64 + 1 * (x 0).val = 64 * 1 + (x 0).val; omega) (by show 256 + 1 * (x 1).val = 256 * 1 + (x 1).val; omega)
    · intro x
      refine Eq.trans (b := gO 1 0 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v233 c arg2 harg2 arg3 harg3 arg4 harg4 arg5 harg5 arg6 harg6 arg10 x0 x1 x2 x3 x4) x) rfl ?_
      rw [A_v233]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 1 0 x _ (by show 64 + 1 * (x 0).val = 64 * 1 + (x 0).val; omega) (by show 0 + 1 * (x 1).val = 256 * 0 + (x 1).val; omega)
    · intro x
      refine Eq.trans (b := gO 0 3 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v189 c arg2 harg2 arg3 harg3 arg4 harg4 arg5 harg5 arg6 harg6 arg10 x0 x1 x2 x3 x4) x) rfl ?_
      rw [A_v189]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 0 3 x _ (by show 0 + 1 * (x 0).val = 64 * 0 + (x 0).val; omega) (by show 768 + 1 * (x 1).val = 256 * 3 + (x 1).val; omega)
    · intro x
      refine Eq.trans (b := gO 0 2 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v160 c arg2 harg2 arg3 harg3 arg4 harg4 arg5 harg5 arg6 harg6 arg10 x0 x1 x2 x3 x4) x) rfl ?_
      rw [A_v160]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 0 2 x _ (by show 0 + 1 * (x 0).val = 64 * 0 + (x 0).val; omega) (by show 512 + 1 * (x 1).val = 256 * 2 + (x 1).val; omega)
    · intro x
      refine Eq.trans (b := gO 0 1 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v131 c arg2 harg2 arg3 harg3 arg4 harg4 arg5 harg5 arg6 harg6 arg10 x0 x1 x2 x3 x4) x) rfl ?_
      rw [A_v131]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 0 1 x _ (by show 0 + 1 * (x 0).val = 64 * 0 + (x 0).val; omega) (by show 256 + 1 * (x 1).val = 256 * 1 + (x 1).val; omega)
    · intro x
      refine Eq.trans (b := gO 0 0 (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v102 c arg10) x) rfl ?_
      rw [A_v102]
      exact gRow_at _ _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 0 0 x _ (by show 0 + 1 * (x 0).val = 64 * 0 + (x 0).val; omega) (by show 0 + 1 * (x 1).val = 256 * 0 + (x 1).val; omega)
  have b0 : (y 0).val < 256 := (y 0).isLt
  have b1 : (y 1).val < 1024 := (y 1).isLt
  have c0 : (y 0).val / 64 = 3 ∨ (y 0).val / 64 = 2 ∨ (y 0).val / 64 = 1 ∨ (y 0).val / 64 = 0 := by omega
  have c1 : (y 1).val / 256 = 3 ∨ (y 1).val / 256 = 2 ∨ (y 1).val / 256 = 1 ∨ (y 1).val / 256 = 0 := by omega
  have hm : ∃ p ∈ kernelRun0_A.sl.HS1_16 c arg2 harg2 arg3 harg3 arg4 harg4 arg5 harg5 arg6 harg6 arg10 x0 x1 x2 x3 x4, y ∈ p.1.set := by
    rcases c0 with c0 | c0 | c0 | c0 <;> rcases c1 with c1 | c1 | c1 | c1
    · exact ⟨_, .head _, mem_tile 3 3 (by decide) y c0 c1⟩
    · exact ⟨_, .tail _ (.head _), mem_tile 3 2 (by decide) y c0 c1⟩
    · exact ⟨_, .tail _ (.tail _ (.head _)), mem_tile 3 1 (by decide) y c0 c1⟩
    · exact ⟨_, .tail _ (.tail _ (.tail _ (.head _))), mem_tile 3 0 (by decide) y c0 c1⟩
    · exact ⟨_, .tail _ (.tail _ (.tail _ (.tail _ (.head _)))), mem_tile 2 3 (by decide) y c0 c1⟩
    · exact ⟨_, .tail _ (.tail _ (.tail _ (.tail _ (.tail _ (.head _))))), mem_tile 2 2 (by decide) y c0 c1⟩
    · exact ⟨_, .tail _ (.tail _ (.tail _ (.tail _ (.tail _ (.tail _ (.head _)))))), mem_tile 2 1 (by decide) y c0 c1⟩
    · exact ⟨_, .tail _ (.tail _ (.tail _ (.tail _ (.tail _ (.tail _ (.tail _ (.head _))))))), mem_tile 2 0 (by decide) y c0 c1⟩
    · exact ⟨_, .tail _ (.tail _ (.tail _ (.tail _ (.tail _ (.tail _ (.tail _ (.tail _ (.head _)))))))), mem_tile 1 3 (by decide) y c0 c1⟩
    · exact ⟨_, .tail _ (.tail _ (.tail _ (.tail _ (.tail _ (.tail _ (.tail _ (.tail _ (.tail _ (.head _))))))))), mem_tile 1 2 (by decide) y c0 c1⟩
    · exact ⟨_, .tail _ (.tail _ (.tail _ (.tail _ (.tail _ (.tail _ (.tail _ (.tail _ (.tail _ (.tail _ (.head _)))))))))), mem_tile 1 1 (by decide) y c0 c1⟩
    · exact ⟨_, .tail _ (.tail _ (.tail _ (.tail _ (.tail _ (.tail _ (.tail _ (.tail _ (.tail _ (.tail _ (.tail _ (.head _))))))))))), mem_tile 1 0 (by decide) y c0 c1⟩
    · exact ⟨_, .tail _ (.tail _ (.tail _ (.tail _ (.tail _ (.tail _ (.tail _ (.tail _ (.tail _ (.tail _ (.tail _ (.tail _ (.head _)))))))))))), mem_tile 0 3 (by decide) y c0 c1⟩
    · exact ⟨_, .tail _ (.tail _ (.tail _ (.tail _ (.tail _ (.tail _ (.tail _ (.tail _ (.tail _ (.tail _ (.tail _ (.tail _ (.tail _ (.head _))))))))))))), mem_tile 0 2 (by decide) y c0 c1⟩
    · exact ⟨_, .tail _ (.tail _ (.tail _ (.tail _ (.tail _ (.tail _ (.tail _ (.tail _ (.tail _ (.tail _ (.tail _ (.tail _ (.tail _ (.tail _ (.head _)))))))))))))), mem_tile 0 1 (by decide) y c0 c1⟩
    · exact ⟨_, .tail _ (.tail _ (.tail _ (.tail _ (.tail _ (.tail _ (.tail _ (.tail _ (.tail _ (.tail _ (.tail _ (.tail _ (.tail _ (.tail _ (.tail _ (.head _))))))))))))))), mem_tile 0 0 (by decide) y c0 c1⟩
  have := View.canon_append_of_piecesOf _ [] _ hp y hm
  rwa [List.append_nil] at this
theorem A_last (y : S4x256x128.Idx) : View.canon (kernelRun0_A c i arg2 harg2 arg3 harg3 arg4 harg4 arg5 harg5 arg6 harg6 arg7 harg7 arg8 harg8 arg9 harg9 arg10 harg10 arg11 harg11 hc0 x0 x1 x2 x3 x4 x5 x6).2.1 y = gAll (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) y := by
  have e : (kernelRun0_A c i arg2 harg2 arg3 harg3 arg4 harg4 arg5 harg5 arg6 harg6 arg7 harg7 arg8 harg8 arg9 harg9 arg10 harg10 arg11 harg11 hc0 x0 x1 x2 x3 x4 x5 x6).2.1 = [(⟨Rect.unit (s := S4x256x128) ![3, 0, 0] S1x256x128.size inb_S4x256x128_S1x256x128_3_0_0, gS 3 3 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v582 c arg2 harg2 arg3 harg3 arg4 harg4 arg5 harg5 arg6 harg6 arg10 x0 x1 x2 x3 x4)⟩ : View.Piece (Elt F) S4x256x128 .f32), (⟨Rect.unit (s := S4x256x128) ![2, 0, 0] S1x256x128.size inb_S4x256x128_S1x256x128_2_0_0, gS 3 2 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v553 c arg2 harg2 arg3 harg3 arg4 harg4 arg5 harg5 arg6 harg6 arg10 x0 x1 x2 x3 x4)⟩ : View.Piece (Elt F) S4x256x128 .f32), (⟨Rect.unit (s := S4x256x128) ![1, 0, 0] S1x256x128.size inb_S4x256x128_S1x256x128_1_0_0, gS 3 1 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v524 c arg2 harg2 arg3 harg3 arg4 harg4 arg5 harg5 arg6 harg6 arg10 x0 x1 x2 x3 x4)⟩ : View.Piece (Elt F) S4x256x128 .f32), (⟨Rect.unit (s := S4x256x128) ![0, 0, 0] S1x256x128.size inb_S4x256x128_S1x256x128_0_0_0, gS 3 0 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v495 c arg2 harg2 arg3 harg3 arg4 harg4 arg5 harg5 arg6 harg6 arg10 x0 x1 x2 x3 x4)⟩ : View.Piece (Elt F) S4x256x128 .f32)] ++ kernelRun0_A.sl.HS0_13 c arg2 harg2 arg3 harg3 arg4 harg4 arg5 harg5 arg6 harg6 arg10 x0 x1 x2 x3 x4 := rfl
  have hp : View.PiecesOf (gAll (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0)))) [(⟨Rect.unit (s := S4x256x128) ![3, 0, 0] S1x256x128.size inb_S4x256x128_S1x256x128_3_0_0, gS 3 3 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v582 c arg2 harg2 arg3 harg3 arg4 harg4 arg5 harg5 arg6 harg6 arg10 x0 x1 x2 x3 x4)⟩ : View.Piece (Elt F) S4x256x128 .f32), (⟨Rect.unit (s := S4x256x128) ![2, 0, 0] S1x256x128.size inb_S4x256x128_S1x256x128_2_0_0, gS 3 2 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v553 c arg2 harg2 arg3 harg3 arg4 harg4 arg5 harg5 arg6 harg6 arg10 x0 x1 x2 x3 x4)⟩ : View.Piece (Elt F) S4x256x128 .f32), (⟨Rect.unit (s := S4x256x128) ![1, 0, 0] S1x256x128.size inb_S4x256x128_S1x256x128_1_0_0, gS 3 1 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v524 c arg2 harg2 arg3 harg3 arg4 harg4 arg5 harg5 arg6 harg6 arg10 x0 x1 x2 x3 x4)⟩ : View.Piece (Elt F) S4x256x128 .f32), (⟨Rect.unit (s := S4x256x128) ![0, 0, 0] S1x256x128.size inb_S4x256x128_S1x256x128_0_0_0, gS 3 0 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v495 c arg2 harg2 arg3 harg3 arg4 harg4 arg5 harg5 arg6 harg6 arg10 x0 x1 x2 x3 x4)⟩ : View.Piece (Elt F) S4x256x128 .f32)] := by
    refine ⟨?_, ?_, ?_, ?_, trivial⟩
    · intro x
      refine Eq.trans (b := gS 3 3 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v582 c arg2 harg2 arg3 harg3 arg4 harg4 arg5 harg5 arg6 harg6 arg10 x0 x1 x2 x3 x4) x) rfl ?_
      rw [A_v582]
      exact gAll_at _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 3 x _ (by show 3 + 1 * (x 0).val = 3 + (x 0).val; omega) (by show 0 + 1 * (x 1).val = (x 1).val; omega) (by show 0 + 1 * (x 2).val = (x 2).val; omega)
    · intro x
      refine Eq.trans (b := gS 3 2 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v553 c arg2 harg2 arg3 harg3 arg4 harg4 arg5 harg5 arg6 harg6 arg10 x0 x1 x2 x3 x4) x) rfl ?_
      rw [A_v553]
      exact gAll_at _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 2 x _ (by show 2 + 1 * (x 0).val = 2 + (x 0).val; omega) (by show 0 + 1 * (x 1).val = (x 1).val; omega) (by show 0 + 1 * (x 2).val = (x 2).val; omega)
    · intro x
      refine Eq.trans (b := gS 3 1 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v524 c arg2 harg2 arg3 harg3 arg4 harg4 arg5 harg5 arg6 harg6 arg10 x0 x1 x2 x3 x4) x) rfl ?_
      rw [A_v524]
      exact gAll_at _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 1 x _ (by show 1 + 1 * (x 0).val = 1 + (x 0).val; omega) (by show 0 + 1 * (x 1).val = (x 1).val; omega) (by show 0 + 1 * (x 2).val = (x 2).val; omega)
    · intro x
      refine Eq.trans (b := gS 3 0 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v495 c arg2 harg2 arg3 harg3 arg4 harg4 arg5 harg5 arg6 harg6 arg10 x0 x1 x2 x3 x4) x) rfl ?_
      rw [A_v495]
      exact gAll_at _ _ _ (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) 0 x _ (by show 0 + 1 * (x 0).val = 0 + (x 0).val; omega) (by show 0 + 1 * (x 1).val = (x 1).val; omega) (by show 0 + 1 * (x 2).val = (x 2).val; omega)
  have b0 : (y 0).val < 4 := (y 0).isLt
  have c0 : (y 0).val = 3 ∨ (y 0).val = 2 ∨ (y 0).val = 1 ∨ (y 0).val = 0 := by omega
  have hm : ∃ p ∈ [(⟨Rect.unit (s := S4x256x128) ![3, 0, 0] S1x256x128.size inb_S4x256x128_S1x256x128_3_0_0, gS 3 3 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v582 c arg2 harg2 arg3 harg3 arg4 harg4 arg5 harg5 arg6 harg6 arg10 x0 x1 x2 x3 x4)⟩ : View.Piece (Elt F) S4x256x128 .f32), (⟨Rect.unit (s := S4x256x128) ![2, 0, 0] S1x256x128.size inb_S4x256x128_S1x256x128_2_0_0, gS 3 2 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v553 c arg2 harg2 arg3 harg3 arg4 harg4 arg5 harg5 arg6 harg6 arg10 x0 x1 x2 x3 x4)⟩ : View.Piece (Elt F) S4x256x128 .f32), (⟨Rect.unit (s := S4x256x128) ![1, 0, 0] S1x256x128.size inb_S4x256x128_S1x256x128_1_0_0, gS 3 1 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v524 c arg2 harg2 arg3 harg3 arg4 harg4 arg5 harg5 arg6 harg6 arg10 x0 x1 x2 x3 x4)⟩ : View.Piece (Elt F) S4x256x128 .f32), (⟨Rect.unit (s := S4x256x128) ![0, 0, 0] S1x256x128.size inb_S4x256x128_S1x256x128_0_0_0, gS 3 0 (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (kernelRun0_A.sl.v495 c arg2 harg2 arg3 harg3 arg4 harg4 arg5 harg5 arg6 harg6 arg10 x0 x1 x2 x3 x4)⟩ : View.Piece (Elt F) S4x256x128 .f32)], y ∈ p.1.set := by
    rcases c0 with c0 | c0 | c0 | c0
    · exact ⟨_, .head _, mem_head 3 (by decide) (by decide) y c0⟩
    · exact ⟨_, .tail _ (.head _), mem_head 2 (by decide) (by decide) y c0⟩
    · exact ⟨_, .tail _ (.tail _ (.head _)), mem_head 1 (by decide) (by decide) y c0⟩
    · exact ⟨_, .tail _ (.tail _ (.tail _ (.head _))), mem_head 0 (by decide) (by decide) y c0⟩
  rw [e]
  exact View.canon_append_of_piecesOf _ _ _ hp y hm
theorem A_q : kernelRun0_A.sl.r_1 c arg2 harg2 arg3 harg3 arg4 harg4 x0 x1 x2 = k0_pay5 (View.readAt (Elt F) arg2.view (Rect.unit (s := S1x256x1024) ![0, 0, 0] S1x256x1024.size inb_S1x256x1024_S1x256x1024_0_0_0).toLoadRect (harg2.unread x0)) (View.readAt (Elt F) arg3.view (Rect.unit (s := S1024x7296) ![0, 2048] S1024x1024.size inb_S1024x7296_S1024x1024_0_2048).toLoadRect (harg3.unread x1)) (View.readAt (Elt F) arg4.view (Rect.unit (s := S1x7296) ![0, 2048] S1x1024.size inb_S1x7296_S1x1024_0_2048).toLoadRect (harg4.unread x2)) := rfl
theorem A_k : kernelRun0_A.sl.r_2 c arg2 harg2 arg3 harg3 arg4 harg4 x0 x1 x2 = k0_pay6 (View.readAt (Elt F) arg2.view (Rect.unit (s := S1x256x1024) ![0, 0, 0] S1x256x1024.size inb_S1x256x1024_S1x256x1024_0_0_0).toLoadRect (harg2.unread x0)) (View.readAt (Elt F) arg3.view (Rect.unit (s := S1024x7296) ![0, 2048] S1024x1024.size inb_S1024x7296_S1024x1024_0_2048).toLoadRect (harg3.unread x1)) (View.readAt (Elt F) arg4.view (Rect.unit (s := S1x7296) ![0, 2048] S1x1024.size inb_S1x7296_S1x1024_0_2048).toLoadRect (harg4.unread x2)) := rfl
theorem A_v : kernelRun0_A.sl.r_3 c arg2 harg2 arg3 harg3 arg4 harg4 x0 x1 x2 = k0_pay7 (View.readAt (Elt F) arg2.view (Rect.unit (s := S1x256x1024) ![0, 0, 0] S1x256x1024.size inb_S1x256x1024_S1x256x1024_0_0_0).toLoadRect (harg2.unread x0)) (View.readAt (Elt F) arg3.view (Rect.unit (s := S1024x7296) ![0, 3072] S1024x1024.size inb_S1024x7296_S1024x1024_0_3072).toLoadRect (harg3.unread x1)) (View.readAt (Elt F) arg4.view (Rect.unit (s := S1x7296) ![0, 3072] S1x1024.size inb_S1x7296_S1x1024_0_3072).toLoadRect (harg4.unread x2)) := rfl
theorem A_b : kernelRun0_A.sl.r_6 c arg2 harg2 arg3 harg3 arg4 harg4 arg5 harg5 arg6 harg6 x0 x1 x2 x3 x4 = k0_pay10 (k0_pay8 (View.readAt (Elt F) arg2.view (Rect.unit (s := S1x256x1024) ![0, 0, 0] S1x256x1024.size inb_S1x256x1024_S1x256x1024_0_0_0).toLoadRect (harg2.unread x0)) (View.readAt (Elt F) arg3.view (Rect.unit (s := S1024x7296) ![0, 7168] S1024x128.size inb_S1024x7296_S1024x128_0_7168).toLoadRect (harg3.unread x1)) (View.readAt (Elt F) arg4.view (Rect.unit (s := S1x7296) ![0, 7168] S1x128.size inb_S1x7296_S1x128_0_7168).toLoadRect (harg4.unread x2))) (k0_pay9 (View.readAt (Elt F) arg5.view (Rect.unit (s := S128x512) ![0, 0] S128x512.size inb_S128x512_S128x512_0_0).toLoadRect (harg5.unread x3))) (View.readAt (Elt F) arg6.view (Rect.unit (s := S1x512) ![0, 0] S1x512.size inb_S1x512_S1x512_0_0).toLoadRect (harg6.unread x4)) := rfl
theorem A_out (y : S1x256x1024.Idx) : View.canon (kernelRun0_A c i arg2 harg2 arg3 harg3 arg4 harg4 arg5 harg5 arg6 harg6 arg7 harg7 arg8 harg8 arg9 harg9 arg10 harg10 arg11 harg11 hc0 x0 x1 x2 x3 x4 x5 x6).1 y = k0_pay1 (gFin (k0_pay137 (k0_pay3 (View.readAt (Elt F) arg2.view (Rect.unit (s := S1x256x1024) ![0, 0, 0] S1x256x1024.size inb_S1x256x1024_S1x256x1024_0_0_0).toLoadRect (harg2.unread x0))) (View.readAt (Elt F) arg3.view (Rect.unit (s := S1024x7296) ![0, 4096] S1024x1024.size inb_S1024x7296_S1024x1024_0_4096).toLoadRect (harg3.unread x1)) (View.readAt (Elt F) arg4.view (Rect.unit (s := S1x7296) ![0, 4096] S1x1024.size inb_S1x7296_S1x1024_0_4096).toLoadRect (harg4.unread x2))) (kernelRun0_A.sl.v607 c arg2 harg2 arg3 harg3 arg4 harg4 arg5 harg5 arg6 harg6 arg10 arg11 x0 x1 x2 x3 x4) (kernelRun0_A.sl.v622 c arg2 harg2 arg3 harg3 arg4 harg4 arg5 harg5 arg6 harg6 arg10 arg11 x0 x1 x2 x3 x4) (kernelRun0_A.sl.v637 c arg2 harg2 arg3 harg3 arg4 harg4 arg5 harg5 arg6 harg6 arg10 arg11 x0 x1 x2 x3 x4) (kernelRun0_A.sl.v652 c arg2 harg2 arg3 harg3 arg4 harg4 arg5 harg5 arg6 harg6 arg10 arg11 x0 x1 x2 x3 x4) (View.readAt (Elt F) arg7.view (Rect.unit (s := S1x1024) ![0, 0] S1x256.size inb_S1x1024_S1x256_0_0).toLoadRect (harg7.unread x5)) (View.readAt (Elt F) arg7.view (Rect.unit (s := S1x1024) ![0, 256] S1x256.size inb_S1x1024_S1x256_0_256).toLoadRect (harg7.unread x5)) (View.readAt (Elt F) arg7.view (Rect.unit (s := S1x1024) ![0, 512] S1x256.size inb_S1x1024_S1x256_0_512).toLoadRect (harg7.unread x5)) (View.readAt (Elt F) arg7.view (Rect.unit (s := S1x1024) ![0, 768] S1x256.size inb_S1x1024_S1x256_0_768).toLoadRect (harg7.unread x5)) (View.readAt (Elt F) arg8.view (Rect.unit (s := S1024x1024) ![0, 0] S1024x1024.size inb_S1024x1024_S1024x1024_0_0).toLoadRect (harg8.unread x6))) y := by
  exact congrFun (View.canon_cons_unit_lit inb_S1x256x1024_S1x256x1024_0_0_0 _ _ (by decide)) y
theorem A_v607 (x : S256x256.Idx) (y : S256x1024.Idx) (h0 : (y 0).val = (x 0).val) (h1 : (y 1).val = 0 + (x 1).val) : kernelRun0_A.sl.v607 c arg2 harg2 arg3 harg3 arg4 harg4 arg5 harg5 arg6 harg6 arg10 arg11 x0 x1 x2 x3 x4 x = gRow (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) y := by
  have e : kernelRun0_A.sl.v607 c arg2 harg2 arg3 harg3 arg4 harg4 arg5 harg5 arg6 harg6 arg10 arg11 x0 x1 x2 x3 x4 = fun j => View.canon (kernelRun0_A.sl.HS1_16 c arg2 harg2 arg3 harg3 arg4 harg4 arg5 harg5 arg6 harg6 arg10 x0 x1 x2 x3 x4) ((Rect.unit (s := S256x1024) ![0, 0] S256x256.size inb_S256x1024_S256x256_0_0).toLoadRect.idx j) := View.readCov_eq_canon' _ _ _
  have hy : (Rect.unit (s := S256x1024) ![0, 0] S256x256.size inb_S256x1024_S256x256_0_0).toLoadRect.idx x = y := by
    refine funext fun a => Fin.ext ?_
    match a with
    | 0 => show 0 + 1 * (x 0).val = (y 0).val; omega
    | 1 => show 0 + 1 * (x 1).val = (y 1).val; omega
  rw [e]
  show View.canon (kernelRun0_A.sl.HS1_16 c arg2 harg2 arg3 harg3 arg4 harg4 arg5 harg5 arg6 harg6 arg10 x0 x1 x2 x3 x4) ((Rect.unit (s := S256x1024) ![0, 0] S256x256.size inb_S256x1024_S256x256_0_0).toLoadRect.idx x) = _
  rw [hy, A_rows]
theorem A_v622 (x : S256x256.Idx) (y : S256x1024.Idx) (h0 : (y 0).val = (x 0).val) (h1 : (y 1).val = 256 + (x 1).val) : kernelRun0_A.sl.v622 c arg2 harg2 arg3 harg3 arg4 harg4 arg5 harg5 arg6 harg6 arg10 arg11 x0 x1 x2 x3 x4 x = gRow (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) y := by
  have e : kernelRun0_A.sl.v622 c arg2 harg2 arg3 harg3 arg4 harg4 arg5 harg5 arg6 harg6 arg10 arg11 x0 x1 x2 x3 x4 = fun j => View.canon (kernelRun0_A.sl.HS1_16 c arg2 harg2 arg3 harg3 arg4 harg4 arg5 harg5 arg6 harg6 arg10 x0 x1 x2 x3 x4) ((Rect.unit (s := S256x1024) ![0, 256] S256x256.size inb_S256x1024_S256x256_0_256).toLoadRect.idx j) := View.readCov_eq_canon' _ _ _
  have hy : (Rect.unit (s := S256x1024) ![0, 256] S256x256.size inb_S256x1024_S256x256_0_256).toLoadRect.idx x = y := by
    refine funext fun a => Fin.ext ?_
    match a with
    | 0 => show 0 + 1 * (x 0).val = (y 0).val; omega
    | 1 => show 256 + 1 * (x 1).val = (y 1).val; omega
  rw [e]
  show View.canon (kernelRun0_A.sl.HS1_16 c arg2 harg2 arg3 harg3 arg4 harg4 arg5 harg5 arg6 harg6 arg10 x0 x1 x2 x3 x4) ((Rect.unit (s := S256x1024) ![0, 256] S256x256.size inb_S256x1024_S256x256_0_256).toLoadRect.idx x) = _
  rw [hy, A_rows]
theorem A_v637 (x : S256x256.Idx) (y : S256x1024.Idx) (h0 : (y 0).val = (x 0).val) (h1 : (y 1).val = 512 + (x 1).val) : kernelRun0_A.sl.v637 c arg2 harg2 arg3 harg3 arg4 harg4 arg5 harg5 arg6 harg6 arg10 arg11 x0 x1 x2 x3 x4 x = gRow (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) y := by
  have e : kernelRun0_A.sl.v637 c arg2 harg2 arg3 harg3 arg4 harg4 arg5 harg5 arg6 harg6 arg10 arg11 x0 x1 x2 x3 x4 = fun j => View.canon (kernelRun0_A.sl.HS1_16 c arg2 harg2 arg3 harg3 arg4 harg4 arg5 harg5 arg6 harg6 arg10 x0 x1 x2 x3 x4) ((Rect.unit (s := S256x1024) ![0, 512] S256x256.size inb_S256x1024_S256x256_0_512).toLoadRect.idx j) := View.readCov_eq_canon' _ _ _
  have hy : (Rect.unit (s := S256x1024) ![0, 512] S256x256.size inb_S256x1024_S256x256_0_512).toLoadRect.idx x = y := by
    refine funext fun a => Fin.ext ?_
    match a with
    | 0 => show 0 + 1 * (x 0).val = (y 0).val; omega
    | 1 => show 512 + 1 * (x 1).val = (y 1).val; omega
  rw [e]
  show View.canon (kernelRun0_A.sl.HS1_16 c arg2 harg2 arg3 harg3 arg4 harg4 arg5 harg5 arg6 harg6 arg10 x0 x1 x2 x3 x4) ((Rect.unit (s := S256x1024) ![0, 512] S256x256.size inb_S256x1024_S256x256_0_512).toLoadRect.idx x) = _
  rw [hy, A_rows]
theorem A_v652 (x : S256x256.Idx) (y : S256x1024.Idx) (h0 : (y 0).val = (x 0).val) (h1 : (y 1).val = 768 + (x 1).val) : kernelRun0_A.sl.v652 c arg2 harg2 arg3 harg3 arg4 harg4 arg5 harg5 arg6 harg6 arg10 arg11 x0 x1 x2 x3 x4 x = gRow (kernelRun0_A.sl.r_1 c arg2 harg2 arg3 harg3 arg4 harg4 x0 x1 x2) (kernelRun0_A.sl.r_2 c arg2 harg2 arg3 harg3 arg4 harg4 x0 x1 x2) (kernelRun0_A.sl.r_3 c arg2 harg2 arg3 harg3 arg4 harg4 x0 x1 x2) (kernelRun0_A.sl.r_6 c arg2 harg2 arg3 harg3 arg4 harg4 arg5 harg5 arg6 harg6 x0 x1 x2 x3 x4) (fun h => match h with | 0 => (View.ld (Val := Elt F) (e' := .f32) (k0_pay2 (F := F)) (Rect.unit (s := S4x256x128) ![0, 0, 0] S1x256x128.size inb_S4x256x128_S1x256x128_0_0_0)) | 1 => (View.ld (Val := Elt F) (e' := .f32) (k0_pay2 (F := F)) (Rect.unit (s := S4x256x128) ![1, 0, 0] S1x256x128.size inb_S4x256x128_S1x256x128_1_0_0)) | 2 => (View.ld (Val := Elt F) (e' := .f32) (k0_pay2 (F := F)) (Rect.unit (s := S4x256x128) ![2, 0, 0] S1x256x128.size inb_S4x256x128_S1x256x128_2_0_0)) | 3 => (View.ld (Val := Elt F) (e' := .f32) (k0_pay2 (F := F)) (Rect.unit (s := S4x256x128) ![3, 0, 0] S1x256x128.size inb_S4x256x128_S1x256x128_3_0_0))) y := by
  have e : kernelRun0_A.sl.v652 c arg2 harg2 arg3 harg3 arg4 harg4 arg5 harg5 arg6 harg6 arg10 arg11 x0 x1 x2 x3 x4 = fun j => View.canon (kernelRun0_A.sl.HS1_16 c arg2 harg2 arg3 harg3 arg4 harg4 arg5 harg5 arg6 harg6 arg10 x0 x1 x2 x3 x4) ((Rect.unit (s := S256x1024) ![0, 768] S256x256.size inb_S256x1024_S256x256_0_768).toLoadRect.idx j) := View.readCov_eq_canon' _ _ _
  have hy : (Rect.unit (s := S256x1024) ![0, 768] S256x256.size inb_S256x1024_S256x256_0_768).toLoadRect.idx x = y := by
    refine funext fun a => Fin.ext ?_
    match a with
    | 0 => show 0 + 1 * (x 0).val = (y 0).val; omega
    | 1 => show 768 + 1 * (x 1).val = (y 1).val; omega
  rw [e]
  show View.canon (kernelRun0_A.sl.HS1_16 c arg2 harg2 arg3 harg3 arg4 harg4 arg5 harg5 arg6 harg6 arg10 x0 x1 x2 x3 x4) ((Rect.unit (s := S256x1024) ![0, 768] S256x256.size inb_S256x1024_S256x256_0_768).toLoadRect.idx x) = _
  rw [hy, A_rows]
end A

section B
variable (c : Dev nD) (i : grid0.Coords) (arg2 : Memref sig .tc .vmem S1x256x1024 .f32) (harg2 : arg2.IsWhole) (arg3 : Memref sig .tc .vmem S1024x7296 .bf16) (harg3 : arg3.IsWhole) (arg4 : Memref sig .tc .vmem S1x7296 .f32) (harg4 : arg4.IsWhole) (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x256x1024 .f32) (harg9 : arg9.IsWhole) (arg10 : Memref sig .tc .vmem S4x256x128 .f32) (harg10 : arg10.IsWhole) (arg11 : Memref sig .tc .vmem S256x1024 .f32) (harg11 : arg11.IsWhole) (hc0 : ¬cond0_0 i)
    (x0 : Vec F S1x256x1024 .f32) (x1 : Vec F S1024x7296 .bf16) (x2 : Vec F S1x7296 .f32) (x3 : Vec F S128x512 .bf16) (x4 : Vec F S1x512 .f32) (x5 : Vec F S1x1024 .f32) (x6 : Vec F S1024x1024 .bf16) (xs0 : Vec F S4x256x128 .f32)

theorem B_v131 : kernelRun0_B.sl.v131 c arg10 harg10 xs0 = (View.readAt (Elt F) arg10.view (Rect.unit (s := S4x256x128) ![1, 0, 0] S1x256x128.size inb_S4x256x128_S1x256x128_1_0_0).toLoadRect (harg10.unread xs0)) :=
  rfl
theorem B_v160 : kernelRun0_B.sl.v160 c arg10 harg10 xs0 = (View.readAt (Elt F) arg10.view (Rect.unit (s := S4x256x128) ![2, 0, 0] S1x256x128.size inb_S4x256x128_S1x256x128_2_0_0).toLoadRect (harg10.unread xs0)) :=
  rfl
theorem B_v189 : kernelRun0_B.sl.v189 c arg10 harg10 xs0 = (View.readAt (Elt F) arg10.view (Rect.unit (s := S4x256x128) ![3, 0, 0] S1x256x128.size inb_S4x256x128_S1x256x128_3_0_0).toLoadRect (harg10.unread xs0)) :=
  rfl
theorem B_v233 : kernelRun0_B.sl.v233 c arg2 harg2 arg3 harg3 arg4 harg4 arg5 harg5 arg6 harg6 arg10 harg10 x0 x1 x2 x3 x4 xs0 = gSt 0 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![0, 0, 0] S1x256x128.size inb_S4x256x128_S1x256x128_0_0_0).toLoadRect (harg10.unread xs0)) 1 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 0 0 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) ((View.readAt (Elt F) arg10.view (Rect.unit (s := S4x256x128) ![0, 0, 0] S1x256x128.size inb_S4x256x128_S1x256x128_0_0_0).toLoadRect (harg10.unread xs0))) = _
  rfl
theorem B_v262 : kernelRun0_B.sl.v262 c arg2 harg2 arg3 harg3 arg4 harg4 arg5 harg5 arg6 harg6 arg10 harg10 x0 x1 x2 x3 x4 xs0 = gSt 1 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![1, 0, 0] S1x256x128.size inb_S4x256x128_S1x256x128_1_0_0).toLoadRect (harg10.unread xs0)) 1 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 0 1 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v131 c arg10 harg10 xs0) = _
  rw [B_v131]
  rfl
theorem B_v291 : kernelRun0_B.sl.v291 c arg2 harg2 arg3 harg3 arg4 harg4 arg5 harg5 arg6 harg6 arg10 harg10 x0 x1 x2 x3 x4 xs0 = gSt 2 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![2, 0, 0] S1x256x128.size inb_S4x256x128_S1x256x128_2_0_0).toLoadRect (harg10.unread xs0)) 1 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 0 2 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v160 c arg10 harg10 xs0) = _
  rw [B_v160]
  rfl
theorem B_v320 : kernelRun0_B.sl.v320 c arg2 harg2 arg3 harg3 arg4 harg4 arg5 harg5 arg6 harg6 arg10 harg10 x0 x1 x2 x3 x4 xs0 = gSt 3 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![3, 0, 0] S1x256x128.size inb_S4x256x128_S1x256x128_3_0_0).toLoadRect (harg10.unread xs0)) 1 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 0 3 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v189 c arg10 harg10 xs0) = _
  rw [B_v189]
  rfl
theorem B_v364 : kernelRun0_B.sl.v364 c arg2 harg2 arg3 harg3 arg4 harg4 arg5 harg5 arg6 harg6 arg10 harg10 x0 x1 x2 x3 x4 xs0 = gSt 0 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![0, 0, 0] S1x256x128.size inb_S4x256x128_S1x256x128_0_0_0).toLoadRect (harg10.unread xs0)) 2 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 1 0 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v233 c arg2 harg2 arg3 harg3 arg4 harg4 arg5 harg5 arg6 harg6 arg10 harg10 x0 x1 x2 x3 x4 xs0) = _
  rw [B_v233]
  rfl
theorem B_v393 : kernelRun0_B.sl.v393 c arg2 harg2 arg3 harg3 arg4 harg4 arg5 harg5 arg6 harg6 arg10 harg10 x0 x1 x2 x3 x4 xs0 = gSt 1 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![1, 0, 0] S1x256x128.size inb_S4x256x128_S1x256x128_1_0_0).toLoadRect (harg10.unread xs0)) 2 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 1 1 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v262 c arg2 harg2 arg3 harg3 arg4 harg4 arg5 harg5 arg6 harg6 arg10 harg10 x0 x1 x2 x3 x4 xs0) = _
  rw [B_v262]
  rfl
theorem B_v422 : kernelRun0_B.sl.v422 c arg2 harg2 arg3 harg3 arg4 harg4 arg5 harg5 arg6 harg6 arg10 harg10 x0 x1 x2 x3 x4 xs0 = gSt 2 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![2, 0, 0] S1x256x128.size inb_S4x256x128_S1x256x128_2_0_0).toLoadRect (harg10.unread xs0)) 2 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 1 2 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v291 c arg2 harg2 arg3 harg3 arg4 harg4 arg5 harg5 arg6 harg6 arg10 harg10 x0 x1 x2 x3 x4 xs0) = _
  rw [B_v291]
  rfl
theorem B_v451 : kernelRun0_B.sl.v451 c arg2 harg2 arg3 harg3 arg4 harg4 arg5 harg5 arg6 harg6 arg10 harg10 x0 x1 x2 x3 x4 xs0 = gSt 3 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![3, 0, 0] S1x256x128.size inb_S4x256x128_S1x256x128_3_0_0).toLoadRect (harg10.unread xs0)) 2 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 1 3 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v320 c arg2 harg2 arg3 harg3 arg4 harg4 arg5 harg5 arg6 harg6 arg10 harg10 x0 x1 x2 x3 x4 xs0) = _
  rw [B_v320]
  rfl
theorem B_v495 : kernelRun0_B.sl.v495 c arg2 harg2 arg3 harg3 arg4 harg4 arg5 harg5 arg6 harg6 arg10 harg10 x0 x1 x2 x3 x4 xs0 = gSt 0 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![0, 0, 0] S1x256x128.size inb_S4x256x128_S1x256x128_0_0_0).toLoadRect (harg10.unread xs0)) 3 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 2 0 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v364 c arg2 harg2 arg3 harg3 arg4 harg4 arg5 harg5 arg6 harg6 arg10 harg10 x0 x1 x2 x3 x4 xs0) = _
  rw [B_v364]
  rfl
theorem B_v524 : kernelRun0_B.sl.v524 c arg2 harg2 arg3 harg3 arg4 harg4 arg5 harg5 arg6 harg6 arg10 harg10 x0 x1 x2 x3 x4 xs0 = gSt 1 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![1, 0, 0] S1x256x128.size inb_S4x256x128_S1x256x128_1_0_0).toLoadRect (harg10.unread xs0)) 3 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 2 1 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v393 c arg2 harg2 arg3 harg3 arg4 harg4 arg5 harg5 arg6 harg6 arg10 harg10 x0 x1 x2 x3 x4 xs0) = _
  rw [B_v393]
  rfl
theorem B_v553 : kernelRun0_B.sl.v553 c arg2 harg2 arg3 harg3 arg4 harg4 arg5 harg5 arg6 harg6 arg10 harg10 x0 x1 x2 x3 x4 xs0 = gSt 2 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![2, 0, 0] S1x256x128.size inb_S4x256x128_S1x256x128_2_0_0).toLoadRect (harg10.unread xs0)) 3 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 2 2 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v422 c arg2 harg2 arg3 harg3 arg4 harg4 arg5 harg5 arg6 harg6 arg10 harg10 x0 x1 x2 x3 x4 xs0) = _
  rw [B_v422]
  rfl
theorem B_v582 : kernelRun0_B.sl.v582 c arg2 harg2 arg3 harg3 arg4 harg4 arg5 harg5 arg6 harg6 arg10 harg10 x0 x1 x2 x3 x4 xs0 = gSt 3 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (View.readAt (Elt F) arg10.view (Rect.unit (s := S4x256x128) ![3, 0, 0] S1x256x128.size inb_S4x256x128_S1x256x128_3_0_0).toLoadRect (harg10.unread xs0)) 3 := by
  refine (View.readCov_skip _ _ _ _ _ (by decide)).trans ((View.readCov_skip _ _ _ _ _ (by decide)).trans ((View.readCov_skip _ _ _ _ _ (by decide)).trans ((View.readCov_cons_toLoadRect _ _ _ _).trans ?_)))
  show gS 2 3 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v451 c arg2 harg2 arg3 harg3 arg4 harg4 arg5 harg5 arg6 harg6 arg10 harg10 x0 x1 x2 x3 x4 xs0) = _
  rw [B_v451]
  rfl
theorem B_rows (y : S256x1024.Idx) : View.canon (kernelRun0_B.sl.HS1_16 c arg2 harg2 arg3 harg3 arg4 harg4 arg5 harg5 arg6 harg6 arg10 harg10 x0 x1 x2 x3 x4 xs0) y = gRow (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) y := by
  have hp : View.PiecesOf (gRow (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0)))) (kernelRun0_B.sl.HS1_16 c arg2 harg2 arg3 harg3 arg4 harg4 arg5 harg5 arg6 harg6 arg10 harg10 x0 x1 x2 x3 x4 xs0) := by
    refine ⟨?_, ?_, ?_, ?_, ?_, ?_, ?_, ?_, ?_, ?_, ?_, ?_, ?_, ?_, ?_, ?_, trivial⟩
    · intro x
      refine Eq.trans (b := gO 3 3 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v582 c arg2 harg2 arg3 harg3 arg4 harg4 arg5 harg5 arg6 harg6 arg10 harg10 x0 x1 x2 x3 x4 xs0) x) rfl ?_
      rw [B_v582]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 3 3 x _ (by show 192 + 1 * (x 0).val = 64 * 3 + (x 0).val; omega) (by show 768 + 1 * (x 1).val = 256 * 3 + (x 1).val; omega)
    · intro x
      refine Eq.trans (b := gO 3 2 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v553 c arg2 harg2 arg3 harg3 arg4 harg4 arg5 harg5 arg6 harg6 arg10 harg10 x0 x1 x2 x3 x4 xs0) x) rfl ?_
      rw [B_v553]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 3 2 x _ (by show 192 + 1 * (x 0).val = 64 * 3 + (x 0).val; omega) (by show 512 + 1 * (x 1).val = 256 * 2 + (x 1).val; omega)
    · intro x
      refine Eq.trans (b := gO 3 1 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v524 c arg2 harg2 arg3 harg3 arg4 harg4 arg5 harg5 arg6 harg6 arg10 harg10 x0 x1 x2 x3 x4 xs0) x) rfl ?_
      rw [B_v524]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 3 1 x _ (by show 192 + 1 * (x 0).val = 64 * 3 + (x 0).val; omega) (by show 256 + 1 * (x 1).val = 256 * 1 + (x 1).val; omega)
    · intro x
      refine Eq.trans (b := gO 3 0 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v495 c arg2 harg2 arg3 harg3 arg4 harg4 arg5 harg5 arg6 harg6 arg10 harg10 x0 x1 x2 x3 x4 xs0) x) rfl ?_
      rw [B_v495]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 3 0 x _ (by show 192 + 1 * (x 0).val = 64 * 3 + (x 0).val; omega) (by show 0 + 1 * (x 1).val = 256 * 0 + (x 1).val; omega)
    · intro x
      refine Eq.trans (b := gO 2 3 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v451 c arg2 harg2 arg3 harg3 arg4 harg4 arg5 harg5 arg6 harg6 arg10 harg10 x0 x1 x2 x3 x4 xs0) x) rfl ?_
      rw [B_v451]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 2 3 x _ (by show 128 + 1 * (x 0).val = 64 * 2 + (x 0).val; omega) (by show 768 + 1 * (x 1).val = 256 * 3 + (x 1).val; omega)
    · intro x
      refine Eq.trans (b := gO 2 2 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v422 c arg2 harg2 arg3 harg3 arg4 harg4 arg5 harg5 arg6 harg6 arg10 harg10 x0 x1 x2 x3 x4 xs0) x) rfl ?_
      rw [B_v422]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 2 2 x _ (by show 128 + 1 * (x 0).val = 64 * 2 + (x 0).val; omega) (by show 512 + 1 * (x 1).val = 256 * 2 + (x 1).val; omega)
    · intro x
      refine Eq.trans (b := gO 2 1 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v393 c arg2 harg2 arg3 harg3 arg4 harg4 arg5 harg5 arg6 harg6 arg10 harg10 x0 x1 x2 x3 x4 xs0) x) rfl ?_
      rw [B_v393]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 2 1 x _ (by show 128 + 1 * (x 0).val = 64 * 2 + (x 0).val; omega) (by show 256 + 1 * (x 1).val = 256 * 1 + (x 1).val; omega)
    · intro x
      refine Eq.trans (b := gO 2 0 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v364 c arg2 harg2 arg3 harg3 arg4 harg4 arg5 harg5 arg6 harg6 arg10 harg10 x0 x1 x2 x3 x4 xs0) x) rfl ?_
      rw [B_v364]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 2 0 x _ (by show 128 + 1 * (x 0).val = 64 * 2 + (x 0).val; omega) (by show 0 + 1 * (x 1).val = 256 * 0 + (x 1).val; omega)
    · intro x
      refine Eq.trans (b := gO 1 3 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v320 c arg2 harg2 arg3 harg3 arg4 harg4 arg5 harg5 arg6 harg6 arg10 harg10 x0 x1 x2 x3 x4 xs0) x) rfl ?_
      rw [B_v320]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 1 3 x _ (by show 64 + 1 * (x 0).val = 64 * 1 + (x 0).val; omega) (by show 768 + 1 * (x 1).val = 256 * 3 + (x 1).val; omega)
    · intro x
      refine Eq.trans (b := gO 1 2 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v291 c arg2 harg2 arg3 harg3 arg4 harg4 arg5 harg5 arg6 harg6 arg10 harg10 x0 x1 x2 x3 x4 xs0) x) rfl ?_
      rw [B_v291]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 1 2 x _ (by show 64 + 1 * (x 0).val = 64 * 1 + (x 0).val; omega) (by show 512 + 1 * (x 1).val = 256 * 2 + (x 1).val; omega)
    · intro x
      refine Eq.trans (b := gO 1 1 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v262 c arg2 harg2 arg3 harg3 arg4 harg4 arg5 harg5 arg6 harg6 arg10 harg10 x0 x1 x2 x3 x4 xs0) x) rfl ?_
      rw [B_v262]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 1 1 x _ (by show 64 + 1 * (x 0).val = 64 * 1 + (x 0).val; omega) (by show 256 + 1 * (x 1).val = 256 * 1 + (x 1).val; omega)
    · intro x
      refine Eq.trans (b := gO 1 0 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v233 c arg2 harg2 arg3 harg3 arg4 harg4 arg5 harg5 arg6 harg6 arg10 harg10 x0 x1 x2 x3 x4 xs0) x) rfl ?_
      rw [B_v233]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 1 0 x _ (by show 64 + 1 * (x 0).val = 64 * 1 + (x 0).val; omega) (by show 0 + 1 * (x 1).val = 256 * 0 + (x 1).val; omega)
    · intro x
      refine Eq.trans (b := gO 0 3 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v189 c arg10 harg10 xs0) x) rfl ?_
      rw [B_v189]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 0 3 x _ (by show 0 + 1 * (x 0).val = 64 * 0 + (x 0).val; omega) (by show 768 + 1 * (x 1).val = 256 * 3 + (x 1).val; omega)
    · intro x
      refine Eq.trans (b := gO 0 2 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v160 c arg10 harg10 xs0) x) rfl ?_
      rw [B_v160]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 0 2 x _ (by show 0 + 1 * (x 0).val = 64 * 0 + (x 0).val; omega) (by show 512 + 1 * (x 1).val = 256 * 2 + (x 1).val; omega)
    · intro x
      refine Eq.trans (b := gO 0 1 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v131 c arg10 harg10 xs0) x) rfl ?_
      rw [B_v131]
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 0 1 x _ (by show 0 + 1 * (x 0).val = 64 * 0 + (x 0).val; omega) (by show 256 + 1 * (x 1).val = 256 * 1 + (x 1).val; omega)
    · intro x
      refine Eq.trans (b := gO 0 0 (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) ((View.readAt (Elt F) arg10.view (Rect.unit (s := S4x256x128) ![0, 0, 0] S1x256x128.size inb_S4x256x128_S1x256x128_0_0_0).toLoadRect (harg10.unread xs0))) x) rfl ?_
      exact gRow_at _ _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 0 0 x _ (by show 0 + 1 * (x 0).val = 64 * 0 + (x 0).val; omega) (by show 0 + 1 * (x 1).val = 256 * 0 + (x 1).val; omega)
  have b0 : (y 0).val < 256 := (y 0).isLt
  have b1 : (y 1).val < 1024 := (y 1).isLt
  have c0 : (y 0).val / 64 = 3 ∨ (y 0).val / 64 = 2 ∨ (y 0).val / 64 = 1 ∨ (y 0).val / 64 = 0 := by omega
  have c1 : (y 1).val / 256 = 3 ∨ (y 1).val / 256 = 2 ∨ (y 1).val / 256 = 1 ∨ (y 1).val / 256 = 0 := by omega
  have hm : ∃ p ∈ kernelRun0_B.sl.HS1_16 c arg2 harg2 arg3 harg3 arg4 harg4 arg5 harg5 arg6 harg6 arg10 harg10 x0 x1 x2 x3 x4 xs0, y ∈ p.1.set := by
    rcases c0 with c0 | c0 | c0 | c0 <;> rcases c1 with c1 | c1 | c1 | c1
    · exact ⟨_, .head _, mem_tile 3 3 (by decide) y c0 c1⟩
    · exact ⟨_, .tail _ (.head _), mem_tile 3 2 (by decide) y c0 c1⟩
    · exact ⟨_, .tail _ (.tail _ (.head _)), mem_tile 3 1 (by decide) y c0 c1⟩
    · exact ⟨_, .tail _ (.tail _ (.tail _ (.head _))), mem_tile 3 0 (by decide) y c0 c1⟩
    · exact ⟨_, .tail _ (.tail _ (.tail _ (.tail _ (.head _)))), mem_tile 2 3 (by decide) y c0 c1⟩
    · exact ⟨_, .tail _ (.tail _ (.tail _ (.tail _ (.tail _ (.head _))))), mem_tile 2 2 (by decide) y c0 c1⟩
    · exact ⟨_, .tail _ (.tail _ (.tail _ (.tail _ (.tail _ (.tail _ (.head _)))))), mem_tile 2 1 (by decide) y c0 c1⟩
    · exact ⟨_, .tail _ (.tail _ (.tail _ (.tail _ (.tail _ (.tail _ (.tail _ (.head _))))))), mem_tile 2 0 (by decide) y c0 c1⟩
    · exact ⟨_, .tail _ (.tail _ (.tail _ (.tail _ (.tail _ (.tail _ (.tail _ (.tail _ (.head _)))))))), mem_tile 1 3 (by decide) y c0 c1⟩
    · exact ⟨_, .tail _ (.tail _ (.tail _ (.tail _ (.tail _ (.tail _ (.tail _ (.tail _ (.tail _ (.head _))))))))), mem_tile 1 2 (by decide) y c0 c1⟩
    · exact ⟨_, .tail _ (.tail _ (.tail _ (.tail _ (.tail _ (.tail _ (.tail _ (.tail _ (.tail _ (.tail _ (.head _)))))))))), mem_tile 1 1 (by decide) y c0 c1⟩
    · exact ⟨_, .tail _ (.tail _ (.tail _ (.tail _ (.tail _ (.tail _ (.tail _ (.tail _ (.tail _ (.tail _ (.tail _ (.head _))))))))))), mem_tile 1 0 (by decide) y c0 c1⟩
    · exact ⟨_, .tail _ (.tail _ (.tail _ (.tail _ (.tail _ (.tail _ (.tail _ (.tail _ (.tail _ (.tail _ (.tail _ (.tail _ (.head _)))))))))))), mem_tile 0 3 (by decide) y c0 c1⟩
    · exact ⟨_, .tail _ (.tail _ (.tail _ (.tail _ (.tail _ (.tail _ (.tail _ (.tail _ (.tail _ (.tail _ (.tail _ (.tail _ (.tail _ (.head _))))))))))))), mem_tile 0 2 (by decide) y c0 c1⟩
    · exact ⟨_, .tail _ (.tail _ (.tail _ (.tail _ (.tail _ (.tail _ (.tail _ (.tail _ (.tail _ (.tail _ (.tail _ (.tail _ (.tail _ (.tail _ (.head _)))))))))))))), mem_tile 0 1 (by decide) y c0 c1⟩
    · exact ⟨_, .tail _ (.tail _ (.tail _ (.tail _ (.tail _ (.tail _ (.tail _ (.tail _ (.tail _ (.tail _ (.tail _ (.tail _ (.tail _ (.tail _ (.tail _ (.head _))))))))))))))), mem_tile 0 0 (by decide) y c0 c1⟩
  have := View.canon_append_of_piecesOf _ [] _ hp y hm
  rwa [List.append_nil] at this
theorem B_last (y : S4x256x128.Idx) : View.canon (kernelRun0_B c i arg2 harg2 arg3 harg3 arg4 harg4 arg5 harg5 arg6 harg6 arg7 harg7 arg8 harg8 arg9 harg9 arg10 harg10 arg11 harg11 hc0 x0 x1 x2 x3 x4 x5 x6 xs0).2.1 y = gAll (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) y := by
  have e : (kernelRun0_B c i arg2 harg2 arg3 harg3 arg4 harg4 arg5 harg5 arg6 harg6 arg7 harg7 arg8 harg8 arg9 harg9 arg10 harg10 arg11 harg11 hc0 x0 x1 x2 x3 x4 x5 x6 xs0).2.1 = [(⟨Rect.unit (s := S4x256x128) ![3, 0, 0] S1x256x128.size inb_S4x256x128_S1x256x128_3_0_0, gS 3 3 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v582 c arg2 harg2 arg3 harg3 arg4 harg4 arg5 harg5 arg6 harg6 arg10 harg10 x0 x1 x2 x3 x4 xs0)⟩ : View.Piece (Elt F) S4x256x128 .f32), (⟨Rect.unit (s := S4x256x128) ![2, 0, 0] S1x256x128.size inb_S4x256x128_S1x256x128_2_0_0, gS 3 2 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v553 c arg2 harg2 arg3 harg3 arg4 harg4 arg5 harg5 arg6 harg6 arg10 harg10 x0 x1 x2 x3 x4 xs0)⟩ : View.Piece (Elt F) S4x256x128 .f32), (⟨Rect.unit (s := S4x256x128) ![1, 0, 0] S1x256x128.size inb_S4x256x128_S1x256x128_1_0_0, gS 3 1 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v524 c arg2 harg2 arg3 harg3 arg4 harg4 arg5 harg5 arg6 harg6 arg10 harg10 x0 x1 x2 x3 x4 xs0)⟩ : View.Piece (Elt F) S4x256x128 .f32), (⟨Rect.unit (s := S4x256x128) ![0, 0, 0] S1x256x128.size inb_S4x256x128_S1x256x128_0_0_0, gS 3 0 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v495 c arg2 harg2 arg3 harg3 arg4 harg4 arg5 harg5 arg6 harg6 arg10 harg10 x0 x1 x2 x3 x4 xs0)⟩ : View.Piece (Elt F) S4x256x128 .f32)] ++ kernelRun0_B.sl.HS0_12 c arg2 harg2 arg3 harg3 arg4 harg4 arg5 harg5 arg6 harg6 arg10 harg10 x0 x1 x2 x3 x4 xs0 := rfl
  have hp : View.PiecesOf (gAll (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0)))) [(⟨Rect.unit (s := S4x256x128) ![3, 0, 0] S1x256x128.size inb_S4x256x128_S1x256x128_3_0_0, gS 3 3 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v582 c arg2 harg2 arg3 harg3 arg4 harg4 arg5 harg5 arg6 harg6 arg10 harg10 x0 x1 x2 x3 x4 xs0)⟩ : View.Piece (Elt F) S4x256x128 .f32), (⟨Rect.unit (s := S4x256x128) ![2, 0, 0] S1x256x128.size inb_S4x256x128_S1x256x128_2_0_0, gS 3 2 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v553 c arg2 harg2 arg3 harg3 arg4 harg4 arg5 harg5 arg6 harg6 arg10 harg10 x0 x1 x2 x3 x4 xs0)⟩ : View.Piece (Elt F) S4x256x128 .f32), (⟨Rect.unit (s := S4x256x128) ![1, 0, 0] S1x256x128.size inb_S4x256x128_S1x256x128_1_0_0, gS 3 1 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v524 c arg2 harg2 arg3 harg3 arg4 harg4 arg5 harg5 arg6 harg6 arg10 harg10 x0 x1 x2 x3 x4 xs0)⟩ : View.Piece (Elt F) S4x256x128 .f32), (⟨Rect.unit (s := S4x256x128) ![0, 0, 0] S1x256x128.size inb_S4x256x128_S1x256x128_0_0_0, gS 3 0 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v495 c arg2 harg2 arg3 harg3 arg4 harg4 arg5 harg5 arg6 harg6 arg10 harg10 x0 x1 x2 x3 x4 xs0)⟩ : View.Piece (Elt F) S4x256x128 .f32)] := by
    refine ⟨?_, ?_, ?_, ?_, trivial⟩
    · intro x
      refine Eq.trans (b := gS 3 3 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v582 c arg2 harg2 arg3 harg3 arg4 harg4 arg5 harg5 arg6 harg6 arg10 harg10 x0 x1 x2 x3 x4 xs0) x) rfl ?_
      rw [B_v582]
      exact gAll_at _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 3 x _ (by show 3 + 1 * (x 0).val = 3 + (x 0).val; omega) (by show 0 + 1 * (x 1).val = (x 1).val; omega) (by show 0 + 1 * (x 2).val = (x 2).val; omega)
    · intro x
      refine Eq.trans (b := gS 3 2 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v553 c arg2 harg2 arg3 harg3 arg4 harg4 arg5 harg5 arg6 harg6 arg10 harg10 x0 x1 x2 x3 x4 xs0) x) rfl ?_
      rw [B_v553]
      exact gAll_at _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 2 x _ (by show 2 + 1 * (x 0).val = 2 + (x 0).val; omega) (by show 0 + 1 * (x 1).val = (x 1).val; omega) (by show 0 + 1 * (x 2).val = (x 2).val; omega)
    · intro x
      refine Eq.trans (b := gS 3 1 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v524 c arg2 harg2 arg3 harg3 arg4 harg4 arg5 harg5 arg6 harg6 arg10 harg10 x0 x1 x2 x3 x4 xs0) x) rfl ?_
      rw [B_v524]
      exact gAll_at _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 1 x _ (by show 1 + 1 * (x 0).val = 1 + (x 0).val; omega) (by show 0 + 1 * (x 1).val = (x 1).val; omega) (by show 0 + 1 * (x 2).val = (x 2).val; omega)
    · intro x
      refine Eq.trans (b := gS 3 0 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v495 c arg2 harg2 arg3 harg3 arg4 harg4 arg5 harg5 arg6 harg6 arg10 harg10 x0 x1 x2 x3 x4 xs0) x) rfl ?_
      rw [B_v495]
      exact gAll_at _ _ _ (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) 0 x _ (by show 0 + 1 * (x 0).val = 0 + (x 0).val; omega) (by show 0 + 1 * (x 1).val = (x 1).val; omega) (by show 0 + 1 * (x 2).val = (x 2).val; omega)
  have b0 : (y 0).val < 4 := (y 0).isLt
  have c0 : (y 0).val = 3 ∨ (y 0).val = 2 ∨ (y 0).val = 1 ∨ (y 0).val = 0 := by omega
  have hm : ∃ p ∈ [(⟨Rect.unit (s := S4x256x128) ![3, 0, 0] S1x256x128.size inb_S4x256x128_S1x256x128_3_0_0, gS 3 3 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v582 c arg2 harg2 arg3 harg3 arg4 harg4 arg5 harg5 arg6 harg6 arg10 harg10 x0 x1 x2 x3 x4 xs0)⟩ : View.Piece (Elt F) S4x256x128 .f32), (⟨Rect.unit (s := S4x256x128) ![2, 0, 0] S1x256x128.size inb_S4x256x128_S1x256x128_2_0_0, gS 3 2 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v553 c arg2 harg2 arg3 harg3 arg4 harg4 arg5 harg5 arg6 harg6 arg10 harg10 x0 x1 x2 x3 x4 xs0)⟩ : View.Piece (Elt F) S4x256x128 .f32), (⟨Rect.unit (s := S4x256x128) ![1, 0, 0] S1x256x128.size inb_S4x256x128_S1x256x128_1_0_0, gS 3 1 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v524 c arg2 harg2 arg3 harg3 arg4 harg4 arg5 harg5 arg6 harg6 arg10 harg10 x0 x1 x2 x3 x4 xs0)⟩ : View.Piece (Elt F) S4x256x128 .f32), (⟨Rect.unit (s := S4x256x128) ![0, 0, 0] S1x256x128.size inb_S4x256x128_S1x256x128_0_0_0, gS 3 0 (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (kernelRun0_B.sl.v495 c arg2 harg2 arg3 harg3 arg4 harg4 arg5 harg5 arg6 harg6 arg10 harg10 x0 x1 x2 x3 x4 xs0)⟩ : View.Piece (Elt F) S4x256x128 .f32)], y ∈ p.1.set := by
    rcases c0 with c0 | c0 | c0 | c0
    · exact ⟨_, .head _, mem_head 3 (by decide) (by decide) y c0⟩
    · exact ⟨_, .tail _ (.head _), mem_head 2 (by decide) (by decide) y c0⟩
    · exact ⟨_, .tail _ (.tail _ (.head _)), mem_head 1 (by decide) (by decide) y c0⟩
    · exact ⟨_, .tail _ (.tail _ (.tail _ (.head _))), mem_head 0 (by decide) (by decide) y c0⟩
  rw [e]
  exact View.canon_append_of_piecesOf _ _ _ hp y hm
theorem B_q : kernelRun0_B.sl.r_1 c arg2 harg2 arg3 harg3 arg4 harg4 x0 x1 x2 = k0_pay5 (View.readAt (Elt F) arg2.view (Rect.unit (s := S1x256x1024) ![0, 0, 0] S1x256x1024.size inb_S1x256x1024_S1x256x1024_0_0_0).toLoadRect (harg2.unread x0)) (View.readAt (Elt F) arg3.view (Rect.unit (s := S1024x7296) ![0, 2048] S1024x1024.size inb_S1024x7296_S1024x1024_0_2048).toLoadRect (harg3.unread x1)) (View.readAt (Elt F) arg4.view (Rect.unit (s := S1x7296) ![0, 2048] S1x1024.size inb_S1x7296_S1x1024_0_2048).toLoadRect (harg4.unread x2)) := rfl
theorem B_k : kernelRun0_B.sl.r_2 c arg2 harg2 arg3 harg3 arg4 harg4 x0 x1 x2 = k0_pay6 (View.readAt (Elt F) arg2.view (Rect.unit (s := S1x256x1024) ![0, 0, 0] S1x256x1024.size inb_S1x256x1024_S1x256x1024_0_0_0).toLoadRect (harg2.unread x0)) (View.readAt (Elt F) arg3.view (Rect.unit (s := S1024x7296) ![0, 2048] S1024x1024.size inb_S1024x7296_S1024x1024_0_2048).toLoadRect (harg3.unread x1)) (View.readAt (Elt F) arg4.view (Rect.unit (s := S1x7296) ![0, 2048] S1x1024.size inb_S1x7296_S1x1024_0_2048).toLoadRect (harg4.unread x2)) := rfl
theorem B_v : kernelRun0_B.sl.r_3 c arg2 harg2 arg3 harg3 arg4 harg4 x0 x1 x2 = k0_pay7 (View.readAt (Elt F) arg2.view (Rect.unit (s := S1x256x1024) ![0, 0, 0] S1x256x1024.size inb_S1x256x1024_S1x256x1024_0_0_0).toLoadRect (harg2.unread x0)) (View.readAt (Elt F) arg3.view (Rect.unit (s := S1024x7296) ![0, 3072] S1024x1024.size inb_S1024x7296_S1024x1024_0_3072).toLoadRect (harg3.unread x1)) (View.readAt (Elt F) arg4.view (Rect.unit (s := S1x7296) ![0, 3072] S1x1024.size inb_S1x7296_S1x1024_0_3072).toLoadRect (harg4.unread x2)) := rfl
theorem B_b : kernelRun0_B.sl.r_6 c arg2 harg2 arg3 harg3 arg4 harg4 arg5 harg5 arg6 harg6 x0 x1 x2 x3 x4 = k0_pay10 (k0_pay8 (View.readAt (Elt F) arg2.view (Rect.unit (s := S1x256x1024) ![0, 0, 0] S1x256x1024.size inb_S1x256x1024_S1x256x1024_0_0_0).toLoadRect (harg2.unread x0)) (View.readAt (Elt F) arg3.view (Rect.unit (s := S1024x7296) ![0, 7168] S1024x128.size inb_S1024x7296_S1024x128_0_7168).toLoadRect (harg3.unread x1)) (View.readAt (Elt F) arg4.view (Rect.unit (s := S1x7296) ![0, 7168] S1x128.size inb_S1x7296_S1x128_0_7168).toLoadRect (harg4.unread x2))) (k0_pay9 (View.readAt (Elt F) arg5.view (Rect.unit (s := S128x512) ![0, 0] S128x512.size inb_S128x512_S128x512_0_0).toLoadRect (harg5.unread x3))) (View.readAt (Elt F) arg6.view (Rect.unit (s := S1x512) ![0, 0] S1x512.size inb_S1x512_S1x512_0_0).toLoadRect (harg6.unread x4)) := rfl
theorem B_out (y : S1x256x1024.Idx) : View.canon (kernelRun0_B c i arg2 harg2 arg3 harg3 arg4 harg4 arg5 harg5 arg6 harg6 arg7 harg7 arg8 harg8 arg9 harg9 arg10 harg10 arg11 harg11 hc0 x0 x1 x2 x3 x4 x5 x6 xs0).1 y = k0_pay1 (gFin (k0_pay137 (k0_pay3 (View.readAt (Elt F) arg2.view (Rect.unit (s := S1x256x1024) ![0, 0, 0] S1x256x1024.size inb_S1x256x1024_S1x256x1024_0_0_0).toLoadRect (harg2.unread x0))) (View.readAt (Elt F) arg3.view (Rect.unit (s := S1024x7296) ![0, 4096] S1024x1024.size inb_S1024x7296_S1024x1024_0_4096).toLoadRect (harg3.unread x1)) (View.readAt (Elt F) arg4.view (Rect.unit (s := S1x7296) ![0, 4096] S1x1024.size inb_S1x7296_S1x1024_0_4096).toLoadRect (harg4.unread x2))) (kernelRun0_B.sl.v607 c arg2 harg2 arg3 harg3 arg4 harg4 arg5 harg5 arg6 harg6 arg10 harg10 arg11 x0 x1 x2 x3 x4 xs0) (kernelRun0_B.sl.v622 c arg2 harg2 arg3 harg3 arg4 harg4 arg5 harg5 arg6 harg6 arg10 harg10 arg11 x0 x1 x2 x3 x4 xs0) (kernelRun0_B.sl.v637 c arg2 harg2 arg3 harg3 arg4 harg4 arg5 harg5 arg6 harg6 arg10 harg10 arg11 x0 x1 x2 x3 x4 xs0) (kernelRun0_B.sl.v652 c arg2 harg2 arg3 harg3 arg4 harg4 arg5 harg5 arg6 harg6 arg10 harg10 arg11 x0 x1 x2 x3 x4 xs0) (View.readAt (Elt F) arg7.view (Rect.unit (s := S1x1024) ![0, 0] S1x256.size inb_S1x1024_S1x256_0_0).toLoadRect (harg7.unread x5)) (View.readAt (Elt F) arg7.view (Rect.unit (s := S1x1024) ![0, 256] S1x256.size inb_S1x1024_S1x256_0_256).toLoadRect (harg7.unread x5)) (View.readAt (Elt F) arg7.view (Rect.unit (s := S1x1024) ![0, 512] S1x256.size inb_S1x1024_S1x256_0_512).toLoadRect (harg7.unread x5)) (View.readAt (Elt F) arg7.view (Rect.unit (s := S1x1024) ![0, 768] S1x256.size inb_S1x1024_S1x256_0_768).toLoadRect (harg7.unread x5)) (View.readAt (Elt F) arg8.view (Rect.unit (s := S1024x1024) ![0, 0] S1024x1024.size inb_S1024x1024_S1024x1024_0_0).toLoadRect (harg8.unread x6))) y := by
  exact congrFun (View.canon_cons_unit_lit inb_S1x256x1024_S1x256x1024_0_0_0 _ _ (by decide)) y
theorem B_v607 (x : S256x256.Idx) (y : S256x1024.Idx) (h0 : (y 0).val = (x 0).val) (h1 : (y 1).val = 0 + (x 1).val) : kernelRun0_B.sl.v607 c arg2 harg2 arg3 harg3 arg4 harg4 arg5 harg5 arg6 harg6 arg10 harg10 arg11 x0 x1 x2 x3 x4 xs0 x = gRow (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) y := by
  have e : kernelRun0_B.sl.v607 c arg2 harg2 arg3 harg3 arg4 harg4 arg5 harg5 arg6 harg6 arg10 harg10 arg11 x0 x1 x2 x3 x4 xs0 = fun j => View.canon (kernelRun0_B.sl.HS1_16 c arg2 harg2 arg3 harg3 arg4 harg4 arg5 harg5 arg6 harg6 arg10 harg10 x0 x1 x2 x3 x4 xs0) ((Rect.unit (s := S256x1024) ![0, 0] S256x256.size inb_S256x1024_S256x256_0_0).toLoadRect.idx j) := View.readCov_eq_canon' _ _ _
  have hy : (Rect.unit (s := S256x1024) ![0, 0] S256x256.size inb_S256x1024_S256x256_0_0).toLoadRect.idx x = y := by
    refine funext fun a => Fin.ext ?_
    match a with
    | 0 => show 0 + 1 * (x 0).val = (y 0).val; omega
    | 1 => show 0 + 1 * (x 1).val = (y 1).val; omega
  rw [e]
  show View.canon (kernelRun0_B.sl.HS1_16 c arg2 harg2 arg3 harg3 arg4 harg4 arg5 harg5 arg6 harg6 arg10 harg10 x0 x1 x2 x3 x4 xs0) ((Rect.unit (s := S256x1024) ![0, 0] S256x256.size inb_S256x1024_S256x256_0_0).toLoadRect.idx x) = _
  rw [hy, B_rows]
theorem B_v622 (x : S256x256.Idx) (y : S256x1024.Idx) (h0 : (y 0).val = (x 0).val) (h1 : (y 1).val = 256 + (x 1).val) : kernelRun0_B.sl.v622 c arg2 harg2 arg3 harg3 arg4 harg4 arg5 harg5 arg6 harg6 arg10 harg10 arg11 x0 x1 x2 x3 x4 xs0 x = gRow (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) y := by
  have e : kernelRun0_B.sl.v622 c arg2 harg2 arg3 harg3 arg4 harg4 arg5 harg5 arg6 harg6 arg10 harg10 arg11 x0 x1 x2 x3 x4 xs0 = fun j => View.canon (kernelRun0_B.sl.HS1_16 c arg2 harg2 arg3 harg3 arg4 harg4 arg5 harg5 arg6 harg6 arg10 harg10 x0 x1 x2 x3 x4 xs0) ((Rect.unit (s := S256x1024) ![0, 256] S256x256.size inb_S256x1024_S256x256_0_256).toLoadRect.idx j) := View.readCov_eq_canon' _ _ _
  have hy : (Rect.unit (s := S256x1024) ![0, 256] S256x256.size inb_S256x1024_S256x256_0_256).toLoadRect.idx x = y := by
    refine funext fun a => Fin.ext ?_
    match a with
    | 0 => show 0 + 1 * (x 0).val = (y 0).val; omega
    | 1 => show 256 + 1 * (x 1).val = (y 1).val; omega
  rw [e]
  show View.canon (kernelRun0_B.sl.HS1_16 c arg2 harg2 arg3 harg3 arg4 harg4 arg5 harg5 arg6 harg6 arg10 harg10 x0 x1 x2 x3 x4 xs0) ((Rect.unit (s := S256x1024) ![0, 256] S256x256.size inb_S256x1024_S256x256_0_256).toLoadRect.idx x) = _
  rw [hy, B_rows]
theorem B_v637 (x : S256x256.Idx) (y : S256x1024.Idx) (h0 : (y 0).val = (x 0).val) (h1 : (y 1).val = 512 + (x 1).val) : kernelRun0_B.sl.v637 c arg2 harg2 arg3 harg3 arg4 harg4 arg5 harg5 arg6 harg6 arg10 harg10 arg11 x0 x1 x2 x3 x4 xs0 x = gRow (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) y := by
  have e : kernelRun0_B.sl.v637 c arg2 harg2 arg3 harg3 arg4 harg4 arg5 harg5 arg6 harg6 arg10 harg10 arg11 x0 x1 x2 x3 x4 xs0 = fun j => View.canon (kernelRun0_B.sl.HS1_16 c arg2 harg2 arg3 harg3 arg4 harg4 arg5 harg5 arg6 harg6 arg10 harg10 x0 x1 x2 x3 x4 xs0) ((Rect.unit (s := S256x1024) ![0, 512] S256x256.size inb_S256x1024_S256x256_0_512).toLoadRect.idx j) := View.readCov_eq_canon' _ _ _
  have hy : (Rect.unit (s := S256x1024) ![0, 512] S256x256.size inb_S256x1024_S256x256_0_512).toLoadRect.idx x = y := by
    refine funext fun a => Fin.ext ?_
    match a with
    | 0 => show 0 + 1 * (x 0).val = (y 0).val; omega
    | 1 => show 512 + 1 * (x 1).val = (y 1).val; omega
  rw [e]
  show View.canon (kernelRun0_B.sl.HS1_16 c arg2 harg2 arg3 harg3 arg4 harg4 arg5 harg5 arg6 harg6 arg10 harg10 x0 x1 x2 x3 x4 xs0) ((Rect.unit (s := S256x1024) ![0, 512] S256x256.size inb_S256x1024_S256x256_0_512).toLoadRect.idx x) = _
  rw [hy, B_rows]
theorem B_v652 (x : S256x256.Idx) (y : S256x1024.Idx) (h0 : (y 0).val = (x 0).val) (h1 : (y 1).val = 768 + (x 1).val) : kernelRun0_B.sl.v652 c arg2 harg2 arg3 harg3 arg4 harg4 arg5 harg5 arg6 harg6 arg10 harg10 arg11 x0 x1 x2 x3 x4 xs0 x = gRow (kernelRun0_B.sl.r_1 c arg2 harg2 arg3 harg3 arg4 harg4 x0 x1 x2) (kernelRun0_B.sl.r_2 c arg2 harg2 arg3 harg3 arg4 harg4 x0 x1 x2) (kernelRun0_B.sl.r_3 c arg2 harg2 arg3 harg3 arg4 harg4 x0 x1 x2) (kernelRun0_B.sl.r_6 c arg2 harg2 arg3 harg3 arg4 harg4 arg5 harg5 arg6 harg6 x0 x1 x2 x3 x4) (fun h => match h with | 0 => (View.readAt (Elt F) arg10.view (Rect.unit (s := S4x256x128) ![0, 0, 0] S1x256x128.size inb_S4x256x128_S1x256x128_0_0_0).toLoadRect (harg10.unread xs0)) | 1 => (View.readAt (Elt F) arg10.view (Rect.unit (s := S4x256x128) ![1, 0, 0] S1x256x128.size inb_S4x256x128_S1x256x128_1_0_0).toLoadRect (harg10.unread xs0)) | 2 => (View.readAt (Elt F) arg10.view (Rect.unit (s := S4x256x128) ![2, 0, 0] S1x256x128.size inb_S4x256x128_S1x256x128_2_0_0).toLoadRect (harg10.unread xs0)) | 3 => (View.readAt (Elt F) arg10.view (Rect.unit (s := S4x256x128) ![3, 0, 0] S1x256x128.size inb_S4x256x128_S1x256x128_3_0_0).toLoadRect (harg10.unread xs0))) y := by
  have e : kernelRun0_B.sl.v652 c arg2 harg2 arg3 harg3 arg4 harg4 arg5 harg5 arg6 harg6 arg10 harg10 arg11 x0 x1 x2 x3 x4 xs0 = fun j => View.canon (kernelRun0_B.sl.HS1_16 c arg2 harg2 arg3 harg3 arg4 harg4 arg5 harg5 arg6 harg6 arg10 harg10 x0 x1 x2 x3 x4 xs0) ((Rect.unit (s := S256x1024) ![0, 768] S256x256.size inb_S256x1024_S256x256_0_768).toLoadRect.idx j) := View.readCov_eq_canon' _ _ _
  have hy : (Rect.unit (s := S256x1024) ![0, 768] S256x256.size inb_S256x1024_S256x256_0_768).toLoadRect.idx x = y := by
    refine funext fun a => Fin.ext ?_
    match a with
    | 0 => show 0 + 1 * (x 0).val = (y 0).val; omega
    | 1 => show 768 + 1 * (x 1).val = (y 1).val; omega
  rw [e]
  show View.canon (kernelRun0_B.sl.HS1_16 c arg2 harg2 arg3 harg3 arg4 harg4 arg5 harg5 arg6 harg6 arg10 harg10 x0 x1 x2 x3 x4 xs0) ((Rect.unit (s := S256x1024) ![0, 768] S256x256.size inb_S256x1024_S256x256_0_768).toLoadRect.idx x) = _
  rw [hy, B_rows]
end B

end Cert.Hand4
-- ==== Proof.GlaKernel.lean ====
/-
  Hand-written. A chunk of the gated linear attention at an element of the extended reals: what the body's vectors hold.
-/
module

public import proofs.«01_k».proof.Proof.Gla
public import Idealize.ShloMosaic.Lib.Pointwise

@[expose] public section

set_option maxRecDepth 16384

noncomputable section

namespace Cert.Hand4

open Idealize.ShloMosaic

/-- A head's column of the queries, of the values. -/
def kc (h : Fin 4) (d : Fin 128) : Fin 512 := ⟨128 * h.val + d.val, by omega⟩
def vc (h : Fin 4) (e : Fin 256) : Fin 1024 := ⟨256 * h.val + e.val, by omega⟩
/-- A chunk's row of a point. -/
def rw64 (c : Fin 4) (r : Fin 64) : Fin 256 := ⟨64 * c.val + r.val, by omega⟩

/-- What a head's chunk writes at a row and a column, of the state that it finds. -/
def oM (q k b : Fin 64 → Fin 128 → EReal) (v : Fin 64 → Fin 256 → EReal) (s : Fin 256 → Fin 128 → EReal) (r : Fin 64) (e : Fin 256) : EReal :=
  (∑ u, if u.val ≤ r.val then (∑ d, q r d * Ideal.exp (b r d) * (k u d * Ideal.exp (-(b u d)))) * v u e else 0)
    + ∑ d, q r d * Ideal.exp (b r d) * s e d

/-- The state that it leaves. -/
def sM (k b : Fin 64 → Fin 128 → EReal) (v : Fin 64 → Fin 256 → EReal) (s : Fin 256 → Fin 128 → EReal) (e : Fin 256) (d : Fin 128) : EReal :=
  s e d * Ideal.exp (b 63 d) + ∑ u, v u e * (k u d * Ideal.exp (b 63 d - b u d))

section Kernel
open Cert.Kernel4Ideal Cert.Kernel4Ideal.Gen

theorem causal_apply (r u : Fin 64) : k0_pay11 (ix2 r u) = BitVec.ofBool (decide (u.val ≤ r.val)) := by
  pointwise [k0_pay11]
  exact WordCmp.cmpi_sge_ofNat (by omega) (by omega)

theorem select_ofBool (p : Prop) [Decidable p] (x y : EReal) : Scalar.select (BitVec.ofBool (decide p)) x y = if p then x else y := by
  by_cases h : p
  · rw [if_pos h, decide_eq_true h]; rfl
  · rw [if_neg h, decide_eq_false h]; rfl

theorem gS_apply (c h : Fin 4) (k : FVec Ideal S256x512 .f32) (v : FVec Ideal S256x1024 .f32) (b : FVec Ideal S256x512 .f32)
    (s : FVec Ideal S1x256x128 .f32) (e : Fin 256) (d : Fin 128) :
    gS (F := Ideal) c h k v b s (ix3 (0 : Fin 1) e d)
      = sM (fun r d => k (ix2 (rw64 c r) (kc h d))) (fun r d => b (ix2 (rw64 c r) (kc h d))) (fun r e => v (ix2 (rw64 c r) (vc h e)))
          (fun e d => s (ix3 (0 : Fin 1) e d)) e d := by
  pointwise [gS, rowsOf, lastOf, valOf, sM]
  rfl

theorem gO_apply (c h : Fin 4) (q k : FVec Ideal S256x512 .f32) (v : FVec Ideal S256x1024 .f32) (b : FVec Ideal S256x512 .f32)
    (s : FVec Ideal S1x256x128 .f32) (r : Fin 64) (e : Fin 256) :
    gO (F := Ideal) c h q k v b s (ix2 r e)
      = oM (fun r d => q (ix2 (rw64 c r) (kc h d))) (fun r d => k (ix2 (rw64 c r) (kc h d))) (fun r d => b (ix2 (rw64 c r) (kc h d)))
          (fun r e => v (ix2 (rw64 c r) (vc h e))) (fun e d => s (ix3 (0 : Fin 1) e d)) r e := by
  pointwise [gO, queryOf, rowsOf, valOf, oM, zero_sub]
  refine congrArg₂ (· + ·) (Finset.sum_congr rfl fun u _ => ?_) rfl
  rw [causal_apply, select_ofBool]
  rfl

/-- A row against a column. -/
def dotM (x w : Fin 1024 → EReal) : EReal := ∑ k, x k * w k

theorem pay5_apply (x : FVec Ideal S1x256x1024 .f32) (w : FVec Ideal S1024x1024 .bf16) (b : FVec Ideal S1x1024 .f32) (r : Fin 256) (d : Fin 512) :
    k0_pay5 (F := Ideal) x w b (ix2 r d)
      = (dotM (fun k => x (ix3 (0 : Fin 1) r k)) (fun k => w (ix2 k (⟨d.val, by omega⟩ : Fin 1024))) + b (ix2 (0 : Fin 1) (⟨d.val, by omega⟩ : Fin 1024)))
        * Ideal.ofBits .f32 0x3DB504F3#32 := by
  pointwise [k0_pay5, k0_pay4, k0_pay3, dotM]

theorem pay6_apply (x : FVec Ideal S1x256x1024 .f32) (w : FVec Ideal S1024x1024 .bf16) (b : FVec Ideal S1x1024 .f32) (r : Fin 256) (d : Fin 512) :
    k0_pay6 (F := Ideal) x w b (ix2 r d)
      = dotM (fun k => x (ix3 (0 : Fin 1) r k)) (fun k => w (ix2 k (⟨512 + d.val, by omega⟩ : Fin 1024))) + b (ix2 (0 : Fin 1) (⟨512 + d.val, by omega⟩ : Fin 1024)) := by
  pointwise [k0_pay6, k0_pay4, k0_pay3, dotM]

theorem pay7_apply (x : FVec Ideal S1x256x1024 .f32) (w : FVec Ideal S1024x1024 .bf16) (b : FVec Ideal S1x1024 .f32) (r : Fin 256) (e : Fin 1024) :
    k0_pay7 (F := Ideal) x w b (ix2 r e) = dotM (fun k => x (ix3 (0 : Fin 1) r k)) (fun k => w (ix2 k e)) + b (ix2 (0 : Fin 1) e) := by
  pointwise [k0_pay7, k0_pay3, dotM]

theorem pay137_apply (x : FVec Ideal S1x256x1024 .f32) (w : FVec Ideal S1024x1024 .bf16) (b : FVec Ideal S1x1024 .f32) (r : Fin 256) (e : Fin 1024) :
    k0_pay137 (F := Ideal) (k0_pay3 x) w b (ix2 r e) = dotM (fun k => x (ix3 (0 : Fin 1) r k)) (fun k => w (ix2 k e)) + b (ix2 (0 : Fin 1) e) := by
  pointwise [k0_pay137, k0_pay3, dotM]

theorem pay8_apply (x : FVec Ideal S1x256x1024 .f32) (w : FVec Ideal S1024x128 .bf16) (b : FVec Ideal S1x128 .f32) (r : Fin 256) (i : Fin 128) :
    k0_pay8 (F := Ideal) x w b (ix2 r i) = dotM (fun k => x (ix3 (0 : Fin 1) r k)) (fun k => w (ix2 k i)) + b (ix2 (0 : Fin 1) i) := by
  pointwise [k0_pay8, k0_pay3, dotM]

/-- The logarithm of a decay. -/
def laM (z : EReal) : EReal :=
  -(max (-z) 0 + Ideal.log1p (Ideal.exp (-FloatOps.absf (F := Ideal) (φ := .f32) (-z)))) * Ideal.ofBits .f32 0x3D800000#32

theorem floor64 : ∀ r : Fin 256, IntOp.shli ArithUnit.vector (IntOp.shrsi ArithUnit.vector (BitVec.ofNat 32 r.val) 6#32) 6#32 = BitVec.ofNat 32 (64 * (r.val / 64)) := by
  decide

theorem tri_word (x r : Fin 256) :
    IntOp.andi (IntOp.cmpi CmpIPredicate.sle (BitVec.ofNat 32 x.val) (BitVec.ofNat 32 r.val))
      (IntOp.cmpi CmpIPredicate.sge (BitVec.ofNat 32 x.val)
        (IntOp.shli ArithUnit.vector (IntOp.shrsi ArithUnit.vector (BitVec.ofNat 32 r.val) 6#32) 6#32))
      = BitVec.ofBool (decide (x.val ≤ r.val ∧ 64 * (r.val / 64) ≤ x.val)) := by
  rw [floor64, WordCmp.cmpi_sle_ofNat (by omega) (by omega), WordCmp.cmpi_sge_ofNat (by omega) (by omega)]
  by_cases h : x.val ≤ r.val <;> by_cases h' : 64 * (r.val / 64) ≤ x.val <;> simp [h, h'] <;> rfl

theorem pay10_apply (a : FVec Ideal S256x128 .bf16) (w : FVec Ideal S128x512 .bf16) (b : FVec Ideal S1x512 .f32) (r : Fin 256) (d : Fin 512) :
    k0_pay10 (F := Ideal) a (k0_pay9 w) b (ix2 r d)
      = (∑ x : Fin 256, if x.val ≤ r.val ∧ 64 * (r.val / 64) ≤ x.val then laM (∑ i, a (ix2 x i) * w (ix2 i d) + b (ix2 (0 : Fin 1) d)) else 0)
        + ∑ x : Fin 256, if x.val ≤ r.val ∧ 64 * (r.val / 64) ≤ x.val
            then laM (∑ i, a (ix2 x i) * w (ix2 i d) + b (ix2 (0 : Fin 1) d)) - laM (∑ i, a (ix2 x i) * w (ix2 i d) + b (ix2 (0 : Fin 1) d)) else 0 := by
  pointwise [k0_pay10, k0_pay9, laM, zero_sub]
  refine congrArg₂ (· + ·) (Finset.sum_congr rfl fun u _ => ?_) (Finset.sum_congr rfl fun u _ => ?_)
  · rw [tri_word, select_ofBool]
  · rw [tri_word, select_ofBool]

theorem sixteenth_nonneg : 0 ≤ Ideal.ofBits .f32 0x3D800000#32 := by
  have e : Ideal.ofBits .f32 0x3D800000#32 = ((16⁻¹ : ℝ) : EReal) := by
    simp [Ideal.ofBits, Ideal.ieee, -EReal.coe_mul]; norm_num
  rw [e]
  exact EReal.coe_nonneg.mpr (by norm_num)

theorem exp_nonneg' (x : EReal) : 0 ≤ Ideal.exp x := by
  induction x with
  | bot => exact le_refl _
  | top => exact le_top
  | coe r => exact EReal.coe_nonneg.mpr (Real.exp_nonneg r)

theorem log1p_nonneg {x : EReal} (hx : 0 ≤ x) : 0 ≤ Ideal.log1p x := by
  induction x with
  | bot => exact absurd hx (by simp)
  | top => exact le_top
  | coe r =>
    have hr : 0 ≤ r := EReal.coe_nonneg.mp hx
    have e : Ideal.log1p (r : EReal) = if 1 + r ≤ 0 then ⊥ else ((Real.log (1 + r) : ℝ) : EReal) := by
      have e1 : (1 : EReal) + (r : EReal) = ((1 + r : ℝ) : EReal) := by push_cast; rfl
      unfold Ideal.log1p
      rw [e1]
      rfl
    rw [e, if_neg (by linarith)]
    exact EReal.coe_nonneg.mpr (Real.log_nonneg (by linarith))

theorem laM_nonpos (z : EReal) : laM z ≤ 0 := by
  unfold laM
  refine mul_nonpos_of_nonpos_of_nonneg ?_ sixteenth_nonneg
  exact EReal.neg_le_zero.mpr (add_nonneg (le_max_right _ _) (log1p_nonneg (exp_nonneg' _)))

theorem add_sub_self' {x : EReal} (hx : x ≤ 0) : x + (x - x) = x := by
  induction x with
  | bot => rfl
  | top => exact absurd hx (by simp)
  | coe r => exact_mod_cast (by ring : r + (r - r) = r)

/-- The running sum of a block of 64 tokens. -/
theorem pay10_prefix (a : FVec Ideal S256x128 .bf16) (w : FVec Ideal S128x512 .bf16) (b : FVec Ideal S1x512 .f32) (c : Fin 4) (r : Fin 64) (d : Fin 512) :
    k0_pay10 (F := Ideal) a (k0_pay9 w) b (ix2 (rw64 c r) d)
      = ∑ u : Fin 64, if u.val ≤ r.val then laM (∑ i, a (ix2 (rw64 c u) i) * w (ix2 i d) + b (ix2 (0 : Fin 1) d)) else 0 := by
  rw [pay10_apply, ← Finset.sum_add_distrib]
  generalize hZ : (fun x : Fin 256 => ∑ i, a (ix2 x i) * w (ix2 i d) + b (ix2 (0 : Fin 1) d)) = Z
  have hZ' : ∀ x : Fin 256, ∑ i, a (ix2 x i) * w (ix2 i d) + b (ix2 (0 : Fin 1) d) = Z x := fun x => congrFun hZ x
  simp only [hZ']
  have hr := r.isLt
  have hc := c.isLt
  have hv : (rw64 c r).val = 64 * c.val + r.val := rfl
  rw [Fin.sum_univ_tiles 4 64 rfl, Finset.sum_eq_single c]
  · refine Finset.sum_congr rfl fun u _ => ?_
    have hu := u.isLt
    have e : (⟨c.val * 64 + u.val, by omega⟩ : Fin 256) = rw64 c u := Fin.ext (by show c.val * 64 + u.val = 64 * c.val + u.val; omega)
    rw [hv]
    by_cases h : u.val ≤ r.val
    · rw [if_pos (show c.val * 64 + u.val ≤ 64 * c.val + r.val ∧ 64 * ((64 * c.val + r.val) / 64) ≤ c.val * 64 + u.val by omega), if_pos (by
        show c.val * 64 + u.val ≤ 64 * c.val + r.val ∧ 64 * ((64 * c.val + r.val) / 64) ≤ c.val * 64 + u.val; omega), if_pos h, e]
      exact add_sub_self' (laM_nonpos _)
    · rw [if_neg (show ¬(c.val * 64 + u.val ≤ 64 * c.val + r.val ∧ 64 * ((64 * c.val + r.val) / 64) ≤ c.val * 64 + u.val) by omega), if_neg (by
        show ¬(c.val * 64 + u.val ≤ 64 * c.val + r.val ∧ 64 * ((64 * c.val + r.val) / 64) ≤ c.val * 64 + u.val); omega), if_neg h, add_zero]
  · intro c' _ hne
    refine Finset.sum_eq_zero fun u _ => ?_
    have hu := u.isLt
    have hne' : c'.val ≠ c.val := fun q => hne (Fin.ext q)
    rw [hv, if_neg (show ¬(c'.val * 64 + u.val ≤ 64 * c.val + r.val ∧ 64 * ((64 * c.val + r.val) / 64) ≤ c'.val * 64 + u.val) by omega), if_neg (by
      show ¬(c'.val * 64 + u.val ≤ 64 * c.val + r.val ∧ 64 * ((64 * c.val + r.val) / 64) ≤ c'.val * 64 + u.val); omega), add_zero]
  · exact fun h => absurd (Finset.mem_univ c) h

/-- The mean square's root, inverted, of a head's columns. -/
def rmsM (o : Fin 256 → EReal) : EReal :=
  Ideal.rsqrt (Ideal.div (∑ y, o y * o y) (Ideal.ofBits .f32 0x43800000#32) + Ideal.ofBits .f32 0x358637BD#32)

/-- A row of the result. -/
def outM (o g w : Fin 1024 → EReal) (p : Fin 1024 → EReal) : EReal :=
  ∑ x : Fin 1024, o x * rmsM (fun y => o (vc ⟨x.val / 256, by omega⟩ y)) * w x * (g x * Ideal.div 1 (1 + Ideal.exp (-g x))) * p x

theorem gFin_apply (g : FVec Ideal S256x1024 .f32) (o0 o1 o2 o3 : FVec Ideal S256x256 .f32) (w0 w1 w2 w3 : FVec Ideal S1x256 .f32) (p : FVec Ideal S1024x1024 .bf16)
    (r : Fin 256) (j : Fin 1024) (o w : Fin 1024 → EReal)
    (h0 : ∀ y, o0 (ix2 r y) = o (vc 0 y)) (h1 : ∀ y, o1 (ix2 r y) = o (vc 1 y)) (h2 : ∀ y, o2 (ix2 r y) = o (vc 2 y)) (h3 : ∀ y, o3 (ix2 r y) = o (vc 3 y))
    (k0 : ∀ y, w0 (ix2 (0 : Fin 1) y) = w (vc 0 y)) (k1 : ∀ y, w1 (ix2 (0 : Fin 1) y) = w (vc 1 y)) (k2 : ∀ y, w2 (ix2 (0 : Fin 1) y) = w (vc 2 y))
    (k3 : ∀ y, w3 (ix2 (0 : Fin 1) y) = w (vc 3 y)) :
    k0_pay1 (F := Ideal) (gFin g o0 o1 o2 o3 w0 w1 w2 w3 p) (ix3 (0 : Fin 1) r j)
      = outM o (fun x => g (ix2 r x)) w (fun x => p (ix2 x j)) := by
  pointwise [k0_pay1, gFin, k0_pay143, k0_pay138, k0_pay139, k0_pay140, k0_pay141, k0_pay142, zero_sub]
  simp only [h0, h1, h2, h3, k0, k1, k2, k3]
  unfold outM rmsM
  have hv : ∀ (h : Fin 4) (y : Fin 256) (x : Fin 1024), x.val = 256 * h.val + y.val → vc h y = x := fun h y x e => Fin.ext e.symm
  refine Finset.sum_congr rfl fun x _ => congrArg (fun t => t * _ * _) ?_
  have hx := x.isLt
  split
  · next h =>
    rw [hv 0 _ x (by show x.val = 256 * 0 + x.val; omega), show (⟨x.val / 256, by omega⟩ : Fin 4) = 0 from Fin.ext (by show x.val / 256 = 0; omega)]
  · split
    · next h =>
      rw [hv 1 _ x (by show x.val = 256 * 1 + (x.val - 256); omega), show (⟨x.val / 256, by omega⟩ : Fin 4) = 1 from Fin.ext (by show x.val / 256 = 1; omega)]
    · split
      · next h =>
        rw [hv 2 _ x (by show x.val = 256 * 2 + (x.val - 256 - 256); omega), show (⟨x.val / 256, by omega⟩ : Fin 4) = 2 from Fin.ext (by show x.val / 256 = 2; omega)]
      · next h =>
        rw [hv 3 _ x (by show x.val = 256 * 3 + (x.val - 256 - 256 - 256); omega), show (⟨x.val / 256, by omega⟩ : Fin 4) = 3 from Fin.ext (by show x.val / 256 = 3; omega)]

end Kernel

end Cert.Hand4
-- ==== Proof.GlaRef.lean ====
/-
  Hand-written. The reference of the gated linear attention at an element of the extended reals.
-/
module

public import proofs.«01_k».proof.Proof.GlaKernel
public import proofs.«01_k».proof.Proof.GlaStep
public import Idealize.ShloMosaic.Lib.WordCmp

@[expose] public section

set_option maxRecDepth 16384

noncomputable section

namespace Cert.Hand4

open Idealize.ShloMosaic

section Reference
open Cert.Reference4Ideal Cert.Reference4Ideal.Step

variable (x : FVec Ideal S16x2048x1024 .f32) (w : FVec Ideal S1024x7184 .f32) (b : FVec Ideal S7184 .f32) (a : FVec Ideal S16x512 .f32) (ba : FVec Ideal S512 .f32)

/-- A projection of a row. -/
def pR (i : Fin 16) (n : Fin 2048) (j : Fin 7184) : EReal := (∑ k : Fin 1024, x (ix3 i n k) * w (ix2 k j)) + b (ix1 j)

theorem v3_apply (i : Fin 16) (n : Fin 2048) (j : Fin 7184) : A_main_v3 (F := Ideal) x w b a ba (ix3 i n j) = pR x w b i n j := by
  pointwise [A_main_v3, A_main_v0, A_main_v1, A_main_v2, pR]

/-- The decays' logarithms. -/
def zR (i : Fin 16) (n : Fin 2048) (d : Fin 512) : EReal := (∑ k : Fin 16, pR x w b i n ⟨5120 + k.val, by omega⟩ * a (ix2 k d)) + ba (ix1 d)

theorem v16_apply (i : Fin 16) (n : Fin 2048) (d : Fin 512) : A_main_v16 (F := Ideal) x w b a ba (ix3 i n d) = zR x w b a ba i n d := by
  pointwise [A_main_v16, A_main_v13, A_main_v10, A_main_v14, A_main_v15, zR, v3_apply]

theorem ofBits_sixteen : Ideal.ofBits .f32 0x41800000#32 = ((16 : ℝ) : EReal) := by
  simp [Ideal.ofBits, Ideal.ieee, -EReal.coe_mul]; norm_num

theorem ofBits_sixteenth : Ideal.ofBits .f32 0x3D800000#32 = ((16⁻¹ : ℝ) : EReal) := by
  simp [Ideal.ofBits, Ideal.ieee, -EReal.coe_mul]; norm_num

theorem inv_sixteen : Ideal.div 1 (Ideal.ofBits .f32 0x41800000#32) = Ideal.ofBits .f32 0x3D800000#32 := by
  rw [ofBits_sixteen, ofBits_sixteenth]
  unfold Ideal.div
  rw [if_neg (by exact_mod_cast (by norm_num : (16 : ℝ) ≠ 0)), one_mul]
  exact (EReal.coe_inv 16).symm

theorem v21_apply (i : Fin 16) (n : Fin 2048) (d : Fin 512) : A_main_v21 (F := Ideal) x w b a ba (ix3 i n d) = laM (zR x w b a ba i n d) := by
  pointwise [A_main_v21, A_main_v19, A_main_v18, A_main_v17, A_main_call0_v1, A_main_call0_v3, A_main_call0_v4, A_main_call0_v6, A_main_call0_v7, A_main_call0_v8, A_main_call0_v9, A_main_call0_v10, A_main_call0_v11, K_main_call0_v0, K_main_call0_v2, K_main_call0_v5, K_main_call0_cst, K_main_v20, K_main_cst, v16_apply]
  rw [if_neg (fun e => e rfl), ← Ideal.mul_one_div (by rw [ofBits_sixteen]; exact_mod_cast (by norm_num : (16 : ℝ) ≠ 0)), inv_sixteen]
  rfl

/-- A row of a block of tokens. -/
def rowN (n : Fin 32) (r : Fin 64) : Fin 2048 := ⟨n.val * 64 + r.val, by omega⟩

def qR (i : Fin 16) (n : Fin 32) (r : Fin 64) (h : Fin 4) (d : Fin 128) : EReal := pR x w b i (rowN n r) ⟨2048 + (h.val * 128 + d.val), by omega⟩ * Ideal.ofBits .f32 0x3DB504F3#32
def kR (i : Fin 16) (n : Fin 32) (r : Fin 64) (h : Fin 4) (d : Fin 128) : EReal := pR x w b i (rowN n r) ⟨2560 + (h.val * 128 + d.val), by omega⟩
def vR (i : Fin 16) (n : Fin 32) (r : Fin 64) (h : Fin 4) (e : Fin 256) : EReal := pR x w b i (rowN n r) ⟨3072 + (h.val * 256 + e.val), by omega⟩
def lR (i : Fin 16) (n : Fin 32) (r : Fin 64) (h : Fin 4) (d : Fin 128) : EReal := laM (zR x w b a ba i (rowN n r) ⟨h.val * 128 + d.val, by omega⟩)
def bR (i : Fin 16) (n : Fin 32) (r : Fin 64) (h : Fin 4) (d : Fin 128) : EReal := ∑ u : Fin 64, if u.val ≤ r.val then lR x w b a ba i n u h d else 0

theorem v28_apply (i : Fin 16) (n : Fin 32) (r : Fin 64) (h : Fin 4) (d : Fin 128) : A_main_v28 (F := Ideal) x w b a ba (ix5 i n r h d) = qR x w b i n r h d := by
  pointwise [A_main_v28, A_main_v24, A_main_v22, A_main_v6, K_main_v23, K_main_cst_0, v3_apply, qR, rowN]

theorem v29_apply (i : Fin 16) (n : Fin 32) (r : Fin 64) (h : Fin 4) (d : Fin 128) : A_main_v29 (F := Ideal) x w b a ba (ix5 i n r h d) = kR x w b i n r h d := by
  pointwise [A_main_v29, A_main_v25, A_main_v7, v3_apply, kR, rowN]

theorem v30_apply (i : Fin 16) (n : Fin 32) (r : Fin 64) (h : Fin 4) (d : Fin 256) : A_main_v30 (F := Ideal) x w b a ba (ix5 i n r h d) = vR x w b i n r h d := by
  pointwise [A_main_v30, A_main_v26, A_main_v8, v3_apply, vR, rowN]

theorem v31_apply (i : Fin 16) (n : Fin 32) (r : Fin 64) (h : Fin 4) (d : Fin 128) : A_main_v31 (F := Ideal) x w b a ba (ix5 i n r h d) = lR x w b a ba i n r h d := by
  pointwise [A_main_v31, A_main_v27, v21_apply, lR, rowN]

theorem foldl_add_sum {α : Type} (f : α → EReal) (l : List α) (z : EReal) : l.foldl (fun r n => r + f n) z = z + (l.map f).sum := by
  induction l generalizing z with
  | nil => simp
  | cons y l ih => rw [List.foldl_cons, ih, List.map_cons, List.sum_cons, add_assoc]

/-- The window's positions are those of its third axis. -/
def winEquiv : (⟨5, ![1, 1, 64, 1, 1]⟩ : Shape).Idx ≃ Fin 64 where
  toFun y := y 2
  invFun u := ix5 (0 : Fin 1) (0 : Fin 1) u (0 : Fin 1) (0 : Fin 1)
  left_inv y := by
    funext p
    match p with
    | 0 => exact Subsingleton.elim (α := Fin 1) _ _
    | 1 => exact Subsingleton.elim (α := Fin 1) _ _
    | 2 => rfl
    | 3 => exact Subsingleton.elim (α := Fin 1) _ _
    | 4 => exact Subsingleton.elim (α := Fin 1) _ _
  right_inv u := rfl

theorem prefix_sum (f : Fin 64 → EReal) (r : Fin 64) :
    (∑ u : Fin 64, if h : 63 ≤ r.val + u.val then f ⟨r.val + u.val - 63, by omega⟩ else 0) = ∑ u : Fin 64, if u.val ≤ r.val then f u else 0 := by
  rw [← Equiv.sum_comp (Equiv.addRight (r + 1)) (fun u : Fin 64 => if u.val ≤ r.val then f u else 0)]
  refine Finset.sum_congr rfl fun u _ => ?_
  have hr := r.isLt
  have hu := u.isLt
  have e : ((Equiv.addRight (r + 1) u : Fin 64)).val = (u.val + (r.val + 1)) % 64 := by
    show (u + (r + 1)).val = _
    rw [Fin.val_add, Fin.val_add]
    show (u.val + (r.val + 1) % 64) % 64 = _
    omega
  by_cases h : 63 ≤ r.val + u.val
  · rw [dif_pos h, if_pos (by rw [e]; omega)]
    exact congrArg f (Fin.ext (by rw [e]; show r.val + u.val - 63 = _; omega))
  · rw [dif_neg h, if_neg (by rw [e]; omega)]

theorem cumsum_apply (X : FVec Ideal S16x32x64x4x128 .f32) (z : FVec Ideal S_ .f32) (hr) (hu) (hz : z (Shape.Idx.first hu) = 0)
    (i : Fin 16) (n : Fin 32) (r : Fin 64) (h : Fin 4) (d : Fin 128) :
    Host.reduceWindowAdd (F := Ideal) (φ := .f32) ![1, 1, 64, 1, 1] ![1, 1, 1, 1, 1] ![0, 0, 63, 0, 0] ![0, 0, 0, 0, 0] X z hr hu (ix5 i n r h d)
      = ∑ u : Fin 64, if h' : 63 ≤ r.val + u.val then X (ix5 i n ⟨r.val + u.val - 63, by omega⟩ h d) else 0 := by
  change Ideal.hostReduceWindowAdd ![1, 1, 64, 1, 1] ![1, 1, 1, 1, 1] ![0, 0, 63, 0, 0] ![0, 0, 0, 0, 0] hr X (z (Shape.Idx.first hu)) (ix5 i n r h d) = _
  rw [hz]
  unfold Ideal.hostReduceWindowAdd Host.reduceWindow
  dsimp only
  rw [foldl_add_sum, ← Fin.sum_univ_def, zero_add]
  rw [← Equiv.sum_comp winEquiv, ← Equiv.sum_comp (Shape.rowMajor (⟨5, ![1, 1, 64, 1, 1]⟩ : Shape)).symm]
  refine Finset.sum_congr rfl fun u _ => ?_
  have key : ∀ (y : (⟨5, ![1, 1, 64, 1, 1]⟩ : Shape).Idx)
      (inst : Decidable (∀ p : Fin 5, (![0, 0, 63, 0, 0] : Fin 5 → ℕ) p ≤ (ix5 i n r h d p).val * (![1, 1, 1, 1, 1] : Fin 5 → ℕ) p + (y p).val
          ∧ (ix5 i n r h d p).val * (![1, 1, 1, 1, 1] : Fin 5 → ℕ) p + (y p).val - (![0, 0, 63, 0, 0] : Fin 5 → ℕ) p < S16x32x64x4x128.size p)),
      (@dite EReal _ inst
        (fun hin => X (fun p => ⟨(ix5 i n r h d p).val * (![1, 1, 1, 1, 1] : Fin 5 → ℕ) p + (y p).val - (![0, 0, 63, 0, 0] : Fin 5 → ℕ) p, (hin p).2⟩)) fun _ => 0)
      = if h' : 63 ≤ r.val + (winEquiv y).val then X (ix5 i n ⟨r.val + (winEquiv y).val - 63, by omega⟩ h d) else 0 := by
    intro y inst
    have y0 : (y 0).val = 0 := by have : (y 0).val < 1 := (y 0).isLt; omega
    have y1 : (y 1).val = 0 := by have : (y 1).val < 1 := (y 1).isLt; omega
    have y2 : (winEquiv y).val = (y 2).val := rfl
    have y3 : (y 3).val = 0 := by have : (y 3).val < 1 := (y 3).isLt; omega
    have y4 : (y 4).val = 0 := by have : (y 4).val < 1 := (y 4).isLt; omega
    have hy : (y 2).val < 64 := (y 2).isLt
    have hi := i.isLt
    have hn := n.isLt
    have hr' := r.isLt
    have hh := h.isLt
    have hd := d.isLt
    by_cases h' : 63 ≤ r.val + (y 2).val
    · rw [dif_pos (show 63 ≤ r.val + (winEquiv y).val from h'), dif_pos fun p => by
        match p with
        | 0 => show 0 ≤ i.val * 1 + (y 0).val ∧ i.val * 1 + (y 0).val - 0 < 16; omega
        | 1 => show 0 ≤ n.val * 1 + (y 1).val ∧ n.val * 1 + (y 1).val - 0 < 32; omega
        | 2 => show 63 ≤ r.val * 1 + (y 2).val ∧ r.val * 1 + (y 2).val - 63 < 64; omega
        | 3 => show 0 ≤ h.val * 1 + (y 3).val ∧ h.val * 1 + (y 3).val - 0 < 4; omega
        | 4 => show 0 ≤ d.val * 1 + (y 4).val ∧ d.val * 1 + (y 4).val - 0 < 128; omega]
      refine congrArg X (funext fun p => Fin.ext ?_)
      match p with
      | 0 => show i.val * 1 + (y 0).val - 0 = i.val; omega
      | 1 => show n.val * 1 + (y 1).val - 0 = n.val; omega
      | 2 => show r.val * 1 + (y 2).val - 63 = r.val + (y 2).val - 63; omega
      | 3 => show h.val * 1 + (y 3).val - 0 = h.val; omega
      | 4 => show d.val * 1 + (y 4).val - 0 = d.val; omega
    · rw [dif_neg (show ¬63 ≤ r.val + (winEquiv y).val from h'), dif_neg fun hin => h' (by
        have := (hin 2).1
        change 63 ≤ r.val * 1 + (y 2).val at this
        omega)]
  exact key _ _

theorem v32_apply (i : Fin 16) (n : Fin 32) (r : Fin 64) (h : Fin 4) (d : Fin 128) : A_main_v32 (F := Ideal) x w b a ba (ix5 i n r h d) = bR x w b a ba i n r h d := by
  unfold A_main_v32 bR
  refine (cumsum_apply _ _ _ _ ?_ i n r h d).trans (Eq.trans ?_ (prefix_sum (fun u => lR x w b a ba i n u h d) r))
  · pointwise [K_main_call1_call0_v0, K_main_call1_call0_cst]
  · simp only [v31_apply]

theorem mask_apply (r u : Fin 64) : K_main_v44 (F := Ideal) (ix2 r u) = BitVec.ofBool (decide (u.val ≤ r.val)) := by
  pointwise [K_main_v44, K_main_call2_v4, K_main_v43, K_main_call2_v5, K_main_call2_v2, K_main_call2_v0, K_main_call2_v1, K_main_call2_v3, K_main_c, K_main_call2_c, K_main_call2_c_0]
  rw [show IntOp.addi (BitVec.ofNat 32 r.val) 0#32 = BitVec.ofNat 32 r.val from BitVec.add_zero _, WordCmp.cmpi_sge_ofNat (by omega) (by omega)]
  by_cases h : u.val ≤ r.val
  · rw [decide_eq_true h]; rfl
  · rw [decide_eq_false h]; rfl

theorem ofBits_zero_f32' : id (constant S_ .f32 0x00000000#32 : FVec Ideal S_ .f32) ix0 = 0 := Ideal.ofBits_zero_f32

theorem v51_apply (i : Fin 16) (n : Fin 32) (r : Fin 64) (h : Fin 4) (e : Fin 256) : A_main_v51 (F := Ideal) x w b a ba (ix5 n i r h e)
    = ∑ u : Fin 64, if u.val ≤ r.val then (∑ d, qR x w b i n r h d * Ideal.exp (bR x w b a ba i n r h d) * (kR x w b i n u h d * Ideal.exp (-bR x w b a ba i n u h d))) * vR x w b i n u h e else 0 := by
  pointwise [A_main_v51, A_main_v48, A_main_v47, A_main_v46, A_main_v45, A_main_v38, A_main_v37, A_main_v36, A_main_v35, A_main_v34, K_main_call3_v2, K_main_call3_v1, K_main_call3_v0, K_main_cst_1, v28_apply, v29_apply, v30_apply, v32_apply, mask_apply]
  refine Finset.sum_congr rfl fun u _ => ?_
  split
  · exact mul_comm _ _
  · exact (congrArg (_ * ·) ofBits_zero_f32').trans (mul_zero _)

theorem v52_apply (i : Fin 16) (n : Fin 32) (r : Fin 64) (h : Fin 4) (d : Fin 128) : A_main_v52 (F := Ideal) x w b a ba (ix5 n i r h d)
    = qR x w b i n r h d * Ideal.exp (bR x w b a ba i n r h d) := by
  pointwise [A_main_v52, A_main_v35, A_main_v34, v28_apply, v32_apply]

theorem v53_apply (i : Fin 16) (n : Fin 32) (r : Fin 64) (h : Fin 4) (d : Fin 128) : A_main_v53 (F := Ideal) x w b a ba (ix5 n i r h d)
    = kR x w b i n r h d * Ideal.exp (bR x w b a ba i n 63 h d - bR x w b a ba i n r h d) := by
  pointwise [A_main_v53, A_main_v42, A_main_v41, A_main_v40, A_main_v39, A_main_v33, v29_apply, v32_apply]

theorem v54_apply (i : Fin 16) (n : Fin 32) (r : Fin 64) (h : Fin 4) (d : Fin 256) : A_main_v54 (F := Ideal) x w b a ba (ix5 n i r h d) = vR x w b i n r h d := by
  pointwise [A_main_v54, v30_apply]

theorem v55_apply (i : Fin 16) (n : Fin 32) (h : Fin 4) (d : Fin 128) : A_main_v55 (F := Ideal) x w b a ba (ix4 n i h d)
    = Ideal.exp (bR x w b a ba i n 63 h d) := by
  pointwise [A_main_v55, A_main_v50, A_main_v49, A_main_v33, v32_apply]

/-! ## A trip -/

theorem b5_apply (j : Fin 32) (s : State Ideal) (i : Fin 16) (r : Fin 64) (h : Fin 4) (e : Fin 256) :
    b5 j.val s (ix4 i r h e) = s.main_v58_0 (ix5 j i r h e) := by
  have e' : b4 (F := Ideal) j.val s = extractStridedSlice S1x16x64x4x256 (![j.val, 0, 0, 0, 0] : Fin 5 → ℕ) s.main_v58_0 ⟨rfl, fun p => by match p with
    | 0 => show j.val + 1 ≤ 32; omega
    | 1 => exact Nat.le_refl _
    | 2 => exact Nat.le_refl _
    | 3 => exact Nat.le_refl _
    | 4 => exact Nat.le_refl _⟩ := by
    unfold b4
    refine WordCmp.dynamicSlice_eq_extract _ _ _ _ _ _ fun p => ?_
    match p with
    | 0 => exact WordCmp.toInt_ofNat_of_lt (by omega)
    | 1 => rfl
    | 2 => rfl
    | 3 => rfl
    | 4 => rfl
  unfold b5
  rw [e']
  pointwise []

theorem b11_apply (j : Fin 32) (s : State Ideal) (i : Fin 16) (r : Fin 64) (h : Fin 4) (d : Fin 128) :
    b11 j.val s (ix4 i r h d) = s.main_v58_1 (ix5 j i r h d) := by
  have e' : b10 (F := Ideal) j.val s = extractStridedSlice S1x16x64x4x128 (![j.val, 0, 0, 0, 0] : Fin 5 → ℕ) s.main_v58_1 ⟨rfl, fun p => by match p with
    | 0 => show j.val + 1 ≤ 32; omega
    | 1 => exact Nat.le_refl _
    | 2 => exact Nat.le_refl _
    | 3 => exact Nat.le_refl _
    | 4 => exact Nat.le_refl _⟩ := by
    unfold b10
    refine WordCmp.dynamicSlice_eq_extract _ _ _ _ _ _ fun p => ?_
    match p with
    | 0 => exact WordCmp.toInt_ofNat_of_lt (by omega)
    | 1 => rfl
    | 2 => rfl
    | 3 => rfl
    | 4 => rfl
  unfold b11
  rw [e']
  pointwise []

theorem b17_apply (j : Fin 32) (s : State Ideal) (i : Fin 16) (r : Fin 64) (h : Fin 4) (d : Fin 128) :
    b17 j.val s (ix4 i r h d) = s.main_v58_2 (ix5 j i r h d) := by
  have e' : b16 (F := Ideal) j.val s = extractStridedSlice S1x16x64x4x128 (![j.val, 0, 0, 0, 0] : Fin 5 → ℕ) s.main_v58_2 ⟨rfl, fun p => by match p with
    | 0 => show j.val + 1 ≤ 32; omega
    | 1 => exact Nat.le_refl _
    | 2 => exact Nat.le_refl _
    | 3 => exact Nat.le_refl _
    | 4 => exact Nat.le_refl _⟩ := by
    unfold b16
    refine WordCmp.dynamicSlice_eq_extract _ _ _ _ _ _ fun p => ?_
    match p with
    | 0 => exact WordCmp.toInt_ofNat_of_lt (by omega)
    | 1 => rfl
    | 2 => rfl
    | 3 => rfl
    | 4 => rfl
  unfold b17
  rw [e']
  pointwise []

theorem b23_apply (j : Fin 32) (s : State Ideal) (i : Fin 16) (r : Fin 64) (h : Fin 4) (e : Fin 256) :
    b23 j.val s (ix4 i r h e) = s.main_v58_3 (ix5 j i r h e) := by
  have e' : b22 (F := Ideal) j.val s = extractStridedSlice S1x16x64x4x256 (![j.val, 0, 0, 0, 0] : Fin 5 → ℕ) s.main_v58_3 ⟨rfl, fun p => by match p with
    | 0 => show j.val + 1 ≤ 32; omega
    | 1 => exact Nat.le_refl _
    | 2 => exact Nat.le_refl _
    | 3 => exact Nat.le_refl _
    | 4 => exact Nat.le_refl _⟩ := by
    unfold b22
    refine WordCmp.dynamicSlice_eq_extract _ _ _ _ _ _ fun p => ?_
    match p with
    | 0 => exact WordCmp.toInt_ofNat_of_lt (by omega)
    | 1 => rfl
    | 2 => rfl
    | 3 => rfl
    | 4 => rfl
  unfold b23
  rw [e']
  pointwise []

theorem b28_apply (j : Fin 32) (s : State Ideal) (i : Fin 16) (h : Fin 4) (d : Fin 128) :
    b28 j.val s (ix3 i h d) = s.main_v58_4 (ix4 j i h d) := by
  have e' : b27 (F := Ideal) j.val s = extractStridedSlice S1x16x4x128 (![j.val, 0, 0, 0] : Fin 4 → ℕ) s.main_v58_4 ⟨rfl, fun p => by match p with
    | 0 => show j.val + 1 ≤ 32; omega
    | 1 => exact Nat.le_refl _
    | 2 => exact Nat.le_refl _
    | 3 => exact Nat.le_refl _⟩ := by
    unfold b27
    refine WordCmp.dynamicSlice_eq_extract _ _ _ _ _ _ fun p => ?_
    match p with
    | 0 => exact WordCmp.toInt_ofNat_of_lt (by omega)
    | 1 => rfl
    | 2 => rfl
    | 3 => rfl
  unfold b28
  rw [e']
  pointwise []

theorem b36_apply (j : Fin 32) (s : State Ideal) (i : Fin 16) (h : Fin 4) (d : Fin 128) (e : Fin 256) :
    b36 j.val s (ix4 i h d e) = s.main_v58_4 (ix4 j i h d) * s.main_v58_6 (ix4 i h d e)
      + ∑ u : Fin 64, s.main_v58_2 (ix5 j i u h d) * s.main_v58_3 (ix5 j i u h e) := by
  pointwise [b36, b35, b34, b33, b32, b17_apply, b23_apply, b28_apply]

theorem b31_apply (j : Fin 32) (s : State Ideal) (i : Fin 16) (r : Fin 64) (h : Fin 4) (e : Fin 256) :
    b31 j.val s (ix4 i r h e) = s.main_v58_0 (ix5 j i r h e) + ∑ d : Fin 128, s.main_v58_6 (ix4 i h d e) * s.main_v58_1 (ix5 j i r h d) := by
  pointwise [b31, b30, b29, b5_apply, b11_apply]

theorem b42_apply (j : Fin 32) (s : State Ideal) (n : Fin 32) (i : Fin 16) (r : Fin 64) (h : Fin 4) (e : Fin 256) :
    b42 j.val s (ix5 n i r h e) = if n = j then b31 j.val s (ix4 i r h e) else s.main_v58_7 (ix5 n i r h e) := by
  have e' : b42 (F := Ideal) j.val s = updateSlice s.main_v58_7 (b37 j.val s) (![j.val, 0, 0, 0, 0] : Fin 5 → ℕ) ⟨rfl, fun p => by match p with
    | 0 => show j.val + 1 ≤ 32; omega
    | 1 => exact Nat.le_refl _
    | 2 => exact Nat.le_refl _
    | 3 => exact Nat.le_refl _
    | 4 => exact Nat.le_refl _⟩ := by
    unfold b42
    refine WordCmp.dynamicUpdateSlice_eq_update _ _ _ _ _ _ fun p => ?_
    match p with
    | 0 => exact WordCmp.toInt_ofNat_of_lt (by omega)
    | 1 => rfl
    | 2 => rfl
    | 3 => rfl
    | 4 => rfl
  rw [e']
  pointwise [b37]
  by_cases hn : n = j
  · subst hn
    rw [dif_pos ⟨Nat.le_refl _, Nat.lt_succ_self _⟩, if_pos rfl]
  · rw [dif_neg (fun hc => hn (Fin.ext (by omega))), if_neg hn]

/-- The state before a block of tokens. -/
def stR (i : Fin 16) (h : Fin 4) : ℕ → Fin 256 → Fin 128 → EReal
  | 0 => fun _ _ => 0
  | n + 1 => sM (fun u d => kR x w b i ⟨n % 32, by omega⟩ u h d) (fun u d => bR x w b a ba i ⟨n % 32, by omega⟩ u h d)
      (fun u e => vR x w b i ⟨n % 32, by omega⟩ u h e) (stR i h n)

/-- What a block of tokens reads. -/
def oR (i : Fin 16) (h : Fin 4) (n : Fin 32) (r : Fin 64) (e : Fin 256) : EReal :=
  oM (fun u d => qR x w b i n u h d) (fun u d => kR x w b i n u h d) (fun u d => bR x w b a ba i n u h d) (fun u e => vR x w b i n u h e)
    (stR x w b a ba i h n.val) r e

theorem trips (it : ℕ → State Ideal) (h0 : it 0 = Step.init x w b a ba) (hs : ∀ n, it (n + 1) = Step.step n (it n)) (n : ℕ) (hn : n ≤ 32) :
    ((it n).main_v58_0 = A_main_v51 x w b a ba ∧ (it n).main_v58_1 = A_main_v52 x w b a ba ∧ (it n).main_v58_2 = A_main_v53 x w b a ba
      ∧ (it n).main_v58_3 = A_main_v54 x w b a ba ∧ (it n).main_v58_4 = A_main_v55 x w b a ba)
    ∧ (∀ i h d e, (it n).main_v58_6 (ix4 i h d e) = stR x w b a ba i h n e d)
    ∧ ∀ (m : Fin 32) i r h e, m.val < n → (it n).main_v58_7 (ix5 m i r h e) = oR x w b a ba i h m r e := by
  induction n with
  | zero =>
    rw [h0]
    refine ⟨⟨rfl, rfl, rfl, rfl, rfl⟩, fun i h d e => ?_, fun m i r h e hm => absurd hm (Nat.not_lt_zero _)⟩
    pointwise [Step.init, K_main_v56, K_main_cst_2, stR]
  | succ n ih =>
    obtain ⟨⟨f0, f1, f2, f3, f4⟩, f6, f7⟩ := ih (by omega)
    rw [hs]
    have em : (⟨n % 32, by omega⟩ : Fin 32) = ⟨n, by omega⟩ := Fin.ext (by show n % 32 = n; omega)
    refine ⟨⟨f0, f1, f2, f3, f4⟩, fun i h d e => ?_, fun m i r h e hm => ?_⟩
    · rw [step_main_v58_6]
      refine (b36_apply ⟨n, by omega⟩ (it n) i h d e).trans ?_
      rw [f2, f3, f4, f6, v55_apply]
      show _ = sM _ _ _ _ e d
      unfold sM
      rw [em]
      refine congrArg₂ (· + ·) (mul_comm _ _) (Finset.sum_congr rfl fun u _ => ?_)
      rw [v53_apply, v54_apply]
      exact mul_comm _ _
    · rw [step_main_v58_7]
      refine (b42_apply ⟨n, by omega⟩ (it n) m i r h e).trans ?_
      by_cases e' : m = ⟨n, by omega⟩
      · rw [if_pos e', e']
        refine (b31_apply ⟨n, by omega⟩ (it n) i r h e).trans ?_
        rw [f0, f1, v51_apply]
        refine congrArg₂ (· + ·) rfl (Finset.sum_congr rfl fun d _ => ?_)
        rw [f6, v52_apply]
        exact mul_comm _ _
      · rw [if_neg e']
        exact f7 m i r h e (by
          have : m.val ≠ n := fun c => e' (Fin.ext c)
          omega)

/-! ## After the trips -/

theorem out_apply (s : State Ideal) (nw : FVec Ideal S1024 .f32) (p : FVec Ideal S1024x1024 .f32) (i : Fin 16) (n : Fin 2048) (j : Fin 1024) :
    R_main_v91 s x w b nw p (ix3 i n j)
      = outM (fun y => s.main_v58_7 (ix5 (⟨n.val / 64, by omega⟩ : Fin 32) i (⟨n.val % 64, by omega⟩ : Fin 64) (⟨y.val / 256, by omega⟩ : Fin 4) (⟨y.val % 256, by omega⟩ : Fin 256)))
          (fun y => pR x w b i n ⟨4096 + y.val, by omega⟩) (fun y => nw (ix1 y)) (fun y => p (ix2 y j)) := by
  pointwise [R_main_v91, K_main_cst]
  unfold outM rmsM pR
  refine Finset.sum_congr rfl fun y _ => ?_
  have e : ∀ z : Fin 256, (⟨(vc ⟨y.val / 256, by omega⟩ z).val / 256, by omega⟩ : Fin 4) = ⟨y.val / 256, by omega⟩ := fun z => Fin.ext (by
    show (256 * (y.val / 256) + z.val) / 256 = y.val / 256; omega)
  have e' : ∀ z : Fin 256, (⟨(vc ⟨y.val / 256, by omega⟩ z).val % 256, by omega⟩ : Fin 256) = z := fun z => Fin.ext (by
    show (256 * (y.val / 256) + z.val) % 256 = z.val; omega)
  simp only [e, e']

/-- The reference's result. -/
def resR (nw : FVec Ideal S1024 .f32) (p : FVec Ideal S1024x1024 .f32) (i : Fin 16) (n : Fin 2048) (j : Fin 1024) : EReal :=
  outM (fun y => oR x w b a ba i (⟨y.val / 256, by omega⟩ : Fin 4) (⟨n.val / 64, by omega⟩ : Fin 32) (⟨n.val % 64, by omega⟩ : Fin 64) (⟨y.val % 256, by omega⟩ : Fin 256))
    (fun y => pR x w b i n ⟨4096 + y.val, by omega⟩) (fun y => nw (ix1 y)) (fun y => p (ix2 y j))

theorem ref_apply (it : ℕ → State Ideal) (h0 : it 0 = Step.init x w b a ba) (hs : ∀ n, it (n + 1) = Step.step n (it n))
    (nw : FVec Ideal S1024 .f32) (p : FVec Ideal S1024x1024 .f32) (i : Fin 16) (n : Fin 2048) (j : Fin 1024) :
    R_main_v91 (it 32) x w b nw p (ix3 i n j) = resR x w b a ba nw p i n j := by
  rw [out_apply]
  unfold resR
  refine congrArg (fun o => outM o _ _ _) (funext fun y => ?_)
  exact (trips x w b a ba it h0 hs 32 (Nat.le_refl _)).2.2 _ _ _ _ _ (by show n.val / 64 < 32; omega)

end Reference
end Cert.Hand4
-- ==== Proof.GlaPoint.lean ====
/-
  Hand-written. A point of the kernel of the gated linear attention, of the blocks that it reads: its rows and the states that
  it leaves are the reference's.
-/
module

public import proofs.«01_k».proof.Proof.GlaRef

@[expose] public section

set_option maxRecDepth 16384

noncomputable section

namespace Cert.Hand4

open Idealize.ShloMosaic Idealize.ShloMosaic.TcCoe
open Cert.Kernel4Ideal Cert.Kernel4Ideal.Gen

variable (x : FVec Ideal S16x2048x1024 .f32) (w : FVec Ideal Cert.Reference4Ideal.S1024x7184 .f32) (b : FVec Ideal Cert.Reference4Ideal.S7184 .f32)
  (a : FVec Ideal S16x512 .f32) (ba : FVec Ideal S512 .f32) (nw : FVec Ideal S1024 .f32) (p : FVec Ideal S1024x1024 .f32)

/-- A block of 64 tokens among a sequence's. -/
def nS (s : Fin 8) (c : Fin 4) : Fin 32 := ⟨4 * s.val + c.val, by omega⟩

/-- What a point's blocks hold. -/
structure Blk (i : Fin 16) (s : Fin 8) (x0 : Vec Ideal S1x256x1024 .f32) (x1 : Vec Ideal S1024x7296 .bf16) (x2 : Vec Ideal S1x7296 .f32) (x3 : Vec Ideal S128x512 .bf16)
    (x4 : Vec Ideal S1x512 .f32) (x5 : Vec Ideal S1x1024 .f32) (x6 : Vec Ideal S1024x1024 .bf16) : Prop where
  hx : ∀ (r : Fin 256) (k : Fin 1024), x0 (ix3 (0 : Fin 1) r k) = x (ix3 i (⟨256 * s.val + r.val, by omega⟩ : Fin 2048) k)
  hw : ∀ (k : Fin 1024) (j : Fin 7296) (j' : Fin 7184), 2048 ≤ j.val → j.val < 5120 → j'.val = j.val → x1 (ix2 k j) = w (ix2 k j')
  hb : ∀ (j : Fin 7296) (j' : Fin 7184), 2048 ≤ j.val → j.val < 5120 → j'.val = j.val → x2 (ix2 (0 : Fin 1) j) = b (ix1 j')
  hwa : ∀ (k : Fin 1024) (l : Fin 16), x1 (ix2 k (⟨7168 + l.val, by omega⟩ : Fin 7296)) = w (ix2 k (⟨5120 + l.val, by omega⟩ : Fin 7184))
  hba : ∀ (l : Fin 16), x2 (ix2 (0 : Fin 1) (⟨7168 + l.val, by omega⟩ : Fin 7296)) = b (ix1 (⟨5120 + l.val, by omega⟩ : Fin 7184))
  ha : ∀ (l : Fin 16) (d : Fin 512), x3 (ix2 (⟨l.val, by omega⟩ : Fin 128) d) = a (ix2 l d)
  ha0 : ∀ (l : Fin 112) (d : Fin 512), x3 (ix2 (⟨16 + l.val, by omega⟩ : Fin 128) d) = 0
  hab : ∀ (d : Fin 512), x4 (ix2 (0 : Fin 1) d) = ba (ix1 d)
  hn : ∀ (y : Fin 1024), x5 (ix2 (0 : Fin 1) y) = nw (ix1 y)
  hp : ∀ (y j : Fin 1024), x6 (ix2 y j) = p (ix2 y j)

section Pays
variable (i : Fin 16) (s : Fin 8) (X : FVec Ideal S1x256x1024 .f32)
  (hX : ∀ (r : Fin 256) (k : Fin 1024), X (ix3 (0 : Fin 1) r k) = x (ix3 i (⟨256 * s.val + r.val, by omega⟩ : Fin 2048) k))
include hX

theorem proj_R (r : Fin 256) (wc : Fin 1024 → EReal) (j' : Fin 7184) (hw : ∀ k, wc k = w (ix2 k j')) :
    dotM (fun k => X (ix3 (0 : Fin 1) r k)) wc + b (ix1 j') = pR x w b i ⟨256 * s.val + r.val, by omega⟩ j' := by
  unfold dotM pR
  exact congrArg (· + _) (Finset.sum_congr rfl fun k _ => by
    show X (ix3 (0 : Fin 1) r k) * wc k = _
    rw [hX, hw])

theorem row_eq (c : Fin 4) (r : Fin 64) : (⟨256 * s.val + (rw64 c r).val, by omega⟩ : Fin 2048) = rowN (nS s c) r :=
  Fin.ext (by show 256 * s.val + (64 * c.val + r.val) = (4 * s.val + c.val) * 64 + r.val; omega)

theorem q_R (W : FVec Ideal S1024x1024 .bf16) (B : FVec Ideal S1x1024 .f32)
    (hW : ∀ (k j : Fin 1024), W (ix2 k j) = w (ix2 k (⟨2048 + j.val, by omega⟩ : Fin 7184))) (hB : ∀ (j : Fin 1024), B (ix2 (0 : Fin 1) j) = b (ix1 (⟨2048 + j.val, by omega⟩ : Fin 7184)))
    (c h : Fin 4) (r : Fin 64) (d : Fin 128) : k0_pay5 (F := Ideal) X W B (ix2 (rw64 c r) (kc h d)) = qR x w b i (nS s c) r h d := by
  rw [pay5_apply, hB, proj_R x w b i s X hX _ _ _ (fun k => hW k _), row_eq x i s X hX]
  unfold qR
  refine congrArg (fun j => pR x w b i _ j * _) (Fin.ext ?_)
  show 2048 + (128 * h.val + d.val) = 2048 + (h.val * 128 + d.val)
  omega

theorem k_R (W : FVec Ideal S1024x1024 .bf16) (B : FVec Ideal S1x1024 .f32)
    (hW : ∀ (k j : Fin 1024), W (ix2 k j) = w (ix2 k (⟨2048 + j.val, by omega⟩ : Fin 7184))) (hB : ∀ (j : Fin 1024), B (ix2 (0 : Fin 1) j) = b (ix1 (⟨2048 + j.val, by omega⟩ : Fin 7184)))
    (c h : Fin 4) (r : Fin 64) (d : Fin 128) : k0_pay6 (F := Ideal) X W B (ix2 (rw64 c r) (kc h d)) = kR x w b i (nS s c) r h d := by
  rw [pay6_apply, hB, proj_R x w b i s X hX _ _ _ (fun k => hW k _), row_eq x i s X hX]
  unfold kR
  refine congrArg (fun j => pR x w b i _ j) (Fin.ext ?_)
  show 2048 + (512 + (128 * h.val + d.val)) = 2560 + (h.val * 128 + d.val)
  omega

theorem v_R (W : FVec Ideal S1024x1024 .bf16) (B : FVec Ideal S1x1024 .f32)
    (hW : ∀ (k j : Fin 1024), W (ix2 k j) = w (ix2 k (⟨3072 + j.val, by omega⟩ : Fin 7184))) (hB : ∀ (j : Fin 1024), B (ix2 (0 : Fin 1) j) = b (ix1 (⟨3072 + j.val, by omega⟩ : Fin 7184)))
    (c h : Fin 4) (r : Fin 64) (e : Fin 256) : k0_pay7 (F := Ideal) X W B (ix2 (rw64 c r) (vc h e)) = vR x w b i (nS s c) r h e := by
  rw [pay7_apply, hB, proj_R x w b i s X hX _ _ _ (fun k => hW k _), row_eq x i s X hX]
  unfold vR
  refine congrArg (fun j => pR x w b i _ j) (Fin.ext ?_)
  show 3072 + (256 * h.val + e.val) = 3072 + (h.val * 256 + e.val)
  omega

theorem g_R (W : FVec Ideal S1024x1024 .bf16) (B : FVec Ideal S1x1024 .f32)
    (hW : ∀ (k j : Fin 1024), W (ix2 k j) = w (ix2 k (⟨4096 + j.val, by omega⟩ : Fin 7184))) (hB : ∀ (j : Fin 1024), B (ix2 (0 : Fin 1) j) = b (ix1 (⟨4096 + j.val, by omega⟩ : Fin 7184)))
    (r : Fin 256) (y : Fin 1024) : k0_pay137 (F := Ideal) (k0_pay3 X) W B (ix2 r y) = pR x w b i ⟨256 * s.val + r.val, by omega⟩ ⟨4096 + y.val, by omega⟩ := by
  rw [pay137_apply, hB, proj_R x w b i s X hX _ _ _ (fun k => hW k _)]

theorem b_R (W : FVec Ideal S1024x128 .bf16) (B : FVec Ideal S1x128 .f32) (A : FVec Ideal S128x512 .bf16) (BA : FVec Ideal S1x512 .f32)
    (hW : ∀ (k : Fin 1024) (l : Fin 16), W (ix2 k (⟨l.val, by omega⟩ : Fin 128)) = w (ix2 k (⟨5120 + l.val, by omega⟩ : Fin 7184)))
    (hB : ∀ (l : Fin 16), B (ix2 (0 : Fin 1) (⟨l.val, by omega⟩ : Fin 128)) = b (ix1 (⟨5120 + l.val, by omega⟩ : Fin 7184)))
    (hA : ∀ (l : Fin 16) (d : Fin 512), A (ix2 (⟨l.val, by omega⟩ : Fin 128) d) = a (ix2 l d))
    (hA0 : ∀ (l : Fin 112) (d : Fin 512), A (ix2 (⟨16 + l.val, by omega⟩ : Fin 128) d) = 0) (hBA : ∀ (d : Fin 512), BA (ix2 (0 : Fin 1) d) = ba (ix1 d))
    (c h : Fin 4) (r : Fin 64) (d : Fin 128) :
    k0_pay10 (F := Ideal) (k0_pay8 X W B) (k0_pay9 A) BA (ix2 (rw64 c r) (kc h d)) = bR x w b a ba i (nS s c) r h d := by
  rw [pay10_prefix]
  unfold bR lR zR
  refine Finset.sum_congr rfl fun u _ => congrArg (fun z => if u.val ≤ r.val then laM z else 0) ?_
  rw [hBA, Fin.sum_univ_two_halves 16 112 rfl, Finset.sum_eq_zero (s := Finset.univ) (f := fun k : Fin 112 => _) (fun l _ => by rw [hA0, mul_zero]), add_zero]
  have ed : kc h d = ⟨h.val * 128 + d.val, by omega⟩ := Fin.ext (by show 128 * h.val + d.val = h.val * 128 + d.val; omega)
  rw [ed]
  refine congrArg (· + _) (Finset.sum_congr rfl fun l _ => ?_)
  rw [hA, pay8_apply, hB, proj_R x w b i s X hX _ _ _ (fun k => hW k _), row_eq x i s X hX]

end Pays

section Rec
variable (i : Fin 16) (s : Fin 8) (q k : FVec Ideal S256x512 .f32) (v : FVec Ideal S256x1024 .f32) (bb : FVec Ideal S256x512 .f32) (S : Fin 4 → FVec Ideal S1x256x128 .f32)
  (hq : ∀ c h r d, q (ix2 (rw64 c r) (kc h d)) = qR x w b i (nS s c) r h d) (hk : ∀ c h r d, k (ix2 (rw64 c r) (kc h d)) = kR x w b i (nS s c) r h d)
  (hv : ∀ c h r e, v (ix2 (rw64 c r) (vc h e)) = vR x w b i (nS s c) r h e) (hb : ∀ c h r d, bb (ix2 (rw64 c r) (kc h d)) = bR x w b a ba i (nS s c) r h d)
  (hS : ∀ h e d, S h (ix3 (0 : Fin 1) e d) = stR x w b a ba i h (4 * s.val) e d)
include hk hv hb hS

theorem gSt_R (h : Fin 4) (n : ℕ) (hn : n ≤ 4) (e : Fin 256) (d : Fin 128) :
    gSt h k v bb (S h) n (ix3 (0 : Fin 1) e d) = stR x w b a ba i h (4 * s.val + n) e d := by
  induction n generalizing e d with
  | zero => exact hS h e d
  | succ n ih =>
    have en : (⟨n % 4, by omega⟩ : Fin 4) = ⟨n, by omega⟩ := Fin.ext (by show n % 4 = n; omega)
    have e2 : (⟨(4 * s.val + n) % 32, by omega⟩ : Fin 32) = nS s ⟨n, by omega⟩ := Fin.ext (by
      have := s.isLt
      show (4 * s.val + n) % 32 = 4 * s.val + n
      omega)
    show gS (F := Ideal) ⟨n % 4, _⟩ h k v bb (gSt h k v bb (S h) n) (ix3 (0 : Fin 1) e d) =
      sM (fun u d => kR x w b i ⟨(4 * s.val + n) % 32, _⟩ u h d) (fun u d => bR x w b a ba i ⟨(4 * s.val + n) % 32, _⟩ u h d)
        (fun u e => vR x w b i ⟨(4 * s.val + n) % 32, _⟩ u h e) (stR x w b a ba i h (4 * s.val + n)) e d
    rw [en, e2, gS_apply]
    simp only [hk, hv, hb]
    exact congrArg (fun st => sM _ _ _ st e d) (funext fun e' => funext fun d' => ih (by omega) e' d')

theorem gAll_R (h : Fin 4) (e : Fin 256) (d : Fin 128) : gAll k v bb S (ix3 h e d) = stR x w b a ba i h (4 * s.val + 4) e d :=
  (gAll_at k v bb S h (ix3 (0 : Fin 1) e d) (ix3 h e d) rfl rfl rfl).symm.trans (gSt_R x w b a ba i s k v bb S hk hv hb hS h 4 (Nat.le_refl _) e d)

include hq in
theorem gRow_R (c h : Fin 4) (r : Fin 64) (e : Fin 256) : gRow q k v bb S (ix2 (rw64 c r) (vc h e)) = oR x w b a ba i h (nS s c) r e := by
  have hr := r.isLt
  have he := e.isLt
  have ec : (⟨(rw64 c r).val / 64, by omega⟩ : Fin 4) = c := Fin.ext (by show (64 * c.val + r.val) / 64 = c.val; omega)
  have eh : (⟨(vc h e).val / 256, by omega⟩ : Fin 4) = h := Fin.ext (by show (256 * h.val + e.val) / 256 = h.val; omega)
  have er : (⟨(rw64 c r).val % 64, by omega⟩ : Fin 64) = r := Fin.ext (by show (64 * c.val + r.val) % 64 = r.val; omega)
  have ee : (⟨(vc h e).val % 256, by omega⟩ : Fin 256) = e := Fin.ext (by show (256 * h.val + e.val) % 256 = e.val; omega)
  refine (gRow_at q k v bb S c h (ix2 r e) (ix2 (rw64 c r) (vc h e)) rfl rfl).symm.trans ?_
  rw [gO_apply]
  unfold oR
  simp only [hq, hk, hv, hb]
  exact congrArg (fun st => oM _ _ _ _ st r e) (funext fun e' => funext fun d' => gSt_R x w b a ba i s k v bb S hk hv hb hS h c.val (by omega) e' d')

end Rec

end Cert.Hand4
-- ==== Proof.GlaHost.lean ====
/-
  Hand-written. What the host's packing of the weights leaves in the windows of the kernel of the gated linear attention.
-/
module

public import proofs.«01_k».proof.Proof.Gen.Kernel4Ideal.Value
public import Idealize.ShloMosaic.Lib.Pointwise

@[expose] public section

set_option maxRecDepth 16384

noncomputable section

namespace Cert.Hand4

open Idealize.ShloMosaic Idealize.ShloMosaic.TcCoe Idealize.SL.Sem Idealize.ShloMosaic.StableHlo
open Cert.Kernel4Ideal Cert.Kernel4Ideal.Gen

variable (m : (ℓ : Loc nD τ sig) → Buf (Elt Ideal) ℓ) (c : Dev nD)

/-- The packed weights. -/
def packW (w : FVec Ideal S1024x7184 .f32) : FVec Ideal S1024x7296 .bf16 :=
  truncf .bf16 (concatenate S1024x7296 1 [⟨S1024x1024, extractStridedSlice S1024x1024 ![0, 0] w slices_S1024x7184_S1024x1024_0_0⟩,
    ⟨S1024x1024, extractStridedSlice S1024x1024 ![0, 1024] w slices_S1024x7184_S1024x1024_0_1024⟩,
    ⟨S1024x512, extractStridedSlice S1024x512 ![0, 2048] w slices_S1024x7184_S1024x512_0_2048⟩,
    ⟨S1024x512, extractStridedSlice S1024x512 ![0, 2560] w slices_S1024x7184_S1024x512_0_2560⟩,
    ⟨S1024x1024, extractStridedSlice S1024x1024 ![0, 3072] w slices_S1024x7184_S1024x1024_0_3072⟩,
    ⟨S1024x1024, extractStridedSlice S1024x1024 ![0, 4096] w slices_S1024x7184_S1024x1024_0_4096⟩,
    ⟨S1024x1024, extractStridedSlice S1024x1024 ![0, 5136] w slices_S1024x7184_S1024x1024_0_5136⟩,
    ⟨S1024x1024, extractStridedSlice S1024x1024 ![0, 6160] w slices_S1024x7184_S1024x1024_0_6160⟩,
    ⟨S1024x16, extractStridedSlice S1024x16 ![0, 5120] w slices_S1024x7184_S1024x16_0_5120⟩,
    ⟨S1024x112, broadcastInDim S1024x112 ![] bcast_S_S1024x112 (constant S_ .f32 0x00000000#32)⟩]
    concatenates_S1024x1024_S1024x1024_S1024x512_S1024x512_S1024x1024_S1024x1024_S1024x1024_S1024x1024_S1024x16_S1024x112_S1024x7296_d1) bitsLt_bf16_f32

/-- The packed biases. -/
def packB (b : FVec Ideal S7184 .f32) : FVec Ideal S1x7296 .f32 :=
  broadcastInDim S1x7296 ![1] bcast_S7296_S1x7296_1 (concatenate S7296 0 [⟨S1024, extractStridedSlice S1024 ![0] b slices_S7184_S1024_0⟩,
    ⟨S1024, extractStridedSlice S1024 ![1024] b slices_S7184_S1024_1024⟩,
    ⟨S512, extractStridedSlice S512 ![2048] b slices_S7184_S512_2048⟩,
    ⟨S512, extractStridedSlice S512 ![2560] b slices_S7184_S512_2560⟩,
    ⟨S1024, extractStridedSlice S1024 ![3072] b slices_S7184_S1024_3072⟩,
    ⟨S1024, extractStridedSlice S1024 ![4096] b slices_S7184_S1024_4096⟩,
    ⟨S1024, extractStridedSlice S1024 ![5136] b slices_S7184_S1024_5136⟩,
    ⟨S1024, extractStridedSlice S1024 ![6160] b slices_S7184_S1024_6160⟩,
    ⟨S16, extractStridedSlice S16 ![5120] b slices_S7184_S16_5120⟩,
    ⟨S112, broadcastInDim S112 ![] bcast_S_S112 (constant S_ .f32 0x00000000#32)⟩]
    concatenates_S1024_S1024_S512_S512_S1024_S1024_S1024_S1024_S16_S112_S7296_d0)

/-- The padded weights of the decays. -/
def packA (a : FVec Ideal S16x512 .f32) : FVec Ideal S128x512 .bf16 :=
  truncf .bf16 (concatenate S128x512 0 [⟨S16x512, a⟩, ⟨S112x512, broadcastInDim S112x512 ![] bcast_S_S112x512 (constant S_ .f32 0x00000000#32)⟩]
    concatenates_S16x512_S112x512_S128x512_d0) bitsLt_bf16_f32

theorem V_v11 : V m c main_v11 = packW (m ((c : Thread nD τ).loc main_arg1)) := by
  unfold V
  simp only [after_cons]
  after_results <;> rfl

theorem V_v26 : V m c main_v26 = packB (m ((c : Thread nD τ).loc main_arg2)) := by
  unfold V
  simp only [after_cons]
  after_results <;> rfl

theorem V_v25 : V m c main_v25 = packA (m ((c : Thread nD τ).loc main_arg3)) := by
  unfold V
  simp only [after_cons]
  after_results <;> rfl

theorem V_v27 : V m c main_v27 = broadcastInDim S1x512 ![1] bcast_S512_S1x512_1 (m ((c : Thread nD τ).loc main_arg4)) := by
  unfold V
  simp only [after_cons]
  after_results <;> rfl

theorem V_v28 : V m c main_v28 = broadcastInDim S1x1024 ![1] bcast_S1024_S1x1024_1 (m ((c : Thread nD τ).loc main_arg5)) := by
  unfold V
  simp only [after_cons]
  after_results <;> rfl

theorem V_v29 : V m c main_v29 = (truncf (F := Ideal) (s := S1024x1024) (φ := .f32) .bf16 (m ((c : Thread nD τ).loc main_arg6)) bitsLt_bf16_f32 : FVec Ideal S1024x1024 .bf16) := by
  unfold V
  simp only [after_cons]
  after_results <;> rfl

theorem packW_apply (w : FVec Ideal S1024x7184 .f32) (k : Fin 1024) (j : Fin 7296) (j' : Fin 7184) (h : 2048 ≤ j.val) (h' : j.val < 5120) (e : j'.val = j.val) :
    packW w (ix2 k j) = w (ix2 k j') := by
  pointwise [packW]
  split_ifs <;> first | (exfalso; omega) | exact congrArg (fun t => w (ix2 k t)) (Fin.ext (by dsimp only; omega))

theorem packB_apply (b : FVec Ideal S7184 .f32) (j : Fin 7296) (j' : Fin 7184) (h : 2048 ≤ j.val) (h' : j.val < 5120) (e : j'.val = j.val) :
    packB b (ix2 (0 : Fin 1) j) = b (ix1 j') := by
  pointwise [packB]
  split_ifs <;> first | (exfalso; omega) | exact congrArg (fun t => b (ix1 t)) (Fin.ext (by dsimp only; omega))

theorem packW_alr (w : FVec Ideal S1024x7184 .f32) (k : Fin 1024) (l : Fin 16) :
    packW w (ix2 k (⟨7168 + l.val, by omega⟩ : Fin 7296)) = w (ix2 k (⟨5120 + l.val, by omega⟩ : Fin 7184)) := by
  pointwise [packW]
  split_ifs <;> first | (exfalso; omega) | exact congrArg (fun t => w (ix2 k t)) (Fin.ext (by dsimp only; omega))

theorem packB_alr (b : FVec Ideal S7184 .f32) (l : Fin 16) :
    packB b (ix2 (0 : Fin 1) (⟨7168 + l.val, by omega⟩ : Fin 7296)) = b (ix1 (⟨5120 + l.val, by omega⟩ : Fin 7184)) := by
  pointwise [packB]
  split_ifs <;> first | (exfalso; omega) | exact congrArg (fun t => b (ix1 t)) (Fin.ext (by dsimp only; omega))

theorem packA_apply (a : FVec Ideal S16x512 .f32) (l : Fin 16) (d : Fin 512) : packA a (ix2 (⟨l.val, by omega⟩ : Fin 128) d) = a (ix2 l d) := by
  pointwise [packA]

theorem packA_pad (a : FVec Ideal S16x512 .f32) (l : Fin 112) (d : Fin 512) : packA a (ix2 (⟨16 + l.val, by omega⟩ : Fin 128) d) = 0 := by
  pointwise [packA]

end Cert.Hand4
-- ==== Proof.GlaValue.lean ====
/-
  Hand-written. The gated linear attention: what the kernel writes is what the reference computes of the same arrays.
-/
module

public import proofs.«01_k».proof.Proof.Gla
public import proofs.«01_k».proof.Proof.GlaPoint
public import proofs.«01_k».proof.Proof.GlaHost

@[expose] public section

set_option maxRecDepth 16384

noncomputable section

namespace Cert.Hand4

open Idealize.ShloMosaic Idealize.ShloMosaic.TcCoe Idealize.SL.Sem
open Cert.Kernel4Ideal Cert.Kernel4Ideal.Gen

section Value
variable (x : FVec Ideal S16x2048x1024 .f32) (w : FVec Ideal Cert.Reference4Ideal.S1024x7184 .f32) (b : FVec Ideal Cert.Reference4Ideal.S7184 .f32)
  (a : FVec Ideal S16x512 .f32) (ba : FVec Ideal S512 .f32) (nw : FVec Ideal S1024 .f32) (p : FVec Ideal S1024x1024 .f32)

/-- What a point loads. -/
structure Ld (i : Fin 16) (s : Fin 8) (X : FVec Ideal S1x256x1024 .f32) (Wq : FVec Ideal S1024x1024 .bf16) (Bq : FVec Ideal S1x1024 .f32) (Wv : FVec Ideal S1024x1024 .bf16)
    (Bv : FVec Ideal S1x1024 .f32) (Wg : FVec Ideal S1024x1024 .bf16) (Bg : FVec Ideal S1x1024 .f32) (Wa : FVec Ideal S1024x128 .bf16) (Ba : FVec Ideal S1x128 .f32)
    (A : FVec Ideal S128x512 .bf16) (BA : FVec Ideal S1x512 .f32) (n0 n1 n2 n3 : FVec Ideal S1x256 .f32) (wp : FVec Ideal S1024x1024 .bf16) : Prop where
  hX : ∀ (r : Fin 256) (k : Fin 1024), X (ix3 (0 : Fin 1) r k) = x (ix3 i (⟨256 * s.val + r.val, by omega⟩ : Fin 2048) k)
  hWq : ∀ (k j : Fin 1024), Wq (ix2 k j) = w (ix2 k (⟨2048 + j.val, by omega⟩ : Fin 7184))
  hBq : ∀ (j : Fin 1024), Bq (ix2 (0 : Fin 1) j) = b (ix1 (⟨2048 + j.val, by omega⟩ : Fin 7184))
  hWv : ∀ (k j : Fin 1024), Wv (ix2 k j) = w (ix2 k (⟨3072 + j.val, by omega⟩ : Fin 7184))
  hBv : ∀ (j : Fin 1024), Bv (ix2 (0 : Fin 1) j) = b (ix1 (⟨3072 + j.val, by omega⟩ : Fin 7184))
  hWg : ∀ (k j : Fin 1024), Wg (ix2 k j) = w (ix2 k (⟨4096 + j.val, by omega⟩ : Fin 7184))
  hBg : ∀ (j : Fin 1024), Bg (ix2 (0 : Fin 1) j) = b (ix1 (⟨4096 + j.val, by omega⟩ : Fin 7184))
  hWa : ∀ (k : Fin 1024) (l : Fin 16), Wa (ix2 k (⟨l.val, by omega⟩ : Fin 128)) = w (ix2 k (⟨5120 + l.val, by omega⟩ : Fin 7184))
  hBa : ∀ (l : Fin 16), Ba (ix2 (0 : Fin 1) (⟨l.val, by omega⟩ : Fin 128)) = b (ix1 (⟨5120 + l.val, by omega⟩ : Fin 7184))
  hA : ∀ (l : Fin 16) (d : Fin 512), A (ix2 (⟨l.val, by omega⟩ : Fin 128) d) = a (ix2 l d)
  hA0 : ∀ (l : Fin 112) (d : Fin 512), A (ix2 (⟨16 + l.val, by omega⟩ : Fin 128) d) = 0
  hBA : ∀ (d : Fin 512), BA (ix2 (0 : Fin 1) d) = ba (ix1 d)
  hn0 : ∀ (y : Fin 256), n0 (ix2 (0 : Fin 1) y) = nw (ix1 (vc 0 y))
  hn1 : ∀ (y : Fin 256), n1 (ix2 (0 : Fin 1) y) = nw (ix1 (vc 1 y))
  hn2 : ∀ (y : Fin 256), n2 (ix2 (0 : Fin 1) y) = nw (ix1 (vc 2 y))
  hn3 : ∀ (y : Fin 256), n3 (ix2 (0 : Fin 1) y) = nw (ix1 (vc 3 y))
  hp : ∀ (y j : Fin 1024), wp (ix2 y j) = p (ix2 y j)

theorem outM_congr {o o' g g' n p p' : Fin 1024 → EReal} (ho : ∀ y, o y = o' y) (hg : ∀ y, g y = g' y) (hp : ∀ y, p y = p' y) : outM o g n p = outM o' g' n p' := by
  rw [funext ho, funext hg, funext hp]

variable {x w b a ba} in
theorem row_R {i : Fin 16} {s : Fin 8} {q k : FVec Ideal S256x512 .f32} {v : FVec Ideal S256x1024 .f32} {bb : FVec Ideal S256x512 .f32} {S : Fin 4 → FVec Ideal S1x256x128 .f32}
    (hq : ∀ c h r d, q (ix2 (rw64 c r) (kc h d)) = qR x w b i (nS s c) r h d) (hk : ∀ c h r d, k (ix2 (rw64 c r) (kc h d)) = kR x w b i (nS s c) r h d)
    (hv : ∀ c h r e, v (ix2 (rw64 c r) (vc h e)) = vR x w b i (nS s c) r h e) (hb : ∀ c h r d, bb (ix2 (rw64 c r) (kc h d)) = bR x w b a ba i (nS s c) r h d)
    (hS : ∀ h e d, S h (ix3 (0 : Fin 1) e d) = stR x w b a ba i h (4 * s.val) e d) (r : Fin 256) (y : Fin 1024) :
    gRow q k v bb S (ix2 r y)
      = oR x w b a ba i ⟨y.val / 256, by omega⟩ ⟨(256 * s.val + r.val) / 64, by omega⟩ ⟨(256 * s.val + r.val) % 64, by omega⟩ ⟨y.val % 256, by omega⟩ := by
  have er : rw64 ⟨r.val / 64, by omega⟩ ⟨r.val % 64, by omega⟩ = r := Fin.ext (by show 64 * (r.val / 64) + r.val % 64 = r.val; omega)
  have ey : vc ⟨y.val / 256, by omega⟩ ⟨y.val % 256, by omega⟩ = y := Fin.ext (by show 256 * (y.val / 256) + y.val % 256 = y.val; omega)
  have en : (⟨(256 * s.val + r.val) / 64, by omega⟩ : Fin 32) = nS s ⟨r.val / 64, by omega⟩ := Fin.ext (by show (256 * s.val + r.val) / 64 = 4 * s.val + r.val / 64; omega)
  have em : (⟨(256 * s.val + r.val) % 64, by omega⟩ : Fin 64) = ⟨r.val % 64, by omega⟩ := Fin.ext (by show (256 * s.val + r.val) % 64 = r.val % 64; omega)
  have e := gRow_R x w b a ba i s q k v bb S hq hk hv hb hS ⟨r.val / 64, by omega⟩ ⟨y.val / 256, by omega⟩ ⟨r.val % 64, by omega⟩ ⟨y.val % 256, by omega⟩
  rw [er, ey] at e
  rw [en, em]
  exact e

section Core
variable {x w b a ba nw p} {i : Fin 16} {s : Fin 8} {X : FVec Ideal S1x256x1024 .f32} {Wq : FVec Ideal S1024x1024 .bf16} {Bq : FVec Ideal S1x1024 .f32} {Wv : FVec Ideal S1024x1024 .bf16}
    {Bv : FVec Ideal S1x1024 .f32} {Wg : FVec Ideal S1024x1024 .bf16} {Bg : FVec Ideal S1x1024 .f32} {Wa : FVec Ideal S1024x128 .bf16} {Ba : FVec Ideal S1x128 .f32}
    {A : FVec Ideal S128x512 .bf16} {BA : FVec Ideal S1x512 .f32} {n0 n1 n2 n3 : FVec Ideal S1x256 .f32} {wp : FVec Ideal S1024x1024 .bf16}
  (H : Ld x w b a ba nw p i s X Wq Bq Wv Bv Wg Bg Wa Ba A BA n0 n1 n2 n3 wp)
  {q k : FVec Ideal S256x512 .f32} {v : FVec Ideal S256x1024 .f32} {bb : FVec Ideal S256x512 .f32} {S : Fin 4 → FVec Ideal S1x256x128 .f32}
  (eq : q = k0_pay5 X Wq Bq) (ek : k = k0_pay6 X Wq Bq) (ev : v = k0_pay7 X Wv Bv) (eb : bb = k0_pay10 (k0_pay8 X Wa Ba) (k0_pay9 A) BA)
include H ek ev eb

theorem Ld.last {u : EReal} (h : Fin 4) (e : Fin 256) (d : Fin 128) (hu : u = gAll k v bb S (ix3 h e d))
    (hS : ∀ h e d, S h (ix3 (0 : Fin 1) e d) = stR x w b a ba i h (4 * s.val) e d) : u = stR x w b a ba i h (4 * s.val + 4) e d := by
  subst ek ev eb
  exact hu.trans (gAll_R x w b a ba i s _ _ _ S (k_R x w b i s X H.hX Wq Bq H.hWq H.hBq) (v_R x w b i s X H.hX Wv Bv H.hWv H.hBv)
    (b_R x w b a ba i s X H.hX Wa Ba A BA H.hWa H.hBa H.hA H.hA0 H.hBA) hS h e d)

include eq in
theorem Ld.out {u : EReal} {o0 o1 o2 o3 : FVec Ideal S256x256 .f32} (r : Fin 256) (j : Fin 1024)
    (hu : u = k0_pay1 (F := Ideal) (gFin (k0_pay137 (k0_pay3 X) Wg Bg) o0 o1 o2 o3 n0 n1 n2 n3 wp) (ix3 (0 : Fin 1) r j))
    (h0 : ∀ y : Fin 256, o0 (ix2 r y) = gRow q k v bb S (ix2 r (vc 0 y))) (h1 : ∀ y : Fin 256, o1 (ix2 r y) = gRow q k v bb S (ix2 r (vc 1 y)))
    (h2 : ∀ y : Fin 256, o2 (ix2 r y) = gRow q k v bb S (ix2 r (vc 2 y))) (h3 : ∀ y : Fin 256, o3 (ix2 r y) = gRow q k v bb S (ix2 r (vc 3 y)))
    (hS : ∀ h e d, S h (ix3 (0 : Fin 1) e d) = stR x w b a ba i h (4 * s.val) e d) : u = resR x w b a ba nw p i ⟨256 * s.val + r.val, by omega⟩ j := by
  have hq : ∀ c h r d, q (ix2 (rw64 c r) (kc h d)) = qR x w b i (nS s c) r h d := by
    subst eq
    exact q_R x w b i s X H.hX Wq Bq H.hWq H.hBq
  have hk : ∀ c h r d, k (ix2 (rw64 c r) (kc h d)) = kR x w b i (nS s c) r h d := by
    subst ek
    exact k_R x w b i s X H.hX Wq Bq H.hWq H.hBq
  have hv : ∀ c h r e, v (ix2 (rw64 c r) (vc h e)) = vR x w b i (nS s c) r h e := by
    subst ev
    exact v_R x w b i s X H.hX Wv Bv H.hWv H.hBv
  have hb : ∀ c h r d, bb (ix2 (rw64 c r) (kc h d)) = bR x w b a ba i (nS s c) r h d := by
    subst eb
    exact b_R x w b a ba i s X H.hX Wa Ba A BA H.hWa H.hBa H.hA H.hA0 H.hBA
  clear eq ek ev eb
  rw [hu, gFin_apply _ o0 o1 o2 o3 n0 n1 n2 n3 wp r j (fun y => gRow q k v bb S (ix2 r y)) (fun y => nw (ix1 y)) h0 h1 h2 h3 H.hn0 H.hn1 H.hn2 H.hn3]
  unfold resR
  exact outM_congr (fun y => row_R hq hk hv hb hS r y) (g_R x w b i s X H.hX Wg Bg H.hWg H.hBg r) (fun y => H.hp y j)

end Core

section Loads

theorem rd2 {n0 n1 k0 k1 : ℕ} {e : EltTy} {arg : Memref sig .tc .vmem ⟨2, ![n0, n1]⟩ e} (h : arg.IsWhole) (X : Vec Ideal ⟨2, ![n0, n1]⟩ e) {o0 o1 : ℕ}
    (inb) (r : Fin k0) (j : Fin k1) (y : Fin n0) (z : Fin n1) (h0 : y.val = o0 + r.val) (h1 : z.val = o1 + j.val) :
    View.readAt (Elt Ideal) arg.view (Rect.unit (s := ⟨2, ![n0, n1]⟩) ![o0, o1] (⟨2, ![k0, k1]⟩ : Shape).size inb).toLoadRect (h.unread X) (ix2 r j) = X (ix2 y z) := by
  refine (h.readAt_unread X _ _).trans (congrArg X (funext fun a => Fin.ext ?_))
  match a with
  | 0 => show o0 + 1 * r.val = y.val; omega
  | 1 => show o1 + 1 * j.val = z.val; omega

theorem rd3 {n0 n1 n2 k0 k1 k2 : ℕ} {e : EltTy} {arg : Memref sig .tc .vmem ⟨3, ![n0, n1, n2]⟩ e} (h : arg.IsWhole) (X : Vec Ideal ⟨3, ![n0, n1, n2]⟩ e) {o0 o1 o2 : ℕ}
    (inb) (r : Fin k0) (j : Fin k1) (l : Fin k2) (y : Fin n0) (z : Fin n1) (u : Fin n2) (h0 : y.val = o0 + r.val) (h1 : z.val = o1 + j.val) (h2 : u.val = o2 + l.val) :
    View.readAt (Elt Ideal) arg.view (Rect.unit (s := ⟨3, ![n0, n1, n2]⟩) ![o0, o1, o2] (⟨3, ![k0, k1, k2]⟩ : Shape).size inb).toLoadRect (h.unread X) (ix3 r j l) = X (ix3 y z u) := by
  refine (h.readAt_unread X _ _).trans (congrArg X (funext fun a => Fin.ext ?_))
  match a with
  | 0 => show o0 + 1 * r.val = y.val; omega
  | 1 => show o1 + 1 * j.val = z.val; omega
  | 2 => show o2 + 1 * l.val = u.val; omega

end Loads

variable {x w b a ba nw p}

theorem Blk.ld {i : Fin 16} {s : Fin 8} {x0 : Vec Ideal S1x256x1024 .f32} {x1 : Vec Ideal S1024x7296 .bf16} {x2 : Vec Ideal S1x7296 .f32} {x3 : Vec Ideal S128x512 .bf16} {x4 : Vec Ideal S1x512 .f32} {x5 : Vec Ideal S1x1024 .f32}
    {x6 : Vec Ideal S1024x1024 .bf16} (H : Blk x w b a ba nw p i s x0 x1 x2 x3 x4 x5 x6)
    (arg2 : Memref sig .tc .vmem S1x256x1024 .f32) (harg2 : arg2.IsWhole) (arg3 : Memref sig .tc .vmem S1024x7296 .bf16) (harg3 : arg3.IsWhole) (arg4 : Memref sig .tc .vmem S1x7296 .f32) (harg4 : arg4.IsWhole)
    (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole)
    (arg8 : Memref sig .tc .vmem S1024x1024 .bf16) (harg8 : arg8.IsWhole) :
    Ld x w b a ba nw p i s
      (View.readAt (Elt Ideal) arg2.view (Rect.unit (s := S1x256x1024) ![0, 0, 0] S1x256x1024.size inb_S1x256x1024_S1x256x1024_0_0_0).toLoadRect (harg2.unread x0))
      (View.readAt (Elt Ideal) arg3.view (Rect.unit (s := S1024x7296) ![0, 2048] S1024x1024.size inb_S1024x7296_S1024x1024_0_2048).toLoadRect (harg3.unread x1))
      (View.readAt (Elt Ideal) arg4.view (Rect.unit (s := S1x7296) ![0, 2048] S1x1024.size inb_S1x7296_S1x1024_0_2048).toLoadRect (harg4.unread x2))
      (View.readAt (Elt Ideal) arg3.view (Rect.unit (s := S1024x7296) ![0, 3072] S1024x1024.size inb_S1024x7296_S1024x1024_0_3072).toLoadRect (harg3.unread x1))
      (View.readAt (Elt Ideal) arg4.view (Rect.unit (s := S1x7296) ![0, 3072] S1x1024.size inb_S1x7296_S1x1024_0_3072).toLoadRect (harg4.unread x2))
      (View.readAt (Elt Ideal) arg3.view (Rect.unit (s := S1024x7296) ![0, 4096] S1024x1024.size inb_S1024x7296_S1024x1024_0_4096).toLoadRect (harg3.unread x1))
      (View.readAt (Elt Ideal) arg4.view (Rect.unit (s := S1x7296) ![0, 4096] S1x1024.size inb_S1x7296_S1x1024_0_4096).toLoadRect (harg4.unread x2))
      (View.readAt (Elt Ideal) arg3.view (Rect.unit (s := S1024x7296) ![0, 7168] S1024x128.size inb_S1024x7296_S1024x128_0_7168).toLoadRect (harg3.unread x1))
      (View.readAt (Elt Ideal) arg4.view (Rect.unit (s := S1x7296) ![0, 7168] S1x128.size inb_S1x7296_S1x128_0_7168).toLoadRect (harg4.unread x2))
      (View.readAt (Elt Ideal) arg5.view (Rect.unit (s := S128x512) ![0, 0] S128x512.size inb_S128x512_S128x512_0_0).toLoadRect (harg5.unread x3))
      (View.readAt (Elt Ideal) arg6.view (Rect.unit (s := S1x512) ![0, 0] S1x512.size inb_S1x512_S1x512_0_0).toLoadRect (harg6.unread x4))
      (View.readAt (Elt Ideal) arg7.view (Rect.unit (s := S1x1024) ![0, 0] S1x256.size inb_S1x1024_S1x256_0_0).toLoadRect (harg7.unread x5))
      (View.readAt (Elt Ideal) arg7.view (Rect.unit (s := S1x1024) ![0, 256] S1x256.size inb_S1x1024_S1x256_0_256).toLoadRect (harg7.unread x5))
      (View.readAt (Elt Ideal) arg7.view (Rect.unit (s := S1x1024) ![0, 512] S1x256.size inb_S1x1024_S1x256_0_512).toLoadRect (harg7.unread x5))
      (View.readAt (Elt Ideal) arg7.view (Rect.unit (s := S1x1024) ![0, 768] S1x256.size inb_S1x1024_S1x256_0_768).toLoadRect (harg7.unread x5))
      (View.readAt (Elt Ideal) arg8.view (Rect.unit (s := S1024x1024) ![0, 0] S1024x1024.size inb_S1024x1024_S1024x1024_0_0).toLoadRect (harg8.unread x6)) where
  hX := fun r k => (rd3 harg2 x0 _ (0 : Fin 1) r k (0 : Fin 1) r k rfl (Nat.zero_add _).symm (Nat.zero_add _).symm).trans (H.hx r k)
  hWq := fun k j => (rd2 harg3 x1 _ k j k (⟨2048 + j.val, by omega⟩ : Fin 7296) (Nat.zero_add _).symm rfl).trans (H.hw k ⟨2048 + j.val, by omega⟩ ⟨2048 + j.val, by omega⟩ (by show 2048 ≤ 2048 + j.val; omega) (by show 2048 + j.val < 5120; omega) rfl)
  hBq := fun j => (rd2 harg4 x2 _ (0 : Fin 1) j (0 : Fin 1) (⟨2048 + j.val, by omega⟩ : Fin 7296) rfl rfl).trans (H.hb ⟨2048 + j.val, by omega⟩ ⟨2048 + j.val, by omega⟩ (by show 2048 ≤ 2048 + j.val; omega) (by show 2048 + j.val < 5120; omega) rfl)
  hWv := fun k j => (rd2 harg3 x1 _ k j k (⟨3072 + j.val, by omega⟩ : Fin 7296) (Nat.zero_add _).symm rfl).trans (H.hw k ⟨3072 + j.val, by omega⟩ ⟨3072 + j.val, by omega⟩ (by show 2048 ≤ 3072 + j.val; omega) (by show 3072 + j.val < 5120; omega) rfl)
  hBv := fun j => (rd2 harg4 x2 _ (0 : Fin 1) j (0 : Fin 1) (⟨3072 + j.val, by omega⟩ : Fin 7296) rfl rfl).trans (H.hb ⟨3072 + j.val, by omega⟩ ⟨3072 + j.val, by omega⟩ (by show 2048 ≤ 3072 + j.val; omega) (by show 3072 + j.val < 5120; omega) rfl)
  hWg := fun k j => (rd2 harg3 x1 _ k j k (⟨4096 + j.val, by omega⟩ : Fin 7296) (Nat.zero_add _).symm rfl).trans (H.hw k ⟨4096 + j.val, by omega⟩ ⟨4096 + j.val, by omega⟩ (by show 2048 ≤ 4096 + j.val; omega) (by show 4096 + j.val < 5120; omega) rfl)
  hBg := fun j => (rd2 harg4 x2 _ (0 : Fin 1) j (0 : Fin 1) (⟨4096 + j.val, by omega⟩ : Fin 7296) rfl rfl).trans (H.hb ⟨4096 + j.val, by omega⟩ ⟨4096 + j.val, by omega⟩ (by show 2048 ≤ 4096 + j.val; omega) (by show 4096 + j.val < 5120; omega) rfl)
  hWa := fun k l => (rd2 harg3 x1 _ k (⟨l.val, by omega⟩ : Fin 128) k (⟨7168 + l.val, by omega⟩ : Fin 7296) (Nat.zero_add _).symm rfl).trans (H.hwa k l)
  hBa := fun l => (rd2 harg4 x2 _ (0 : Fin 1) (⟨l.val, by omega⟩ : Fin 128) (0 : Fin 1) (⟨7168 + l.val, by omega⟩ : Fin 7296) rfl rfl).trans (H.hba l)
  hA := fun l d => (rd2 harg5 x3 _ (⟨l.val, by omega⟩ : Fin 128) d (⟨l.val, by omega⟩ : Fin 128) d (Nat.zero_add _).symm (Nat.zero_add _).symm).trans (H.ha l d)
  hA0 := fun l d => (rd2 harg5 x3 _ (⟨16 + l.val, by omega⟩ : Fin 128) d (⟨16 + l.val, by omega⟩ : Fin 128) d (Nat.zero_add _).symm (Nat.zero_add _).symm).trans (H.ha0 l d)
  hBA := fun d => (rd2 harg6 x4 _ (0 : Fin 1) d (0 : Fin 1) d rfl (Nat.zero_add _).symm).trans (H.hab d)
  hn0 := fun y => (rd2 harg7 x5 _ (0 : Fin 1) y (0 : Fin 1) (vc 0 y) rfl (by show 256 * 0 + y.val = 0 + y.val; omega)).trans (H.hn _)
  hn1 := fun y => (rd2 harg7 x5 _ (0 : Fin 1) y (0 : Fin 1) (vc 1 y) rfl (by show 256 * 1 + y.val = 256 + y.val; omega)).trans (H.hn _)
  hn2 := fun y => (rd2 harg7 x5 _ (0 : Fin 1) y (0 : Fin 1) (vc 2 y) rfl (by show 256 * 2 + y.val = 512 + y.val; omega)).trans (H.hn _)
  hn3 := fun y => (rd2 harg7 x5 _ (0 : Fin 1) y (0 : Fin 1) (vc 3 y) rfl (by show 256 * 3 + y.val = 768 + y.val; omega)).trans (H.hn _)
  hp := fun y j => (rd2 harg8 x6 _ y j y j (Nat.zero_add _).symm (Nat.zero_add _).symm).trans (H.hp y j)

section Points
variable (c : Dev nD) (g : grid0.Coords) (arg2 : Memref sig .tc .vmem S1x256x1024 .f32) (harg2 : arg2.IsWhole) (arg3 : Memref sig .tc .vmem S1024x7296 .bf16) (harg3 : arg3.IsWhole) (arg4 : Memref sig .tc .vmem S1x7296 .f32) (harg4 : arg4.IsWhole)
    (arg5 : Memref sig .tc .vmem S128x512 .bf16) (harg5 : arg5.IsWhole) (arg6 : Memref sig .tc .vmem S1x512 .f32) (harg6 : arg6.IsWhole) (arg7 : Memref sig .tc .vmem S1x1024 .f32) (harg7 : arg7.IsWhole)
    (arg8 : Memref sig .tc .vmem S1024x1024 .bf16) (harg8 : arg8.IsWhole)
    (arg9 : Memref sig .tc .vmem S1x256x1024 .f32) (harg9 : arg9.IsWhole) (arg10 : Memref sig .tc .vmem S4x256x128 .f32) (harg10 : arg10.IsWhole) (arg11 : Memref sig .tc .vmem S256x1024 .f32) (harg11 : arg11.IsWhole)
    (x0 : Vec Ideal S1x256x1024 .f32) (x1 : Vec Ideal S1024x7296 .bf16) (x2 : Vec Ideal S1x7296 .f32) (x3 : Vec Ideal S128x512 .bf16) (x4 : Vec Ideal S1x512 .f32) (x5 : Vec Ideal S1x1024 .f32)
    (x6 : Vec Ideal S1024x1024 .bf16) (xs0 : Vec Ideal S4x256x128 .f32)
    {i : Fin 16} {s : Fin 8} (H : Blk x w b a ba nw p i s x0 x1 x2 x3 x4 x5 x6)
include H

theorem A_state (hc0 : cond0_0 g) (hs : s.val = 0) (h : Fin 4) (e : Fin 256) (d : Fin 128) :
    sout0_A_0 c g arg2 harg2 arg3 harg3 arg4 harg4 arg5 harg5 arg6 harg6 arg7 harg7 arg8 harg8 arg9 harg9 arg10 harg10 arg11 harg11 hc0 x0 x1 x2 x3 x4 x5 x6 (ix3 h e d) = stR x w b a ba i h (4 * s.val + 4) e d :=
  (H.ld arg2 harg2 arg3 harg3 arg4 harg4 arg5 harg5 arg6 harg6 arg7 harg7 arg8 harg8).last (A_k c arg2 harg2 arg3 harg3 arg4 harg4 x0 x1 x2) (A_v c arg2 harg2 arg3 harg3 arg4 harg4 x0 x1 x2) (A_b c arg2 harg2 arg3 harg3 arg4 harg4 arg5 harg5 arg6 harg6 x0 x1 x2 x3 x4) h e d
    ((congrFun (View.read_writes_junk_eq_canon VS0_0 _) (ix3 h e d)).trans (A_last c g arg2 harg2 arg3 harg3 arg4 harg4 arg5 harg5 arg6 harg6 arg7 harg7 arg8 harg8 arg9 harg9 arg10 harg10 arg11 harg11 hc0 x0 x1 x2 x3 x4 x5 x6 (ix3 h e d))) (fun h e d => by rw [hs]; match h with | 0 => exact Ideal.ofBits_zero_f32 | 1 => exact Ideal.ofBits_zero_f32 | 2 => exact Ideal.ofBits_zero_f32 | 3 => exact Ideal.ofBits_zero_f32)

theorem A_outRows (hc0 : cond0_0 g) (hs : s.val = 0) (r : Fin 256) (j : Fin 1024) :
    out0_A_7 c g arg2 harg2 arg3 harg3 arg4 harg4 arg5 harg5 arg6 harg6 arg7 harg7 arg8 harg8 arg9 harg9 arg10 harg10 arg11 harg11 hc0 x0 x1 x2 x3 x4 x5 x6 (ix3 (0 : Fin 1) r j) = resR x w b a ba nw p i ⟨256 * s.val + r.val, by omega⟩ j :=
  (H.ld arg2 harg2 arg3 harg3 arg4 harg4 arg5 harg5 arg6 harg6 arg7 harg7 arg8 harg8).out (A_q c arg2 harg2 arg3 harg3 arg4 harg4 x0 x1 x2) (A_k c arg2 harg2 arg3 harg3 arg4 harg4 x0 x1 x2) (A_v c arg2 harg2 arg3 harg3 arg4 harg4 x0 x1 x2) (A_b c arg2 harg2 arg3 harg3 arg4 harg4 arg5 harg5 arg6 harg6 x0 x1 x2 x3 x4) r j
    ((congrFun (View.read_writes_junk_eq_canon VO0_7 _) (ix3 (0 : Fin 1) r j)).trans (A_out c g arg2 harg2 arg3 harg3 arg4 harg4 arg5 harg5 arg6 harg6 arg7 harg7 arg8 harg8 arg9 harg9 arg10 harg10 arg11 harg11 hc0 x0 x1 x2 x3 x4 x5 x6 (ix3 (0 : Fin 1) r j)))
    (fun y => A_v607 c arg2 harg2 arg3 harg3 arg4 harg4 arg5 harg5 arg6 harg6 arg10 arg11 x0 x1 x2 x3 x4 (ix2 r y) (ix2 r (vc 0 y)) rfl rfl)
    (fun y => A_v622 c arg2 harg2 arg3 harg3 arg4 harg4 arg5 harg5 arg6 harg6 arg10 arg11 x0 x1 x2 x3 x4 (ix2 r y) (ix2 r (vc 1 y)) rfl rfl)
    (fun y => A_v637 c arg2 harg2 arg3 harg3 arg4 harg4 arg5 harg5 arg6 harg6 arg10 arg11 x0 x1 x2 x3 x4 (ix2 r y) (ix2 r (vc 2 y)) rfl rfl)
    (fun y => A_v652 c arg2 harg2 arg3 harg3 arg4 harg4 arg5 harg5 arg6 harg6 arg10 arg11 x0 x1 x2 x3 x4 (ix2 r y) (ix2 r (vc 3 y)) rfl rfl)
    (fun h e d => by rw [hs]; match h with | 0 => exact Ideal.ofBits_zero_f32 | 1 => exact Ideal.ofBits_zero_f32 | 2 => exact Ideal.ofBits_zero_f32 | 3 => exact Ideal.ofBits_zero_f32)

theorem B_state (hc0 : ¬cond0_0 g) (hs : ∀ h e d, xs0 (ix3 h e d) = stR x w b a ba i h (4 * s.val) e d) (h : Fin 4) (e : Fin 256) (d : Fin 128) :
    sout0_B_0 c g arg2 harg2 arg3 harg3 arg4 harg4 arg5 harg5 arg6 harg6 arg7 harg7 arg8 harg8 arg9 harg9 arg10 harg10 arg11 harg11 hc0 x0 x1 x2 x3 x4 x5 x6 xs0 (ix3 h e d) = stR x w b a ba i h (4 * s.val + 4) e d :=
  (H.ld arg2 harg2 arg3 harg3 arg4 harg4 arg5 harg5 arg6 harg6 arg7 harg7 arg8 harg8).last (B_k c arg2 harg2 arg3 harg3 arg4 harg4 x0 x1 x2) (B_v c arg2 harg2 arg3 harg3 arg4 harg4 x0 x1 x2) (B_b c arg2 harg2 arg3 harg3 arg4 harg4 arg5 harg5 arg6 harg6 x0 x1 x2 x3 x4) h e d
    ((congrFun (View.read_writes_junk_eq_canon VS0_0 _) (ix3 h e d)).trans (B_last c g arg2 harg2 arg3 harg3 arg4 harg4 arg5 harg5 arg6 harg6 arg7 harg7 arg8 harg8 arg9 harg9 arg10 harg10 arg11 harg11 hc0 x0 x1 x2 x3 x4 x5 x6 xs0 (ix3 h e d))) (fun h e d => by match h with | 0 => exact (rd3 harg10 xs0 _ (0 : Fin 1) e d (0 : Fin 4) e d rfl (Nat.zero_add _).symm (Nat.zero_add _).symm).trans (hs 0 e d) | 1 => exact (rd3 harg10 xs0 _ (0 : Fin 1) e d (1 : Fin 4) e d rfl (Nat.zero_add _).symm (Nat.zero_add _).symm).trans (hs 1 e d) | 2 => exact (rd3 harg10 xs0 _ (0 : Fin 1) e d (2 : Fin 4) e d rfl (Nat.zero_add _).symm (Nat.zero_add _).symm).trans (hs 2 e d) | 3 => exact (rd3 harg10 xs0 _ (0 : Fin 1) e d (3 : Fin 4) e d rfl (Nat.zero_add _).symm (Nat.zero_add _).symm).trans (hs 3 e d))

theorem B_outRows (hc0 : ¬cond0_0 g) (hs : ∀ h e d, xs0 (ix3 h e d) = stR x w b a ba i h (4 * s.val) e d) (r : Fin 256) (j : Fin 1024) :
    out0_B_7 c g arg2 harg2 arg3 harg3 arg4 harg4 arg5 harg5 arg6 harg6 arg7 harg7 arg8 harg8 arg9 harg9 arg10 harg10 arg11 harg11 hc0 x0 x1 x2 x3 x4 x5 x6 xs0 (ix3 (0 : Fin 1) r j) = resR x w b a ba nw p i ⟨256 * s.val + r.val, by omega⟩ j :=
  (H.ld arg2 harg2 arg3 harg3 arg4 harg4 arg5 harg5 arg6 harg6 arg7 harg7 arg8 harg8).out (B_q c arg2 harg2 arg3 harg3 arg4 harg4 x0 x1 x2) (B_k c arg2 harg2 arg3 harg3 arg4 harg4 x0 x1 x2) (B_v c arg2 harg2 arg3 harg3 arg4 harg4 x0 x1 x2) (B_b c arg2 harg2 arg3 harg3 arg4 harg4 arg5 harg5 arg6 harg6 x0 x1 x2 x3 x4) r j
    ((congrFun (View.read_writes_junk_eq_canon VO0_7 _) (ix3 (0 : Fin 1) r j)).trans (B_out c g arg2 harg2 arg3 harg3 arg4 harg4 arg5 harg5 arg6 harg6 arg7 harg7 arg8 harg8 arg9 harg9 arg10 harg10 arg11 harg11 hc0 x0 x1 x2 x3 x4 x5 x6 xs0 (ix3 (0 : Fin 1) r j)))
    (fun y => B_v607 c arg2 harg2 arg3 harg3 arg4 harg4 arg5 harg5 arg6 harg6 arg10 harg10 arg11 x0 x1 x2 x3 x4 xs0 (ix2 r y) (ix2 r (vc 0 y)) rfl rfl)
    (fun y => B_v622 c arg2 harg2 arg3 harg3 arg4 harg4 arg5 harg5 arg6 harg6 arg10 harg10 arg11 x0 x1 x2 x3 x4 xs0 (ix2 r y) (ix2 r (vc 1 y)) rfl rfl)
    (fun y => B_v637 c arg2 harg2 arg3 harg3 arg4 harg4 arg5 harg5 arg6 harg6 arg10 harg10 arg11 x0 x1 x2 x3 x4 xs0 (ix2 r y) (ix2 r (vc 2 y)) rfl rfl)
    (fun y => B_v652 c arg2 harg2 arg3 harg3 arg4 harg4 arg5 harg5 arg6 harg6 arg10 harg10 arg11 x0 x1 x2 x3 x4 xs0 (ix2 r y) (ix2 r (vc 3 y)) rfl rfl)
    (fun h e d => by match h with | 0 => exact (rd3 harg10 xs0 _ (0 : Fin 1) e d (0 : Fin 4) e d rfl (Nat.zero_add _).symm (Nat.zero_add _).symm).trans (hs 0 e d) | 1 => exact (rd3 harg10 xs0 _ (0 : Fin 1) e d (1 : Fin 4) e d rfl (Nat.zero_add _).symm (Nat.zero_add _).symm).trans (hs 1 e d) | 2 => exact (rd3 harg10 xs0 _ (0 : Fin 1) e d (2 : Fin 4) e d rfl (Nat.zero_add _).symm (Nat.zero_add _).symm).trans (hs 2 e d) | 3 => exact (rd3 harg10 xs0 _ (0 : Fin 1) e d (3 : Fin 4) e d rfl (Nat.zero_add _).symm (Nat.zero_add _).symm).trans (hs 3 e d))

end Points

end Value

section Whole
open Cert.Kernel4Ideal.Value
variable (m : (ℓ : Loc nD τ sig) → Buf (Elt Ideal) ℓ) (c : Dev nD)

theorem pt_lt (t : Fin cfg0.N) : t.val < 128 := N_0 ▸ t.isLt

theorem coords_seq (t : Fin cfg0.N) : (grid0.coords t 0).val = t.val / 8 := by
  have h := Pipeline.Grid.coords_val (G := grid0) t 0 (S := 8) (B := 16) (by decide) rfl
  have ht := pt_lt t
  rw [h]
  omega

theorem coords_tile (t : Fin cfg0.N) : (grid0.coords t 1).val = t.val % 8 := by
  have h := Pipeline.Grid.coords_val (G := grid0) t 1 (S := 1) (B := 8) (by decide) rfl
  rw [h]
  omega

theorem seq_word (t : Fin cfg0.N) : (BitVec.ofNat 32 (grid0.coords t 0).val).toNat = t.val / 8 := by
  have ht := pt_lt t
  rw [coords_seq, BitVec.toNat_ofNat, Nat.mod_eq_of_lt (by omega)]

theorem tile_word (t : Fin cfg0.N) : (BitVec.ofNat 32 (grid0.coords t 1).val).toNat = t.val % 8 := by
  rw [coords_tile, BitVec.toNat_ofNat, Nat.mod_eq_of_lt (by omega)]

/-- The kernel's arguments. -/
abbrev mx : FVec Ideal S16x2048x1024 .f32 := m ((c : Thread nD τ).loc main_arg0)
abbrev mw : FVec Ideal Cert.Reference4Ideal.S1024x7184 .f32 := m ((c : Thread nD τ).loc main_arg1)
abbrev mb : FVec Ideal Cert.Reference4Ideal.S7184 .f32 := m ((c : Thread nD τ).loc main_arg2)
abbrev ma : FVec Ideal S16x512 .f32 := m ((c : Thread nD τ).loc main_arg3)
abbrev mba : FVec Ideal S512 .f32 := m ((c : Thread nD τ).loc main_arg4)
abbrev mn : FVec Ideal S1024 .f32 := m ((c : Thread nD τ).loc main_arg5)
abbrev mp : FVec Ideal S1024x1024 .f32 := m ((c : Thread nD τ).loc main_arg6)

theorem blk0 (t : Fin cfg0.N) (r : Fin 256) (k : Fin 1024) (i : Fin 16) (n : Fin 2048) (hi : i.val = t.val / 8) (hn : n.val = 256 * (t.val % 8) + r.val) :
    iblk m c 0 t (ix3 (0 : Fin 1) r k) = mx m c (ix3 i n k) := by
  unfold iblk
  rw [View.read_apply]
  show V m c main_arg0 ((win0_0.rect t).emb (ix3 (0 : Fin 1) r k)) = _
  rw [V_main_arg0]
  congr 1
  funext a
  apply Fin.ext
  rw [Pipeline.Window.rect_emb_val win0_0 t (ix3 (0 : Fin 1) r k) a rfl]
  fin_cases a
  · show (BitVec.ofNat 32 (grid0.coords t 0).val).toNat * 1 + 0 = i.val
    rw [seq_word]
    omega
  · show (BitVec.ofNat 32 (grid0.coords t 1).val).toNat * 256 + r.val = n.val
    rw [tile_word]
    omega
  · show 0 * 1024 + k.val = k.val
    omega

theorem blk1 (t : Fin cfg0.N) (r : Fin 1024) (k : Fin 7296) : iblk m c 1 t (ix2 r k) = V m c main_v11 (ix2 r k) := by
  unfold iblk
  rw [View.read_apply]
  show V m c main_v11 ((win0_1.rect t).emb (ix2 r k)) = _
  congr 1
  funext a
  apply Fin.ext
  rw [Pipeline.Window.rect_emb_val win0_1 t (ix2 r k) a rfl]
  fin_cases a
  · show 0 * 1024 + r.val = r.val
    omega
  · show 0 * 7296 + k.val = k.val
    omega

theorem blk2 (t : Fin cfg0.N) (r : Fin 1) (k : Fin 7296) : iblk m c 2 t (ix2 r k) = V m c main_v26 (ix2 r k) := by
  unfold iblk
  rw [View.read_apply]
  show V m c main_v26 ((win0_2.rect t).emb (ix2 r k)) = _
  congr 1
  funext a
  apply Fin.ext
  rw [Pipeline.Window.rect_emb_val win0_2 t (ix2 r k) a rfl]
  fin_cases a
  · show 0 * 1 + r.val = r.val
    omega
  · show 0 * 7296 + k.val = k.val
    omega

theorem blk3 (t : Fin cfg0.N) (r : Fin 128) (k : Fin 512) : iblk m c 3 t (ix2 r k) = V m c main_v25 (ix2 r k) := by
  unfold iblk
  rw [View.read_apply]
  show V m c main_v25 ((win0_3.rect t).emb (ix2 r k)) = _
  congr 1
  funext a
  apply Fin.ext
  rw [Pipeline.Window.rect_emb_val win0_3 t (ix2 r k) a rfl]
  fin_cases a
  · show 0 * 128 + r.val = r.val
    omega
  · show 0 * 512 + k.val = k.val
    omega

theorem blk4 (t : Fin cfg0.N) (r : Fin 1) (k : Fin 512) : iblk m c 4 t (ix2 r k) = V m c main_v27 (ix2 r k) := by
  unfold iblk
  rw [View.read_apply]
  show V m c main_v27 ((win0_4.rect t).emb (ix2 r k)) = _
  congr 1
  funext a
  apply Fin.ext
  rw [Pipeline.Window.rect_emb_val win0_4 t (ix2 r k) a rfl]
  fin_cases a
  · show 0 * 1 + r.val = r.val
    omega
  · show 0 * 512 + k.val = k.val
    omega

theorem blk5 (t : Fin cfg0.N) (r : Fin 1) (k : Fin 1024) : iblk m c 5 t (ix2 r k) = V m c main_v28 (ix2 r k) := by
  unfold iblk
  rw [View.read_apply]
  show V m c main_v28 ((win0_5.rect t).emb (ix2 r k)) = _
  congr 1
  funext a
  apply Fin.ext
  rw [Pipeline.Window.rect_emb_val win0_5 t (ix2 r k) a rfl]
  fin_cases a
  · show 0 * 1 + r.val = r.val
    omega
  · show 0 * 1024 + k.val = k.val
    omega

theorem blk6 (t : Fin cfg0.N) (r : Fin 1024) (k : Fin 1024) : iblk m c 6 t (ix2 r k) = V m c main_v29 (ix2 r k) := by
  unfold iblk
  rw [View.read_apply]
  show V m c main_v29 ((win0_6.rect t).emb (ix2 r k)) = _
  congr 1
  funext a
  apply Fin.ext
  rw [Pipeline.Window.rect_emb_val win0_6 t (ix2 r k) a rfl]
  fin_cases a
  · show 0 * 1024 + r.val = r.val
    omega
  · show 0 * 1024 + k.val = k.val
    omega

theorem blk_of (t : Fin cfg0.N) (i : Fin 16) (s : Fin 8) (hi : i.val = t.val / 8) (hs : s.val = t.val % 8) :
    Blk (mx m c) (mw m c) (mb m c) (ma m c) (mba m c) (mn m c) (mp m c) i s (iblk m c 0 t) (iblk m c 1 t) (iblk m c 2 t) (iblk m c 3 t) (iblk m c 4 t) (iblk m c 5 t) (iblk m c 6 t) where
  hx := fun r k => blk0 m c t r k i _ hi (by show 256 * s.val + r.val = _; rw [hs])
  hw := fun k j j' h h' e => by rw [blk1, V_v11]; exact packW_apply _ k j j' h h' e
  hb := fun j j' h h' e => by rw [blk2, V_v26]; exact packB_apply _ j j' h h' e
  hwa := fun k l => by rw [blk1, V_v11]; exact packW_alr _ k l
  hba := fun l => by rw [blk2, V_v26]; exact packB_alr _ l
  ha := fun l d => by rw [blk3, V_v25]; exact packA_apply _ l d
  ha0 := fun l d => by rw [blk3, V_v25]; exact packA_pad _ l d
  hab := fun d => by rw [blk4, V_v27]; pointwise
  hn := fun y => by rw [blk5, V_v28]; pointwise
  hp := fun y j => by rw [blk6, V_v29]; rfl

/-- The first of two that are known. -/
theorem fst_of {α β : Type} {p : α × β} {a : α} {b : β} (h : p = (a, b)) : p.1 = a := by
  rw [h]

/-- The second of two that are known. -/
theorem snd_of {α β : Type} {p : α × β} {a : α} {b : β} (h : p = (a, b)) : p.2 = b := by
  rw [h]

theorem atA_state (t : Fin cfg0.N) (h0 : t.val % 8 = 0) (i : Fin 16) (s : Fin 8) (hi : i.val = t.val / 8) (hs : s.val = t.val % 8) (h : Fin 4) (e : Fin 256) (d : Fin 128) :
    (outsAt0 m c t.val t.isLt).2 (ix3 h e d) = stR (mx m c) (mw m c) (mb m c) (ma m c) (mba m c) i h (4 * s.val + 4) e d :=
  (congrFun (snd_of (outsAt0_A m c t h0)) (ix3 h e d)).trans
    (A_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) (blk_of m c t i s hi hs) ((hcond0_0 t).mpr h0) (hs.trans h0) h e d)

theorem atA_rows (t : Fin cfg0.N) (h0 : t.val % 8 = 0) (i : Fin 16) (s : Fin 8) (hi : i.val = t.val / 8) (hs : s.val = t.val % 8) (r : Fin 256) (j : Fin 1024) :
    (outsAt0 m c t.val t.isLt).1 (ix3 (0 : Fin 1) r j) = resR (mx m c) (mw m c) (mb m c) (ma m c) (mba m c) (mn m c) (mp m c) i ⟨256 * s.val + r.val, by omega⟩ j :=
  (congrFun (fst_of (outsAt0_A m c t h0)) (ix3 (0 : Fin 1) r j)).trans
    (A_outRows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) (blk_of m c t i s hi hs) ((hcond0_0 t).mpr h0) (hs.trans h0) r j)

theorem atB_state (t : Fin cfg0.N) (h0 : ¬t.val % 8 = 0) (i : Fin 16) (s : Fin 8) (hi : i.val = t.val / 8) (hs : s.val = t.val % 8) (xs0 : Vec Ideal S4x256x128 .f32) (hx : (outsAt0 m c (t.val - 1) (Nat.lt_of_le_of_lt (Nat.sub_le _ _) t.isLt)).2 = xs0)
    (hS : ∀ h e d, xs0 (ix3 h e d) = stR (mx m c) (mw m c) (mb m c) (ma m c) (mba m c) i h (4 * s.val) e d) (h : Fin 4) (e : Fin 256) (d : Fin 128) :
    (outsAt0 m c t.val t.isLt).2 (ix3 h e d) = stR (mx m c) (mw m c) (mb m c) (ma m c) (mba m c) i h (4 * s.val + 4) e d := by
  subst hx
  exact (congrFun (snd_of (outsAt0_B m c t h0)) (ix3 h e d)).trans
    (B_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) _ (blk_of m c t i s hi hs) (fun h => h0 ((hcond0_0 t).mp h)) hS h e d)

theorem atB_rows (t : Fin cfg0.N) (h0 : ¬t.val % 8 = 0) (i : Fin 16) (s : Fin 8) (hi : i.val = t.val / 8) (hs : s.val = t.val % 8) (xs0 : Vec Ideal S4x256x128 .f32) (hx : (outsAt0 m c (t.val - 1) (Nat.lt_of_le_of_lt (Nat.sub_le _ _) t.isLt)).2 = xs0)
    (hS : ∀ h e d, xs0 (ix3 h e d) = stR (mx m c) (mw m c) (mb m c) (ma m c) (mba m c) i h (4 * s.val) e d) (r : Fin 256) (j : Fin 1024) :
    (outsAt0 m c t.val t.isLt).1 (ix3 (0 : Fin 1) r j) = resR (mx m c) (mw m c) (mb m c) (ma m c) (mba m c) (mn m c) (mp m c) i ⟨256 * s.val + r.val, by omega⟩ j := by
  subst hx
  exact (congrFun (fst_of (outsAt0_B m c t h0)) (ix3 (0 : Fin 1) r j)).trans
    (B_outRows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) (iblk m c 6 t) _ (blk_of m c t i s hi hs) (fun h => h0 ((hcond0_0 t).mp h)) hS r j)

/-- The states and the rows that the points leave. -/
theorem outs_eq (n : ℕ) : ∀ (hn : n < cfg0.N) (i : Fin 16) (_ : i.val = n / 8),
    (∀ (h : Fin 4) (e : Fin 256) (d : Fin 128), (outsAt0 m c n hn).2 (ix3 h e d) = stR (mx m c) (mw m c) (mb m c) (ma m c) (mba m c) i h (4 * (n % 8) + 4) e d)
    ∧ ∀ (r : Fin 256) (j : Fin 1024), (outsAt0 m c n hn).1 (ix3 (0 : Fin 1) r j)
        = resR (mx m c) (mw m c) (mb m c) (ma m c) (mba m c) (mn m c) (mp m c) i ⟨256 * (n % 8) + r.val, by omega⟩ j := by
  induction n with
  | zero =>
    intro hn i hi
    exact ⟨atA_state m c ⟨0, hn⟩ rfl i ⟨0 % 8, by omega⟩ hi rfl, atA_rows m c ⟨0, hn⟩ rfl i ⟨0 % 8, by omega⟩ hi rfl⟩
  | succ n ih =>
    intro hn i hi
    by_cases h0 : (n + 1) % 8 = 0
    · exact ⟨atA_state m c ⟨n + 1, hn⟩ h0 i ⟨(n + 1) % 8, by omega⟩ hi rfl, atA_rows m c ⟨n + 1, hn⟩ h0 i ⟨(n + 1) % 8, by omega⟩ hi rfl⟩
    · have hS : ∀ h e d, (outsAt0 m c n (Nat.lt_of_succ_lt hn)).2 (ix3 h e d) = stR (mx m c) (mw m c) (mb m c) (ma m c) (mba m c) i h (4 * ((n + 1) % 8)) e d := fun h e d => by
        rw [(ih (Nat.lt_of_succ_lt hn) i (by omega)).1, show 4 * (n % 8) + 4 = 4 * ((n + 1) % 8) by omega]
      exact ⟨atB_state m c ⟨n + 1, hn⟩ h0 i ⟨(n + 1) % 8, by omega⟩ hi rfl _ rfl hS, atB_rows m c ⟨n + 1, hn⟩ h0 i ⟨(n + 1) % 8, by omega⟩ hi rfl _ rfl hS⟩

/-- What the kernel leaves, at a token and a column. -/
theorem kernel_apply (i : Fin 16) (n : Fin 2048) (j : Fin 1024) :
    G7 m c (ix3 i n j) = resR (mx m c) (mw m c) (mb m c) (ma m c) (mba m c) (mn m c) (mp m c) i n j := by
  have hi := i.isLt
  have hn := n.isLt
  have hj := j.isLt
  have ep : pt7Of (ix3 i n j) = 8 * i.val + n.val / 256 := by
    show 8 * (i.val / 1 - 0) + 1 * (n.val / 256 - 0) + 1 * (j.val / 1024 - 0) = _
    omega
  have hp : pt7Of (ix3 i n j) < cfg0.N := by
    rw [ep]
    exact lt_of_lt_of_eq (by omega) N_0.symm
  unfold G7
  rw [dif_pos hp, ← outsAt0_sweep m c _ hp]
  have el : loc7Of (ix3 i n j) = ix3 (0 : Fin 1) (⟨n.val % 256, by omega⟩ : Fin 256) j := funext fun a => Fin.ext (by
    match a with
    | 0 => show i.val % 1 = 0; omega
    | 1 => rfl
    | 2 => show j.val % 1024 = j.val; omega)
  rw [el, (outs_eq m c _ hp i (by rw [ep]; omega)).2]
  refine congrArg (fun n => resR _ _ _ _ _ _ _ i n j) (Fin.ext ?_)
  show 256 * (pt7Of (ix3 i n j) % 8) + n.val % 256 = n.val
  rw [ep]
  omega

/-- The reference's states, trip by trip. -/
def its (x : FVec Ideal S16x2048x1024 .f32) (w : FVec Ideal Cert.Reference4Ideal.S1024x7184 .f32) (b : FVec Ideal Cert.Reference4Ideal.S7184 .f32)
    (a : FVec Ideal S16x512 .f32) (ba : FVec Ideal S512 .f32) : ℕ → Cert.Reference4Ideal.Step.State Ideal
  | 0 => Cert.Reference4Ideal.Step.init x w b a ba
  | n + 1 => Cert.Reference4Ideal.Step.step n (its x w b a ba n)

/-- The reference's result of the kernel's arguments is what the kernel leaves. -/
theorem result_eq : Cert.Reference4Ideal.Step.R_main_v91 (its (mx m c) (mw m c) (mb m c) (ma m c) (mba m c) 32) (mx m c) (mw m c) (mb m c) (mn m c) (mp m c) = G7 m c := by
  funext i
  have ei : i = ix3 (i 0) (i 1) (i 2) := funext fun a => match a with | ⟨0, _⟩ => rfl | ⟨1, _⟩ => rfl | ⟨2, _⟩ => rfl
  rw [ei]
  exact (ref_apply (mx m c) (mw m c) (mb m c) (ma m c) (mba m c) (its _ _ _ _ _) rfl (fun _ => rfl) (mn m c) (mp m c) _ _ _).trans (kernel_apply m c _ _ _).symm

end Whole

end Cert.Hand4
-- ==== Proof.MergeRef.lean ====
/-
  Hand-written. The merge of the mixer's two branches, its output product and its norm at an element of the extended reals,
  and the reference's value read so.
-/
module

public import proofs.«01_k».proof.Proof.Gen.Reference5Ideal.Run
public import proofs.«01_k».proof.Proof.CombineValue
public import Idealize.ShloMosaic.Lib.Pointwise

@[expose] public section

set_option maxRecDepth 16384

noncomputable section

namespace Cert.Hand5

open Idealize.ShloMosaic
open Cert.Hand2 (mean)

/-- A gate. -/
def gate (z : EReal) : EReal := Ideal.div 1 (1 + Ideal.exp (-z))

/-- A row's projection on a column, with its bias. -/
def proj (x w : Fin 1024 → EReal) (b : EReal) : EReal := (∑ k, x k * w k) + b

/-- The merge of two branches at a column. -/
def merged (ga gb oa ob : EReal) : EReal := gate ga * oa + gate gb * ob

/-- A row to be normalized: the residual and the merged row's output product. -/
def rows (x y : Fin 1024 → EReal) (p : Fin 1024 → Fin 1024 → EReal) (q : Fin 1024 → EReal) (j : Fin 1024) : EReal :=
  Ideal.ofBits .f32 0x3F9837F0#32 * x j + ((∑ k, y k * p k j) + q j)

section Reference
open Cert.Reference5Ideal Cert.Reference5Ideal.Facts₀ Cert.Reference5Ideal.Facts

variable (x oa ob : FVec Ideal S16x2048x1024 .f32) (w : FVec Ideal S1024x7184 .f32) (b : FVec Ideal S7184 .f32)
  (p : FVec Ideal S1024x1024 .f32) (q g h : FVec Ideal S1024 .f32)

/-- A token's projection on a column. -/
def pAt (i : Fin 16) (n : Fin 2048) (j : Fin 7184) : EReal := proj (fun k => x (ix3 i n k)) (fun k => w (ix2 k j)) (b (ix1 j))

/-- A token's merged row. -/
def mAt (i : Fin 16) (n : Fin 2048) (y : Fin 1024) : EReal :=
  merged (pAt x w b i n ⟨5136 + y.val, by omega⟩) (pAt x w b i n ⟨6160 + y.val, by omega⟩) (oa (ix3 i n y)) (ob (ix3 i n y))

/-- A token's row to be normalized. -/
def rAt (i : Fin 16) (n : Fin 2048) (j : Fin 1024) : EReal :=
  rows (fun k => x (ix3 i n k)) (mAt x oa ob w b i n) (fun k j => p (ix2 k j)) (fun j => q (ix1 j)) j

/-- The layer's output at a token and a column. -/
def outAt (i : Fin 16) (n : Fin 2048) (j : Fin 1024) : EReal := Hand2.norm (rAt x oa ob w b p q i n) (g (ix1 j)) (h (ix1 j)) j

/-- The layer's output. -/
def out : FVec Ideal S16x2048x1024 .f32 := fun y => outAt x oa ob w b p q g h (y 0) (y 1) (y 2)

/-- The projections, as the reference prints them. -/
abbrev projs : FVec Ideal S16x2048x7184 .f32 :=
  addf (Host.dotGeneral dot_S16x2048x1024_S1024x7184_S16x2048x7184_2_0_01_1_n_n none x w)
    (broadcastInDim S16x2048x7184 ![0, 1, 2] bcast_S1x1x7184_S16x2048x7184_0_1_2 (broadcastInDim S1x1x7184 ![2] bcast_S7184_S1x1x7184_2 b))

/-- The gates of a piece of the projections. -/
abbrev gates (z : FVec Ideal S16x2048x1024 .f32) : FVec Ideal S16x2048x1024 .f32 :=
  Host.divf (broadcastInDim S16x2048x1024 ![] bcast_S_S16x2048x1024 (constant S_ .f32 0x3F800000#32))
    (addf (broadcastInDim S16x2048x1024 ![] bcast_S_S16x2048x1024 (constant S_ .f32 0x3F800000#32)) (Host.exp (Host.negf z)))

/-- The merge. -/
abbrev merges (z : FVec Ideal S16x2048x7184 .f32) : FVec Ideal S16x2048x1024 .f32 :=
  addf (mulf (gates (extractStridedSlice S16x2048x1024 ![0, 0, 5136] z slices_S16x2048x7184_S16x2048x1024_0_0_5136)) oa)
    (mulf (gates (extractStridedSlice S16x2048x1024 ![0, 0, 6160] z slices_S16x2048x7184_S16x2048x1024_0_0_6160)) ob)

/-- The rows to be normalized. -/
abbrev sums (y : FVec Ideal S16x2048x1024 .f32) : FVec Ideal S16x2048x1024 .f32 :=
  addf (mulf (broadcastInDim S16x2048x1024 ![] bcast_S_S16x2048x1024 (constant S_ .f32 0x3F9837F0#32)) x)
    (addf (Host.dotGeneral dot_S16x2048x1024_S1024x1024_S16x2048x1024_2_0_01_1_n_n none y p)
      (broadcastInDim S16x2048x1024 ![0, 1, 2] bcast_S1x1x1024_S16x2048x1024_0_1_2 (broadcastInDim S1x1x1024 ![2] bcast_S1024_S1x1x1024_2 q)))

/-- The rows' means. -/
abbrev means (z : FVec Ideal S16x2048x1024 .f32) : FVec Ideal S16x2048x1 .f32 :=
  Host.divf (broadcastInDim S16x2048x1 ![0, 1] bcast_S16x2048_S16x2048x1_0_1 (Host.reduceAdd z (constant S_ .f32 0x00000000#32) reducesTo_S16x2048x1024_S16x2048_d2 h_S_))
    (broadcastInDim S16x2048x1 ![] bcast_S_S16x2048x1 (constant S_ .f32 0x44800000#32))

/-- The rows less their means. -/
abbrev less (z : FVec Ideal S16x2048x1024 .f32) : FVec Ideal S16x2048x1024 .f32 :=
  subf z (broadcastInDim S16x2048x1024 ![0, 1, 2] bcast_S16x2048x1_S16x2048x1024_0_1_2 (means z))

/-- The layer norm. -/
abbrev norms (z : FVec Ideal S16x2048x1024 .f32) : FVec Ideal S16x2048x1024 .f32 :=
  addf (mulf (mulf (less z) (broadcastInDim S16x2048x1024 ![0, 1, 2] bcast_S16x2048x1_S16x2048x1024_0_1_2
      (Host.rsqrt (addf (means (mulf (less z) (less z))) (broadcastInDim S16x2048x1 ![] bcast_S_S16x2048x1 (constant S_ .f32 0x3727C5AC#32))))))
    (broadcastInDim S16x2048x1024 ![0, 1, 2] bcast_S1x1x1024_S16x2048x1024_0_1_2 (broadcastInDim S1x1x1024 ![2] bcast_S1024_S1x1x1024_2 g)))
    (broadcastInDim S16x2048x1024 ![0, 1, 2] bcast_S1x1x1024_S16x2048x1024_0_1_2 (broadcastInDim S1x1x1024 ![2] bcast_S1024_S1x1x1024_2 h))

theorem projs_apply (i : Fin 16) (n : Fin 2048) (j : Fin 7184) : projs x w b (ix3 i n j) = pAt x w b i n j := by
  pointwise [pAt, proj]

theorem merges_apply (z : FVec Ideal S16x2048x7184 .f32) (i : Fin 16) (n : Fin 2048) (y : Fin 1024) :
    merges oa ob z (ix3 i n y) = merged (z (ix3 i n (⟨5136 + y.val, by omega⟩ : Fin 7184))) (z (ix3 i n (⟨6160 + y.val, by omega⟩ : Fin 7184))) (oa (ix3 i n y)) (ob (ix3 i n y)) := by
  pointwise [merged, gate]

theorem sums_apply (y : FVec Ideal S16x2048x1024 .f32) (i : Fin 16) (n : Fin 2048) (j : Fin 1024) :
    sums x p q y (ix3 i n j) = rows (fun k => x (ix3 i n k)) (fun k => y (ix3 i n k)) (fun k j => p (ix2 k j)) (fun j => q (ix1 j)) j := by
  pointwise [rows]

theorem norms_apply (z : FVec Ideal S16x2048x1024 .f32) (i : Fin 16) (n : Fin 2048) (j : Fin 1024) :
    norms g h z (ix3 i n j) = Hand2.norm (fun k => z (ix3 i n k)) (g (ix1 j)) (h (ix1 j)) j := by
  pointwise [Hand2.norm, mean]

theorem reference_outAt (i : Fin 16) (n : Fin 2048) (j : Fin 1024) :
    norms g h (sums x p q (merges oa ob (projs x w b))) (ix3 i n j) = outAt x oa ob w b p q g h i n j := by
  rw [norms_apply]
  unfold outAt
  congr 1
  funext k
  rw [sums_apply]
  unfold rAt
  congr 1
  funext y
  rw [merges_apply, projs_apply, projs_apply]
  rfl

theorem reference_out : norms g h (sums x p q (merges oa ob (projs x w b))) = out x oa ob w b p q g h := by
  funext y
  have ey : y = ix3 (y 0) (y 1) (y 2) := funext fun a => match a with | ⟨0, _⟩ => rfl | ⟨1, _⟩ => rfl | ⟨2, _⟩ => rfl
  exact (congrArg _ ey).trans (reference_outAt x oa ob w b p q g h (y 0) (y 1) (y 2))

open Idealize.ShloMosaic.TcCoe Idealize.SL.Sem

theorem res_eq (m : (ℓ : Loc nD τ sig) → Buf (Elt Ideal) ℓ) (c : Dev nD) :
    Cert.Reference5Ideal.Value.res_out0 m c
      = norms (m ((c.tc : Thread nD τ).loc main_arg7)) (m ((c.tc : Thread nD τ).loc main_arg8))
          (sums (m ((c.tc : Thread nD τ).loc main_arg0)) (m ((c.tc : Thread nD τ).loc main_arg5)) (m ((c.tc : Thread nD τ).loc main_arg6))
            (merges (m ((c.tc : Thread nD τ).loc main_arg1)) (m ((c.tc : Thread nD τ).loc main_arg2))
              (projs (m ((c.tc : Thread nD τ).loc main_arg0)) (m ((c.tc : Thread nD τ).loc main_arg3)) (m ((c.tc : Thread nD τ).loc main_arg4))))) := by
  unfold Cert.Reference5Ideal.Value.res_out0 Cert.Reference5Ideal.Value.res_main_v58
  rfl

end Reference

end Cert.Hand5
-- ==== Proof.MergeValue.lean ====
/-
  Hand-written. The block that a point of the merge stores, read at an element of the extended reals, and the array that the
  points leave.
-/
module

public import proofs.«01_k».proof.Proof.Gen.Kernel5Ideal.Value
public import proofs.«01_k».proof.Proof.MergeRef
public import Idealize.ShloMosaic.Lib.Pointwise
public import Idealize.ShloMosaic.Lib.Pipeline.Value
public import Idealize.ShloMosaic.Lib.Pipeline.ValueKit

@[expose] public section

set_option maxRecDepth 16384

noncomputable section

namespace Cert.Hand5

open Idealize.ShloMosaic Idealize.ShloMosaic.TcCoe Idealize.SL.Sem Idealize.ShloMosaic.StableHlo
open Cert.Kernel5Ideal Cert.Kernel5Ideal.Gen Cert.Kernel5Ideal.Value
open Cert.Hand2 (mean)

/-- The packed weights. -/
def packW (w : FVec Ideal S1024x7184 .f32) : FVec Ideal S1024x7296 .bf16 :=
  truncf .bf16 (concatenate S1024x7296 1 [⟨S1024x1024, extractStridedSlice S1024x1024 ![0, 0] w slices_S1024x7184_S1024x1024_0_0⟩,
    ⟨S1024x1024, extractStridedSlice S1024x1024 ![0, 1024] w slices_S1024x7184_S1024x1024_0_1024⟩,
    ⟨S1024x512, extractStridedSlice S1024x512 ![0, 2048] w slices_S1024x7184_S1024x512_0_2048⟩,
    ⟨S1024x512, extractStridedSlice S1024x512 ![0, 2560] w slices_S1024x7184_S1024x512_0_2560⟩,
    ⟨S1024x1024, extractStridedSlice S1024x1024 ![0, 3072] w slices_S1024x7184_S1024x1024_0_3072⟩,
    ⟨S1024x1024, extractStridedSlice S1024x1024 ![0, 4096] w slices_S1024x7184_S1024x1024_0_4096⟩,
    ⟨S1024x1024, extractStridedSlice S1024x1024 ![0, 5136] w slices_S1024x7184_S1024x1024_0_5136⟩,
    ⟨S1024x1024, extractStridedSlice S1024x1024 ![0, 6160] w slices_S1024x7184_S1024x1024_0_6160⟩,
    ⟨S1024x16, extractStridedSlice S1024x16 ![0, 5120] w slices_S1024x7184_S1024x16_0_5120⟩,
    ⟨S1024x112, broadcastInDim S1024x112 ![] bcast_S_S1024x112 (constant S_ .f32 0x00000000#32)⟩]
    concatenates_S1024x1024_S1024x1024_S1024x512_S1024x512_S1024x1024_S1024x1024_S1024x1024_S1024x1024_S1024x16_S1024x112_S1024x7296_d1) bitsLt_bf16_f32

/-- The packed biases. -/
def packB (b : FVec Ideal S7184 .f32) : FVec Ideal S1x7296 .f32 :=
  broadcastInDim S1x7296 ![1] bcast_S7296_S1x7296_1 (concatenate S7296 0 [⟨S1024, extractStridedSlice S1024 ![0] b slices_S7184_S1024_0⟩,
    ⟨S1024, extractStridedSlice S1024 ![1024] b slices_S7184_S1024_1024⟩,
    ⟨S512, extractStridedSlice S512 ![2048] b slices_S7184_S512_2048⟩,
    ⟨S512, extractStridedSlice S512 ![2560] b slices_S7184_S512_2560⟩,
    ⟨S1024, extractStridedSlice S1024 ![3072] b slices_S7184_S1024_3072⟩,
    ⟨S1024, extractStridedSlice S1024 ![4096] b slices_S7184_S1024_4096⟩,
    ⟨S1024, extractStridedSlice S1024 ![5136] b slices_S7184_S1024_5136⟩,
    ⟨S1024, extractStridedSlice S1024 ![6160] b slices_S7184_S1024_6160⟩,
    ⟨S16, extractStridedSlice S16 ![5120] b slices_S7184_S16_5120⟩,
    ⟨S112, broadcastInDim S112 ![] bcast_S_S112 (constant S_ .f32 0x00000000#32)⟩]
    concatenates_S1024_S1024_S512_S512_S1024_S1024_S1024_S1024_S16_S112_S7296_d0)

theorem packW_gate (w : FVec Ideal S1024x7184 .f32) (k : Fin 1024) (j : Fin 7296) (j' : Fin 7184) (h : 5120 ≤ j.val) (h' : j.val < 7168) (e : j'.val = j.val + 16) :
    packW w (ix2 k j) = w (ix2 k j') := by
  pointwise [packW]
  split_ifs <;> first | (exfalso; omega) | exact congrArg (fun t => w (ix2 k t)) (Fin.ext (by dsimp only; omega))

theorem packB_gate (b : FVec Ideal S7184 .f32) (j : Fin 7296) (j' : Fin 7184) (h : 5120 ≤ j.val) (h' : j.val < 7168) (e : j'.val = j.val + 16) :
    packB b (ix2 (0 : Fin 1) j) = b (ix1 j') := by
  pointwise [packB]
  split_ifs <;> first | (exfalso; omega) | exact congrArg (fun t => b (ix1 t)) (Fin.ext (by dsimp only; omega))

section Payloads

theorem pay5_apply (x a : FVec Ideal S1x256x1024 .f32) (w : FVec Ideal S1024x1024 .bf16) (b : FVec Ideal S1x1024 .f32) (r : Fin 256) (y : Fin 1024) :
    k0_pay5 (F := Ideal) x a w b (ix2 r y) = gate (proj (fun k => x (ix3 (0 : Fin 1) r k)) (fun k => w (ix2 k y)) (b (ix2 (0 : Fin 1) y))) * a (ix3 (0 : Fin 1) r y) := by
  pointwise [k0_pay5, k0_pay3, k0_pay2, gate, proj, zero_sub]

theorem pay6_apply (x : FVec Ideal S1x256x1024 .f32) (w : FVec Ideal S1024x1024 .bf16) (b : FVec Ideal S1x1024 .f32) (r : Fin 256) (y : Fin 1024) :
    k0_pay6 (F := Ideal) x w b (ix2 r y) = 1 + Ideal.exp (-proj (fun k => x (ix3 (0 : Fin 1) r k)) (fun k => w (ix2 k y)) (b (ix2 (0 : Fin 1) y))) := by
  pointwise [k0_pay6, k0_pay3, k0_pay2, proj, zero_sub]

theorem pay2_apply (x : FVec Ideal S1x256x1024 .f32) (r : Fin 256) (y : Fin 1024) : k0_pay2 (F := Ideal) x (ix2 r y) = x (ix3 (0 : Fin 1) r y) := by
  pointwise [k0_pay2]

theorem pay4_apply (x : FVec Ideal S1x256x1024 .f32) (r : Fin 256) (y : Fin 1024) : k0_pay4 (F := Ideal) x (ix2 r y) = x (ix3 (0 : Fin 1) r y) := by
  pointwise [k0_pay4]

theorem pay7_apply (x o s d : FVec Ideal S256x1024 .f32) (p : FVec Ideal S1024x1024 .bf16) (q g h : FVec Ideal S1x1024 .f32) (r : Fin 256) (j : Fin 1024) :
    k0_pay7 (F := Ideal) x o s d p q g h (ix2 r j)
      = Hand2.norm (rows (fun k => x (ix2 r k)) (fun k => s (ix2 r k) + Ideal.div 1 (d (ix2 r k)) * o (ix2 r k)) (fun k j => p (ix2 k j)) (fun j => q (ix2 (0 : Fin 1) j)))
          (g (ix2 (0 : Fin 1) j)) (h (ix2 (0 : Fin 1) j)) j := by
  pointwise [k0_pay7, rows, Hand2.norm, mean]

/-- What a point stores. -/
theorem block_apply (x oa ob : FVec Ideal S1x256x1024 .f32) (wa wb p : FVec Ideal S1024x1024 .bf16) (ba bb q g h : FVec Ideal S1x1024 .f32) (r : Fin 256) (j : Fin 1024) :
    k0_pay7 (F := Ideal) (k0_pay2 x) (k0_pay4 ob) (k0_pay5 x oa wa ba) (k0_pay6 x wb bb) p q g h (ix2 r j)
      = Hand2.norm (rows (fun k => x (ix3 (0 : Fin 1) r k))
          (fun y => merged (proj (fun k => x (ix3 (0 : Fin 1) r k)) (fun k => wa (ix2 k y)) (ba (ix2 (0 : Fin 1) y)))
            (proj (fun k => x (ix3 (0 : Fin 1) r k)) (fun k => wb (ix2 k y)) (bb (ix2 (0 : Fin 1) y))) (oa (ix3 (0 : Fin 1) r y)) (ob (ix3 (0 : Fin 1) r y)))
          (fun k j => p (ix2 k j)) (fun j => q (ix2 (0 : Fin 1) j))) (g (ix2 (0 : Fin 1) j)) (h (ix2 (0 : Fin 1) j)) j := by
  rw [pay7_apply]
  simp only [pay5_apply, pay6_apply, pay2_apply, pay4_apply]
  rfl

theorem piece_apply (x oa ob : FVec Ideal S1x256x1024 .f32) (wa wb p : FVec Ideal S1024x1024 .bf16) (ba bb q g h : FVec Ideal S1x1024 .f32) (r : Fin 256) (j : Fin 1024) :
    E9 (F := Ideal) x ob oa wa ba wb bb p q g h (ix3 (0 : Fin 1) r j)
      = Hand2.norm (rows (fun k => x (ix3 (0 : Fin 1) r k))
          (fun y => merged (proj (fun k => x (ix3 (0 : Fin 1) r k)) (fun k => wa (ix2 k y)) (ba (ix2 (0 : Fin 1) y)))
            (proj (fun k => x (ix3 (0 : Fin 1) r k)) (fun k => wb (ix2 k y)) (bb (ix2 (0 : Fin 1) y))) (oa (ix3 (0 : Fin 1) r y)) (ob (ix3 (0 : Fin 1) r y)))
          (fun k j => p (ix2 k j)) (fun j => q (ix2 (0 : Fin 1) j))) (g (ix2 (0 : Fin 1) j)) (h (ix2 (0 : Fin 1) j)) j := by
  have ei : ix9_0 (ix3 (0 : Fin 1) r j) = ix2 r j := funext fun a => match a with | ⟨0, _⟩ => rfl | ⟨1, _⟩ => rfl
  show k0_pay7 (F := Ideal) (k0_pay2 x) (k0_pay4 ob) (k0_pay5 x oa wa ba) (k0_pay6 x wb bb) p q g h (ix9_0 (ix3 (0 : Fin 1) r j)) = _
  rw [ei]
  exact block_apply x oa ob wa wb p ba bb q g h r j

theorem piece_of (x oa ob : FVec Ideal S1x256x1024 .f32) (wa wb p : FVec Ideal S1024x1024 .bf16) (ba bb q g h : FVec Ideal S1x1024 .f32) (r : Fin 256) (j : Fin 1024)
    (x' oa' ob' : Fin 1024 → EReal) (wa' wb' p' : Fin 1024 → Fin 1024 → EReal) (ba' bb' q' : Fin 1024 → EReal) (g' h' : EReal)
    (hx : ∀ k, x (ix3 (0 : Fin 1) r k) = x' k) (ha : ∀ k, oa (ix3 (0 : Fin 1) r k) = oa' k) (hb : ∀ k, ob (ix3 (0 : Fin 1) r k) = ob' k)
    (hwa : ∀ k y, wa (ix2 k y) = wa' k y) (hwb : ∀ k y, wb (ix2 k y) = wb' k y) (hp : ∀ k y, p (ix2 k y) = p' k y)
    (hba : ∀ y, ba (ix2 (0 : Fin 1) y) = ba' y) (hbb : ∀ y, bb (ix2 (0 : Fin 1) y) = bb' y) (hq : ∀ y, q (ix2 (0 : Fin 1) y) = q' y)
    (hg : g (ix2 (0 : Fin 1) j) = g') (hh : h (ix2 (0 : Fin 1) j) = h') :
    E9 (F := Ideal) x ob oa wa ba wb bb p q g h (ix3 (0 : Fin 1) r j)
      = Hand2.norm (rows x' (fun y => merged (proj x' (fun k => wa' k y) (ba' y)) (proj x' (fun k => wb' k y) (bb' y)) (oa' y) (ob' y)) p' q') g' h' j := by
  rw [piece_apply]
  simp only [hx, ha, hb, hwa, hwb, hp, hba, hbb, hq, hg, hh]

end Payloads

section Whole
variable (m : (ℓ : Loc nD τ sig) → Buf (Elt Ideal) ℓ) (c : Dev nD)

theorem V_v11 : V m c main_v11 = packW (m ((c : Thread nD τ).loc main_arg3)) := by
  unfold V
  simp only [after_cons]
  after_results <;> rfl

theorem V_v23 : V m c main_v23 = packB (m ((c : Thread nD τ).loc main_arg4)) := by
  unfold V
  simp only [after_cons]
  after_results <;> rfl

theorem V_v24 : V m c main_v24 = (truncf (F := Ideal) (s := S1024x1024) (φ := .f32) .bf16 (m ((c : Thread nD τ).loc main_arg5)) bitsLt_bf16_f32 : FVec Ideal S1024x1024 .bf16) := by
  unfold V
  simp only [after_cons]
  after_results <;> rfl

theorem V_v25 : V m c main_v25 = broadcastInDim S1x1024 ![1] bcast_S1024_S1x1024_1 (m ((c : Thread nD τ).loc main_arg6)) := by
  unfold V
  simp only [after_cons]
  after_results <;> rfl

theorem V_v26 : V m c main_v26 = broadcastInDim S1x1024 ![1] bcast_S1024_S1x1024_1 (m ((c : Thread nD τ).loc main_arg7)) := by
  unfold V
  simp only [after_cons]
  after_results <;> rfl

theorem V_v27 : V m c main_v27 = broadcastInDim S1x1024 ![1] bcast_S1024_S1x1024_1 (m ((c : Thread nD τ).loc main_arg8)) := by
  unfold V
  simp only [after_cons]
  after_results <;> rfl

theorem row_apply (b : FVec Ideal S1024 .f32) (j : Fin 1024) : broadcastInDim S1x1024 ![1] bcast_S1024_S1x1024_1 b (ix2 (0 : Fin 1) j) = b (ix1 j) := by
  pointwise

theorem narrow_apply (p : FVec Ideal S1024x1024 .f32) (k j : Fin 1024) : (truncf (F := Ideal) .bf16 p bitsLt_bf16_f32 : FVec Ideal S1024x1024 .bf16) (ix2 k j) = p (ix2 k j) := by
  pointwise

theorem pt_lt (t : Fin cfg0.N) : t.val < 128 := N_0 ▸ t.isLt

theorem coords_seq (t : Fin cfg0.N) : (grid0.coords t 0).val = t.val / 8 := by
  have h := Pipeline.Grid.coords_val (G := grid0) t 0 (S := 8) (B := 16) (by decide) rfl
  have ht := pt_lt t
  rw [h]
  omega

theorem coords_tile (t : Fin cfg0.N) : (grid0.coords t 1).val = t.val % 8 := by
  have h := Pipeline.Grid.coords_val (G := grid0) t 1 (S := 1) (B := 8) (by decide) rfl
  rw [h]
  omega

theorem seq_word (t : Fin cfg0.N) : (BitVec.ofNat 32 (grid0.coords t 0).val).toNat = t.val / 8 := by
  have ht := pt_lt t
  rw [coords_seq, BitVec.toNat_ofNat, Nat.mod_eq_of_lt (by omega)]

theorem tile_word (t : Fin cfg0.N) : (BitVec.ofNat 32 (grid0.coords t 1).val).toNat = t.val % 8 := by
  rw [coords_tile, BitVec.toNat_ofNat, Nat.mod_eq_of_lt (by omega)]

theorem blk0 (t : Fin cfg0.N) (r : Fin 256) (k : Fin 1024) (i : Fin 16) (n : Fin 2048) (hi : i.val = t.val / 8) (hn : n.val = 256 * (t.val % 8) + r.val) :
    iblk m c 0 t (ix3 (0 : Fin 1) r k) = m ((c : Thread nD τ).loc main_arg0) (ix3 i n k) := by
  unfold iblk
  rw [View.read_apply]
  show V m c main_arg0 ((win0_0.rect t).emb (ix3 (0 : Fin 1) r k)) = _
  rw [V_main_arg0]
  congr 1
  funext a
  apply Fin.ext
  rw [Pipeline.Window.rect_emb_val win0_0 t (ix3 (0 : Fin 1) r k) a rfl]
  fin_cases a
  · show (BitVec.ofNat 32 (grid0.coords t 0).val).toNat * 1 + 0 = i.val
    rw [seq_word]
    omega
  · show (BitVec.ofNat 32 (grid0.coords t 1).val).toNat * 256 + r.val = n.val
    rw [tile_word]
    omega
  · show 0 * 1024 + k.val = k.val
    omega

theorem blk1 (t : Fin cfg0.N) (r : Fin 256) (k : Fin 1024) (i : Fin 16) (n : Fin 2048) (hi : i.val = t.val / 8) (hn : n.val = 256 * (t.val % 8) + r.val) :
    iblk m c 1 t (ix3 (0 : Fin 1) r k) = m ((c : Thread nD τ).loc main_arg1) (ix3 i n k) := by
  unfold iblk
  rw [View.read_apply]
  show V m c main_arg1 ((win0_1.rect t).emb (ix3 (0 : Fin 1) r k)) = _
  rw [V_main_arg1]
  congr 1
  funext a
  apply Fin.ext
  rw [Pipeline.Window.rect_emb_val win0_1 t (ix3 (0 : Fin 1) r k) a rfl]
  fin_cases a
  · show (BitVec.ofNat 32 (grid0.coords t 0).val).toNat * 1 + 0 = i.val
    rw [seq_word]
    omega
  · show (BitVec.ofNat 32 (grid0.coords t 1).val).toNat * 256 + r.val = n.val
    rw [tile_word]
    omega
  · show 0 * 1024 + k.val = k.val
    omega

theorem blk2 (t : Fin cfg0.N) (r : Fin 256) (k : Fin 1024) (i : Fin 16) (n : Fin 2048) (hi : i.val = t.val / 8) (hn : n.val = 256 * (t.val % 8) + r.val) :
    iblk m c 2 t (ix3 (0 : Fin 1) r k) = m ((c : Thread nD τ).loc main_arg2) (ix3 i n k) := by
  unfold iblk
  rw [View.read_apply]
  show V m c main_arg2 ((win0_2.rect t).emb (ix3 (0 : Fin 1) r k)) = _
  rw [V_main_arg2]
  congr 1
  funext a
  apply Fin.ext
  rw [Pipeline.Window.rect_emb_val win0_2 t (ix3 (0 : Fin 1) r k) a rfl]
  fin_cases a
  · show (BitVec.ofNat 32 (grid0.coords t 0).val).toNat * 1 + 0 = i.val
    rw [seq_word]
    omega
  · show (BitVec.ofNat 32 (grid0.coords t 1).val).toNat * 256 + r.val = n.val
    rw [tile_word]
    omega
  · show 0 * 1024 + k.val = k.val
    omega

theorem blk3 (t : Fin cfg0.N) (r : Fin 1024) (k : Fin 7296) : iblk m c 3 t (ix2 r k) = V m c main_v11 (ix2 r k) := by
  unfold iblk
  rw [View.read_apply]
  show V m c main_v11 ((win0_3.rect t).emb (ix2 r k)) = _
  congr 1
  funext a
  apply Fin.ext
  rw [Pipeline.Window.rect_emb_val win0_3 t (ix2 r k) a rfl]
  fin_cases a
  · show 0 * 1024 + r.val = r.val
    omega
  · show 0 * 7296 + k.val = k.val
    omega

theorem blk4 (t : Fin cfg0.N) (r : Fin 1) (k : Fin 7296) : iblk m c 4 t (ix2 r k) = V m c main_v23 (ix2 r k) := by
  unfold iblk
  rw [View.read_apply]
  show V m c main_v23 ((win0_4.rect t).emb (ix2 r k)) = _
  congr 1
  funext a
  apply Fin.ext
  rw [Pipeline.Window.rect_emb_val win0_4 t (ix2 r k) a rfl]
  fin_cases a
  · show 0 * 1 + r.val = r.val
    omega
  · show 0 * 7296 + k.val = k.val
    omega

theorem blk5 (t : Fin cfg0.N) (r : Fin 1024) (k : Fin 1024) : iblk m c 5 t (ix2 r k) = V m c main_v24 (ix2 r k) := by
  unfold iblk
  rw [View.read_apply]
  show V m c main_v24 ((win0_5.rect t).emb (ix2 r k)) = _
  congr 1
  funext a
  apply Fin.ext
  rw [Pipeline.Window.rect_emb_val win0_5 t (ix2 r k) a rfl]
  fin_cases a
  · show 0 * 1024 + r.val = r.val
    omega
  · show 0 * 1024 + k.val = k.val
    omega

theorem blk6 (t : Fin cfg0.N) (r : Fin 1) (k : Fin 1024) : iblk m c 6 t (ix2 r k) = V m c main_v25 (ix2 r k) := by
  unfold iblk
  rw [View.read_apply]
  show V m c main_v25 ((win0_6.rect t).emb (ix2 r k)) = _
  congr 1
  funext a
  apply Fin.ext
  rw [Pipeline.Window.rect_emb_val win0_6 t (ix2 r k) a rfl]
  fin_cases a
  · show 0 * 1 + r.val = r.val
    omega
  · show 0 * 1024 + k.val = k.val
    omega

theorem blk7 (t : Fin cfg0.N) (r : Fin 1) (k : Fin 1024) : iblk m c 7 t (ix2 r k) = V m c main_v26 (ix2 r k) := by
  unfold iblk
  rw [View.read_apply]
  show V m c main_v26 ((win0_7.rect t).emb (ix2 r k)) = _
  congr 1
  funext a
  apply Fin.ext
  rw [Pipeline.Window.rect_emb_val win0_7 t (ix2 r k) a rfl]
  fin_cases a
  · show 0 * 1 + r.val = r.val
    omega
  · show 0 * 1024 + k.val = k.val
    omega

theorem blk8 (t : Fin cfg0.N) (r : Fin 1) (k : Fin 1024) : iblk m c 8 t (ix2 r k) = V m c main_v27 (ix2 r k) := by
  unfold iblk
  rw [View.read_apply]
  show V m c main_v27 ((win0_8.rect t).emb (ix2 r k)) = _
  congr 1
  funext a
  apply Fin.ext
  rw [Pipeline.Window.rect_emb_val win0_8 t (ix2 r k) a rfl]
  fin_cases a
  · show 0 * 1 + r.val = r.val
    omega
  · show 0 * 1024 + k.val = k.val
    omega

theorem ld_x (X : FVec Ideal S1x256x1024 .f32) (r : Fin 256) (k : Fin 1024) : View.ld (Val := Elt Ideal) (e' := .f32) X r0_0 (ix3 (0 : Fin 1) r k) = X (ix3 (0 : Fin 1) r k) :=
  congrArg X (funext fun a => Fin.ext (match a with
    | ⟨0, _⟩ => rfl
    | ⟨1, _⟩ => (show 0 + 1 * r.val = r.val by omega)
    | ⟨2, _⟩ => (show 0 + 1 * k.val = k.val by omega)))

theorem ld_w (X : FVec Ideal S1024x7296 .bf16) (k y : Fin 1024) : View.ld (Val := Elt Ideal) (e' := .bf16) X r0_1 (ix2 k y) = X (ix2 k (⟨5120 + y.val, by omega⟩ : Fin 7296)) :=
  congrArg X (funext fun a => Fin.ext (match a with
    | ⟨0, _⟩ => (show 0 + 1 * k.val = k.val by omega)
    | ⟨1, _⟩ => (show 5120 + 1 * y.val = 5120 + y.val by omega)))

theorem ld_w' (X : FVec Ideal S1024x7296 .bf16) (k y : Fin 1024) : View.ld (Val := Elt Ideal) (e' := .bf16) X r0_3 (ix2 k y) = X (ix2 k (⟨6144 + y.val, by omega⟩ : Fin 7296)) :=
  congrArg X (funext fun a => Fin.ext (match a with
    | ⟨0, _⟩ => (show 0 + 1 * k.val = k.val by omega)
    | ⟨1, _⟩ => (show 6144 + 1 * y.val = 6144 + y.val by omega)))

theorem ld_b (X : FVec Ideal S1x7296 .f32) (y : Fin 1024) : View.ld (Val := Elt Ideal) (e' := .f32) X r0_2 (ix2 (0 : Fin 1) y) = X (ix2 (0 : Fin 1) (⟨5120 + y.val, by omega⟩ : Fin 7296)) :=
  congrArg X (funext fun a => Fin.ext (match a with
    | ⟨0, _⟩ => rfl
    | ⟨1, _⟩ => (show 5120 + 1 * y.val = 5120 + y.val by omega)))

theorem ld_b' (X : FVec Ideal S1x7296 .f32) (y : Fin 1024) : View.ld (Val := Elt Ideal) (e' := .f32) X r0_4 (ix2 (0 : Fin 1) y) = X (ix2 (0 : Fin 1) (⟨6144 + y.val, by omega⟩ : Fin 7296)) :=
  congrArg X (funext fun a => Fin.ext (match a with
    | ⟨0, _⟩ => rfl
    | ⟨1, _⟩ => (show 6144 + 1 * y.val = 6144 + y.val by omega)))

theorem ld_p (X : FVec Ideal S1024x1024 .bf16) (k y : Fin 1024) : View.ld (Val := Elt Ideal) (e' := .bf16) X r0_5 (ix2 k y) = X (ix2 k y) :=
  congrArg X (funext fun a => Fin.ext (match a with
    | ⟨0, _⟩ => (show 0 + 1 * k.val = k.val by omega)
    | ⟨1, _⟩ => (show 0 + 1 * y.val = y.val by omega)))

theorem ld_r (X : FVec Ideal S1x1024 .f32) (y : Fin 1024) : View.ld (Val := Elt Ideal) (e' := .f32) X r0_6 (ix2 (0 : Fin 1) y) = X (ix2 (0 : Fin 1) y) :=
  congrArg X (funext fun a => Fin.ext (match a with
    | ⟨0, _⟩ => rfl
    | ⟨1, _⟩ => (show 0 + 1 * y.val = y.val by omega)))

/-- The stored block at an element, of the windows' contents. -/
theorem store_apply (x oa ob : FVec Ideal S1x256x1024 .f32) (w : FVec Ideal S1024x7296 .bf16) (b : FVec Ideal S1x7296 .f32) (p : FVec Ideal S1024x1024 .bf16)
    (q g h : FVec Ideal S1x1024 .f32) (r : Fin 256) (j : Fin 1024) :
    out0_9 (F := Ideal) x oa ob w b p q g h (ix3 (0 : Fin 1) r j)
      = Hand2.norm (rows (fun k => x (ix3 (0 : Fin 1) r k))
          (fun y => merged (proj (fun k => x (ix3 (0 : Fin 1) r k)) (fun k => w (ix2 k (⟨5120 + y.val, by omega⟩ : Fin 7296))) (b (ix2 (0 : Fin 1) (⟨5120 + y.val, by omega⟩ : Fin 7296))))
            (proj (fun k => x (ix3 (0 : Fin 1) r k)) (fun k => w (ix2 k (⟨6144 + y.val, by omega⟩ : Fin 7296))) (b (ix2 (0 : Fin 1) (⟨6144 + y.val, by omega⟩ : Fin 7296))))
            (oa (ix3 (0 : Fin 1) r y)) (ob (ix3 (0 : Fin 1) r y)))
          (fun k j => p (ix2 k j)) (fun j => q (ix2 (0 : Fin 1) j))) (g (ix2 (0 : Fin 1) j)) (h (ix2 (0 : Fin 1) j)) j := by
  unfold out0_9
  exact (canon9_eq _ _ _ _ _ _ _ _ _ _ _ _).trans (piece_of _ _ _ _ _ _ _ _ _ _ _ r j _ _ _ _ _ _ _ _ _ _ _
    (fun k => ld_x x r k) (fun k => ld_x oa r k) (fun k => ld_x ob r k) (fun k y => ld_w w k y) (fun k y => ld_w' w k y) (fun k y => ld_p p k y)
    (fun y => ld_b b y) (fun y => ld_b' b y) (fun y => ld_r q y) (ld_r g j) (ld_r h j))

/-- The output array. -/
abbrev outM : FVec Ideal S16x2048x1024 .f32 :=
  out (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8))

theorem point_apply (t : Fin cfg0.N) (r : Fin 256) (j : Fin 1024) (i : Fin 16) (n : Fin 2048) (hi : i.val = t.val / 8) (hn : n.val = 256 * (t.val % 8) + r.val) :
    out0_9 (F := Ideal) (iblk m c 0 t) (iblk m c 1 t) (iblk m c 2 t) (iblk m c 3 t) (iblk m c 4 t) (iblk m c 5 t) (iblk m c 6 t) (iblk m c 7 t) (iblk m c 8 t)
      (ix3 (0 : Fin 1) r j) = outM m c (ix3 i n j) := by
  refine (store_apply _ _ _ _ _ _ _ _ _ r j).trans ?_
  have x0 := fun k => blk0 m c t r k i n hi hn
  have x1 := fun k => blk1 m c t r k i n hi hn
  have x2 := fun k => blk2 m c t r k i n hi hn
  have wa := fun k y : Fin 1024 => ((blk3 m c t k ⟨5120 + y.val, by omega⟩).trans (congrFun (V_v11 m c) _)).trans
    (packW_gate _ k ⟨5120 + y.val, by omega⟩ ⟨5136 + y.val, by omega⟩ (by simp) (by dsimp only; omega) (by dsimp only; omega))
  have wb := fun k y : Fin 1024 => ((blk3 m c t k ⟨6144 + y.val, by omega⟩).trans (congrFun (V_v11 m c) _)).trans
    (packW_gate _ k ⟨6144 + y.val, by omega⟩ ⟨6160 + y.val, by omega⟩ (by dsimp only; omega) (by dsimp only; omega) (by dsimp only; omega))
  have ba := fun y : Fin 1024 => ((blk4 m c t 0 ⟨5120 + y.val, by omega⟩).trans (congrFun (V_v23 m c) _)).trans
    (packB_gate _ ⟨5120 + y.val, by omega⟩ ⟨5136 + y.val, by omega⟩ (by simp) (by dsimp only; omega) (by dsimp only; omega))
  have bb := fun y : Fin 1024 => ((blk4 m c t 0 ⟨6144 + y.val, by omega⟩).trans (congrFun (V_v23 m c) _)).trans
    (packB_gate _ ⟨6144 + y.val, by omega⟩ ⟨6160 + y.val, by omega⟩ (by dsimp only; omega) (by dsimp only; omega) (by dsimp only; omega))
  have p5 := fun k y : Fin 1024 => ((blk5 m c t k y).trans (congrFun (V_v24 m c) _)).trans (narrow_apply _ k y)
  have q6 := fun y : Fin 1024 => ((blk6 m c t 0 y).trans (congrFun (V_v25 m c) _)).trans (row_apply _ y)
  have g7 := fun y : Fin 1024 => ((blk7 m c t 0 y).trans (congrFun (V_v26 m c) _)).trans (row_apply _ y)
  have h8 := fun y : Fin 1024 => ((blk8 m c t 0 y).trans (congrFun (V_v27 m c) _)).trans (row_apply _ y)
  simp only [x0, x1, x2, wa, wb, ba, bb, p5, q6, g7, h8]
  rfl

/-- The block that a point stores. -/
abbrev blkOut (t : Fin cfg0.N) : FVec Ideal S1x256x1024 .f32 :=
  out0_9 (F := Ideal) (iblk m c 0 t) (iblk m c 1 t) (iblk m c 2 t) (iblk m c 3 t) (iblk m c 4 t) (iblk m c 5 t) (iblk m c 6 t) (iblk m c 7 t) (iblk m c 8 t)

theorem final : (dats m 0 c).arrAt 9 cfg0.N = outM m c := by
  refine (dats m 0 c).arrAt_eq_of_covers 9 _ (by decide +kernel) fun t hf y => ?_
  blk_simp
  rw [after0_9]
  have ht := pt_lt t
  have h0 : (y 0).val < 1 := (y 0).isLt
  have h1 : (y 1).val < 256 := (y 1).isLt
  have ey : y = ix3 (0 : Fin 1) (y 1) (y 2) := funext fun a => match a with | ⟨0, _⟩ => Fin.ext (by show (y 0).val = 0; omega) | ⟨1, _⟩ => rfl | ⟨2, _⟩ => rfl
  refine ((congrArg (blkOut m c t) ey).trans (point_apply m c t (y 1) (y 2) ⟨t.val / 8, by omega⟩ ⟨256 * (t.val % 8) + (y 1).val, by omega⟩ rfl rfl)).trans
    (congrArg (outM m c) (funext fun a => Fin.ext ?_))
  show _ = ((win0_9.rect t).emb y a).val
  rw [Pipeline.Window.rect_emb_val win0_9 t y a rfl]
  fin_cases a
  · show t.val / 8 = (BitVec.ofNat 32 (grid0.coords t 0).val).toNat * 1 + (y 0).val
    rw [seq_word]
    omega
  · show 256 * (t.val % 8) + (y 1).val = (BitVec.ofNat 32 (grid0.coords t 1).val).toNat * 256 + (y 1).val
    rw [tile_word]
    omega
  · show (y 2).val = 0 * 1024 + (y 2).val
    omega

end Whole

end Cert.Hand5
-- ==== Proof.lean ====
/-
  Hand-written. The certificate's claims, from the dispatch launch's run (DispatchRun), the precondition's meaning and the
  reference's value at an element (DispatchValue): both programs' runs hold over any values, so the bit-exact and the ideal
  claims take the same two theorems. Then the combine's, from its launch's run over any values (CombineRun) and the two
  values at an element of the extended reals (CombineValue). Then the experts', the same way (ExpertsRun, ExpertsValue).
  Then the gated linear attention's, from its launch's value (Gen.Kernel4Ideal.Value), the reference's loop read as an
  iteration (GlaStep) and the two values at an element of the extended reals (GlaValue). Then the merge's, from its launch's
  value (Gen.Kernel5Ideal.Value) and the two values at an element of the extended reals (MergeRef, MergeValue).
-/
module

public import proofs.«01_k».proof.Defs
public import proofs.«01_k».proof.Proof.Gen.Kernel
public import proofs.«01_k».proof.Proof.Gen.KernelIdeal
public import proofs.«01_k».proof.Proof.Gen.Reference.Run
public import proofs.«01_k».proof.Proof.Gen.ReferenceIdeal.Run
public import proofs.«01_k».proof.Proof.Gen.Pre_rows_distinct
public import proofs.«01_k».proof.Proof.Gen.Kernel2
public import proofs.«01_k».proof.Proof.Gen.Kernel2Ideal
public import proofs.«01_k».proof.Proof.Gen.Reference2Ideal.Run
public import proofs.«01_k».proof.Proof.Gen.Pre_rows_held
public import proofs.«01_k».proof.Proof.Gen.Kernel3
public import proofs.«01_k».proof.Proof.Gen.Kernel3Ideal
public import proofs.«01_k».proof.Proof.Gen.Reference3Ideal.Run
public import proofs.«01_k».proof.Proof.Gen.Pre_experts_held
public import proofs.«01_k».proof.Proof.DispatchValue
public import proofs.«01_k».proof.Proof.CombineValue
public import proofs.«01_k».proof.Proof.ExpertsValue
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal.Run
public import proofs.«01_k».proof.Proof.Gen.Reference4Ideal.Step
public import proofs.«01_k».proof.Proof.GlaStep
public import proofs.«01_k».proof.Proof.GlaValue
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal.Run
public import proofs.«01_k».proof.Proof.MergeRef
public import proofs.«01_k».proof.Proof.MergeValue

@[expose] public section

noncomputable section

namespace Cert.Proof

open Idealize.ShloMosaic Idealize.ShloMosaic.TcCoe Idealize.SL.Sem

section

variable {F : FTy → Type} [FloatOps F]

/-- The two prints of the kernel's body are one program. -/
theorem body_eq (i : Cert.Kernel.grid0.Coords) (arg1 : Memref Cert.Kernel.sig .tc .smem Cert.Kernel.S2x1024 .i32) (harg1 : arg1.IsWhole)
    (arg2 : Memref Cert.Kernel.sig .tc .hbm Cert.Kernel.S32768x512 .i32) (harg2 : arg2.IsWhole)
    (arg3 : Memref Cert.Kernel.sig .tc .hbm Cert.Kernel.S73728x512 .i32) (harg3 : arg3.IsWhole)
    (arg4 : Memref Cert.Kernel.sig .tc .hbm Cert.Kernel.S73728x512 .i32) (harg4 : arg4.IsWhole) (arg5 : DmaSems Cert.Kernel.sig Cert.Kernel.S_) :
    Cert.Kernel.cc0_dispatch (F := F) i arg1 harg1 arg2 harg2 arg3 harg3 arg4 harg4 arg5
      = Cert.KernelIdeal.cc0_dispatch (F := F) i arg1 harg1 arg2 harg2 arg3 harg3 arg4 harg4 arg5 := rfl

theorem defs₀_eq : Cert.Kernel.defs₀ (F := F) = Cert.KernelIdeal.defs₀ := by
  unfold Cert.Kernel.defs₀ Cert.KernelIdeal.defs₀
  refine congrArg Defs.onTc ?_
  funext l x
  match l, x with
  | 0, (t, s) => exact body_eq ..

theorem defs_eq : Cert.Kernel.defs (F := F) = Cert.KernelIdeal.defs :=
  congrArg (Pipeline.defs Cert.Kernel.pcfgs) defs₀_eq

theorem main_eq : Cert.Kernel.main (F := F) = Cert.KernelIdeal.main := rfl

end

/-- The launch's run, for the kernel as printed at the bit patterns. -/
theorem run_kernel (m : (ℓ : Loc Cert.Kernel.nD Cert.Kernel.τ Cert.Kernel.sig) → Buf (Elt Bits) ℓ) (ρ : Dev Cert.Kernel.nD → PrngReg) (hp : Cert.Pre_Kernel m) :
    θ_run (Cert.Kernel.defs (F := Bits)) (onTc (τ := Cert.Kernel.τ) (Cert.Kernel.main (F := Bits))) ⟨m, fun _ => 0, ρ⟩ fun r =>
      (∀ c : Dev Cert.Kernel.nD,
        r.2.mem ((c.tc : Thread Cert.Kernel.nD Cert.Kernel.τ).loc Cert.Kernel.main_v0)
            = Cert.Hand.out (m ((c.tc : Thread Cert.Kernel.nD Cert.Kernel.τ).loc Cert.Kernel.main_arg0)) (m ((c.tc : Thread Cert.Kernel.nD Cert.Kernel.τ).loc Cert.Kernel.main_arg1))
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0 := by
  rw [defs_eq, main_eq]
  exact Cert.KernelIdeal.Hand.run (F := Bits) m ρ _ (Cert.KernelIdeal.Hand.good (F := Bits) m hp)

theorem frame_kernel : Cert.quiescent_Kernel := fun m ρ hp =>
  (θ_run Cert.Kernel.defs _ _).mono (fun _ h => ⟨fun c => (h.1 c).2, h.2⟩) (run_kernel m ρ hp)

theorem frame_kernel_ideal : Cert.quiescent_KernelIdeal := fun m ρ hp =>
  (θ_run Cert.KernelIdeal.defs _ _).mono (fun _ h => ⟨fun c => (h.1 c).2, h.2⟩)
    (Cert.KernelIdeal.Hand.run (F := Ideal) m ρ _ (Cert.KernelIdeal.Hand.good (F := Ideal) m hp))

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem frame_reference_ideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_ideal_distinct : Cert.quiescent_ReferenceIdeal_pre_rows_distinct := fun m ρ _ =>
  frame_reference_ideal m ρ trivial

/-- At the bit patterns: the launch's value is the reference's, of the reference's own argument buffers. -/
theorem bitexact : Cert.bitexact_Kernel_Reference := by
  intro m ρ m' ρ' hp hagree
  refine ⟨fun c => Cert.Hand.out (m ((c.tc : Thread Cert.Kernel.nD Cert.Kernel.τ).loc Cert.Kernel.main_arg0))
    (m ((c.tc : Thread Cert.Kernel.nD Cert.Kernel.τ).loc Cert.Kernel.main_arg1)), ?_, ?_⟩
  · exact (θ_run Cert.Kernel.defs _ _).mono (fun _ h => h.1) (run_kernel m ρ hp)
  · refine (θ_run Cert.Reference.defs _ _).mono (fun _ h c => ⟨(h c).1.trans ?_, (h c).2⟩)
      (Cert.Reference.Value.run (F := Bits) m' ρ')
    exact congrArg₂ Cert.Hand.out (hagree c).1 (hagree c).2

/-- The same at the ideal instance. -/
theorem algebraic : Cert.algebraic_KernelIdeal_ReferenceIdeal := by
  intro m ρ m' ρ' hp hagree
  refine ⟨fun c => Cert.Hand.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun _ h => h.1)
      (Cert.KernelIdeal.Hand.run (F := Ideal) m ρ _ (Cert.KernelIdeal.Hand.good (F := Ideal) m hp))
  · refine (θ_run Cert.ReferenceIdeal.defs _ _).mono (fun _ h c => ⟨(h c).1.trans ?_, (h c).2⟩)
      (Cert.ReferenceIdeal.Value.run (F := Ideal) m' ρ')
    exact congrArg₂ Cert.Hand.out (hagree c).1 (hagree c).2

/-! ## The combine -/

section

variable {F : FTy → Type} [FloatOps F]

set_option maxRecDepth 8192 in
theorem combine_body_eq (i : Cert.Kernel2.grid0.Coords) (arg1 : Memref Cert.Kernel2.sig .tc .smem Cert.Kernel2.S2x256 .i32) (harg1 : arg1.IsWhole)
    (arg2 : Memref Cert.Kernel2.sig .tc .vmem Cert.Kernel2.S256x1024 .f32) (harg2 : arg2.IsWhole)
    (arg3 : Memref Cert.Kernel2.sig .tc .vmem Cert.Kernel2.S8x256 .f32) (harg3 : arg3.IsWhole)
    (arg4 : Memref Cert.Kernel2.sig .tc .hbm Cert.Kernel2.S73728x1024 .f32) (harg4 : arg4.IsWhole)
    (arg5 : Memref Cert.Kernel2.sig .tc .vmem Cert.Kernel2.S1x1024 .f32) (harg5 : arg5.IsWhole)
    (arg6 : Memref Cert.Kernel2.sig .tc .vmem Cert.Kernel2.S1x1024 .f32) (harg6 : arg6.IsWhole)
    (arg7 : Memref Cert.Kernel2.sig .tc .vmem Cert.Kernel2.S256x1024 .f32) (harg7 : arg7.IsWhole)
    (arg8 : Memref Cert.Kernel2.sig .tc .vmem Cert.Kernel2.S2x256x1024 .f32) (harg8 : arg8.IsWhole) (arg9 : DmaSems Cert.Kernel2.sig Cert.Kernel2.S_) :
    Cert.Kernel2.cc0_combine (F := F) i arg1 harg1 arg2 harg2 arg3 harg3 arg4 harg4 arg5 harg5 arg6 harg6 arg7 harg7 arg8 harg8 arg9
      = Cert.Kernel2Ideal.cc0_combine (F := F) i arg1 harg1 arg2 harg2 arg3 harg3 arg4 harg4 arg5 harg5 arg6 harg6 arg7 harg7 arg8 harg8 arg9 := rfl

theorem combine_defs₀_eq : Cert.Kernel2.defs₀ (F := F) = Cert.Kernel2Ideal.defs₀ := by
  unfold Cert.Kernel2.defs₀ Cert.Kernel2Ideal.defs₀
  refine congrArg Defs.onTc ?_
  funext l x
  match l, x with
  | 0, (t, s) => exact combine_body_eq ..

theorem combine_defs_eq : Cert.Kernel2.defs (F := F) = Cert.Kernel2Ideal.defs :=
  congrArg (Pipeline.defs Cert.Kernel2.pcfgs) combine_defs₀_eq

theorem combine_main_eq : Cert.Kernel2.main (F := F) = Cert.Kernel2Ideal.main := rfl

end

theorem frame_kernel2 : Cert.quiescent_Kernel2 := by
  intro m ρ hp
  rw [combine_defs_eq, combine_main_eq]
  exact (θ_run Cert.Kernel2Ideal.defs _ _).mono (fun _ h => ⟨fun c => (h.1 c).2, h.2⟩)
    (Cert.Kernel2Ideal.Hand.run (F := Bits) m ρ (Cert.Hand2.good (F := Bits) m hp))

theorem frame_kernel2_ideal : Cert.quiescent_Kernel2Ideal := fun m ρ hp =>
  (θ_run Cert.Kernel2Ideal.defs _ _).mono (fun _ h => ⟨fun c => (h.1 c).2, h.2⟩)
    (Cert.Kernel2Ideal.Hand.run (F := Ideal) m ρ (Cert.Hand2.good (F := Ideal) m hp))

theorem frame_reference2_ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference2_ideal_held : Cert.quiescent_Reference2Ideal_pre_rows_held := fun m ρ _ =>
  frame_reference2_ideal m ρ trivial

/-- The combine's value is its reference's, at the ideal instance. -/
theorem algebraic2 : Cert.algebraic_Kernel2Ideal_Reference2Ideal := by
  intro m ρ m' ρ' hp hagree
  refine ⟨fun c => Cert.Hand2.outM m c, ?_, ?_⟩
  · exact (θ_run Cert.Kernel2Ideal.defs _ _).mono (fun _ h c => ⟨(h.1 c).1.trans (Cert.Hand2.final m c), (h.1 c).2⟩)
      (Cert.Kernel2Ideal.Hand.run (F := Ideal) m ρ (Cert.Hand2.good (F := Ideal) m hp))
  · refine (θ_run Cert.Reference2Ideal.defs _ _).mono (fun _ h c => ⟨(h c).1.trans ?_, (h c).2⟩)
      (Cert.Reference2Ideal.Value.run (F := Ideal) m' ρ')
    obtain ⟨a0, a1, a2, a3, a4, a5⟩ := hagree c
    refine (Cert.Hand2.res_eq m' c).trans ?_
    rw [a0, a1, a2, a3, a4, a5]
    exact Cert.Hand2.reference_out _ _ _ _ _ (fun y => Cert.Hand2.pre_range (hp c) y)

/-! ## The experts -/

section

variable {F : FTy → Type} [FloatOps F]

set_option maxRecDepth 8192 in
theorem experts_body_eq (i : Cert.Kernel3.grid0.Coords) (arg1 : Memref Cert.Kernel3.sig .tc .smem Cert.Kernel3.S288 .i32) (harg1 : arg1.IsWhole)
    (arg2 : Memref Cert.Kernel3.sig .tc .smem Cert.Kernel3.S1 .i32) (harg2 : arg2.IsWhole)
    (arg3 : Memref Cert.Kernel3.sig .tc .vmem Cert.Kernel3.S256x512 .i32) (harg3 : arg3.IsWhole)
    (arg4 : Memref Cert.Kernel3.sig .tc .vmem Cert.Kernel3.S1x1024x512 .bf16) (harg4 : arg4.IsWhole)
    (arg5 : Memref Cert.Kernel3.sig .tc .vmem Cert.Kernel3.S1x1024x512 .bf16) (harg5 : arg5.IsWhole)
    (arg6 : Memref Cert.Kernel3.sig .tc .vmem Cert.Kernel3.S1x512x1024 .bf16) (harg6 : arg6.IsWhole)
    (arg7 : Memref Cert.Kernel3.sig .tc .vmem Cert.Kernel3.S256x1024 .f32) (harg7 : arg7.IsWhole) :
    Cert.Kernel3.cc0_experts (F := F) i arg1 harg1 arg2 harg2 arg3 harg3 arg4 harg4 arg5 harg5 arg6 harg6 arg7 harg7
      = Cert.Kernel3Ideal.cc0_experts (F := F) i arg1 harg1 arg2 harg2 arg3 harg3 arg4 harg4 arg5 harg5 arg6 harg6 arg7 harg7 := rfl

theorem experts_defs₀_eq : Cert.Kernel3.defs₀ (F := F) = Cert.Kernel3Ideal.defs₀ := by
  unfold Cert.Kernel3.defs₀ Cert.Kernel3Ideal.defs₀
  refine congrArg Defs.onTc ?_
  funext l x
  match l, x with
  | 0, (t, s) => exact experts_body_eq ..

theorem experts_defs_eq : Cert.Kernel3.defs (F := F) = Cert.Kernel3Ideal.defs :=
  congrArg (Pipeline.defs Cert.Kernel3.pcfgs) experts_defs₀_eq

theorem experts_main_eq : Cert.Kernel3.main (F := F) = Cert.Kernel3Ideal.main := rfl

end

theorem frame_kernel3 : Cert.quiescent_Kernel3 := by
  intro m ρ hp
  rw [experts_defs_eq, experts_main_eq]
  exact (θ_run Cert.Kernel3Ideal.defs _ _).mono (fun _ h => ⟨fun c => (h.1 c).2, h.2⟩)
    (Cert.Kernel3Ideal.Hand.run (F := Bits) m ρ (Cert.Hand3.good (F := Bits) m (Cert.Hand3.pre_lt (hp 0))))

theorem frame_kernel3_ideal : Cert.quiescent_Kernel3Ideal := fun m ρ hp =>
  (θ_run Cert.Kernel3Ideal.defs _ _).mono (fun _ h => ⟨fun c => (h.1 c).2, h.2⟩)
    (Cert.Kernel3Ideal.Hand.run (F := Ideal) m ρ (Cert.Hand3.good (F := Ideal) m (Cert.Hand3.pre_lt (hp 0))))

theorem frame_reference3_ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference3_ideal_held : Cert.quiescent_Reference3Ideal_pre_experts_held := fun m ρ _ =>
  frame_reference3_ideal m ρ trivial

/-- The experts' value is their reference's, at the ideal instance. -/
theorem algebraic3 : Cert.algebraic_Kernel3Ideal_Reference3Ideal := by
  intro m ρ m' ρ' hp hagree
  have hB := Cert.Hand3.pre_lt (hp 0)
  have hO := Cert.Hand3.good (F := Ideal) m hB
  refine ⟨fun _ => Cert.Hand3.outM m, ?_, ?_⟩
  · refine (θ_run Cert.Kernel3Ideal.defs _ _).mono (fun _ h c => ⟨(h.1 c).1.trans ?_, (h.1 c).2⟩) (Cert.Kernel3Ideal.Hand.run (F := Ideal) m ρ hO)
    obtain rfl : c = 0 := Subsingleton.elim _ _
    exact Cert.Hand3.final m hO hB
  · refine (θ_run Cert.Reference3Ideal.defs _ _).mono (fun _ h c => ⟨(h c).1.trans ?_, (h c).2⟩)
      (Cert.Reference3Ideal.Value.run (F := Ideal) m' ρ')
    obtain rfl : c = 0 := Subsingleton.elim _ _
    obtain ⟨a0, a1, a2, a3, a4, a5⟩ := hagree 0
    refine (Cert.Hand3.res_eq m' 0).trans ?_
    rw [a0, a1, a2, a3, a4, a5]
    exact Cert.Hand3.reference_out (fun y => Cert.Hand3.pre_range (hp 0) y) _ _ _ _ _

/-! ## The gated linear attention -/

section

variable {F : FTy → Type} [FloatOps F]

set_option maxRecDepth 16384 in
theorem gla_body_eq (i : Cert.Kernel4.grid0.Coords)
    (arg2 : Memref Cert.Kernel4.sig .tc .vmem Cert.Kernel4.S1x256x1024 .f32) (harg2 : arg2.IsWhole)
    (arg3 : Memref Cert.Kernel4.sig .tc .vmem Cert.Kernel4.S1024x7296 .bf16) (harg3 : arg3.IsWhole)
    (arg4 : Memref Cert.Kernel4.sig .tc .vmem Cert.Kernel4.S1x7296 .f32) (harg4 : arg4.IsWhole)
    (arg5 : Memref Cert.Kernel4.sig .tc .vmem Cert.Kernel4.S128x512 .bf16) (harg5 : arg5.IsWhole)
    (arg6 : Memref Cert.Kernel4.sig .tc .vmem Cert.Kernel4.S1x512 .f32) (harg6 : arg6.IsWhole)
    (arg7 : Memref Cert.Kernel4.sig .tc .vmem Cert.Kernel4.S1x1024 .f32) (harg7 : arg7.IsWhole)
    (arg8 : Memref Cert.Kernel4.sig .tc .vmem Cert.Kernel4.S1024x1024 .bf16) (harg8 : arg8.IsWhole)
    (arg9 : Memref Cert.Kernel4.sig .tc .vmem Cert.Kernel4.S1x256x1024 .f32) (harg9 : arg9.IsWhole)
    (arg10 : Memref Cert.Kernel4.sig .tc .vmem Cert.Kernel4.S4x256x128 .f32) (harg10 : arg10.IsWhole)
    (arg11 : Memref Cert.Kernel4.sig .tc .vmem Cert.Kernel4.S256x1024 .f32) (harg11 : arg11.IsWhole) :
    Cert.Kernel4.cc0_mixer (F := F) i arg2 harg2 arg3 harg3 arg4 harg4 arg5 harg5 arg6 harg6 arg7 harg7 arg8 harg8 arg9 harg9 arg10 harg10 arg11 harg11
      = Cert.Kernel4Ideal.cc0_mixer (F := F) i arg2 harg2 arg3 harg3 arg4 harg4 arg5 harg5 arg6 harg6 arg7 harg7 arg8 harg8 arg9 harg9 arg10 harg10 arg11 harg11 := rfl

theorem gla_defs₀_eq : Cert.Kernel4.defs₀ (F := F) = Cert.Kernel4Ideal.defs₀ := by
  unfold Cert.Kernel4.defs₀ Cert.Kernel4Ideal.defs₀
  refine congrArg Defs.onTc ?_
  funext l x
  match l, x with
  | 0, (t, s) => exact gla_body_eq ..

theorem gla_defs_eq : Cert.Kernel4.defs (F := F) = Cert.Kernel4Ideal.defs :=
  congrArg (Pipeline.defs Cert.Kernel4.pcfgs) gla_defs₀_eq

theorem gla_main_eq : Cert.Kernel4.main (F := F) = Cert.Kernel4Ideal.main := rfl

end

theorem frame_kernel4 : Cert.quiescent_Kernel4 := by
  intro m ρ _
  rw [gla_defs_eq, gla_main_eq]
  exact Cert.Kernel4Ideal.Gen.frame (F := Bits) m ρ

theorem frame_kernel4_ideal : Cert.quiescent_Kernel4Ideal := fun m ρ _ =>
  Cert.Kernel4Ideal.Gen.frame (F := Ideal) m ρ

theorem frame_reference4_ideal : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The attention's value is its reference's, at the ideal instance. -/
theorem algebraic4 : Cert.algebraic_Kernel4Ideal_Reference4Ideal := by
  intro m ρ m' ρ' _ hagree
  refine ⟨fun c => Cert.Kernel4Ideal.Value.G7 m c, Cert.Kernel4Ideal.Value.run (F := Ideal) m ρ, ?_⟩
  refine (θ_run Cert.Reference4Ideal.defs _ _).mono (fun _ h c => ⟨(h c).1.trans ?_, (h c).2⟩)
    (Cert.GlaStep.run_iter (F := Ideal) m' ρ'
      (fun c => Cert.Hand4.its (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg3))
        (m' ((c.tc : Thread Cert.Reference4Ideal.nD Cert.Reference4Ideal.τ).loc Cert.Reference4Ideal.main_arg4)))
      (fun _ => rfl) (fun _ _ => rfl))
  obtain ⟨a0, a1, a2, a3, a4, a5, a6⟩ := hagree c
  rw [a0, a1, a2, a3, a4, a5, a6]
  exact Cert.Hand4.result_eq m c

/-! ## The merge -/

section

variable {F : FTy → Type} [FloatOps F]

theorem merge_body_eq (i : Cert.Kernel5.grid0.Coords)
    (arg2 : Memref Cert.Kernel5.sig .tc .vmem Cert.Kernel5.S1x256x1024 .f32) (harg2 : arg2.IsWhole)
    (arg3 : Memref Cert.Kernel5.sig .tc .vmem Cert.Kernel5.S1x256x1024 .f32) (harg3 : arg3.IsWhole)
    (arg4 : Memref Cert.Kernel5.sig .tc .vmem Cert.Kernel5.S1x256x1024 .f32) (harg4 : arg4.IsWhole)
    (arg5 : Memref Cert.Kernel5.sig .tc .vmem Cert.Kernel5.S1024x7296 .bf16) (harg5 : arg5.IsWhole)
    (arg6 : Memref Cert.Kernel5.sig .tc .vmem Cert.Kernel5.S1x7296 .f32) (harg6 : arg6.IsWhole)
    (arg7 : Memref Cert.Kernel5.sig .tc .vmem Cert.Kernel5.S1024x1024 .bf16) (harg7 : arg7.IsWhole)
    (arg8 : Memref Cert.Kernel5.sig .tc .vmem Cert.Kernel5.S1x1024 .f32) (harg8 : arg8.IsWhole)
    (arg9 : Memref Cert.Kernel5.sig .tc .vmem Cert.Kernel5.S1x1024 .f32) (harg9 : arg9.IsWhole)
    (arg10 : Memref Cert.Kernel5.sig .tc .vmem Cert.Kernel5.S1x1024 .f32) (harg10 : arg10.IsWhole)
    (arg11 : Memref Cert.Kernel5.sig .tc .vmem Cert.Kernel5.S1x256x1024 .f32) (harg11 : arg11.IsWhole) :
    Cert.Kernel5.cc0_mixer (F := F) i arg2 harg2 arg3 harg3 arg4 harg4 arg5 harg5 arg6 harg6 arg7 harg7 arg8 harg8 arg9 harg9 arg10 harg10 arg11 harg11
      = Cert.Kernel5Ideal.cc0_mixer (F := F) i arg2 harg2 arg3 harg3 arg4 harg4 arg5 harg5 arg6 harg6 arg7 harg7 arg8 harg8 arg9 harg9 arg10 harg10 arg11 harg11 := rfl

theorem merge_defs₀_eq : Cert.Kernel5.defs₀ (F := F) = Cert.Kernel5Ideal.defs₀ := by
  unfold Cert.Kernel5.defs₀ Cert.Kernel5Ideal.defs₀
  refine congrArg Defs.onTc ?_
  funext l x
  match l, x with
  | 0, (t, s) => exact merge_body_eq ..

theorem merge_defs_eq : Cert.Kernel5.defs (F := F) = Cert.Kernel5Ideal.defs :=
  congrArg (Pipeline.defs Cert.Kernel5.pcfgs) merge_defs₀_eq

theorem merge_main_eq : Cert.Kernel5.main (F := F) = Cert.Kernel5Ideal.main := rfl

end

theorem frame_kernel5 : Cert.quiescent_Kernel5 := by
  intro m ρ _
  rw [merge_defs_eq, merge_main_eq]
  exact Cert.Kernel5Ideal.Gen.frame (F := Bits) m ρ

theorem frame_kernel5_ideal : Cert.quiescent_Kernel5Ideal := fun m ρ _ =>
  Cert.Kernel5Ideal.Gen.frame (F := Ideal) m ρ

theorem frame_reference5_ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := by
  intro m ρ m' ρ' _ hagree
  refine ⟨fun c => Cert.Hand5.outM m c, ?_, ?_⟩
  · exact (θ_run Cert.Kernel5Ideal.defs _ _).mono (fun _ h c => ⟨(h c).1.trans (Cert.Hand5.final m c), (h c).2⟩)
      (Cert.Kernel5Ideal.Value.run_blocks (F := Ideal) m ρ)
  · refine (θ_run Cert.Reference5Ideal.defs _ _).mono (fun _ h c => ⟨(h c).1.trans ?_, (h c).2⟩)
      (Cert.Reference5Ideal.Value.run (F := Ideal) m' ρ')
    obtain ⟨a0, a1, a2, a3, a4, a5, a6, a7, a8⟩ := hagree c
    refine (Cert.Hand5.res_eq m' c).trans ?_
    rw [a0, a1, a2, a3, a4, a5, a6, a7, a8]
    exact Cert.Hand5.reference_out _ _ _ _ _ _ _ _ _

theorem claim : Cert.Claim :=
  ⟨inferInstance, inferInstance, inferInstance, inferInstance, inferInstance, inferInstance, inferInstance, inferInstance, inferInstance, inferInstance, inferInstance, inferInstance,
    inferInstance, inferInstance, inferInstance, inferInstance, inferInstance, inferInstance, inferInstance,
    frame_kernel, frame_kernel_ideal, frame_reference_ideal, frame_reference_ideal_distinct, frame_reference,
    frame_kernel2, frame_kernel2_ideal, frame_reference2_ideal, frame_reference2_ideal_held,
    frame_kernel3, frame_kernel3_ideal, frame_reference3_ideal, frame_reference3_ideal_held,
    frame_kernel4, frame_kernel4_ideal, frame_reference4_ideal,
    frame_kernel5, frame_kernel5_ideal, frame_reference5_ideal,
    trivial, bitexact, algebraic, trivial, algebraic2, trivial, algebraic3, trivial, algebraic4, trivial, algebraic5⟩

end Cert.Proof

end
